-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Experts [hPre_blocks_in_range : Cert.Pre_blocks_in_range.Facts] (m : (ℓ : Loc Cert.Experts.nD Cert.Experts.τ Cert.Experts.sig) → Buf (Elt Bits) ℓ) : Prop :=
  ∀ c : Dev Cert.Experts.nD,
    (Cert.Pre_blocks_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_blocks_in_range : Cert.Pre_blocks_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_blocks_in_range [hPre_blocks_in_range : Cert.Pre_blocks_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_blocks_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionRefIdeal (m : (ℓ : Loc Cert.ProjectionRefIdeal.nD Cert.ProjectionRefIdeal.τ Cert.ProjectionRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Experts [hExperts : Cert.Experts.Facts] [hPre_blocks_in_range : Cert.Pre_blocks_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_blocks_in_range : Cert.Pre_blocks_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_blocks_in_range [hExpertsRefIdeal : Cert.ExpertsRefIdeal.Facts] [hPre_blocks_in_range : Cert.Pre_blocks_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_blocks_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6)
      ∧ r.2.mem ((c.tc : Thread Cert.Projection.nD Cert.Projection.τ).loc Cert.Projection.main_arg7) = m ((c.tc : Thread Cert.Projection.nD Cert.Projection.τ).loc Cert.Projection.main_arg7)
      ∧ r.2.mem ((c.tc : Thread Cert.Projection.nD Cert.Projection.τ).loc Cert.Projection.main_arg8) = m ((c.tc : Thread Cert.Projection.nD Cert.Projection.τ).loc Cert.Projection.main_arg8)
      ∧ r.2.mem ((c.tc : Thread Cert.Projection.nD Cert.Projection.τ).loc Cert.Projection.main_arg9) = m ((c.tc : Thread Cert.Projection.nD Cert.Projection.τ).loc Cert.Projection.main_arg9)
      ∧ r.2.mem ((c.tc : Thread Cert.Projection.nD Cert.Projection.τ).loc Cert.Projection.main_arg10) = m ((c.tc : Thread Cert.Projection.nD Cert.Projection.τ).loc Cert.Projection.main_arg10))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
      ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
      ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9)
      ∧ r.2.mem ((c.tc : Thread Cert.ProjectionIdeal.nD Cert.ProjectionIdeal.τ).loc Cert.ProjectionIdeal.main_arg10) = m ((c.tc : Thread Cert.ProjectionIdeal.nD Cert.ProjectionIdeal.τ).loc Cert.ProjectionIdeal.main_arg10))
      ∧ r.2.sem = fun _ => 0)

def quiescent_ProjectionRefIdeal [hProjectionRefIdeal : Cert.ProjectionRefIdeal.Facts] : Prop :=
  ∀ (m : (ℓ : Loc Cert.ProjectionRefIdeal.nD Cert.ProjectionRefIdeal.τ Cert.ProjectionRefIdeal.sig) → Buf (Elt Ideal) ℓ) (g : Dev Cert.ProjectionRefIdeal.nD → PrngReg), Pre_ProjectionRefIdeal m →
    θ_run (Cert.ProjectionRefIdeal.defs (F := Ideal)) (onTc (τ := Cert.ProjectionRefIdeal.τ) (Cert.ProjectionRefIdeal.main (F := Ideal))) ⟨m, fun _ => 0, g⟩ (fun r => (∀ c : Dev Cert.ProjectionRefIdeal.nD,
      r.2.mem ((c.tc : Thread Cert.ProjectionRefIdeal.nD Cert.ProjectionRefIdeal.τ).loc Cert.ProjectionRefIdeal.main_arg0) = m ((c.tc : Thread Cert.ProjectionRefIdeal.nD Cert.ProjectionRefIdeal.τ).loc Cert.ProjectionRefIdeal.main_arg0)
      ∧ r.2.mem ((c.tc : Thread Cert.ProjectionRefIdeal.nD Cert.ProjectionRefIdeal.τ).loc Cert.ProjectionRefIdeal.main_arg1) = m ((c.tc : Thread Cert.ProjectionRefIdeal.nD Cert.ProjectionRefIdeal.τ).loc Cert.ProjectionRefIdeal.main_arg1)
      ∧ r.2.mem ((c.tc : Thread Cert.ProjectionRefIdeal.nD Cert.ProjectionRefIdeal.τ).loc Cert.ProjectionRefIdeal.main_arg2) = m ((c.tc : Thread Cert.ProjectionRefIdeal.nD Cert.ProjectionRefIdeal.τ).loc Cert.ProjectionRefIdeal.main_arg2)
      ∧ r.2.mem ((c.tc : Thread Cert.ProjectionRefIdeal.nD Cert.ProjectionRefIdeal.τ).loc Cert.ProjectionRefIdeal.main_arg3) = m ((c.tc : Thread Cert.ProjectionRefIdeal.nD Cert.ProjectionRefIdeal.τ).loc Cert.ProjectionRefIdeal.main_arg3)
      ∧ r.2.mem ((c.tc : Thread Cert.ProjectionRefIdeal.nD Cert.ProjectionRefIdeal.τ).loc Cert.ProjectionRefIdeal.main_arg4) = m ((c.tc : Thread Cert.ProjectionRefIdeal.nD Cert.ProjectionRefIdeal.τ).loc Cert.ProjectionRefIdeal.main_arg4)
      ∧ r.2.mem ((c.tc : Thread Cert.ProjectionRefIdeal.nD Cert.ProjectionRefIdeal.τ).loc Cert.ProjectionRefIdeal.main_arg5) = m ((c.tc : Thread Cert.ProjectionRefIdeal.nD Cert.ProjectionRefIdeal.τ).loc Cert.ProjectionRefIdeal.main_arg5)
      ∧ r.2.mem ((c.tc : Thread Cert.ProjectionRefIdeal.nD Cert.ProjectionRefIdeal.τ).loc Cert.ProjectionRefIdeal.main_arg6) = m ((c.tc : Thread Cert.ProjectionRefIdeal.nD Cert.ProjectionRefIdeal.τ).loc Cert.ProjectionRefIdeal.main_arg6)
      ∧ r.2.mem ((c.tc : Thread Cert.ProjectionRefIdeal.nD Cert.ProjectionRefIdeal.τ).loc Cert.ProjectionRefIdeal.main_arg7) = m ((c.tc : Thread Cert.ProjectionRefIdeal.nD Cert.ProjectionRefIdeal.τ).loc Cert.ProjectionRefIdeal.main_arg7)
      ∧ r.2.mem ((c.tc : Thread Cert.ProjectionRefIdeal.nD Cert.ProjectionRefIdeal.τ).loc Cert.ProjectionRefIdeal.main_arg8) = m ((c.tc : Thread Cert.ProjectionRefIdeal.nD Cert.ProjectionRefIdeal.τ).loc Cert.ProjectionRefIdeal.main_arg8)
      ∧ r.2.mem ((c.tc : Thread Cert.ProjectionRefIdeal.nD Cert.ProjectionRefIdeal.τ).loc Cert.ProjectionRefIdeal.main_arg9) = m ((c.tc : Thread Cert.ProjectionRefIdeal.nD Cert.ProjectionRefIdeal.τ).loc Cert.ProjectionRefIdeal.main_arg9)
      ∧ r.2.mem ((c.tc : Thread Cert.ProjectionRefIdeal.nD Cert.ProjectionRefIdeal.τ).loc Cert.ProjectionRefIdeal.main_arg10) = m ((c.tc : Thread Cert.ProjectionRefIdeal.nD Cert.ProjectionRefIdeal.τ).loc Cert.ProjectionRefIdeal.main_arg10))
      ∧ r.2.sem = fun _ => 0)

def preserves_Kernel_KernelIdeal : Prop :=
  IdealRules.named_const.Statement Cert.KernelIdeal.κ "inv_qk" .f32 0x3C2AAAAB#32 ((1 / 96 : ℝ) : EReal)
  ∧ IdealRules.named_const.Statement Cert.KernelIdeal.κ "log2_scale" .f32 0x3E16C740#32 ((((Real.sqrt 96) * (Real.log 2))⁻¹ : ℝ) : EReal)

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Experts_ExpertsIdeal : Prop :=
  True

def algebraic_ExpertsIdeal_ExpertsRefIdeal [hExpertsIdeal : Cert.ExpertsIdeal.Facts] [hExpertsRefIdeal : Cert.ExpertsRefIdeal.Facts] [hPre_blocks_in_range : Cert.Pre_blocks_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v47) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Projection_ProjectionIdeal : Prop :=
  True

def algebraic_ProjectionIdeal_ProjectionRefIdeal [hProjectionIdeal : Cert.ProjectionIdeal.Facts] [hProjectionRefIdeal : Cert.ProjectionRefIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionRefIdeal.nD Cert.ProjectionRefIdeal.τ Cert.ProjectionRefIdeal.sig) → Buf (Elt Ideal) ℓ) (g' : Dev Cert.ProjectionRefIdeal.nD → PrngReg), Pre_ProjectionIdeal m →
    (∀ c : Dev Cert.ProjectionIdeal.nD,
      m' ((c.tc : Thread Cert.ProjectionRefIdeal.nD Cert.ProjectionRefIdeal.τ).loc Cert.ProjectionRefIdeal.main_arg0) = m ((c.tc : Thread Cert.ProjectionIdeal.nD Cert.ProjectionIdeal.τ).loc Cert.ProjectionIdeal.main_arg0)
      ∧ m' ((c.tc : Thread Cert.ProjectionRefIdeal.nD Cert.ProjectionRefIdeal.τ).loc Cert.ProjectionRefIdeal.main_arg1) = m ((c.tc : Thread Cert.ProjectionIdeal.nD Cert.ProjectionIdeal.τ).loc Cert.ProjectionIdeal.main_arg1)
      ∧ m' ((c.tc : Thread Cert.ProjectionRefIdeal.nD Cert.ProjectionRefIdeal.τ).loc Cert.ProjectionRefIdeal.main_arg2) = m ((c.tc : Thread Cert.ProjectionIdeal.nD Cert.ProjectionIdeal.τ).loc Cert.ProjectionIdeal.main_arg2)
      ∧ m' ((c.tc : Thread Cert.ProjectionRefIdeal.nD Cert.ProjectionRefIdeal.τ).loc Cert.ProjectionRefIdeal.main_arg3) = m ((c.tc : Thread Cert.ProjectionIdeal.nD Cert.ProjectionIdeal.τ).loc Cert.ProjectionIdeal.main_arg3)
      ∧ m' ((c.tc : Thread Cert.ProjectionRefIdeal.nD Cert.ProjectionRefIdeal.τ).loc Cert.ProjectionRefIdeal.main_arg4) = m ((c.tc : Thread Cert.ProjectionIdeal.nD Cert.ProjectionIdeal.τ).loc Cert.ProjectionIdeal.main_arg4)
      ∧ m' ((c.tc : Thread Cert.ProjectionRefIdeal.nD Cert.ProjectionRefIdeal.τ).loc Cert.ProjectionRefIdeal.main_arg5) = m ((c.tc : Thread Cert.ProjectionIdeal.nD Cert.ProjectionIdeal.τ).loc Cert.ProjectionIdeal.main_arg5)
      ∧ m' ((c.tc : Thread Cert.ProjectionRefIdeal.nD Cert.ProjectionRefIdeal.τ).loc Cert.ProjectionRefIdeal.main_arg6) = m ((c.tc : Thread Cert.ProjectionIdeal.nD Cert.ProjectionIdeal.τ).loc Cert.ProjectionIdeal.main_arg6)
      ∧ m' ((c.tc : Thread Cert.ProjectionRefIdeal.nD Cert.ProjectionRefIdeal.τ).loc Cert.ProjectionRefIdeal.main_arg7) = m ((c.tc : Thread Cert.ProjectionIdeal.nD Cert.ProjectionIdeal.τ).loc Cert.ProjectionIdeal.main_arg7)
      ∧ m' ((c.tc : Thread Cert.ProjectionRefIdeal.nD Cert.ProjectionRefIdeal.τ).loc Cert.ProjectionRefIdeal.main_arg8) = m ((c.tc : Thread Cert.ProjectionIdeal.nD Cert.ProjectionIdeal.τ).loc Cert.ProjectionIdeal.main_arg8)
      ∧ m' ((c.tc : Thread Cert.ProjectionRefIdeal.nD Cert.ProjectionRefIdeal.τ).loc Cert.ProjectionRefIdeal.main_arg9) = m ((c.tc : Thread Cert.ProjectionIdeal.nD Cert.ProjectionIdeal.τ).loc Cert.ProjectionIdeal.main_arg9)
      ∧ m' ((c.tc : Thread Cert.ProjectionRefIdeal.nD Cert.ProjectionRefIdeal.τ).loc Cert.ProjectionRefIdeal.main_arg10) = m ((c.tc : Thread Cert.ProjectionIdeal.nD Cert.ProjectionIdeal.τ).loc Cert.ProjectionIdeal.main_arg10)) →
    ∃ (v0 : (c : Dev Cert.ProjectionIdeal.nD) → Buf (Elt Ideal) ((c.tc : Thread Cert.ProjectionIdeal.nD Cert.ProjectionIdeal.τ).loc Cert.ProjectionIdeal.main_v21_0)) (v1 : (c : Dev Cert.ProjectionIdeal.nD) → Buf (Elt Ideal) ((c.tc : Thread Cert.ProjectionIdeal.nD Cert.ProjectionIdeal.τ).loc Cert.ProjectionIdeal.main_v21_1)) (v2 : (c : Dev Cert.ProjectionIdeal.nD) → Buf (Elt Ideal) ((c.tc : Thread Cert.ProjectionIdeal.nD Cert.ProjectionIdeal.τ).loc Cert.ProjectionIdeal.main_v21_2)) (v3 : (c : Dev Cert.ProjectionIdeal.nD) → Buf (Elt Ideal) ((c.tc : Thread Cert.ProjectionIdeal.nD Cert.ProjectionIdeal.τ).loc Cert.ProjectionIdeal.main_v21_3)) (v4 : (c : Dev Cert.ProjectionIdeal.nD) → Buf (Elt Ideal) ((c.tc : Thread Cert.ProjectionIdeal.nD Cert.ProjectionIdeal.τ).loc Cert.ProjectionIdeal.main_v21_4)) (v5 : (c : Dev Cert.ProjectionIdeal.nD) → Buf (Elt Ideal) ((c.tc : Thread Cert.ProjectionIdeal.nD Cert.ProjectionIdeal.τ).loc Cert.ProjectionIdeal.main_v21_5)) (v6 : (c : Dev Cert.ProjectionIdeal.nD) → Buf (Elt Ideal) ((c.tc : Thread Cert.ProjectionIdeal.nD Cert.ProjectionIdeal.τ).loc Cert.ProjectionIdeal.main_v21_6)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v21_0) = v0 c
          ∧ r.2.mem ((c.tc : Thread Cert.ProjectionIdeal.nD Cert.ProjectionIdeal.τ).loc Cert.ProjectionIdeal.main_v21_1) = v1 c
          ∧ r.2.mem ((c.tc : Thread Cert.ProjectionIdeal.nD Cert.ProjectionIdeal.τ).loc Cert.ProjectionIdeal.main_v21_2) = v2 c
          ∧ r.2.mem ((c.tc : Thread Cert.ProjectionIdeal.nD Cert.ProjectionIdeal.τ).loc Cert.ProjectionIdeal.main_v21_3) = v3 c
          ∧ r.2.mem ((c.tc : Thread Cert.ProjectionIdeal.nD Cert.ProjectionIdeal.τ).loc Cert.ProjectionIdeal.main_v21_4) = v4 c
          ∧ r.2.mem ((c.tc : Thread Cert.ProjectionIdeal.nD Cert.ProjectionIdeal.τ).loc Cert.ProjectionIdeal.main_v21_5) = v5 c
          ∧ r.2.mem ((c.tc : Thread Cert.ProjectionIdeal.nD Cert.ProjectionIdeal.τ).loc Cert.ProjectionIdeal.main_v21_6) = v6 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
          ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
          ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
          ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9)
          ∧ r.2.mem ((c.tc : Thread Cert.ProjectionIdeal.nD Cert.ProjectionIdeal.τ).loc Cert.ProjectionIdeal.main_arg10) = m ((c.tc : Thread Cert.ProjectionIdeal.nD Cert.ProjectionIdeal.τ).loc Cert.ProjectionIdeal.main_arg10))
      ∧ θ_run (Cert.ProjectionRefIdeal.defs (F := Ideal)) (onTc (τ := Cert.ProjectionRefIdeal.τ) (Cert.ProjectionRefIdeal.main (F := Ideal))) ⟨m', fun _ => 0, g'⟩ (fun r => ∀ c : Dev Cert.ProjectionRefIdeal.nD,
          r.2.mem ((c.tc : Thread Cert.ProjectionRefIdeal.nD Cert.ProjectionRefIdeal.τ).loc Cert.ProjectionRefIdeal.main_v80) = v0 c
          ∧ r.2.mem ((c.tc : Thread Cert.ProjectionRefIdeal.nD Cert.ProjectionRefIdeal.τ).loc Cert.ProjectionRefIdeal.main_v81) = v1 c
          ∧ r.2.mem ((c.tc : Thread Cert.ProjectionRefIdeal.nD Cert.ProjectionRefIdeal.τ).loc Cert.ProjectionRefIdeal.main_v82) = v2 c
          ∧ r.2.mem ((c.tc : Thread Cert.ProjectionRefIdeal.nD Cert.ProjectionRefIdeal.τ).loc Cert.ProjectionRefIdeal.main_v83) = v3 c
          ∧ r.2.mem ((c.tc : Thread Cert.ProjectionRefIdeal.nD Cert.ProjectionRefIdeal.τ).loc Cert.ProjectionRefIdeal.main_v84) = v4 c
          ∧ r.2.mem ((c.tc : Thread Cert.ProjectionRefIdeal.nD Cert.ProjectionRefIdeal.τ).loc Cert.ProjectionRefIdeal.main_v85) = v5 c
          ∧ r.2.mem ((c.tc : Thread Cert.ProjectionRefIdeal.nD Cert.ProjectionRefIdeal.τ).loc Cert.ProjectionRefIdeal.main_v86) = v6 c
          ∧ r.2.mem ((c.tc : Thread Cert.ProjectionRefIdeal.nD Cert.ProjectionRefIdeal.τ).loc Cert.ProjectionRefIdeal.main_arg0) = m' ((c.tc : Thread Cert.ProjectionRefIdeal.nD Cert.ProjectionRefIdeal.τ).loc Cert.ProjectionRefIdeal.main_arg0)
          ∧ r.2.mem ((c.tc : Thread Cert.ProjectionRefIdeal.nD Cert.ProjectionRefIdeal.τ).loc Cert.ProjectionRefIdeal.main_arg1) = m' ((c.tc : Thread Cert.ProjectionRefIdeal.nD Cert.ProjectionRefIdeal.τ).loc Cert.ProjectionRefIdeal.main_arg1)
          ∧ r.2.mem ((c.tc : Thread Cert.ProjectionRefIdeal.nD Cert.ProjectionRefIdeal.τ).loc Cert.ProjectionRefIdeal.main_arg2) = m' ((c.tc : Thread Cert.ProjectionRefIdeal.nD Cert.ProjectionRefIdeal.τ).loc Cert.ProjectionRefIdeal.main_arg2)
          ∧ r.2.mem ((c.tc : Thread Cert.ProjectionRefIdeal.nD Cert.ProjectionRefIdeal.τ).loc Cert.ProjectionRefIdeal.main_arg3) = m' ((c.tc : Thread Cert.ProjectionRefIdeal.nD Cert.ProjectionRefIdeal.τ).loc Cert.ProjectionRefIdeal.main_arg3)
          ∧ r.2.mem ((c.tc : Thread Cert.ProjectionRefIdeal.nD Cert.ProjectionRefIdeal.τ).loc Cert.ProjectionRefIdeal.main_arg4) = m' ((c.tc : Thread Cert.ProjectionRefIdeal.nD Cert.ProjectionRefIdeal.τ).loc Cert.ProjectionRefIdeal.main_arg4)
          ∧ r.2.mem ((c.tc : Thread Cert.ProjectionRefIdeal.nD Cert.ProjectionRefIdeal.τ).loc Cert.ProjectionRefIdeal.main_arg5) = m' ((c.tc : Thread Cert.ProjectionRefIdeal.nD Cert.ProjectionRefIdeal.τ).loc Cert.ProjectionRefIdeal.main_arg5)
          ∧ r.2.mem ((c.tc : Thread Cert.ProjectionRefIdeal.nD Cert.ProjectionRefIdeal.τ).loc Cert.ProjectionRefIdeal.main_arg6) = m' ((c.tc : Thread Cert.ProjectionRefIdeal.nD Cert.ProjectionRefIdeal.τ).loc Cert.ProjectionRefIdeal.main_arg6)
          ∧ r.2.mem ((c.tc : Thread Cert.ProjectionRefIdeal.nD Cert.ProjectionRefIdeal.τ).loc Cert.ProjectionRefIdeal.main_arg7) = m' ((c.tc : Thread Cert.ProjectionRefIdeal.nD Cert.ProjectionRefIdeal.τ).loc Cert.ProjectionRefIdeal.main_arg7)
          ∧ r.2.mem ((c.tc : Thread Cert.ProjectionRefIdeal.nD Cert.ProjectionRefIdeal.τ).loc Cert.ProjectionRefIdeal.main_arg8) = m' ((c.tc : Thread Cert.ProjectionRefIdeal.nD Cert.ProjectionRefIdeal.τ).loc Cert.ProjectionRefIdeal.main_arg8)
          ∧ r.2.mem ((c.tc : Thread Cert.ProjectionRefIdeal.nD Cert.ProjectionRefIdeal.τ).loc Cert.ProjectionRefIdeal.main_arg9) = m' ((c.tc : Thread Cert.ProjectionRefIdeal.nD Cert.ProjectionRefIdeal.τ).loc Cert.ProjectionRefIdeal.main_arg9)
          ∧ r.2.mem ((c.tc : Thread Cert.ProjectionRefIdeal.nD Cert.ProjectionRefIdeal.τ).loc Cert.ProjectionRefIdeal.main_arg10) = m' ((c.tc : Thread Cert.ProjectionRefIdeal.nD Cert.ProjectionRefIdeal.τ).loc Cert.ProjectionRefIdeal.main_arg10))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hProjection : Cert.Projection.Facts) (hProjectionIdeal : Cert.ProjectionIdeal.Facts) (hProjectionRefIdeal : Cert.ProjectionRefIdeal.Facts) (hPre_gains_finite : Cert.Pre_gains_finite.Facts) (hPre_blocks_in_range : Cert.Pre_blocks_in_range.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_Experts (hExperts := hExperts) (hPre_blocks_in_range := hPre_blocks_in_range)
    ∧ quiescent_ExpertsIdeal (hExpertsIdeal := hExpertsIdeal) (hPre_blocks_in_range := hPre_blocks_in_range)
    ∧ quiescent_ExpertsRefIdeal (hExpertsRefIdeal := hExpertsRefIdeal)
    ∧ quiescent_ExpertsRefIdeal_pre_blocks_in_range (hExpertsRefIdeal := hExpertsRefIdeal) (hPre_blocks_in_range := hPre_blocks_in_range)
    ∧ quiescent_Projection (hProjection := hProjection)
    ∧ quiescent_ProjectionIdeal (hProjectionIdeal := hProjectionIdeal)
    ∧ quiescent_ProjectionRefIdeal (hProjectionRefIdeal := hProjectionRefIdeal)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_Experts_ExpertsIdeal
    ∧ algebraic_ExpertsIdeal_ExpertsRefIdeal (hExpertsIdeal := hExpertsIdeal) (hExpertsRefIdeal := hExpertsRefIdeal) (hPre_blocks_in_range := hPre_blocks_in_range)
    ∧ preserves_Projection_ProjectionIdeal
    ∧ algebraic_ProjectionIdeal_ProjectionRefIdeal (hProjectionIdeal := hProjectionIdeal) (hProjectionRefIdeal := hProjectionRefIdeal)
-- ==== Pre_blocks_in_range.lean ====
abbrev S147456x512 : Shape := ⟨2, ![147456, 512]⟩
abbrev S288 : Shape := ⟨1, ![288]⟩
abbrev S1 : Shape := ⟨1, ![1]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S147456x512 32) (main_arg1 : IVec S288 32) (main_arg2 : IVec S1 32) (main_arg3 : FVec F S4x32x1024x512 .f32) (main_arg4 : FVec F S4x32x1024x512 .f32) (main_arg5 : FVec F S4x32x512x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 1 := constantI S_ 1 1#1
  let main_v2 : IVec S_ 1 := (fun x v => Host.reduce IntOp.andi x v reducesTo_S288_S_d0 h_S_) main_v1 main_c_0
  let main_c_1 : IVec S_ 32 := constantI S_ 32 32#32
  let main_v3 : IVec S288 32 := broadcastInDim S288 ![] bcast_S_S288 main_c_1
  let main_v4 : IVec S288 1 := cmpi .slt main_arg1 main_v3
  let main_c_2 : IVec S_ 1 := constantI S_ 1 1#1
  let main_v5 : IVec S_ 1 := (fun x v => Host.reduce IntOp.andi x v reducesTo_S288_S_d0 h_S_) main_v4 main_c_2
  let main_v6 : IVec S_ 1 := andi main_v2 main_v5
  main_v6
-- ==== Pre_gains_finite.lean ====
abbrev S16x4096x256 : Shape := ⟨3, ![16, 4096, 256]⟩
abbrev S16x4096x128 : Shape := ⟨3, ![16, 4096, 128]⟩
abbrev S16x4096x32 : Shape := ⟨3, ![16, 4096, 32]⟩
abbrev S256x768 : Shape := ⟨2, ![256, 768]⟩
abbrev S128x1024 : Shape := ⟨2, ![128, 1024]⟩
abbrev S96 : Shape := ⟨1, ![96]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : FVec F S16x4096x256 .f32) (main_arg1 : FVec F S16x4096x128 .f32) (main_arg2 : FVec F S16x4096x32 .f32) (main_arg3 : FVec F S256x768 .f32) (main_arg4 : FVec F S128x1024 .f32) (main_arg5 : FVec F S96 .f32) (main_arg6 : FVec F S96 .f32) : IVec S_ 1 :=
  let main_v0 : FVec F S96 .f32 := Host.absf main_arg5
  let main_cst : FVec F S_ .f32 := constant S_ .f32 0x7F800000#32
  let main_v1 : FVec F S96 .f32 := broadcastInDim S96 ![] bcast_S_S96 main_cst
  let main_v2 : IVec S96 1 := cmpf .olt main_v0 main_v1
  let main_c : IVec S_ 1 := constantI S_ 1 1#1
  let main_v3 : IVec S_ 1 := (fun x v => Host.reduce IntOp.andi x v reducesTo_S96_S_d0 h_S_) main_v2 main_c
  let main_v4 : FVec F S96 .f32 := Host.absf main_arg6
  let main_cst_0 : FVec F S_ .f32 := constant S_ .f32 0x7F800000#32
  let main_v5 : FVec F S96 .f32 := broadcastInDim S96 ![] bcast_S_S96 main_cst_0
  let main_v6 : IVec S96 1 := cmpf .olt main_v4 main_v5
  let main_c_1 : IVec S_ 1 := constantI S_ 1 1#1
  let main_v7 : IVec S_ 1 := (fun x v => Host.reduce IntOp.andi x v reducesTo_S96_S_d0 h_S_) main_v6 main_c_1
  let main_v8 : IVec S_ 1 := andi main_v3 main_v7
  main_v8
-- ==== Kernel.lean ====
abbrev S16x4096x256 : Shape := ⟨3, ![16, 4096, 256]⟩
abbrev S16x4096x128 : Shape := ⟨3, ![16, 4096, 128]⟩
abbrev S16x4096x32 : Shape := ⟨3, ![16, 4096, 32]⟩
abbrev S256x768 : Shape := ⟨2, ![256, 768]⟩
abbrev S128x1024 : Shape := ⟨2, ![128, 1024]⟩
abbrev S96 : Shape := ⟨1, ![96]⟩
abbrev S8x1x128 : Shape := ⟨3, ![8, 1, 128]⟩
abbrev S256x8x96 : Shape := ⟨3, ![256, 8, 96]⟩
abbrev S8x256x96 : Shape := ⟨3, ![8, 256, 96]⟩
abbrev S_ : Shape := ⟨0, ![]⟩
abbrev S8x256x128 : Shape := ⟨3, ![8, 256, 128]⟩
abbrev S128x8x128 : Shape := ⟨3, ![128, 8, 128]⟩
abbrev S8x128x128 : Shape := ⟨3, ![8, 128, 128]⟩
abbrev S8x128x64 : Shape := ⟨3, ![8, 128, 64]⟩
abbrev S8 : Shape := ⟨1, ![8]⟩
abbrev S8x1x1 : Shape := ⟨3, ![8, 1, 1]⟩
abbrev S128 : Shape := ⟨1, ![128]⟩
abbrev S1x128 : Shape := ⟨2, ![1, 128]⟩
abbrev S1 : Shape := ⟨1, ![1]⟩
abbrev S2 : Shape := ⟨1, ![2]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S1x4096x128 : Shape := ⟨3, ![1, 4096, 128]⟩
abbrev S2x4096x128 : Shape := ⟨3, ![2, 4096, 128]⟩
abbrev S16x4096x512 : Shape := ⟨3, ![16, 4096, 512]⟩
abbrev S1x512x256 : Shape := ⟨3, ![1, 512, 256]⟩
abbrev S1x512x512 : Shape := ⟨3, ![1, 512, 512]⟩
abbrev S8x4x128x1024 : Shape := ⟨4, ![8, 4, 128, 1024]⟩
abbrev S8x4096x128 : Shape := ⟨3, ![8, 4096, 128]⟩
abbrev S8x512x128 : Shape := ⟨3, ![8, 512, 128]⟩
abbrev S128x128 : Shape := ⟨2, ![128, 128]⟩
abbrev S1x1024x128 : Shape := ⟨3, ![1, 1024, 128]⟩
abbrev S1024x128 : Shape := ⟨2, ![1024, 128]⟩
abbrev S1x128x128 : Shape := ⟨3, ![1, 128, 128]⟩
abbrev S1024 : Shape := ⟨1, ![1024]⟩
abbrev S1024x1 : Shape := ⟨2, ![1024, 1]⟩
abbrev S1x1x128x1024 : Shape := ⟨4, ![1, 1, 128, 1024]⟩
abbrev S1x1x128 : Shape := ⟨3, ![1, 1, 128]⟩
abbrev S1x512x128 : Shape := ⟨3, ![1, 512, 128]⟩
abbrev S512x128 : Shape := ⟨2, ![512, 128]⟩
abbrev S512x256 : Shape := ⟨2, ![512, 256]⟩
abbrev S1x256x128 : Shape := ⟨3, ![1, 256, 128]⟩
abbrev S256x128 : Shape := ⟨2, ![256, 128]⟩
abbrev S512 : Shape := ⟨1, ![512]⟩
abbrev S512x1 : Shape := ⟨2, ![512, 1]⟩
abbrev S512x1024 : Shape := ⟨2, ![512, 1024]⟩

abbrev nBuf : Space → Nat
  | .hbm => 130
  | .vmem => 20
  | .smem => 1
  | _ => 0

abbrev hbmTy0_0 (i : Nat) : BufTy := match i % 128 with
  | 0 => ⟨S16x4096x256, .f32⟩
  | 1 => ⟨S16x4096x128, .f32⟩
  | 2 => ⟨S16x4096x32, .f32⟩
  | 3 => ⟨S256x768, .f32⟩
  | 4 => ⟨S128x1024, .f32⟩
  | 5 => ⟨S96, .f32⟩
  | 6 => ⟨S96, .f32⟩
  | 7 => ⟨S8x1x128, .f32⟩
  | 8 => ⟨S256x8x96, .f32⟩
  | 9 => ⟨S8x256x96, .f32⟩
  | 10 => ⟨S_, .i32⟩
  | 11 => ⟨S_, .f32⟩
  | 12 => ⟨S8x256x128, .f32⟩
  | 13 => ⟨S8x256x128, .bf16⟩
  | 14 => ⟨S128x8x128, .f32⟩
  | 15 => ⟨S8x128x128, .f32⟩
  | 16 => ⟨S8x128x64, .f32⟩
  | 17 => ⟨S_, .i32⟩
  | 18 => ⟨S_, .f32⟩
  | 19 => ⟨S8x128x128, .f32⟩
  | 20 => ⟨S8x128x128, .bf16⟩
  | 21 => ⟨S8x128x64, .f32⟩
  | 22 => ⟨S_, .f32⟩
  | 23 => ⟨S8x128x64, .f32⟩
  | 24 => ⟨S8, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S8, .i32⟩
  | 32 => ⟨S8, .i32⟩
  | 33 => ⟨S_, .i32⟩
  | 34 => ⟨S8, .i32⟩
  | 35 => ⟨S8, .i1⟩
  | 36 => ⟨S_, .i32⟩
  | 37 => ⟨S8, .i32⟩
  | 38 => ⟨S8, .i1⟩
  | 39 => ⟨S_, .i32⟩
  | 40 => ⟨S_, .i1⟩
  | 41 => ⟨S8, .i1⟩
  | 42 => ⟨S8, .i1⟩
  | 43 => ⟨S8, .i1⟩
  | 44 => ⟨S8, .i32⟩
  | 45 => ⟨S8, .i32⟩
  | 46 => ⟨S8, .i32⟩
  | 47 => ⟨S_, .i32⟩
  | 48 => ⟨S8, .i32⟩
  | 49 => ⟨S8, .i1⟩
  | 50 => ⟨S8x1x1, .i1⟩
  | 51 => ⟨S8x128x128, .f32⟩
  | 52 => ⟨S8x128x128, .f32⟩
  | 53 => ⟨S8x128x128, .i1⟩
  | 54 => ⟨S8x128x128, .f32⟩
  | 55 => ⟨S8x128x128, .bf16⟩
  | 56 => ⟨S_, .i32⟩
  | 57 => ⟨S_, .f32⟩
  | 58 => ⟨S128, .f32⟩
  | 59 => ⟨S1x128, .f32⟩
  | 60 => ⟨S_, .i32⟩
  | 61 => ⟨S_, .f32⟩
  | 62 => ⟨S128, .f32⟩
  | 63 => ⟨S1x128, .f32⟩
  | 64 => ⟨S96, .f32⟩
  | 65 => ⟨S_, .f32⟩
  | 66 => ⟨S_, .f32⟩
  | 67 => ⟨S96, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .bf16⟩
  | 76 => ⟨S_, .f32⟩
  | 77 => ⟨S_, .f32⟩
  | 78 => ⟨S_, .i1⟩
  | 79 => ⟨S_, .i32⟩
  | 80 => ⟨S1, .i32⟩
  | 81 => ⟨S_, .f32⟩
  | 82 => ⟨S1x128, .f32⟩
  | 83 => ⟨S_, .f32⟩
  | 84 => ⟨S_, .f32⟩
  | 85 => ⟨S_, .f32⟩
  | 86 => ⟨S_, .f32⟩
  | 87 => ⟨S_, .i32⟩
  | 88 => ⟨S1, .i32⟩
  | 89 => ⟨S_, .i32⟩
  | 90 => ⟨S1, .i32⟩
  | 91 => ⟨S2, .i32⟩
  | 92 => ⟨S1x128, .f32⟩
  | 93 => ⟨S16, .f32⟩
  | 94 => ⟨S16, .f32⟩
  | 95 => ⟨S_, .f32⟩
  | 96 => ⟨S16, .f32⟩
  | 97 => ⟨S16, .f32⟩
  | 98 => ⟨S_, .f32⟩
  | 99 => ⟨S16, .f32⟩
  | 100 => ⟨S16, .f32⟩
  | 101 => ⟨S4096, .f32⟩
  | 102 => ⟨S4096x1, .f32⟩
  | 103 => ⟨S1x16, .f32⟩
  | 104 => ⟨S4096x16, .f32⟩
  | 105 => ⟨S4096x16, .f32⟩
  | 106 => ⟨S4096x16, .f32⟩
  | 107 => ⟨S4096x16, .f32⟩
  | 108 => ⟨S4096x16, .f32⟩
  | 109 => ⟨S_, .f32⟩
  | 110 => ⟨S4096x64, .f32⟩
  | 111 => ⟨S_, .f32⟩
  | 112 => ⟨S4096x32, .f32⟩
  | 113 => ⟨S4096x128, .f32⟩
  | 114 => ⟨S_, .f32⟩
  | 115 => ⟨S4096x64, .f32⟩
  | 116 => ⟨S4096x16, .f32⟩
  | 117 => ⟨S_, .f32⟩
  | 118 => ⟨S4096x32, .f32⟩
  | 119 => ⟨S4096x128, .f32⟩
  | 120 => ⟨S1x4096x128, .f32⟩
  | 121 => ⟨S1x4096x128, .f32⟩
  | 122 => ⟨S2x4096x128, .f32⟩
  | 123 => ⟨S_, .i32⟩
  | 124 => ⟨S_, .f32⟩
  | 125 => ⟨S16x4096x128, .f32⟩
  | 126 => ⟨S16x4096x256, .bf16⟩
  | 127 => ⟨S16x4096x128, .bf16⟩
  | _ => ⟨S16x4096x256, .f32⟩

abbrev hbmTy0_1 (i : Nat) : BufTy := match i % 128 with
  | 0 => ⟨S16x4096x128, .bf16⟩
  | 1 => ⟨S16x4096x512, .bf16⟩
  | _ => ⟨S16x4096x256, .f32⟩

abbrev hbmTy (i : Nat) : BufTy := match i / 128 with
  | 0 => hbmTy0_0 i
  | 1 => hbmTy0_1 i
  | _ => ⟨S16x4096x256, .f32⟩

abbrev bufTy : (tb : Table) → Fin (tcTables nBuf tb) → BufTy
  | .hbm, ⟨i, _⟩ => hbmTy i
  | .local _ .vmem, ⟨0, _⟩ => ⟨S1x512x256, .bf16⟩
  | .local _ .vmem, ⟨1, _⟩ => ⟨S1x512x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S2x4096x128, .f32⟩
  | .local _ .vmem, ⟨7, _⟩ => ⟨S8x256x128, .bf16⟩
  | .local _ .vmem, ⟨8, _⟩ => ⟨S8x128x128, .bf16⟩
  | .local _ .vmem, ⟨9, _⟩ => ⟨S8x128x128, .bf16⟩
  | .local _ .vmem, ⟨10, _⟩ => ⟨S1x128, .f32⟩
  | .local _ .vmem, ⟨11, _⟩ => ⟨S1x128, .f32⟩
  | .local _ .vmem, ⟨12, _⟩ => ⟨S8x1x128, .f32⟩
  | .local _ .vmem, ⟨13, _⟩ => ⟨S1x128, .f32⟩
  | .local _ .vmem, ⟨14, _⟩ => ⟨S1x512x512, .bf16⟩
  | .local _ .vmem, ⟨15, _⟩ => ⟨S1x512x512, .bf16⟩
  | .local _ .vmem, ⟨16, _⟩ => ⟨S8x4x128x1024, .bf16⟩
  | .local _ .vmem, ⟨17, _⟩ => ⟨S8x4096x128, .bf16⟩
  | .local _ .vmem, ⟨18, _⟩ => ⟨S8x512x128, .bf16⟩
  | .local _ .vmem, ⟨19, _⟩ => ⟨S8x512x128, .f32⟩
  | .local _ .smem, ⟨0, _⟩ => ⟨S1, .i32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_call2_v0 : Ref sig .tc := ⟨.hbm, 26, rfl⟩
abbrev main_call2_c : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_c_1 : Ref sig .tc := ⟨.hbm, 33, rfl⟩
abbrev main_call2_v5 : Ref sig .tc := ⟨.hbm, 34, rfl⟩
abbrev main_call2_v6 : Ref sig .tc := ⟨.hbm, 35, rfl⟩
abbrev main_call2_c_2 : Ref sig .tc := ⟨.hbm, 36, rfl⟩
abbrev main_call2_v7 : Ref sig .tc := ⟨.hbm, 37, rfl⟩
abbrev main_call2_v8 : Ref sig .tc := ⟨.hbm, 38, rfl⟩
abbrev main_call2_c_3 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_v12 : Ref sig .tc := ⟨.hbm, 46, rfl⟩
abbrev main_c_3 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_call3_v0 : Ref sig .tc := ⟨.hbm, 53, rfl⟩
abbrev main_v18 : Ref sig .tc := ⟨.hbm, 54, rfl⟩
abbrev main_v19 : Ref sig .tc := ⟨.hbm, 55, rfl⟩
abbrev main_c_4 : Ref sig .tc := ⟨.hbm, 56, rfl⟩
abbrev main_call4_v0 : Ref sig .tc := ⟨.hbm, 57, rfl⟩
abbrev main_v20 : Ref sig .tc := ⟨.hbm, 58, rfl⟩
abbrev main_v21 : Ref sig .tc := ⟨.hbm, 59, rfl⟩
abbrev main_c_5 : Ref sig .tc := ⟨.hbm, 60, rfl⟩
abbrev main_call5_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_6 : Ref sig .tc := ⟨.hbm, 65, rfl⟩
abbrev main_v25 : Ref sig .tc := ⟨.hbm, 66, rfl⟩
abbrev main_v26 : Ref sig .tc := ⟨.hbm, 67, rfl⟩
abbrev main_cst_7 : Ref sig .tc := ⟨.hbm, 68, rfl⟩
abbrev main_v27 : Ref sig .tc := ⟨.hbm, 69, rfl⟩
abbrev main_v28 : Ref sig .tc := ⟨.hbm, 70, rfl⟩
abbrev main_cst_8 : Ref sig .tc := ⟨.hbm, 71, rfl⟩
abbrev main_v29 : Ref sig .tc := ⟨.hbm, 72, rfl⟩
abbrev main_cst_9 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_10 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_11 : Ref sig .tc := ⟨.hbm, 81, rfl⟩
abbrev main_v36 : Ref sig .tc := ⟨.hbm, 82, rfl⟩
abbrev main_v37 : Ref sig .tc := ⟨.hbm, 83, rfl⟩
abbrev main_cst_12 : Ref sig .tc := ⟨.hbm, 84, rfl⟩
abbrev main_call6_v0 : Ref sig .tc := ⟨.hbm, 85, rfl⟩
abbrev main_v38 : Ref sig .tc := ⟨.hbm, 86, rfl⟩
abbrev main_c_13 : Ref sig .tc := ⟨.hbm, 87, rfl⟩
abbrev main_v39 : Ref sig .tc := ⟨.hbm, 88, rfl⟩
abbrev main_c_14 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_15 : Ref sig .tc := ⟨.hbm, 95, rfl⟩
abbrev main_v45 : Ref sig .tc := ⟨.hbm, 96, rfl⟩
abbrev main_v46 : Ref sig .tc := ⟨.hbm, 97, rfl⟩
abbrev main_cst_16 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_17 : Ref sig .tc := ⟨.hbm, 109, rfl⟩
abbrev main_v57 : Ref sig .tc := ⟨.hbm, 110, rfl⟩
abbrev main_cst_18 : Ref sig .tc := ⟨.hbm, 111, rfl⟩
abbrev main_v58 : Ref sig .tc := ⟨.hbm, 112, rfl⟩
abbrev main_v59 : Ref sig .tc := ⟨.hbm, 113, rfl⟩
abbrev main_cst_19 : Ref sig .tc := ⟨.hbm, 114, rfl⟩
abbrev main_v60 : Ref sig .tc := ⟨.hbm, 115, rfl⟩
abbrev main_v61 : Ref sig .tc := ⟨.hbm, 116, rfl⟩
abbrev main_cst_20 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_c_21 : Ref sig .tc := ⟨.hbm, 123, rfl⟩
abbrev main_call7_v0 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_3 : BitVec 32 := 0#32
  let v28 : BitVec 1 := Scalar.cmpi .ne v27 c0_i32_3
  v28

@[reducible] def k0_t1_loop : Scf.Loop 32 :=
  let c0_i32_138 : BitVec 32 := 0#32
  let c4_i32 : BitVec 32 := 4#32
  let v294 : BitVec 32 := Scalar.addi c0_i32_138 c4_i32
  let c1_i32_139 : BitVec 32 := 1#32
  ⟨c0_i32_138, v294, c1_i32_139⟩
def k0_mult1 (k0_t1 : Fin k0_t1_loop.trips) : BitVec 32 :=
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  v295
def k0_off1 (k0_t1 : Fin k0_t1_loop.trips) : Fin 3 → Nat :=
  let c0_141 : Index := 0#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v297 : Index := Scalar.indexCast v296
  let c0_142 : Index := 0#32
  ![0, v297.toNat, 0]
def k0_off2 (k0_t1 : Fin k0_t1_loop.trips) : Fin 3 → Nat :=
  let c0_145 : Index := 0#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v304 : Index := Scalar.indexCast v296
  let c0_146 : Index := 0#32
  ![0, v304.toNat, 0]
def k0_off3 (k0_t1 : Fin k0_t1_loop.trips) : Fin 3 → Nat :=
  let c1_147 : Index := 1#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v307 : Index := Scalar.indexCast v296
  let c0_148 : Index := 0#32
  ![1, v307.toNat, 0]
def k0_off4 (k0_t1 : Fin k0_t1_loop.trips) : Fin 4 → Nat :=
  let c0_159 : Index := 0#32
  let c0_i32_138 : BitVec 32 := 0#32
  let c1_i32_139 : BitVec 32 := 1#32
  let arg19 : BitVec 32 := Scf.iv c0_i32_138 c1_i32_139 k0_t1
  let v337 : Index := Scalar.indexCast arg19
  let c0_160 : Index := 0#32
  let c0_161 : Index := 0#32
  ![0, v337.toNat, 0, 0]
def k0_off5 (k0_t1 : Fin k0_t1_loop.trips) : Fin 3 → Nat :=
  let c0_169 : Index := 0#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v349 : Index := Scalar.indexCast v296
  let c0_170 : Index := 0#32
  ![0, v349.toNat, 0]
def k0_off6 (k0_t1 : Fin k0_t1_loop.trips) : Fin 4 → Nat :=
  let c1_181 : Index := 1#32
  let c0_i32_138 : BitVec 32 := 0#32
  let c1_i32_139 : BitVec 32 := 1#32
  let arg19 : BitVec 32 := Scf.iv c0_i32_138 c1_i32_139 k0_t1
  let v380 : Index := Scalar.indexCast arg19
  let c0_182 : Index := 0#32
  let c0_183 : Index := 0#32
  ![1, v380.toNat, 0, 0]
def k0_off7 (k0_t1 : Fin k0_t1_loop.trips) : Fin 3 → Nat :=
  let c1_191 : Index := 1#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v392 : Index := Scalar.indexCast v296
  let c0_192 : Index := 0#32
  ![1, v392.toNat, 0]
def k0_off8 (k0_t1 : Fin k0_t1_loop.trips) : Fin 4 → Nat :=
  let c2_203 : Index := 2#32
  let c0_i32_138 : BitVec 32 := 0#32
  let c1_i32_139 : BitVec 32 := 1#32
  let arg19 : BitVec 32 := Scf.iv c0_i32_138 c1_i32_139 k0_t1
  let v423 : Index := Scalar.indexCast arg19
  let c0_204 : Index := 0#32
  let c0_205 : Index := 0#32
  ![2, v423.toNat, 0, 0]
def k0_off9 (k0_t1 : Fin k0_t1_loop.trips) : Fin 3 → Nat :=
  let c2_213 : Index := 2#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v435 : Index := Scalar.indexCast v296
  let c0_214 : Index := 0#32
  ![2, v435.toNat, 0]
def k0_off10 (k0_t1 : Fin k0_t1_loop.trips) : Fin 4 → Nat :=
  let c3_225 : Index := 3#32
  let c0_i32_138 : BitVec 32 := 0#32
  let c1_i32_139 : BitVec 32 := 1#32
  let arg19 : BitVec 32 := Scf.iv c0_i32_138 c1_i32_139 k0_t1
  let v466 : Index := Scalar.indexCast arg19
  let c0_226 : Index := 0#32
  let c0_227 : Index := 0#32
  ![3, v466.toNat, 0, 0]
def k0_off11 (k0_t1 : Fin k0_t1_loop.trips) : Fin 3 → Nat :=
  let c3_235 : Index := 3#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v478 : Index := Scalar.indexCast v296
  let c0_236 : Index := 0#32
  ![3, v478.toNat, 0]
def k0_off12 (k0_t1 : Fin k0_t1_loop.trips) : Fin 4 → Nat :=
  let c4_247 : Index := 4#32
  let c0_i32_138 : BitVec 32 := 0#32
  let c1_i32_139 : BitVec 32 := 1#32
  let arg19 : BitVec 32 := Scf.iv c0_i32_138 c1_i32_139 k0_t1
  let v509 : Index := Scalar.indexCast arg19
  let c0_248 : Index := 0#32
  let c0_249 : Index := 0#32
  ![4, v509.toNat, 0, 0]
def k0_off13 (k0_t1 : Fin k0_t1_loop.trips) : Fin 3 → Nat :=
  let c4_257 : Index := 4#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v521 : Index := Scalar.indexCast v296
  let c0_258 : Index := 0#32
  ![4, v521.toNat, 0]
def k0_off14 (k0_t1 : Fin k0_t1_loop.trips) : Fin 4 → Nat :=
  let c5_269 : Index := 5#32
  let c0_i32_138 : BitVec 32 := 0#32
  let c1_i32_139 : BitVec 32 := 1#32
  let arg19 : BitVec 32 := Scf.iv c0_i32_138 c1_i32_139 k0_t1
  let v552 : Index := Scalar.indexCast arg19
  let c0_270 : Index := 0#32
  let c0_271 : Index := 0#32
  ![5, v552.toNat, 0, 0]
def k0_off15 (k0_t1 : Fin k0_t1_loop.trips) : Fin 3 → Nat :=
  let c5_279 : Index := 5#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v564 : Index := Scalar.indexCast v296
  let c0_280 : Index := 0#32
  ![5, v564.toNat, 0]
def k0_off16 (k0_t1 : Fin k0_t1_loop.trips) : Fin 4 → Nat :=
  let c6_291 : Index := 6#32
  let c0_i32_138 : BitVec 32 := 0#32
  let c1_i32_139 : BitVec 32 := 1#32
  let arg19 : BitVec 32 := Scf.iv c0_i32_138 c1_i32_139 k0_t1
  let v595 : Index := Scalar.indexCast arg19
  let c0_292 : Index := 0#32
  let c0_293 : Index := 0#32
  ![6, v595.toNat, 0, 0]
def k0_off17 (k0_t1 : Fin k0_t1_loop.trips) : Fin 3 → Nat :=
  let c6_301 : Index := 6#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v607 : Index := Scalar.indexCast v296
  let c0_302 : Index := 0#32
  ![6, v607.toNat, 0]
def k0_off18 (k0_t1 : Fin k0_t1_loop.trips) : Fin 4 → Nat :=
  let c7_313 : Index := 7#32
  let c0_i32_138 : BitVec 32 := 0#32
  let c1_i32_139 : BitVec 32 := 1#32
  let arg19 : BitVec 32 := Scf.iv c0_i32_138 c1_i32_139 k0_t1
  let v638 : Index := Scalar.indexCast arg19
  let c0_314 : Index := 0#32
  let c0_315 : Index := 0#32
  ![7, v638.toNat, 0, 0]
def k0_off19 (k0_t1 : Fin k0_t1_loop.trips) : Fin 3 → Nat :=
  let c7_323 : Index := 7#32
  let c0_i32_138 : BitVec 32 := 0#32
  let c1_i32_139 : BitVec 32 := 1#32
  let arg19 : BitVec 32 := Scf.iv c0_i32_138 c1_i32_139 k0_t1
  let c1024_i32 : BitVec 32 := 1024#32
  let v295 : BitVec 32 := Scalar.muli arg19 c1024_i32
  let v296 : BitVec 32 := v295
  let v650 : Index := Scalar.indexCast v296
  let c0_324 : Index := 0#32
  ![7, v650.toNat, 0]
def k0_mult2 (i : grid0.Coords) : BitVec 32 :=
  let arg1 : BitVec 32 := BitVec.ofNat 32 (i 1).val
  let c512_i32 : BitVec 32 := 512#32
  let v29 : BitVec 32 := Scalar.muli arg1 c512_i32
  v29
def k0_off20 (i : grid0.Coords) : Fin 3 → Nat :=
  let c0 : Index := 0#32
  let arg1 : BitVec 32 := BitVec.ofNat 32 (i 1).val
  let c512_i32 : BitVec 32 := 512#32
  let v29 : BitVec 32 := Scalar.muli arg1 c512_i32
  let v30 : BitVec 32 := v29
  let v31 : Index := Scalar.indexCast v30
  let c0_4 : Index := 0#32
  ![0, v31.toNat, 0]
def k0_off21 (i : grid0.Coords) : Fin 3 → Nat :=
  let c1 : Index := 1#32
  let arg1 : BitVec 32 := BitVec.ofNat 32 (i 1).val
  let c512_i32 : BitVec 32 := 512#32
  let v29 : BitVec 32 := Scalar.muli arg1 c512_i32
  let v30 : BitVec 32 := v29
  let v34 : Index := Scalar.indexCast v30
  let c0_5 : Index := 0#32
  ![1, v34.toNat, 0]
@[reducible] def k0_t2_loop : Scf.Loop 32 :=
  let c0_i32_140 : BitVec 32 := 0#32
  let c4_i32 : BitVec 32 := 4#32
  let v293 : BitVec 32 := Scalar.addi c0_i32_140 c4_i32
  let c1_i32_141 : BitVec 32 := 1#32
  ⟨c0_i32_140, v293, c1_i32_141⟩
def k0_mult3 (k0_t2 : Fin k0_t2_loop.trips) : BitVec 32 :=
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  v442
def k0_off22 (k0_t2 : Fin k0_t2_loop.trips) : Fin 4 → Nat :=
  let c0_215 : Index := 0#32
  let c0_i32_140 : BitVec 32 := 0#32
  let c1_i32_141 : BitVec 32 := 1#32
  let arg19 : BitVec 32 := Scf.iv c0_i32_140 c1_i32_141 k0_t2
  let v446 : Index := Scalar.indexCast arg19
  let c0_216 : Index := 0#32
  let c0_217 : Index := 0#32
  ![0, v446.toNat, 0, 0]
def k0_off23 (k0_t2 : Fin k0_t2_loop.trips) : Fin 3 → Nat :=
  let c0_222 : Index := 0#32
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  let v443 : BitVec 32 := v442
  let v454 : Index := Scalar.indexCast v443
  let c0_223 : Index := 0#32
  ![0, v454.toNat, 0]
def k0_off24 (k0_t2 : Fin k0_t2_loop.trips) : Fin 4 → Nat :=
  let c1_231 : Index := 1#32
  let c0_i32_140 : BitVec 32 := 0#32
  let c1_i32_141 : BitVec 32 := 1#32
  let arg19 : BitVec 32 := Scf.iv c0_i32_140 c1_i32_141 k0_t2
  let v464 : Index := Scalar.indexCast arg19
  let c0_232 : Index := 0#32
  let c0_233 : Index := 0#32
  ![1, v464.toNat, 0, 0]
def k0_off25 (k0_t2 : Fin k0_t2_loop.trips) : Fin 3 → Nat :=
  let c1_238 : Index := 1#32
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  let v443 : BitVec 32 := v442
  let v472 : Index := Scalar.indexCast v443
  let c0_239 : Index := 0#32
  ![1, v472.toNat, 0]
def k0_off26 (k0_t2 : Fin k0_t2_loop.trips) : Fin 4 → Nat :=
  let c2_247 : Index := 2#32
  let c0_i32_140 : BitVec 32 := 0#32
  let c1_i32_141 : BitVec 32 := 1#32
  let arg19 : BitVec 32 := Scf.iv c0_i32_140 c1_i32_141 k0_t2
  let v482 : Index := Scalar.indexCast arg19
  let c0_248 : Index := 0#32
  let c0_249 : Index := 0#32
  ![2, v482.toNat, 0, 0]
def k0_off27 (k0_t2 : Fin k0_t2_loop.trips) : Fin 3 → Nat :=
  let c2_254 : Index := 2#32
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  let v443 : BitVec 32 := v442
  let v490 : Index := Scalar.indexCast v443
  let c0_255 : Index := 0#32
  ![2, v490.toNat, 0]
def k0_off28 (k0_t2 : Fin k0_t2_loop.trips) : Fin 4 → Nat :=
  let c3_263 : Index := 3#32
  let c0_i32_140 : BitVec 32 := 0#32
  let c1_i32_141 : BitVec 32 := 1#32
  let arg19 : BitVec 32 := Scf.iv c0_i32_140 c1_i32_141 k0_t2
  let v500 : Index := Scalar.indexCast arg19
  let c0_264 : Index := 0#32
  let c0_265 : Index := 0#32
  ![3, v500.toNat, 0, 0]
def k0_off29 (k0_t2 : Fin k0_t2_loop.trips) : Fin 3 → Nat :=
  let c3_270 : Index := 3#32
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  let v443 : BitVec 32 := v442
  let v508 : Index := Scalar.indexCast v443
  let c0_271 : Index := 0#32
  ![3, v508.toNat, 0]
def k0_off30 (k0_t2 : Fin k0_t2_loop.trips) : Fin 4 → Nat :=
  let c4_279 : Index := 4#32
  let c0_i32_140 : BitVec 32 := 0#32
  let c1_i32_141 : BitVec 32 := 1#32
  let arg19 : BitVec 32 := Scf.iv c0_i32_140 c1_i32_141 k0_t2
  let v518 : Index := Scalar.indexCast arg19
  let c0_280 : Index := 0#32
  let c0_281 : Index := 0#32
  ![4, v518.toNat, 0, 0]
def k0_off31 (k0_t2 : Fin k0_t2_loop.trips) : Fin 3 → Nat :=
  let c4_286 : Index := 4#32
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  let v443 : BitVec 32 := v442
  let v526 : Index := Scalar.indexCast v443
  let c0_287 : Index := 0#32
  ![4, v526.toNat, 0]
def k0_off32 (k0_t2 : Fin k0_t2_loop.trips) : Fin 4 → Nat :=
  let c5_295 : Index := 5#32
  let c0_i32_140 : BitVec 32 := 0#32
  let c1_i32_141 : BitVec 32 := 1#32
  let arg19 : BitVec 32 := Scf.iv c0_i32_140 c1_i32_141 k0_t2
  let v536 : Index := Scalar.indexCast arg19
  let c0_296 : Index := 0#32
  let c0_297 : Index := 0#32
  ![5, v536.toNat, 0, 0]
def k0_off33 (k0_t2 : Fin k0_t2_loop.trips) : Fin 3 → Nat :=
  let c5_302 : Index := 5#32
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  let v443 : BitVec 32 := v442
  let v544 : Index := Scalar.indexCast v443
  let c0_303 : Index := 0#32
  ![5, v544.toNat, 0]
def k0_off34 (k0_t2 : Fin k0_t2_loop.trips) : Fin 4 → Nat :=
  let c6_311 : Index := 6#32
  let c0_i32_140 : BitVec 32 := 0#32
  let c1_i32_141 : BitVec 32 := 1#32
  let arg19 : BitVec 32 := Scf.iv c0_i32_140 c1_i32_141 k0_t2
  let v554 : Index := Scalar.indexCast arg19
  let c0_312 : Index := 0#32
  let c0_313 : Index := 0#32
  ![6, v554.toNat, 0, 0]
def k0_off35 (k0_t2 : Fin k0_t2_loop.trips) : Fin 3 → Nat :=
  let c6_318 : Index := 6#32
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  let v443 : BitVec 32 := v442
  let v562 : Index := Scalar.indexCast v443
  let c0_319 : Index := 0#32
  ![6, v562.toNat, 0]
def k0_off36 (k0_t2 : Fin k0_t2_loop.trips) : Fin 4 → Nat :=
  let c7_327 : Index := 7#32
  let c0_i32_140 : BitVec 32 := 0#32
  let c1_i32_141 : BitVec 32 := 1#32
  let arg19 : BitVec 32 := Scf.iv c0_i32_140 c1_i32_141 k0_t2
  let v572 : Index := Scalar.indexCast arg19
  let c0_328 : Index := 0#32
  let c0_329 : Index := 0#32
  ![7, v572.toNat, 0, 0]
def k0_off37 (k0_t2 : Fin k0_t2_loop.trips) : Fin 3 → Nat :=
  let c7_334 : Index := 7#32
  let c0_i32_140 : BitVec 32 := 0#32
  let c1_i32_141 : BitVec 32 := 1#32
  let arg19 : BitVec 32 := Scf.iv c0_i32_140 c1_i32_141 k0_t2
  let c1024_i32 : BitVec 32 := 1024#32
  let v442 : BitVec 32 := Scalar.muli arg19 c1024_i32
  let v443 : BitVec 32 := v442
  let v580 : Index := Scalar.indexCast v443
  let c0_335 : Index := 0#32
  ![7, v580.toNat, 0]
@[reducible] def k0_t3_loop : Scf.Loop 32 :=
  let c0_i32_138 : BitVec 32 := 0#32
  let c4_i32 : BitVec 32 := 4#32
  let v291 : BitVec 32 := Scalar.addi c0_i32_138 c4_i32
  let c1_i32_139 : BitVec 32 := 1#32
  ⟨c0_i32_138, v291, c1_i32_139⟩
def k0_mult4 (k0_t3 : Fin k0_t3_loop.trips) : BitVec 32 :=
  let c0_i32_138 : BitVec 32 := 0#32
  let c1_i32_139 : BitVec 32 := 1#32
  let arg19 : BitVec 32 := Scf.iv c0_i32_138 c1_i32_139 k0_t3
  let c1024_i32 : BitVec 32 := 1024#32
  let v493 : BitVec 32 := Scalar.muli arg19 c1024_i32
  v493
def k0_off38 (k0_t3 : Fin k0_t3_loop.trips) : Fin 4 → Nat :=
  let c0_279 : Index := 0#32
  let c0_i32_138 : BitVec 32 := 0#32
  let c1_i32_139 : BitVec 32 := 1#32
  let arg19 : BitVec 32 := Scf.iv c0_i32_138 c1_i32_139 k0_t3
  let v497 : Index := Scalar.indexCast arg19
  let c0_280 : Index := 0#32
  let c0_281 : Index := 0#32
  ![0, v497.toNat, 0, 0]
def k0_off39 (k0_t3 : Fin k0_t3_loop.trips) : Fin 3 → Nat :=
  let c0_284 : Index := 0#32
  let c0_i32_138 : BitVec 32 := 0#32
  let c1_i32_139 : BitVec 32 := 1#32
  let arg19 : BitVec 32 := Scf.iv c0_i32_138 c1_i32_139 k0_t3
  let c1024_i32 : BitVec 32 := 1024#32
  let v493 : BitVec 32 := Scalar.muli arg19 c1024_i32
  let v494 : BitVec 32 := v493
  let v512 : Index := Scalar.indexCast v494
  let c0_285 : Index := 0#32
  ![0, v512.toNat, 0]
@[reducible] def k0_t4_loop : Scf.Loop 32 :=
  let c0_i32_146 : BitVec 32 := 0#32
  let c4_i32_147 : BitVec 32 := 4#32
  let v298 : BitVec 32 := Scalar.addi c0_i32_146 c4_i32_147
  let c1_i32_148 : BitVec 32 := 1#32
  ⟨c0_i32_146, v298, c1_i32_148⟩
def k0_mult5 (k0_t4 : Fin k0_t4_loop.trips) : BitVec 32 :=
  let c0_i32_146 : BitVec 32 := 0#32
  let c1_i32_148 : BitVec 32 := 1#32
  let arg19 : BitVec 32 := Scf.iv c0_i32_146 c1_i32_148 k0_t4
  let c1024_i32 : BitVec 32 := 1024#32
  let v493 : BitVec 32 := Scalar.muli arg19 c1024_i32
  v493
def k0_off40 (k0_t4 : Fin k0_t4_loop.trips) : Fin 4 → Nat :=
  let c1_279 : Index := 1#32
  let c0_i32_146 : BitVec 32 := 0#32
  let c1_i32_148 : BitVec 32 := 1#32
  let arg19 : BitVec 32 := Scf.iv c0_i32_146 c1_i32_148 k0_t4
  let v497 : Index := Scalar.indexCast arg19
  let c0_280 : Index := 0#32
  let c0_281 : Index := 0#32
  ![1, v497.toNat, 0, 0]
def k0_off41 (k0_t4 : Fin k0_t4_loop.trips) : Fin 3 → Nat :=
  let c1_284 : Index := 1#32
  let c0_i32_146 : BitVec 32 := 0#32
  let c1_i32_148 : BitVec 32 := 1#32
  let arg19 : BitVec 32 := Scf.iv c0_i32_146 c1_i32_148 k0_t4
  let c1024_i32 : BitVec 32 := 1024#32
  let v493 : BitVec 32 := Scalar.muli arg19 c1024_i32
  let v494 : BitVec 32 := v493
  let v512 : Index := Scalar.indexCast v494
  let c0_285 : Index := 0#32
  ![1, v512.toNat, 0]
@[reducible] def k0_t5_loop : Scf.Loop 32 :=
  let c0_i32_155 : BitVec 32 := 0#32
  let c4_i32_156 : BitVec 32 := 4#32
  let v305 : BitVec 32 := Scalar.addi c0_i32_155 c4_i32_156
  let c1_i32_157 : BitVec 32 := 1#32
  ⟨c0_i32_155, v305, c1_i32_157⟩
def k0_mult6 (k0_t5 : Fin k0_t5_loop.trips) : BitVec 32 :=
  let c0_i32_155 : BitVec 32 := 0#32
  let c1_i32_157 : BitVec 32 := 1#32
  let arg19 : BitVec 32 := Scf.iv c0_i32_155 c1_i32_157 k0_t5
  let c1024_i32 : BitVec 32 := 1024#32
  let v493 : BitVec 32 := Scalar.muli arg19 c1024_i32
  v493
def k0_off42 (k0_t5 : Fin k0_t5_loop.trips) : Fin 4 → Nat :=
  let c2_279 : Index := 2#32
  let c0_i32_155 : BitVec 32 := 0#32
  let c1_i32_157 : BitVec 32 := 1#32
  let arg19 : BitVec 32 := Scf.iv c0_i32_155 c1_i32_157 k0_t5
  let v497 : Index := Scalar.indexCast arg19
  let c0_280 : Index := 0#32
  let c0_281 : Index := 0#32
  ![2, v497.toNat, 0, 0]
def k0_off43 (k0_t5 : Fin k0_t5_loop.trips) : Fin 3 → Nat :=
  let c2_284 : Index := 2#32
  let c0_i32_155 : BitVec 32 := 0#32
  let c1_i32_157 : BitVec 32 := 1#32
  let arg19 : BitVec 32 := Scf.iv c0_i32_155 c1_i32_157 k0_t5
  let c1024_i32 : BitVec 32 := 1024#32
  let v493 : BitVec 32 := Scalar.muli arg19 c1024_i32
  let v494 : BitVec 32 := v493
  let v512 : Index := Scalar.indexCast v494
  let c0_285 : Index := 0#32
  ![2, v512.toNat, 0]
@[reducible] def k0_t6_loop : Scf.Loop 32 :=
  let c0_i32_164 : BitVec 32 := 0#32
  let c4_i32_165 : BitVec 32 := 4#32
  let v312 : BitVec 32 := Scalar.addi c0_i32_164 c4_i32_165
  let c1_i32_166 : BitVec 32 := 1#32
  ⟨c0_i32_164, v312, c1_i32_166⟩
def k0_mult7 (k0_t6 : Fin k0_t6_loop.trips) : BitVec 32 :=
  let c0_i32_164 : BitVec 32 := 0#32
  let c1_i32_166 : BitVec 32 := 1#32
  let arg19 : BitVec 32 := Scf.iv c0_i32_164 c1_i32_166 k0_t6
  let c1024_i32 : BitVec 32 := 1024#32
  let v493 : BitVec 32 := Scalar.muli arg19 c1024_i32
  v493
def k0_off44 (k0_t6 : Fin k0_t6_loop.trips) : Fin 4 → Nat :=
  let c3_279 : Index := 3#32
  let c0_i32_164 : BitVec 32 := 0#32
  let c1_i32_166 : BitVec 32 := 1#32
  let arg19 : BitVec 32 := Scf.iv c0_i32_164 c1_i32_166 k0_t6
  let v497 : Index := Scalar.indexCast arg19
  let c0_280 : Index := 0#32
  let c0_281 : Index := 0#32
  ![3, v497.toNat, 0, 0]
def k0_off45 (k0_t6 : Fin k0_t6_loop.trips) : Fin 3 → Nat :=
  let c3_284 : Index := 3#32
  let c0_i32_164 : BitVec 32 := 0#32
  let c1_i32_166 : BitVec 32 := 1#32
  let arg19 : BitVec 32 := Scf.iv c0_i32_164 c1_i32_166 k0_t6
  let c1024_i32 : BitVec 32 := 1024#32
  let v493 : BitVec 32 := Scalar.muli arg19 c1024_i32
  let v494 : BitVec 32 := v493
  let v512 : Index := Scalar.indexCast v494
  let c0_285 : Index := 0#32
  ![3, v512.toNat, 0]
@[reducible] def k0_t7_loop : Scf.Loop 32 :=
  let c0_i32_173 : BitVec 32 := 0#32
  let c4_i32_174 : BitVec 32 := 4#32
  let v319 : BitVec 32 := Scalar.addi c0_i32_173 c4_i32_174
  let c1_i32_175 : BitVec 32 := 1#32
  ⟨c0_i32_173, v319, c1_i32_175⟩
def k0_mult8 (k0_t7 : Fin k0_t7_loop.trips) : BitVec 32 :=
  let c0_i32_173 : BitVec 32 := 0#32
  let c1_i32_175 : BitVec 32 := 1#32
  let arg19 : BitVec 32 := Scf.iv c0_i32_173 c1_i32_175 k0_t7
  let c1024_i32 : BitVec 32 := 1024#32
  let v493 : BitVec 32 := Scalar.muli arg19 c1024_i32
  v493
def k0_off46 (k0_t7 : Fin k0_t7_loop.trips) : Fin 4 → Nat :=
  let c4_279 : Index := 4#32
  let c0_i32_173 : BitVec 32 := 0#32
  let c1_i32_175 : BitVec 32 := 1#32
  let arg19 : BitVec 32 := Scf.iv c0_i32_173 c1_i32_175 k0_t7
  let v497 : Index := Scalar.indexCast arg19
  let c0_280 : Index := 0#32
  let c0_281 : Index := 0#32
  ![4, v497.toNat, 0, 0]
def k0_off47 (k0_t7 : Fin k0_t7_loop.trips) : Fin 3 → Nat :=
  let c4_284 : Index := 4#32
  let c0_i32_173 : BitVec 32 := 0#32
  let c1_i32_175 : BitVec 32 := 1#32
  let arg19 : BitVec 32 := Scf.iv c0_i32_173 c1_i32_175 k0_t7
  let c1024_i32 : BitVec 32 := 1024#32
  let v493 : BitVec 32 := Scalar.muli arg19 c1024_i32
  let v494 : BitVec 32 := v493
  let v512 : Index := Scalar.indexCast v494
  let c0_285 : Index := 0#32
  ![4, v512.toNat, 0]
@[reducible] def k0_t8_loop : Scf.Loop 32 :=
  let c0_i32_182 : BitVec 32 := 0#32
  let c4_i32_183 : BitVec 32 := 4#32
  let v326 : BitVec 32 := Scalar.addi c0_i32_182 c4_i32_183
  let c1_i32_184 : BitVec 32 := 1#32
  ⟨c0_i32_182, v326, c1_i32_184⟩
def k0_mult9 (k0_t8 : Fin k0_t8_loop.trips) : BitVec 32 :=
  let c0_i32_182 : BitVec 32 := 0#32
  let c1_i32_184 : BitVec 32 := 1#32
  let arg19 : BitVec 32 := Scf.iv c0_i32_182 c1_i32_184 k0_t8
  let c1024_i32 : BitVec 32 := 1024#32
  let v493 : BitVec 32 := Scalar.muli arg19 c1024_i32
  v493
def k0_off48 (k0_t8 : Fin k0_t8_loop.trips) : Fin 4 → Nat :=
  let c5_279 : Index := 5#32
  let c0_i32_182 : BitVec 32 := 0#32
  let c1_i32_184 : BitVec 32 := 1#32
  let arg19 : BitVec 32 := Scf.iv c0_i32_182 c1_i32_184 k0_t8
  let v497 : Index := Scalar.indexCast arg19
  let c0_280 : Index := 0#32
  let c0_281 : Index := 0#32
  ![5, v497.toNat, 0, 0]
def k0_off49 (k0_t8 : Fin k0_t8_loop.trips) : Fin 3 → Nat :=
  let c5_284 : Index := 5#32
  let c0_i32_182 : BitVec 32 := 0#32
  let c1_i32_184 : BitVec 32 := 1#32
  let arg19 : BitVec 32 := Scf.iv c0_i32_182 c1_i32_184 k0_t8
  let c1024_i32 : BitVec 32 := 1024#32
  let v493 : BitVec 32 := Scalar.muli arg19 c1024_i32
  let v494 : BitVec 32 := v493
  let v512 : Index := Scalar.indexCast v494
  let c0_285 : Index := 0#32
  ![5, v512.toNat, 0]
@[reducible] def k0_t9_loop : Scf.Loop 32 :=
  let c0_i32_191 : BitVec 32 := 0#32
  let c4_i32_192 : BitVec 32 := 4#32
  let v333 : BitVec 32 := Scalar.addi c0_i32_191 c4_i32_192
  let c1_i32_193 : BitVec 32 := 1#32
  ⟨c0_i32_191, v333, c1_i32_193⟩
def k0_mult10 (k0_t9 : Fin k0_t9_loop.trips) : BitVec 32 :=
  let c0_i32_191 : BitVec 32 := 0#32
  let c1_i32_193 : BitVec 32 := 1#32
  let arg19 : BitVec 32 := Scf.iv c0_i32_191 c1_i32_193 k0_t9
  let c1024_i32 : BitVec 32 := 1024#32
  let v493 : BitVec 32 := Scalar.muli arg19 c1024_i32
  v493
def k0_off50 (k0_t9 : Fin k0_t9_loop.trips) : Fin 4 → Nat :=
  let c6_279 : Index := 6#32
  let c0_i32_191 : BitVec 32 := 0#32
  let c1_i32_193 : BitVec 32 := 1#32
  let arg19 : BitVec 32 := Scf.iv c0_i32_191 c1_i32_193 k0_t9
  let v497 : Index := Scalar.indexCast arg19
  let c0_280 : Index := 0#32
  let c0_281 : Index := 0#32
  ![6, v497.toNat, 0, 0]
def k0_off51 (k0_t9 : Fin k0_t9_loop.trips) : Fin 3 → Nat :=
  let c6_284 : Index := 6#32
  let c0_i32_191 : BitVec 32 := 0#32
  let c1_i32_193 : BitVec 32 := 1#32
  let arg19 : BitVec 32 := Scf.iv c0_i32_191 c1_i32_193 k0_t9
  let c1024_i32 : BitVec 32 := 1024#32
  let v493 : BitVec 32 := Scalar.muli arg19 c1024_i32
  let v494 : BitVec 32 := v493
  let v512 : Index := Scalar.indexCast v494
  let c0_285 : Index := 0#32
  ![6, v512.toNat, 0]
@[reducible] def k0_t10_loop : Scf.Loop 32 :=
  let c0_i32_200 : BitVec 32 := 0#32
  let c4_i32_201 : BitVec 32 := 4#32
  let v340 : BitVec 32 := Scalar.addi c0_i32_200 c4_i32_201
  let c1_i32_202 : BitVec 32 := 1#32
  ⟨c0_i32_200, v340, c1_i32_202⟩
def k0_mult11 (k0_t10 : Fin k0_t10_loop.trips) : BitVec 32 :=
  let c0_i32_200 : BitVec 32 := 0#32
  let c1_i32_202 : BitVec 32 := 1#32
  let arg19 : BitVec 32 := Scf.iv c0_i32_200 c1_i32_202 k0_t10
  let c1024_i32 : BitVec 32 := 1024#32
  let v493 : BitVec 32 := Scalar.muli arg19 c1024_i32
  v493
def k0_off52 (k0_t10 : Fin k0_t10_loop.trips) : Fin 4 → Nat :=
  let c7_279 : Index := 7#32
  let c0_i32_200 : BitVec 32 := 0#32
  let c1_i32_202 : BitVec 32 := 1#32
  let arg19 : BitVec 32 := Scf.iv c0_i32_200 c1_i32_202 k0_t10
  let v497 : Index := Scalar.indexCast arg19
  let c0_280 : Index := 0#32
  let c0_281 : Index := 0#32
  ![7, v497.toNat, 0, 0]
def k0_off53 (k0_t10 : Fin k0_t10_loop.trips) : Fin 3 → Nat :=
  let c7_284 : Index := 7#32
  let c0_i32_200 : BitVec 32 := 0#32
  let c1_i32_202 : BitVec 32 := 1#32
  let arg19 : BitVec 32 := Scf.iv c0_i32_200 c1_i32_202 k0_t10
  let c1024_i32 : BitVec 32 := 1024#32
  let v493 : BitVec 32 := Scalar.muli arg19 c1024_i32
  let v494 : BitVec 32 := v493
  let v512 : Index := Scalar.indexCast v494
  let c0_285 : Index := 0#32
  ![7, v512.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "inv_qk" => some ((1 / 96 : ℝ) : EReal)
  | "log2_scale" => some ((((Real.sqrt 96) * (Real.log 2))⁻¹ : ℝ) : EReal)
  | _ => none
-- ==== ReferenceIdeal.lean ====
abbrev S16x4096x256 : Shape := ⟨3, ![16, 4096, 256]⟩
abbrev S16x4096x128 : Shape := ⟨3, ![16, 4096, 128]⟩
abbrev S16x4096x32 : Shape := ⟨3, ![16, 4096, 32]⟩
abbrev S256x768 : Shape := ⟨2, ![256, 768]⟩
abbrev S128x1024 : Shape := ⟨2, ![128, 1024]⟩
abbrev S96 : Shape := ⟨1, ![96]⟩
abbrev S4096 : Shape := ⟨1, ![4096]⟩
abbrev S16x4096x768 : Shape := ⟨3, ![16, 4096, 768]⟩
abbrev S16x4096x8x96 : Shape := ⟨4, ![16, 4096, 8, 96]⟩
abbrev S16x8x4096x96 : Shape := ⟨4, ![16, 8, 4096, 96]⟩
abbrev S16x4096x1024 : Shape := ⟨3, ![16, 4096, 1024]⟩
abbrev S16x4096x8x128 : Shape := ⟨4, ![16, 4096, 8, 128]⟩
abbrev S16x8x4096x128 : Shape := ⟨4, ![16, 8, 4096, 128]⟩
abbrev S16x8x4096x64 : Shape := ⟨4, ![16, 8, 4096, 64]⟩
abbrev S16x1x4096x32 : Shape := ⟨4, ![16, 1, 4096, 32]⟩
abbrev S16x8x4096x32 : Shape := ⟨4, ![16, 8, 4096, 32]⟩
abbrev S_ : Shape := ⟨0, ![]⟩
abbrev S16x8x4096 : Shape := ⟨3, ![16, 8, 4096]⟩
abbrev S16x8x4096x1 : Shape := ⟨4, ![16, 8, 4096, 1]⟩
abbrev S1x1x1x96 : Shape := ⟨4, ![1, 1, 1, 96]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S16x8x4096x16 : Shape := ⟨4, ![16, 8, 4096, 16]⟩
abbrev S1x1x4096x16 : Shape := ⟨4, ![1, 1, 4096, 16]⟩
abbrev S16x8x4096x4096 : Shape := ⟨4, ![16, 8, 4096, 4096]⟩
abbrev S16x4096x8x64 : Shape := ⟨4, ![16, 4096, 8, 64]⟩
abbrev S16x4096x512 : Shape := ⟨3, ![16, 4096, 512]⟩

abbrev nBuf : Space → Nat
  | .hbm => 146
  | .vmem => 0
  | .smem => 0
  | _ => 0

abbrev hbmTy0_0 (i : Nat) : BufTy := match i % 128 with
  | 0 => ⟨S16x4096x256, .f32⟩
  | 1 => ⟨S16x4096x128, .f32⟩
  | 2 => ⟨S16x4096x32, .f32⟩
  | 3 => ⟨S256x768, .f32⟩
  | 4 => ⟨S128x1024, .f32⟩
  | 5 => ⟨S96, .f32⟩
  | 6 => ⟨S96, .f32⟩
  | 7 => ⟨S4096, .i32⟩
  | 8 => ⟨S16x4096x768, .f32⟩
  | 9 => ⟨S16x4096x8x96, .f32⟩
  | 10 => ⟨S16x8x4096x96, .f32⟩
  | 11 => ⟨S16x4096x1024, .f32⟩
  | 12 => ⟨S16x4096x8x128, .f32⟩
  | 13 => ⟨S16x8x4096x128, .f32⟩
  | 14 => ⟨S16x8x4096x64, .f32⟩
  | 15 => ⟨S16x8x4096x64, .f32⟩
  | 16 => ⟨S16x1x4096x32, .f32⟩
  | 17 => ⟨S16x8x4096x32, .f32⟩
  | 18 => ⟨S16x8x4096x96, .f32⟩
  | 19 => ⟨S16x8x4096x96, .f32⟩
  | 20 => ⟨S_, .f32⟩
  | 21 => ⟨S16x8x4096, .f32⟩
  | 22 => ⟨S16x8x4096x1, .f32⟩
  | 23 => ⟨S_, .f32⟩
  | 24 => ⟨S16x8x4096x1, .f32⟩
  | 25 => ⟨S16x8x4096x1, .f32⟩
  | 26 => ⟨S_, .f32⟩
  | 27 => ⟨S16x8x4096x1, .f32⟩
  | 28 => ⟨S16x8x4096x1, .f32⟩
  | 29 => ⟨S16x8x4096x1, .f32⟩
  | 30 => ⟨S16x8x4096x96, .f32⟩
  | 31 => ⟨S16x8x4096x96, .f32⟩
  | 32 => ⟨S1x1x1x96, .f32⟩
  | 33 => ⟨S16x8x4096x96, .f32⟩
  | 34 => ⟨S16x8x4096x96, .f32⟩
  | 35 => ⟨S16x8x4096x96, .f32⟩
  | 36 => ⟨S_, .f32⟩
  | 37 => ⟨S16x8x4096, .f32⟩
  | 38 => ⟨S16x8x4096x1, .f32⟩
  | 39 => ⟨S_, .f32⟩
  | 40 => ⟨S16x8x4096x1, .f32⟩
  | 41 => ⟨S16x8x4096x1, .f32⟩
  | 42 => ⟨S_, .f32⟩
  | 43 => ⟨S16x8x4096x1, .f32⟩
  | 44 => ⟨S16x8x4096x1, .f32⟩
  | 45 => ⟨S16x8x4096x1, .f32⟩
  | 46 => ⟨S16x8x4096x96, .f32⟩
  | 47 => ⟨S16x8x4096x96, .f32⟩
  | 48 => ⟨S1x1x1x96, .f32⟩
  | 49 => ⟨S16x8x4096x96, .f32⟩
  | 50 => ⟨S16x8x4096x96, .f32⟩
  | 51 => ⟨S16x8x4096x64, .f32⟩
  | 52 => ⟨S16x8x4096x32, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S4096, .f32⟩
  | 62 => ⟨S4096x1, .f32⟩
  | 63 => ⟨S1x16, .f32⟩
  | 64 => ⟨S4096x16, .f32⟩
  | 65 => ⟨S4096x16, .f32⟩
  | 66 => ⟨S4096x16, .f32⟩
  | 67 => ⟨S4096x16, .f32⟩
  | 68 => ⟨S4096x16, .f32⟩
  | 69 => ⟨S16x8x4096x16, .f32⟩
  | 70 => ⟨S16x8x4096x16, .f32⟩
  | 71 => ⟨S1x1x4096x16, .f32⟩
  | 72 => ⟨S16x8x4096x16, .f32⟩
  | 73 => ⟨S16x8x4096x16, .f32⟩
  | 74 => ⟨S1x1x4096x16, .f32⟩
  | 75 => ⟨S16x8x4096x16, .f32⟩
  | 76 => ⟨S16x8x4096x16, .f32⟩
  | 77 => ⟨S16x8x4096x16, .f32⟩
  | 78 => ⟨S1x1x4096x16, .f32⟩
  | 79 => ⟨S16x8x4096x16, .f32⟩
  | 80 => ⟨S16x8x4096x16, .f32⟩
  | 81 => ⟨S1x1x4096x16, .f32⟩
  | 82 => ⟨S16x8x4096x16, .f32⟩
  | 83 => ⟨S16x8x4096x16, .f32⟩
  | 84 => ⟨S16x8x4096x16, .f32⟩
  | 85 => ⟨S16x8x4096x32, .f32⟩
  | 86 => ⟨S16x8x4096x96, .f32⟩
  | 87 => ⟨S16x8x4096x64, .f32⟩
  | 88 => ⟨S16x8x4096x32, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S4096, .f32⟩
  | 98 => ⟨S4096x1, .f32⟩
  | 99 => ⟨S1x16, .f32⟩
  | 100 => ⟨S4096x16, .f32⟩
  | 101 => ⟨S4096x16, .f32⟩
  | 102 => ⟨S4096x16, .f32⟩
  | 103 => ⟨S4096x16, .f32⟩
  | 104 => ⟨S4096x16, .f32⟩
  | 105 => ⟨S16x8x4096x16, .f32⟩
  | 106 => ⟨S16x8x4096x16, .f32⟩
  | 107 => ⟨S1x1x4096x16, .f32⟩
  | 108 => ⟨S16x8x4096x16, .f32⟩
  | 109 => ⟨S16x8x4096x16, .f32⟩
  | 110 => ⟨S1x1x4096x16, .f32⟩
  | 111 => ⟨S16x8x4096x16, .f32⟩
  | 112 => ⟨S16x8x4096x16, .f32⟩
  | 113 => ⟨S16x8x4096x16, .f32⟩
  | 114 => ⟨S1x1x4096x16, .f32⟩
  | 115 => ⟨S16x8x4096x16, .f32⟩
  | 116 => ⟨S16x8x4096x16, .f32⟩
  | 117 => ⟨S1x1x4096x16, .f32⟩
  | 118 => ⟨S16x8x4096x16, .f32⟩
  | 119 => ⟨S16x8x4096x16, .f32⟩
  | 120 => ⟨S16x8x4096x16, .f32⟩
  | 121 => ⟨S16x8x4096x32, .f32⟩
  | 122 => ⟨S16x8x4096x96, .f32⟩
  | 123 => ⟨S16x8x4096x4096, .f32⟩
  | 124 => ⟨S_, .f32⟩
  | 125 => ⟨S_, .f32⟩
  | 126 => ⟨S16x8x4096x4096, .f32⟩
  | 127 => ⟨S16x8x4096x4096, .f32⟩
  | _ => ⟨S16x4096x256, .f32⟩

abbrev hbmTy0_1 (i : Nat) : BufTy := match i % 128 with
  | 0 => ⟨S_, .f32⟩
  | 1 => ⟨S16x8x4096, .f32⟩
  | 2 => ⟨S_, .f32⟩
  | 3 => ⟨S16x8x4096, .f32⟩
  | 4 => ⟨S16x8x4096, .f32⟩
  | 5 => ⟨S16x8x4096x1, .f32⟩
  | 6 => ⟨S16x8x4096x4096, .f32⟩
  | 7 => ⟨S16x8x4096x4096, .f32⟩
  | 8 => ⟨S16x8x4096x4096, .f32⟩
  | 9 => ⟨S_, .f32⟩
  | 10 => ⟨S16x8x4096, .f32⟩
  | 11 => ⟨S16x8x4096x1, .f32⟩
  | 12 => ⟨S16x8x4096x4096, .f32⟩
  | 13 => ⟨S16x8x4096x4096, .f32⟩
  | 14 => ⟨S16x8x4096x64, .f32⟩
  | 15 => ⟨S16x4096x8x64, .f32⟩
  | 16 => ⟨S16x4096x512, .f32⟩
  | 17 => ⟨S16x4096x512, .bf16⟩
  | _ => ⟨S16x4096x256, .f32⟩

abbrev hbmTy (i : Nat) : BufTy := match i / 128 with
  | 0 => hbmTy0_0 i
  | 1 => hbmTy0_1 i
  | _ => ⟨S16x4096x256, .f32⟩

abbrev bufTy : (tb : Table) → Fin (tcTables nBuf tb) → BufTy
  | .hbm, ⟨i, _⟩ => hbmTy i
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_9 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_10 : Ref sig .tc := ⟨.hbm, 128, rfl⟩
abbrev main_v110 : Ref sig .tc := ⟨.hbm, 129, rfl⟩
abbrev main_cst_11 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_12 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩

abbrev nD : Nat := 1
abbrev τ : Topo := Topo.v7x

variable {F : FTy → Type} [FloatOps F]
-- ==== Experts.lean ====
abbrev S147456x512 : Shape := ⟨2, ![147456, 512]⟩
abbrev S288 : Shape := ⟨1, ![288]⟩
abbrev S1 : Shape := ⟨1, ![1]⟩
abbrev S4x32x1024x512 : Shape := ⟨4, ![4, 32, 1024, 512]⟩
abbrev S4x32x512x1024 : Shape := ⟨4, ![4, 32, 512, 1024]⟩
abbrev S147456x1024 : Shape := ⟨2, ![147456, 1024]⟩
abbrev S512x512 : Shape := ⟨2, ![512, 512]⟩
abbrev S1x1x1024x512 : Shape := ⟨4, ![1, 1, 1024, 512]⟩
abbrev S1x1x512x1024 : Shape := ⟨4, ![1, 1, 512, 1024]⟩
abbrev S512x1024 : Shape := ⟨2, ![512, 1024]⟩
abbrev S1024x512 : Shape := ⟨2, ![1024, 512]⟩

abbrev nBuf : Space → Nat
  | .hbm => 5
  | .vmem => 10
  | .smem => 2
  | _ => 0

abbrev bufTy : (tb : Table) → Fin (tcTables nBuf tb) → BufTy
  | .hbm, ⟨0, _⟩ => ⟨S147456x512, .i32⟩
  | .hbm, ⟨1, _⟩ => ⟨S4x32x1024x512, .f32⟩
  | .hbm, ⟨2, _⟩ => ⟨S4x32x1024x512, .f32⟩
  | .hbm, ⟨3, _⟩ => ⟨S4x32x512x1024, .f32⟩
  | .hbm, ⟨4, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .smem, ⟨0, _⟩ => ⟨S288, .i32⟩
  | .local _ .smem, ⟨1, _⟩ => ⟨S1, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S147456x512 : Shape := ⟨2, ![147456, 512]⟩
abbrev S288 : Shape := ⟨1, ![288]⟩
abbrev S1 : Shape := ⟨1, ![1]⟩
abbrev S4x32x1024x512 : Shape := ⟨4, ![4, 32, 1024, 512]⟩
abbrev S4x32x512x1024 : Shape := ⟨4, ![4, 32, 512, 1024]⟩
abbrev S147456x512x2 : Shape := ⟨3, ![147456, 512, 2]⟩
abbrev S147456x512x1 : Shape := ⟨3, ![147456, 512, 1]⟩
abbrev S147456x1024 : Shape := ⟨2, ![147456, 1024]⟩
abbrev S288x512x1024 : Shape := ⟨3, ![288, 512, 1024]⟩
abbrev S1x32x1024x512 : Shape := ⟨4, ![1, 32, 1024, 512]⟩
abbrev S32x1024x512 : Shape := ⟨3, ![32, 1024, 512]⟩
abbrev S_ : Shape := ⟨0, ![]⟩
abbrev S288x1 : Shape := ⟨2, ![288, 1]⟩
abbrev S288x1024x512 : Shape := ⟨3, ![288, 1024, 512]⟩
abbrev S288x512x512 : Shape := ⟨3, ![288, 512, 512]⟩
abbrev S1x32x512x1024 : Shape := ⟨4, ![1, 32, 512, 1024]⟩
abbrev S32x512x1024 : Shape := ⟨3, ![32, 512, 1024]⟩
abbrev S288x1x1 : Shape := ⟨3, ![288, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S147456x512, .i32⟩
  | .hbm, ⟨1, _⟩ => ⟨S288, .i32⟩
  | .hbm, ⟨2, _⟩ => ⟨S1, .i32⟩
  | .hbm, ⟨3, _⟩ => ⟨S4x32x1024x512, .f32⟩
  | .hbm, ⟨4, _⟩ => ⟨S4x32x1024x512, .f32⟩
  | .hbm, ⟨5, _⟩ => ⟨S4x32x512x1024, .f32⟩
  | .hbm, ⟨6, _⟩ => ⟨S147456x512x2, .bf16⟩
  | .hbm, ⟨7, _⟩ => ⟨S147456x512x1, .bf16⟩
  | .hbm, ⟨8, _⟩ => ⟨S147456x512, .bf16⟩
  | .hbm, ⟨9, _⟩ => ⟨S147456x512x1, .bf16⟩
  | .hbm, ⟨10, _⟩ => ⟨S147456x512, .bf16⟩
  | .hbm, ⟨11, _⟩ => ⟨S147456x1024, .bf16⟩
  | .hbm, ⟨12, _⟩ => ⟨S288x512x1024, .bf16⟩
  | .hbm, ⟨13, _⟩ => ⟨S288x512x1024, .f32⟩
  | .hbm, ⟨14, _⟩ => ⟨S1x32x1024x512, .f32⟩
  | .hbm, ⟨15, _⟩ => ⟨S32x1024x512, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x1024x512, .f32⟩
  | .hbm, ⟨25, _⟩ => ⟨S288x512x512, .f32⟩
  | .hbm, ⟨26, _⟩ => ⟨S1x32x1024x512, .f32⟩
  | .hbm, ⟨27, _⟩ => ⟨S32x1024x512, .f32⟩
  | .hbm, ⟨28, _⟩ => ⟨S_, .i32⟩
  | .hbm, ⟨29, _⟩ => ⟨S288, .i32⟩
  | .hbm, ⟨30, _⟩ => ⟨S288, .i1⟩
  | .hbm, ⟨31, _⟩ => ⟨S_, .i32⟩
  | .hbm, ⟨32, _⟩ => ⟨S288, .i32⟩
  | .hbm, ⟨33, _⟩ => ⟨S288, .i32⟩
  | .hbm, ⟨34, _⟩ => ⟨S288, .i32⟩
  | .hbm, ⟨35, _⟩ => ⟨S288x1, .i32⟩
  | .hbm, ⟨36, _⟩ => ⟨S288x1024x512, .f32⟩
  | .hbm, ⟨37, _⟩ => ⟨S288x512x512, .f32⟩
  | .hbm, ⟨38, _⟩ => ⟨S288x512x512, .f32⟩
  | .hbm, ⟨39, _⟩ => ⟨S288x512x512, .f32⟩
  | .hbm, ⟨40, _⟩ => ⟨S_, .f32⟩
  | .hbm, ⟨41, _⟩ => ⟨S288x512x512, .f32⟩
  | .hbm, ⟨42, _⟩ => ⟨S288x512x512, .f32⟩
  | .hbm, ⟨43, _⟩ => ⟨S_, .f32⟩
  | .hbm, ⟨44, _⟩ => ⟨S288x512x512, .f32⟩
  | .hbm, ⟨45, _⟩ => ⟨S288x512x512, .f32⟩
  | .hbm, ⟨46, _⟩ => ⟨S288x512x512, .f32⟩
  | .hbm, ⟨47, _⟩ => ⟨S288x512x512, .f32⟩
  | .hbm, ⟨48, _⟩ => ⟨S1x32x512x1024, .f32⟩
  | .hbm, ⟨49, _⟩ => ⟨S32x512x1024, .f32⟩
  | .hbm, ⟨50, _⟩ => ⟨S_, .i32⟩
  | .hbm, ⟨51, _⟩ => ⟨S288, .i32⟩
  | .hbm, ⟨52, _⟩ => ⟨S288, .i1⟩
  | .hbm, ⟨53, _⟩ => ⟨S_, .i32⟩
  | .hbm, ⟨54, _⟩ => ⟨S288, .i32⟩
  | .hbm, ⟨55, _⟩ => ⟨S288, .i32⟩
  | .hbm, ⟨56, _⟩ => ⟨S288, .i32⟩
  | .hbm, ⟨57, _⟩ => ⟨S288x1, .i32⟩
  | .hbm, ⟨58, _⟩ => ⟨S288x512x1024, .f32⟩
  | .hbm, ⟨59, _⟩ => ⟨S288x512x1024, .f32⟩
  | .hbm, ⟨60, _⟩ => ⟨S288, .i32⟩
  | .hbm, ⟨61, _⟩ => ⟨S_, .i32⟩
  | .hbm, ⟨62, _⟩ => ⟨S288, .i32⟩
  | .hbm, ⟨63, _⟩ => ⟨S288, .i1⟩
  | .hbm, ⟨64, _⟩ => ⟨S288x1x1, .i1⟩
  | .hbm, ⟨65, _⟩ => ⟨S_, .f32⟩
  | .hbm, ⟨66, _⟩ => ⟨S288x512x1024, .i1⟩
  | .hbm, ⟨67, _⟩ => ⟨S288x512x1024, .f32⟩
  | .hbm, ⟨68, _⟩ => ⟨S288x512x1024, .f32⟩
  | .hbm, ⟨69, _⟩ => ⟨S147456x1024, .f32⟩
  | .hbm, ⟨70, _⟩ => ⟨S147456x1024, .bf16⟩
  | _, _ => ⟨S147456x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_3 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst : Ref sig .tc := ⟨.hbm, 65, rfl⟩
abbrev main_call1_v0 : Ref sig .tc := ⟨.hbm, 66, rfl⟩
abbrev main_call1_v1 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Projection.lean ====
abbrev S16x4096x1024 : Shape := ⟨3, ![16, 4096, 1024]⟩
abbrev S16x6x1024 : Shape := ⟨3, ![16, 6, 1024]⟩
abbrev S1024 : Shape := ⟨1, ![1024]⟩
abbrev S1024x1472 : Shape := ⟨2, ![1024, 1472]⟩
abbrev S2x256x256 : Shape := ⟨3, ![2, 256, 256]⟩
abbrev S16x128 : Shape := ⟨2, ![16, 128]⟩
abbrev S128 : Shape := ⟨1, ![128]⟩
abbrev S256 : Shape := ⟨1, ![256]⟩
abbrev S1024x768 : Shape := ⟨2, ![1024, 768]⟩
abbrev S1024x256 : Shape := ⟨2, ![1024, 256]⟩
abbrev S1024x128 : Shape := ⟨2, ![1024, 128]⟩
abbrev S_ : Shape := ⟨0, ![]⟩
abbrev S1024x64 : Shape := ⟨2, ![1024, 64]⟩
abbrev S1024x32 : Shape := ⟨2, ![1024, 32]⟩
abbrev S1024x96 : Shape := ⟨2, ![1024, 96]⟩
abbrev S1024x1664 : Shape := ⟨2, ![1024, 1664]⟩
abbrev S16x256 : Shape := ⟨2, ![16, 256]⟩
abbrev S96x256 : Shape := ⟨2, ![96, 256]⟩
abbrev S128x256 : Shape := ⟨2, ![128, 256]⟩
abbrev S1x256 : Shape := ⟨2, ![1, 256]⟩
abbrev S384 : Shape := ⟨1, ![384]⟩
abbrev S1x384 : Shape := ⟨2, ![1, 384]⟩
abbrev S1x1024 : Shape := ⟨2, ![1, 1024]⟩
abbrev S16x4096x512 : Shape := ⟨3, ![16, 4096, 512]⟩
abbrev S16x4096x256 : Shape := ⟨3, ![16, 4096, 256]⟩
abbrev S2x4096x4096 : Shape := ⟨3, ![2, 4096, 4096]⟩
abbrev S16x4096x128 : Shape := ⟨3, ![16, 4096, 128]⟩
abbrev S1x512x1024 : Shape := ⟨3, ![1, 512, 1024]⟩
abbrev S1x6x1024 : Shape := ⟨3, ![1, 6, 1024]⟩
abbrev S1x512x512 : Shape := ⟨3, ![1, 512, 512]⟩
abbrev S1x512x256 : Shape := ⟨3, ![1, 512, 256]⟩
abbrev S2x512x256 : Shape := ⟨3, ![2, 512, 256]⟩
abbrev S1x512x128 : Shape := ⟨3, ![1, 512, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x1664 : Shape := ⟨2, ![512, 1664]⟩
abbrev S512x128 : Shape := ⟨2, ![512, 128]⟩
abbrev S512x512 : Shape := ⟨2, ![512, 512]⟩
abbrev S512x384 : Shape := ⟨2, ![512, 384]⟩
abbrev S1x512x384 : Shape := ⟨3, ![1, 512, 384]⟩
abbrev S512x256 : Shape := ⟨2, ![512, 256]⟩
abbrev S1x256x256 : Shape := ⟨3, ![1, 256, 256]⟩
abbrev S256x256 : Shape := ⟨2, ![256, 256]⟩
abbrev S1x128 : Shape := ⟨2, ![1, 128]⟩

abbrev nBuf : Space → Nat
  | .hbm => 47
  | .vmem => 24
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x1472, .f32⟩
  | .hbm, ⟨4, _⟩ => ⟨S2x256x256, .bf16⟩
  | .hbm, ⟨5, _⟩ => ⟨S16x128, .f32⟩
  | .hbm, ⟨6, _⟩ => ⟨S128, .f32⟩
  | .hbm, ⟨7, _⟩ => ⟨S16x128, .f32⟩
  | .hbm, ⟨8, _⟩ => ⟨S128, .f32⟩
  | .hbm, ⟨9, _⟩ => ⟨S256, .f32⟩
  | .hbm, ⟨10, _⟩ => ⟨S128, .f32⟩
  | .hbm, ⟨11, _⟩ => ⟨S1024x768, .f32⟩
  | .hbm, ⟨12, _⟩ => ⟨S1024x256, .f32⟩
  | .hbm, ⟨13, _⟩ => ⟨S1024x256, .f32⟩
  | .hbm, ⟨14, _⟩ => ⟨S1024x128, .f32⟩
  | .hbm, ⟨15, _⟩ => ⟨S_, .f32⟩
  | .hbm, ⟨16, _⟩ => ⟨S1024x64, .f32⟩
  | .hbm, ⟨17, _⟩ => ⟨S1024x32, .f32⟩
  | .hbm, ⟨18, _⟩ => ⟨S_, .f32⟩
  | .hbm, ⟨19, _⟩ => ⟨S1024x32, .f32⟩
  | .hbm, ⟨20, _⟩ => ⟨S1024x32, .f32⟩
  | .hbm, ⟨21, _⟩ => ⟨S_, .f32⟩
  | .hbm, ⟨22, _⟩ => ⟨S1024x96, .f32⟩
  | .hbm, ⟨23, _⟩ => ⟨S1024x1664, .f32⟩
  | .hbm, ⟨24, _⟩ => ⟨S1024x1664, .bf16⟩
  | .hbm, ⟨25, _⟩ => ⟨S_, .i32⟩
  | .hbm, ⟨26, _⟩ => ⟨S_, .f32⟩
  | .hbm, ⟨27, _⟩ => ⟨S16x256, .f32⟩
  | .hbm, ⟨28, _⟩ => ⟨S_, .i32⟩
  | .hbm, ⟨29, _⟩ => ⟨S_, .f32⟩
  | .hbm, ⟨30, _⟩ => ⟨S16x256, .f32⟩
  | .hbm, ⟨31, _⟩ => ⟨S_, .f32⟩
  | .hbm, ⟨32, _⟩ => ⟨S96x256, .f32⟩
  | .hbm, ⟨33, _⟩ => ⟨S128x256, .f32⟩
  | .hbm, ⟨34, _⟩ => ⟨S128x256, .bf16⟩
  | .hbm, ⟨35, _⟩ => ⟨S256, .f32⟩
  | .hbm, ⟨36, _⟩ => ⟨S1x256, .f32⟩
  | .hbm, ⟨37, _⟩ => ⟨S384, .f32⟩
  | .hbm, ⟨38, _⟩ => ⟨S1x384, .f32⟩
  | .hbm, ⟨39, _⟩ => ⟨S1x1024, .f32⟩
  | .hbm, ⟨40, _⟩ => ⟨S16x4096x512, .bf16⟩
  | .hbm, ⟨41, _⟩ => ⟨S16x4096x256, .bf16⟩
  | .hbm, ⟨42, _⟩ => ⟨S16x4096x256, .f32⟩
  | .hbm, ⟨43, _⟩ => ⟨S2x4096x4096, .bf16⟩
  | .hbm, ⟨44, _⟩ => ⟨S16x4096x256, .bf16⟩
  | .hbm, ⟨45, _⟩ => ⟨S16x4096x128, .bf16⟩
  | .hbm, ⟨46, _⟩ => ⟨S16x4096x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1664, .bf16⟩
  | .local _ .vmem, ⟨6, _⟩ => ⟨S2x256x256, .bf16⟩
  | .local _ .vmem, ⟨7, _⟩ => ⟨S128x256, .bf16⟩
  | .local _ .vmem, ⟨8, _⟩ => ⟨S1x256, .f32⟩
  | .local _ .vmem, ⟨9, _⟩ => ⟨S1x384, .f32⟩
  | .local _ .vmem, ⟨10, _⟩ => ⟨S1x512x512, .bf16⟩
  | .local _ .vmem, ⟨11, _⟩ => ⟨S1x512x512, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .f32⟩
  | .local _ .vmem, ⟨15, _⟩ => ⟨S1x512x256, .f32⟩
  | .local _ .vmem, ⟨16, _⟩ => ⟨S2x512x256, .bf16⟩
  | .local _ .vmem, ⟨17, _⟩ => ⟨S2x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_v0 : Ref sig .tc := ⟨.hbm, 26, rfl⟩
abbrev main_v11 : Ref sig .tc := ⟨.hbm, 27, rfl⟩
abbrev main_c_2 : Ref sig .tc := ⟨.hbm, 28, rfl⟩
abbrev main_call1_v0 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v21_3 : Ref sig .tc := ⟨.hbm, 43, rfl⟩
abbrev main_v21_4 : Ref sig .tc := ⟨.hbm, 44, rfl⟩
abbrev main_v21_5 : Ref sig .tc := ⟨.hbm, 45, rfl⟩
abbrev main_v21_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjectionRefIdeal.lean ====
abbrev S16x4096x1024 : Shape := ⟨3, ![16, 4096, 1024]⟩
abbrev S16x6x1024 : Shape := ⟨3, ![16, 6, 1024]⟩
abbrev S1024 : Shape := ⟨1, ![1024]⟩
abbrev S1024x1472 : Shape := ⟨2, ![1024, 1472]⟩
abbrev S2x256x256 : Shape := ⟨3, ![2, 256, 256]⟩
abbrev S16x128 : Shape := ⟨2, ![16, 128]⟩
abbrev S128 : Shape := ⟨1, ![128]⟩
abbrev S256 : Shape := ⟨1, ![256]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x1472 : Shape := ⟨3, ![16, 4096, 1472]⟩
abbrev S16x4096x128 : Shape := ⟨3, ![16, 4096, 128]⟩
abbrev S16x4096x256 : Shape := ⟨3, ![16, 4096, 256]⟩
abbrev S16x4096x16 : Shape := ⟨3, ![16, 4096, 16]⟩
abbrev S16x4096x32 : Shape := ⟨3, ![16, 4096, 32]⟩
abbrev S16x4096x512 : Shape := ⟨3, ![16, 4096, 512]⟩
abbrev S1x1x128 : Shape := ⟨3, ![1, 1, 128]⟩
abbrev S2x256x16x4096 : Shape := ⟨4, ![2, 256, 16, 4096]⟩
abbrev S2x4096x16x256 : Shape := ⟨4, ![2, 4096, 16, 256]⟩
abbrev S2x4096x4096 : Shape := ⟨3, ![2, 4096, 4096]⟩
abbrev S1x1x256 : Shape := ⟨3, ![1, 1, 256]⟩

abbrev nBuf : Space → Nat
  | .hbm => 143
  | .vmem => 0
  | .smem => 0
  | _ => 0

abbrev hbmTy0_0 (i : Nat) : BufTy := match i % 128 with
  | 0 => ⟨S16x4096x1024, .f32⟩
  | 1 => ⟨S16x6x1024, .f32⟩
  | 2 => ⟨S1024, .f32⟩
  | 3 => ⟨S1024x1472, .f32⟩
  | 4 => ⟨S2x256x256, .bf16⟩
  | 5 => ⟨S16x128, .f32⟩
  | 6 => ⟨S128, .f32⟩
  | 7 => ⟨S16x128, .f32⟩
  | 8 => ⟨S128, .f32⟩
  | 9 => ⟨S256, .f32⟩
  | 10 => ⟨S128, .f32⟩
  | 11 => ⟨S16x1x1024, .f32⟩
  | 12 => ⟨S16x1x1024, .f32⟩
  | 13 => ⟨S16x4096x1024, .f32⟩
  | 14 => ⟨S_, .f32⟩
  | 15 => ⟨S16x4096, .f32⟩
  | 16 => ⟨S16x4096x1, .f32⟩
  | 17 => ⟨S_, .f32⟩
  | 18 => ⟨S16x4096x1, .f32⟩
  | 19 => ⟨S16x4096x1, .f32⟩
  | 20 => ⟨S_, .f32⟩
  | 21 => ⟨S16x4096x1, .f32⟩
  | 22 => ⟨S16x4096x1, .f32⟩
  | 23 => ⟨S16x4096x1, .f32⟩
  | 24 => ⟨S16x4096x1024, .f32⟩
  | 25 => ⟨S16x4096x1024, .f32⟩
  | 26 => ⟨S1x1x1024, .f32⟩
  | 27 => ⟨S16x4096x1024, .f32⟩
  | 28 => ⟨S16x4096x1024, .f32⟩
  | 29 => ⟨S_, .f32⟩
  | 30 => ⟨S16x1x1024, .f32⟩
  | 31 => ⟨S16x1x1024, .f32⟩
  | 32 => ⟨S16x4096x1024, .f32⟩
  | 33 => ⟨S16x4096x1024, .f32⟩
  | 34 => ⟨S16x4096x1024, .f32⟩
  | 35 => ⟨S16x4096x1024, .f32⟩
  | 36 => ⟨S16x4096x1472, .f32⟩
  | 37 => ⟨S16x4096x128, .f32⟩
  | 38 => ⟨S16x4096x128, .f32⟩
  | 39 => ⟨S16x4096x256, .f32⟩
  | 40 => ⟨S16x4096x256, .f32⟩
  | 41 => ⟨S16x4096x16, .f32⟩
  | 42 => ⟨S16x4096x16, .f32⟩
  | 43 => ⟨S16x4096x256, .f32⟩
  | 44 => ⟨S16x4096x256, .f32⟩
  | 45 => ⟨S16x4096x128, .f32⟩
  | 46 => ⟨S16x4096x32, .f32⟩
  | 47 => ⟨S_, .f32⟩
  | 48 => ⟨S16x4096x128, .f32⟩
  | 49 => ⟨S16x4096x128, .f32⟩
  | 50 => ⟨S16x4096x512, .f32⟩
  | 51 => ⟨S16x4096x128, .f32⟩
  | 52 => ⟨S1x1x128, .f32⟩
  | 53 => ⟨S16x4096x128, .f32⟩
  | 54 => ⟨S16x4096x128, .f32⟩
  | 55 => ⟨S16x4096x128, .f32⟩
  | 56 => ⟨S_, .f32⟩
  | 57 => ⟨S16x4096x128, .f32⟩
  | 58 => ⟨S16x4096x128, .f32⟩
  | 59 => ⟨S16x4096x128, .f32⟩
  | 60 => ⟨S16x4096x128, .f32⟩
  | 61 => ⟨S16x4096x128, .i1⟩
  | 62 => ⟨S16x4096x128, .f32⟩
  | 63 => ⟨S16x4096x128, .f32⟩
  | 64 => ⟨S16x4096x128, .f32⟩
  | 65 => ⟨S16x4096x128, .f32⟩
  | 66 => ⟨S16x4096x128, .f32⟩
  | 67 => ⟨S16x4096x128, .f32⟩
  | 68 => ⟨S16x4096x128, .f32⟩
  | 69 => ⟨S16x4096x128, .f32⟩
  | 70 => ⟨S16x4096x128, .f32⟩
  | 71 => ⟨S_, .f32⟩
  | 72 => ⟨S16x4096x128, .f32⟩
  | 73 => ⟨S16x4096x128, .f32⟩
  | 74 => ⟨S16x4096x128, .f32⟩
  | 75 => ⟨S1x1x128, .f32⟩
  | 76 => ⟨S16x4096x128, .f32⟩
  | 77 => ⟨S16x4096x128, .f32⟩
  | 78 => ⟨S16x4096x128, .f32⟩
  | 79 => ⟨S_, .f32⟩
  | 80 => ⟨S16x4096x128, .f32⟩
  | 81 => ⟨S16x4096x128, .f32⟩
  | 82 => ⟨S16x4096x128, .f32⟩
  | 83 => ⟨S16x4096x128, .f32⟩
  | 84 => ⟨S16x4096x128, .i1⟩
  | 85 => ⟨S16x4096x128, .f32⟩
  | 86 => ⟨S16x4096x128, .f32⟩
  | 87 => ⟨S16x4096x128, .f32⟩
  | 88 => ⟨S16x4096x128, .f32⟩
  | 89 => ⟨S16x4096x128, .f32⟩
  | 90 => ⟨S16x4096x128, .f32⟩
  | 91 => ⟨S16x4096x128, .f32⟩
  | 92 => ⟨S16x4096x128, .f32⟩
  | 93 => ⟨S16x4096x128, .f32⟩
  | 94 => ⟨S_, .f32⟩
  | 95 => ⟨S16x4096x128, .f32⟩
  | 96 => ⟨S16x4096x128, .f32⟩
  | 97 => ⟨S2x256x256, .f32⟩
  | 98 => ⟨S2x256x16x4096, .f32⟩
  | 99 => ⟨S2x4096x16x256, .f32⟩
  | 100 => ⟨S2x4096x4096, .f32⟩
  | 101 => ⟨S16x4096x256, .f32⟩
  | 102 => ⟨S_, .f32⟩
  | 103 => ⟨S16x4096, .f32⟩
  | 104 => ⟨S16x4096x1, .f32⟩
  | 105 => ⟨S_, .f32⟩
  | 106 => ⟨S16x4096x1, .f32⟩
  | 107 => ⟨S16x4096x1, .f32⟩
  | 108 => ⟨S_, .f32⟩
  | 109 => ⟨S16x4096x1, .f32⟩
  | 110 => ⟨S16x4096x1, .f32⟩
  | 111 => ⟨S16x4096x1, .f32⟩
  | 112 => ⟨S16x4096x256, .f32⟩
  | 113 => ⟨S16x4096x256, .f32⟩
  | 114 => ⟨S1x1x256, .f32⟩
  | 115 => ⟨S16x4096x256, .f32⟩
  | 116 => ⟨S16x4096x256, .f32⟩
  | 117 => ⟨S16x4096x128, .f32⟩
  | 118 => ⟨S_, .f32⟩
  | 119 => ⟨S16x4096, .f32⟩
  | 120 => ⟨S16x4096x1, .f32⟩
  | 121 => ⟨S_, .f32⟩
  | 122 => ⟨S16x4096x1, .f32⟩
  | 123 => ⟨S16x4096x1, .f32⟩
  | 124 => ⟨S_, .f32⟩
  | 125 => ⟨S16x4096x1, .f32⟩
  | 126 => ⟨S16x4096x1, .f32⟩
  | 127 => ⟨S16x4096x1, .f32⟩
  | _ => ⟨S16x4096x1024, .f32⟩

abbrev hbmTy0_1 (i : Nat) : BufTy := match i % 128 with
  | 0 => ⟨S16x4096x128, .f32⟩
  | 1 => ⟨S16x4096x128, .f32⟩
  | 2 => ⟨S1x1x128, .f32⟩
  | 3 => ⟨S16x4096x128, .f32⟩
  | 4 => ⟨S16x4096x128, .f32⟩
  | 5 => ⟨S_, .i32⟩
  | 6 => ⟨S_, .f32⟩
  | 7 => ⟨S16x4096x128, .f32⟩
  | 8 => ⟨S16x4096x512, .bf16⟩
  | 9 => ⟨S16x4096x256, .bf16⟩
  | 10 => ⟨S16x4096x256, .f32⟩
  | 11 => ⟨S2x4096x4096, .bf16⟩
  | 12 => ⟨S16x4096x256, .bf16⟩
  | 13 => ⟨S16x4096x128, .bf16⟩
  | 14 => ⟨S16x4096x128, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v39 : Ref sig .tc := ⟨.hbm, 70, rfl⟩
abbrev main_cst_4 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_call0_cst : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_call0_v2 : Ref sig .tc := ⟨.hbm, 82, rfl⟩
abbrev main_call1_call0_v3 : Ref sig .tc := ⟨.hbm, 83, rfl⟩
abbrev main_call1_call0_v4 : Ref sig .tc := ⟨.hbm, 84, rfl⟩
abbrev main_call1_call0_v5 : Ref sig .tc := ⟨.hbm, 85, rfl⟩
abbrev main_call1_call0_v6 : Ref sig .tc := ⟨.hbm, 86, rfl⟩
abbrev main_call1_call0_v7 : Ref sig .tc := ⟨.hbm, 87, rfl⟩
abbrev main_call1_call0_v8 : Ref sig .tc := ⟨.hbm, 88, rfl⟩
abbrev main_call1_call0_v9 : Ref sig .tc := ⟨.hbm, 89, rfl⟩
abbrev main_call1_call0_v10 : Ref sig .tc := ⟨.hbm, 90, rfl⟩
abbrev main_call1_call0_v11 : Ref sig .tc := ⟨.hbm, 91, rfl⟩
abbrev main_call1_v1 : Ref sig .tc := ⟨.hbm, 92, rfl⟩
abbrev main_v46 : Ref sig .tc := ⟨.hbm, 93, rfl⟩
abbrev main_cst_5 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_6 : Ref sig .tc := ⟨.hbm, 102, rfl⟩
abbrev main_v54 : Ref sig .tc := ⟨.hbm, 103, rfl⟩
abbrev main_v55 : Ref sig .tc := ⟨.hbm, 104, rfl⟩
abbrev main_cst_7 : Ref sig .tc := ⟨.hbm, 105, rfl⟩
abbrev main_v56 : Ref sig .tc := ⟨.hbm, 106, rfl⟩
abbrev main_v57 : Ref sig .tc := ⟨.hbm, 107, rfl⟩
abbrev main_cst_8 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_9 : Ref sig .tc := ⟨.hbm, 118, rfl⟩
abbrev main_v67 : Ref sig .tc := ⟨.hbm, 119, rfl⟩
abbrev main_v68 : Ref sig .tc := ⟨.hbm, 120, rfl⟩
abbrev main_cst_10 : Ref sig .tc := ⟨.hbm, 121, rfl⟩
abbrev main_v69 : Ref sig .tc := ⟨.hbm, 122, rfl⟩
abbrev main_v70 : Ref sig .tc := ⟨.hbm, 123, rfl⟩
abbrev main_cst_11 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_c : Ref sig .tc := ⟨.hbm, 133, rfl⟩
abbrev main_call2_v0 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩

abbrev nD : Nat := 1
abbrev τ : Topo := Topo.v7x

variable {F : FTy → Type} [FloatOps F]
-- ==== Proof.K.Body.lean ====
module

public import proofs.«01_k».proof.Proof.K.RunA
public import proofs.«01_k».proof.Proof.K.RunB
public import proofs.«01_k».proof.Proof.K.RunC
public import proofs.«01_k».proof.Proof.K.RunD
public import Idealize.ShloMosaic.Lib.Claim
public import Idealize.ShloMosaic.Lib.StableHlo.RunRead
public import Idealize.ShloMosaic.Lib.Pointwise
public import Idealize.ShloMosaic.Lib.Pipeline.ValueKit

@[expose] public section

set_option maxRecDepth 16384
set_option maxHeartbeats 2000000

noncomputable section

namespace Cert.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def flagBit (a5 a6 : FVec F S96 .f32) : IVec S_ 1 :=
  cmpf .ole (extf .f32 (truncf .bf16 (addf (mulf (mulf
      (Host.reduce FloatOps.maximumf (Host.absf a5) (constant S_ .f32 0xFF800000#32) reducesTo_S96_S_d0 h_S_)
      (Host.reduce FloatOps.maximumf (Host.absf a6) (constant S_ .f32 0xFF800000#32) reducesTo_S96_S_d0 h_S_))
    (constant S_ .f32 0x41646DDC#32)) (constant S_ .f32 0x3DCCCCCD#32)) bitsLt_bf16_f32) bitsLt_bf16_f32) (constant S_ .f32 0x4266D4CA#32)

def hFlag (a5 a6 : FVec F S96 .f32) : IVec S1 32 := broadcastInDim S1 ![] bcast_S_S1 (extui 32 (flagBit a5 a6) natLt_1_32)

theorem hFlag_cases (a5 a6 : FVec F S96 .f32) : hFlag a5 a6 = (fun _ => 1#32) ∨ hFlag a5 a6 = (fun _ => 0#32) := by
  have e : ∀ y : S1.Idx, hFlag a5 a6 y = (flagBit a5 a6 (fun a => a.elim0)).setWidth 32 := fun y =>
    congrArg (fun z => (flagBit a5 a6 z).setWidth 32) (funext fun a => a.elim0)
  have hb : ∀ b : BitVec 1, b.setWidth 32 = 1#32 ∨ b.setWidth 32 = 0#32 := by decide
  rcases hb (flagBit a5 a6 (fun a => a.elim0)) with h | h
  · left; funext y; rw [e y, h]
  · right; funext y; rw [e y, h]

variable (m : (ℓ : Loc nD τ sig) → Buf (Elt F) ℓ) (ρ : Dev nD → PrngReg)

theorem V_hFlag (c : Dev nD) : V m c main_v35 = hFlag (m ((c : Thread nD τ).loc main_arg5)) (m ((c : Thread nD τ).loc main_arg6)) := by
  unfold V
  after_reads_simp
  rfl

theorem ind0 : ∀ t, win0_0.index t = ![0] := (by decide +kernel : ∀ t : Fin grid0.N, _)
theorem blk0 (c : Dev nD) (t : Fin cfg0.N) : (iblk m c 0 t : Vec F S1 .i32) = V m c main_v35 := by
  funext y; blk_ext [iblk, ind0 t]
theorem flag_word (c : Dev nD) (t : Fin cfg0.N) (b : BitVec 32) (h : (V m c main_v35 : IVec S1 32) = fun _ => b)
    (arg2 : Memref sig .tc .smem S1 .i32) (harg2 : arg2.IsWhole) :
    arg2.view.readAt (Elt F) (Rect.unit (s := S1) ![0] S1.size inb_S1_S1_0).toLoadRect (harg2.unread (iblk m c 0 t)) (Shape.Idx.first (numel1_S1.symm ▸ Nat.one_pos)) = b := by
  rw [View.readAt_eq_ld, harg2.read_unread, blk0 m c t, h]

/-- Nothing is said of what the output's buffer is left with. -/
def forgets0 : Fin 13 → Bool := fun w => w.val == 12

/-- The proof data: each input's buffer at its block, the output's contents not named, the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at a point, the windows one by one; -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d))
    ∗ (∃ d, owns (c : Thread nD τ) (mem12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t)
    ∗ owns (c : Thread nD τ) (mem9 t) fullShare ((dats m 0 c).after 9 t)
    ∗ owns (c : Thread nD τ) (mem10 t) fullShare ((dats m 0 c).after 10 t)
    ∗ owns (c : Thread nD τ) (mem11 t) fullShare ((dats m 0 c).after 11 t)
    ∗ (∃ d, owns (c : Thread nD τ) (mem12 t) fullShare d))

theorem word1_one : word1 1#32 := by decide
theorem word0_zero : word0 0#32 := by decide
theorem not_word1_zero : ¬ word1 0#32 := by decide
theorem not_word0_one : ¬ word0 1#32 := by decide

set_option maxHeartbeats 25600000 in
theorem sound_A (c : Dev nD) (t : Fin cfg0.N) (h0 : t.val % 8 = 0) (hf : (V m c main_v35 : IVec S1 32) = fun _ => 1#32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Pipeline.ΦA spec0 c from rfl, show (dats m 0 c).Φ t.castSucc = Pipeline.ΦA spec0 c from rfl, scoped_eq]
  have hw := fun a h => flag_word m c t _ hf a h
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA c (grid0.coords t) _ _ _ _ _ _ _ _ _ _ _ _ _ _ _ _ _ _ _ _ _ _ _ _ _ _ _ _ _ _ _ _ _ _ ((first_tile t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) e0 e1 e2 e3 (by rw [hw]; exact word1_one) (by rw [hw]; exact not_word0_one)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%f12, H12⟩, HS0, HS1, HS2, HS3⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; unfold owns; iexists _; isplitr
  swap; · iexact H12
  ipureintro; rfl

set_option maxHeartbeats 25600000 in
theorem sound_B (c : Dev nD) (t : Fin cfg0.N) (h0 : t.val % 8 = 0) (hf : (V m c main_v35 : IVec S1 32) = fun _ => 0#32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Pipeline.ΦA spec0 c from rfl, show (dats m 0 c).Φ t.castSucc = Pipeline.ΦA spec0 c from rfl, scoped_eq]
  have hw := fun a h => flag_word m c t _ hf a h
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runB c (grid0.coords t) _ _ _ _ _ _ _ _ _ _ _ _ _ _ _ _ _ _ _ _ _ _ _ _ _ _ _ _ _ _ _ _ _ _ ((first_tile t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) e0 e1 e2 e3 (by rw [hw]; exact not_word1_zero) (by rw [hw]; exact word0_zero)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%f12, H12⟩, HS0, HS1, HS2, HS3⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; unfold owns; iexists _; isplitr
  swap; · iexact H12
  ipureintro; rfl

set_option maxHeartbeats 25600000 in
theorem sound_C (c : Dev nD) (t : Fin cfg0.N) (h0 : ¬ t.val % 8 = 0) (hf : (V m c main_v35 : IVec S1 32) = fun _ => 1#32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Pipeline.ΦA spec0 c from rfl, show (dats m 0 c).Φ t.castSucc = Pipeline.ΦA spec0 c from rfl, scoped_eq]
  have hw := fun a h => flag_word m c t _ hf a h
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC c (grid0.coords t) _ _ _ _ _ _ _ _ _ _ _ _ _ _ _ _ _ _ _ _ _ _ _ _ _ _ _ _ _ _ _ _ _ _ (fun h => h0 ((first_tile t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) e0 e1 e2 e3 (by rw [hw]; exact word1_one) (by rw [hw]; exact not_word0_one)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%f12, H12⟩, HS0, HS1, HS2, HS3⟩
  isplitl [HS0 HS1 HS2 HS3 Hg]
  · isplitl [HS0 HS1 HS2 HS3]
    · isplitl [HS0]; · iexists _; iexact HS0
      isplitl [HS1]; · iexists _; iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; unfold owns; iexists _; isplitr
  swap; · iexact H12
  ipureintro; rfl

set_option maxHeartbeats 25600000 in
theorem sound_D (c : Dev nD) (t : Fin cfg0.N) (h0 : ¬ t.val % 8 = 0) (hf : (V m c main_v35 : IVec S1 32) = fun _ => 0#32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Pipeline.ΦA spec0 c from rfl, show (dats m 0 c).Φ t.castSucc = Pipeline.ΦA spec0 c from rfl, scoped_eq]
  have hw := fun a h => flag_word m c t _ hf a h
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runD c (grid0.coords t) _ _ _ _ _ _ _ _ _ _ _ _ _ _ _ _ _ _ _ _ _ _ _ _ _ _ _ _ _ _ _ _ _ _ (fun h => h0 ((first_tile t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) e0 e1 e2 e3 (by rw [hw]; exact not_word1_zero) (by rw [hw]; exact word0_zero)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%f12, H12⟩, HS0, HS1, HS2, HS3⟩
  isplitl [HS0 HS1 HS2 HS3 Hg]
  · isplitl [HS0 HS1 HS2 HS3]
    · isplitl [HS0]; · iexists _; iexact HS0
      isplitl [HS1]; · iexists _; iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; unfold owns; iexists _; isplitr
  swap; · iexact H12
  ipureintro; rfl

theorem sound_body (c : Dev nD) (t : Fin cfg0.N) :
    bodyPre m c t ⊢ wp frame (wpE (defs₀ (F := F)) Variants.none c none) Set.univ (bodyAt0 t) (fun _ => bodyPost m c t) := by
  have hf : (V m c main_v35 : IVec S1 32) = (fun _ => 1#32) ∨ (V m c main_v35 : IVec S1 32) = fun _ => 0#32 := by
    rw [V_hFlag]; exact hFlag_cases _ _
  by_cases h0 : t.val % 8 = 0
  · rcases hf with hf | hf
    · exact sound_A m c t h0 hf
    · exact sound_B m c t h0 hf
  · rcases hf with hf | hf
    · exact sound_C m c t h0 hf
    · exact sound_D m c t h0 hf

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

set_option backward.isDefEq.respectTransparency.types false in
theorem run_main_quiescent : θ_run defs (onTc (τ := τ) (main (F := F))) (s₀ m ρ) (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ))
    ((θ_run defs _ _).mono (fun _ h => h.2) (run_main_quiescent m ρ))

end Cert.K

end
-- ==== Proof.KI.Base.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The flag's word takes the branch of a zero shift. -/
abbrev word1 (v : BitVec 32) : Prop := (Scalar.cmpi .ne (Scalar.extui (Scalar.cmpi .eq v 1#32)) 0#32) = 1#1
/-- The flag's word takes the branch of a running maximum. -/
abbrev word0 (v : BitVec 32) : Prop := (Scalar.cmpi .ne (Scalar.extui (Scalar.cmpi .eq v 0#32)) 0#32) = 1#1

/-- A batch's first query tile is where the keys and values are made. -/
theorem first_tile (t : Fin cfg0.N) : k0_cond1 (grid0.coords t) = 1#1 ↔ t.val % 8 = 0 := by
  have ht : t.val < 128 := Nat.lt_of_lt_of_eq t.isLt N_0
  have e0 : (grid0.coords t 0).val = t.val / 8 % 16 := Pipeline.Grid.coords_val t 0 (by decide) rfl
  have e1 : (grid0.coords t 1).val = t.val / 1 % 8 := Pipeline.Grid.coords_val t 1 (by decide) rfl
  simp only [k0_cond1, e0, e1]
  word_cmp

abbrev mem0 (t : Fin cfg0.N) : Memref sig .tc .smem S1 .i32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x512x256 .bf16 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x4096x128 .bf16 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x4096x128 .bf16 := win0_3.stage (cfg0.slots t 3)
abbrev whole3 (t : Fin cfg0.N) : (mem3 t).IsWhole := hstage0_3 ((cfg0.slots t 3).cast nbuf0_3)
abbrev mem4 (t : Fin cfg0.N) : Memref sig .tc .vmem S2x4096x128 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S8x256x128 .bf16 := win0_5.stage (cfg0.slots t 5)
abbrev whole5 (t : Fin cfg0.N) : (mem5 t).IsWhole := hstage0_5 ((cfg0.slots t 5).cast nbuf0_5)
abbrev mem6 (t : Fin cfg0.N) : Memref sig .tc .vmem S8x128x128 .bf16 := win0_6.stage (cfg0.slots t 6)
abbrev whole6 (t : Fin cfg0.N) : (mem6 t).IsWhole := hstage0_6 ((cfg0.slots t 6).cast nbuf0_6)
abbrev mem7 (t : Fin cfg0.N) : Memref sig .tc .vmem S8x128x128 .bf16 := win0_7.stage (cfg0.slots t 7)
abbrev whole7 (t : Fin cfg0.N) : (mem7 t).IsWhole := hstage0_7 ((cfg0.slots t 7).cast nbuf0_7)
abbrev mem8 (t : Fin cfg0.N) : Memref sig .tc .vmem S1x128 .f32 := win0_8.stage (cfg0.slots t 8)
abbrev whole8 (t : Fin cfg0.N) : (mem8 t).IsWhole := hstage0_8 ((cfg0.slots t 8).cast nbuf0_8)
abbrev mem9 (t : Fin cfg0.N) : Memref sig .tc .vmem S1x128 .f32 := win0_9.stage (cfg0.slots t 9)
abbrev whole9 (t : Fin cfg0.N) : (mem9 t).IsWhole := hstage0_9 ((cfg0.slots t 9).cast nbuf0_9)
abbrev mem10 (t : Fin cfg0.N) : Memref sig .tc .vmem S8x1x128 .f32 := win0_10.stage (cfg0.slots t 10)
abbrev whole10 (t : Fin cfg0.N) : (mem10 t).IsWhole := hstage0_10 ((cfg0.slots t 10).cast nbuf0_10)
abbrev mem11 (t : Fin cfg0.N) : Memref sig .tc .vmem S1x128 .f32 := win0_11.stage (cfg0.slots t 11)
abbrev whole11 (t : Fin cfg0.N) : (mem11 t).IsWhole := hstage0_11 ((cfg0.slots t 11).cast nbuf0_11)
abbrev mem12 (t : Fin cfg0.N) : Memref sig .tc .vmem S1x512x512 .bf16 := win0_12.stage (cfg0.slots t 12)
abbrev whole12 (t : Fin cfg0.N) : (mem12 t).IsWhole := hstage0_12 ((cfg0.slots t 12).cast nbuf0_12)
abbrev scr0 : Memref sig .tc .vmem S8x4x128x1024 .bf16 := Memref.whole cc0_scratch0
abbrev scr1 : Memref sig .tc .vmem S8x4096x128 .bf16 := Memref.whole cc0_scratch1
abbrev scr2 : Memref sig .tc .vmem S8x512x128 .bf16 := Memref.whole cc0_scratch2
abbrev scr3 : Memref sig .tc .vmem S8x512x128 .f32 := Memref.whole cc0_scratch3

theorem scoped_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

end Cert.KI

end
-- ==== Proof.KI.Host.lean ====
module

public import proofs.«01_k».proof.Proof.KI.Base
public import Idealize.ShloMosaic.Lib.Claim
public import Idealize.ShloMosaic.Lib.StableHlo.RunRead
public import Idealize.ShloMosaic.Lib.Pointwise
public import Idealize.ShloMosaic.Lib.Pipeline.ValueKit

@[expose] public section

set_option maxRecDepth 16384
set_option maxHeartbeats 2000000

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

def flagBit (a5 a6 : FVec F S96 .f32) : IVec S_ 1 :=
  cmpf .ole (extf .f32 (truncf .bf16 (addf (mulf (mulf
      (Host.reduce FloatOps.maximumf (Host.absf a5) (constant S_ .f32 0xFF800000#32) reducesTo_S96_S_d0 h_S_)
      (Host.reduce FloatOps.maximumf (Host.absf a6) (constant S_ .f32 0xFF800000#32) reducesTo_S96_S_d0 h_S_))
    (constant S_ .f32 0x41646DDC#32)) (constant S_ .f32 0x3DCCCCCD#32)) bitsLt_bf16_f32) bitsLt_bf16_f32) (constant S_ .f32 0x4266D4CA#32)

def hFlag (a5 a6 : FVec F S96 .f32) : IVec S1 32 := broadcastInDim S1 ![] bcast_S_S1 (extui 32 (flagBit a5 a6) natLt_1_32)

def hBound (a5 a6 : FVec F S96 .f32) : FVec F S_ .f32 :=
  extf .f32 (truncf .bf16 (addf (mulf (mulf
      (Host.reduce FloatOps.maximumf (Host.absf a5) (constant S_ .f32 0xFF800000#32) reducesTo_S96_S_d0 h_S_)
      (Host.reduce FloatOps.maximumf (Host.absf a6) (constant S_ .f32 0xFF800000#32) reducesTo_S96_S_d0 h_S_))
    (constant S_ .f32 0x41646DDC#32)) (constant S_ .f32 0x3DCCCCCD#32)) bitsLt_bf16_f32) bitsLt_bf16_f32

def hWq (a3 : FVec F S256x768 .f32) : FVec F S8x256x128 .bf16 :=
  truncf .bf16 (pad S8x256x128 ![0, 0, 0] ![0, 0, 32] ![0, 0, 0]
    (transpose S8x256x96 [1, 0, 2] (shapeCast S256x8x96 a3 shapeCasts_S256x768_S256x8x96) transposes_S256x8x96_S8x256x96_1_0_2)
    (sitofp .f32 (constantI S_ 32 0#32)) pads_S8x256x96_S8x256x128_000_000_0320 h_S_) bitsLt_bf16_f32

def hWkv (a4 : FVec F S128x1024 .f32) : FVec F S8x128x128 .f32 :=
  transpose S8x128x128 [1, 0, 2] (shapeCast S128x8x128 a4 shapeCasts_S128x1024_S128x8x128) transposes_S128x8x128_S8x128x128_1_0_2

def hWk (a4 : FVec F S128x1024 .f32) : FVec F S8x128x128 .bf16 :=
  truncf .bf16 (pad S8x128x128 ![0, 0, 0] ![0, 0, 64] ![0, 0, 0]
    (extractStridedSlice S8x128x64 ![0, 0, 0] (hWkv a4) slices_S8x128x128_S8x128x64_0_0_0)
    (sitofp .f32 (constantI S_ 32 0#32)) pads_S8x128x64_S8x128x128_000_000_0640 h_S_) bitsLt_bf16_f32

def hVpart (a4 : FVec F S128x1024 .f32) : FVec F S8x128x64 .f32 :=
  extractStridedSlice S8x128x64 ![0, 0, 64] (hWkv a4) slices_S8x128x128_S8x128x64_0_0_64

def hZero : FVec F S8x128x64 .f32 := broadcastInDim S8x128x64 ![] bcast_S_S8x128x64 (constant S_ .f32 0x00000000#32)

def two : IVec S_ 32 :=
  select (cmpi .eq (constantI S_ 32 2#32) (constantI S_ 32 0#32)) (constantI S_ 32 1#32) (constantI S_ 32 2#32)

def remTwo : IVec S8 32 := Host.remsi (iotaInDim S8 32 0) (broadcastInDim S8 ![] bcast_S_S8 two)

def modTwo : IVec S8 32 :=
  select (andi (cmpi .ne (cmpi .slt remTwo (broadcastInDim S8 ![] bcast_S_S8 (constantI S_ 32 0#32))) (broadcastInDim S8 ![] bcast_S_S8 (cmpi .slt two (constantI S_ 32 0#32))))
      (cmpi .ne remTwo (broadcastInDim S8 ![] bcast_S_S8 (constantI S_ 32 0#32))))
    (addi remTwo (broadcastInDim S8 ![] bcast_S_S8 two)) remTwo

def evenHead : IVec S8 1 := cmpi .eq modTwo (broadcastInDim S8 ![] bcast_S_S8 (constantI S_ 32 0#32))

def hWv (a4 : FVec F S128x1024 .f32) : FVec F S8x128x128 .bf16 :=
  truncf .bf16 (select (broadcastInDim S8x128x128 ![0, 1, 2] bcast_S8x1x1_S8x128x128_0_1_2 (broadcastInDim S8x1x1 ![0] bcast_S8_S8x1x1_0 evenHead))
    (concatenate S8x128x128 2 [⟨S8x128x64, hVpart a4⟩, ⟨S8x128x64, hZero⟩] concatenates_S8x128x64_S8x128x64_S8x128x128_d2)
    (concatenate S8x128x128 2 [⟨S8x128x64, hZero⟩, ⟨S8x128x64, hVpart a4⟩] concatenates_S8x128x64_S8x128x64_S8x128x128_d2)) bitsLt_bf16_f32

def hPad (a : FVec F S96 .f32) : FVec F S128 .f32 := pad S128 ![0] ![32] ![0] a (sitofp .f32 (constantI S_ 32 0#32)) pads_S96_S128_0320 h_S_

def hKg (a6 : FVec F S96 .f32) : FVec F S1x128 .f32 := broadcastInDim S1x128 ![1] bcast_S128_S1x128_1 (hPad a6)

def hQg (a5 : FVec F S96 .f32) : FVec F S1x128 .f32 := broadcastInDim S1x128 ![1] bcast_S128_S1x128_1 (hPad a5)

def hShift (a5 a6 : FVec F S96 .f32) : FVec F S1x128 .f32 :=
  Host.scatter scatter_S1x128_S2_S__n_01_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 127#32)⟩] concatenates_S1_S1_S2_d0)
    (select (flagBit a5 a6) (Host.negf (hBound a5 a6)) (constant S_ .f32 0x00000000#32))

def hAng : FVec F S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

def hCos : FVec F S4096x128 .f32 :=
  concatenate S4096x128 1 [⟨S4096x64, broadcastInDim S4096x64 ![] bcast_S_S4096x64 (constant S_ .f32 0x3F800000#32)⟩, ⟨S4096x16, Host.cos hAng⟩, ⟨S4096x16, Host.cos hAng⟩,
    ⟨S4096x32, broadcastInDim S4096x32 ![] bcast_S_S4096x32 (constant S_ .f32 0x3F800000#32)⟩] concatenates_S4096x64_S4096x16_S4096x16_S4096x32_S4096x128_d1

def hSin : FVec F S4096x128 .f32 :=
  concatenate S4096x128 1 [⟨S4096x64, broadcastInDim S4096x64 ![] bcast_S_S4096x64 (constant S_ .f32 0x00000000#32)⟩, ⟨S4096x16, Host.negf (Host.sin hAng)⟩, ⟨S4096x16, Host.sin hAng⟩,
    ⟨S4096x32, broadcastInDim S4096x32 ![] bcast_S_S4096x32 (constant S_ .f32 0x00000000#32)⟩] concatenates_S4096x64_S4096x16_S4096x16_S4096x32_S4096x128_d1

def hRope : FVec F S2x4096x128 .f32 :=
  concatenate S2x4096x128 0 [⟨S1x4096x128, broadcastInDim S1x4096x128 ![1, 2] bcast_S4096x128_S1x4096x128_1_2 hCos⟩,
    ⟨S1x4096x128, broadcastInDim S1x4096x128 ![1, 2] bcast_S4096x128_S1x4096x128_1_2 hSin⟩] concatenates_S1x4096x128_S1x4096x128_S2x4096x128_d0

def hCq (a0 : FVec F S16x4096x256 .f32) : FVec F S16x4096x256 .bf16 := truncf .bf16 a0 bitsLt_bf16_f32
def hCkv (a1 : FVec F S16x4096x128 .f32) : FVec F S16x4096x128 .bf16 := truncf .bf16 a1 bitsLt_bf16_f32
def hKr (a2 : FVec F S16x4096x32 .f32) : FVec F S16x4096x128 .bf16 :=
  truncf .bf16 (pad S16x4096x128 ![0, 0, 64] ![0, 0, 32] ![0, 0, 0] a2 (sitofp .f32 (constantI S_ 32 0#32)) pads_S16x4096x32_S16x4096x128_000_000_64320 h_S_) bitsLt_bf16_f32

def hOne : FVec F S8x1x128 .f32 := fun i => FloatOps.ofBits .f32 (lit0 (S8x1x128.rowMajor i))

section
variable (m : (ℓ : Loc nD τ sig) → Buf (Elt F) ℓ)
theorem V_hFlag (c : Dev nD) : V m c main_v35 = hFlag (m ((c : Thread nD τ).loc main_arg5)) (m ((c : Thread nD τ).loc main_arg6)) := by
  unfold V
  after_reads_simp
  rfl

theorem V_hCq (c : Dev nD) : V m c main_v68 = hCq (m ((c : Thread nD τ).loc main_arg0)) := by
  unfold V
  after_reads_simp
  rfl

theorem V_hCkv (c : Dev nD) : V m c main_v69 = hCkv (m ((c : Thread nD τ).loc main_arg1)) := by
  unfold V
  after_reads_simp
  rfl

theorem V_hKr (c : Dev nD) : V m c main_v70 = hKr (m ((c : Thread nD τ).loc main_arg2)) := by
  unfold V
  after_reads_simp
  rfl

theorem V_hRope (c : Dev nD) : V m c main_v66 = hRope  := by
  unfold V
  after_reads_simp
  rfl

theorem V_hWq (c : Dev nD) : V m c main_v3 = hWq (m ((c : Thread nD τ).loc main_arg3)) := by
  unfold V
  after_reads_simp
  rfl

theorem V_hWk (c : Dev nD) : V m c main_v8 = hWk (m ((c : Thread nD τ).loc main_arg4)) := by
  unfold V
  after_reads_simp
  rfl

theorem V_hWv (c : Dev nD) : V m c main_v19 = hWv (m ((c : Thread nD τ).loc main_arg4)) := by
  unfold V
  after_reads_simp
  rfl

theorem V_hQg (c : Dev nD) : V m c main_v21 = hQg (m ((c : Thread nD τ).loc main_arg5)) := by
  unfold V
  after_reads_simp
  rfl

theorem V_hKg (c : Dev nD) : V m c main_v23 = hKg (m ((c : Thread nD τ).loc main_arg6)) := by
  unfold V
  after_reads_simp
  rfl

theorem V_hOne (c : Dev nD) : V m c main_cst = hOne  := by
  unfold V
  after_reads_simp
  rfl

theorem V_hShift (c : Dev nD) : V m c main_v42 = hShift (m ((c : Thread nD τ).loc main_arg5)) (m ((c : Thread nD τ).loc main_arg6)) := by
  unfold V
  after_reads_simp
  rfl

end

end Cert.KI
-- ==== Proof.KI.Defs.lean ====
module

public import proofs.«01_k».proof.Proof.KI.Base
public import Idealize.ShloMosaic.Lib.Pointwise

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Slabs of the arrays the body reads -/

def qS {e : EltTy} (x : Vec F S8x512x128 e) (h : Fin 8) : Vec F S1x512x128 e :=
  View.ld x (Rect.unit ![h.val, 0, 0] S1x512x128.size (by revert h; decide +kernel))

def ktS {e : EltTy} (x : Vec F S8x4x128x1024 e) (h : Fin 8) (k : Fin 4) : Vec F S1x1x128x1024 e :=
  View.ld x (Rect.unit ![h.val, k.val, 0, 0] S1x1x128x1024.size (by revert h k; decide +kernel))

def vS {e : EltTy} (x : Vec F S8x4096x128 e) (h : Fin 8) (k : Fin 4) : Vec F S1x1024x128 e :=
  View.ld x (Rect.unit ![h.val, 1024 * k.val, 0] S1x1024x128.size (by revert h k; decide +kernel))

def rS {e : EltTy} (x : Vec F S1x4096x128 e) (k : Fin 4) : Vec F S1x1024x128 e :=
  View.ld x (Rect.unit ![0, 1024 * k.val, 0] S1x1024x128.size (by revert k; decide +kernel))

def ropeS {e : EltTy} (x : Vec F S2x4096x128 e) (a : Fin 2) (k : Fin 4) : Vec F S1x1024x128 e :=
  View.ld x (Rect.unit ![a.val, 1024 * k.val, 0] S1x1024x128.size (by revert a k; decide +kernel))

def ropeQ {e : EltTy} (x : Vec F S2x4096x128 e) (a : Fin 2) (j : Fin 8) : Vec F S1x512x128 e :=
  View.ld x (Rect.unit ![a.val, 512 * j.val, 0] S1x512x128.size (by revert a j; decide +kernel))

def wS {e : EltTy} (x : Vec F S8x128x128 e) (h : Fin 8) : Vec F S1x128x128 e :=
  View.ld x (Rect.unit ![h.val, 0, 0] S1x128x128.size (by revert h; decide +kernel))

def wqS {e : EltTy} (x : Vec F S8x256x128 e) (h : Fin 8) : Vec F S1x256x128 e :=
  View.ld x (Rect.unit ![h.val, 0, 0] S1x256x128.size (by revert h; decide +kernel))

def oneS {e : EltTy} (x : Vec F S8x1x128 e) (h : Fin 8) : Vec F S1x1x128 e :=
  View.ld x (Rect.unit ![h.val, 0, 0] S1x1x128.size (by revert h; decide +kernel))

/-! ## What the body computes -/

/-- The keys of head `h`, block `k`: transposed, rotated, with the shift lane's one. -/
def KTb (x2 x3 : Vec F S1x4096x128 .bf16) (x4 : Vec F S2x4096x128 .f32) (x6 : Vec F S8x128x128 .bf16) (x9 : Vec F S1x128 .f32)
    (h : Fin 8) (k : Fin 4) : Vec F S1x1x128x1024 .bf16 :=
  k0_pay8 (k0_pay7 k0_pay114 k0_pay115 (rS x2 k) (rS x3 k) (ropeS x4 0 k) (ropeS x4 1 k) (wS x6 h) x9)

/-- The values of head `h`, block `k`, with the denominator lane's one. -/
def VSb (x2 : Vec F S1x4096x128 .bf16) (x7 : Vec F S8x128x128 .bf16) (x10 : Vec F S8x1x128 .f32)
    (h : Fin 8) (k : Fin 4) : Vec F S1x1024x128 .bf16 :=
  k0_pay9 (k0_pay3 (rS x2 k)) (wS x7 h) (oneS x10 h)

def KT (x2 x3 : Vec F S1x4096x128 .bf16) (x4 : Vec F S2x4096x128 .f32) (x6 : Vec F S8x128x128 .bf16) (x9 : Vec F S1x128 .f32) :
    Vec F S8x4x128x1024 .bf16 := fun y => KTb x2 x3 x4 x6 x9 (y 0) (y 1) (ix4 0 0 (y 2) (y 3))

def VS (x2 : Vec F S1x4096x128 .bf16) (x7 : Vec F S8x128x128 .bf16) (x10 : Vec F S8x1x128 .f32) : Vec F S8x4096x128 .bf16 :=
  fun y => VSb x2 x7 x10 (y 0) ⟨(y 1).val / 1024, by have : (y 1).val < 4096 := (y 1).isLt; omega⟩
    (ix3 0 ⟨(y 1).val % 1024, Nat.mod_lt _ (by decide)⟩ (y 2))

/-- The queries of head `h` of query tile `j`. -/
def Qb (x1 : Vec F S1x512x256 .bf16) (x4 : Vec F S2x4096x128 .f32) (x5 : Vec F S8x256x128 .bf16) (x8 x11 : Vec F S1x128 .f32)
    (j h : Fin 8) : Vec F S1x512x128 .bf16 :=
  k0_pay131 k0_pay114 (k0_pay117 (ropeQ x4 0 j)) (k0_pay118 (ropeQ x4 1 j)) (k0_pay120 (k0_pay119 x8) (Named.named κ "log2_scale" 0x3E16C740#32)) x1 (wqS x5 h) x11

def accZ : FVec F S1x512x128 .f32 := fun _ => Scalar.ofBits .f32 0x00000000#32

/-- The accumulator of head `h` after the first `n` key blocks, no running maximum. -/
def accF (q : Vec F S1x512x128 .bf16) (kt : Fin 4 → Vec F S1x1x128x1024 .bf16) (v : Fin 4 → Vec F S1x1024x128 .bf16) :
    ℕ → FVec F S1x512x128 .f32
  | 0 => accZ
  | n + 1 => if h : n < 4 then k0_pay36 q (kt ⟨n, h⟩) (accF q kt v n) (v ⟨n, h⟩) else accF q kt v n

/-- The running maximum and accumulator of head `h` after the first `n` key blocks. -/
def stS (q : Vec F S1x512x128 .bf16) (kt : Fin 4 → Vec F S1x1x128x1024 .bf16) (v : Fin 4 → Vec F S1x1024x128 .bf16) :
    ℕ → FVec F S512x1 .f32 × FVec F S512x128 .f32
  | 0 => (k0_pay57, k0_pay58)
  | n + 1 => if h : n < 4 then
      (k0_pay60 (stS q kt v n).1 q (kt ⟨n, h⟩), k0_pay61 (stS q kt v n).1 (stS q kt v n).2 q (kt ⟨n, h⟩) (v ⟨n, h⟩))
    else stS q kt v n

def iota0 : IVec S1x128 32 := iota Kind.tc S1x128 32 [1] iota_S1x128_d1_w32

/-- Two heads' accumulators divided by their denominators, side by side. -/
def fin2 (a b : FVec F S1x512x128 .f32) : FVec F S1x512x128 .bf16 :=
  k0_pay51 (k0_pay48 iota0 a) (k0_pay49 iota0 b) (k0_pay50 iota0)

def head2 (p : Fin 4) : Fin 8 := ⟨2 * p.val, by omega⟩
def head3 (p : Fin 4) : Fin 8 := ⟨2 * p.val + 1, by omega⟩

def outOf (acc : Fin 8 → FVec F S1x512x128 .f32) : Vec F S1x512x512 .bf16 := fun y =>
  fin2 (acc (head2 ⟨(y 2).val / 128, by have : (y 2).val < 512 := (y 2).isLt; omega⟩))
    (acc (head3 ⟨(y 2).val / 128, by have : (y 2).val < 512 := (y 2).isLt; omega⟩))
    (ix3 0 (y 1) ⟨(y 2).val % 128, Nat.mod_lt _ (by decide)⟩)

def accFast (q : Fin 8 → Vec F S1x512x128 .bf16) (kt : Vec F S8x4x128x1024 .bf16) (v : Vec F S8x4096x128 .bf16)
    (h : Fin 8) : FVec F S1x512x128 .f32 := accF (q h) (ktS kt h) (vS v h) 4

def accSlow (q : Fin 8 → Vec F S1x512x128 .bf16) (kt : Vec F S8x4x128x1024 .bf16) (v : Vec F S8x4096x128 .bf16)
    (h : Fin 8) : FVec F S1x512x128 .f32 := k0_pay62 (stS (q h) (ktS kt h) (vS v h) 4).2

/-! ## Reading a rectangle at an offset known only through an equation -/

theorem ld_off {S : Shape} {e : EltTy} (x : Vec F S e) {off off' size : Fin S.rank → ℕ} (ho : off = off')
    (inb : ∀ a, off a + size a ≤ S.size a) (inb' : ∀ a, off' a + size a ≤ S.size a) :
    View.ld x (Rect.unit off size inb) = (View.ld x (Rect.unit off' size inb') : _) := by subst ho; rfl

end Cert.KI
-- ==== Proof.KI.Blk.lean ====
module

public import proofs.«01_k».proof.Proof.KI.Host
public import proofs.«01_k».proof.Proof.KI.Defs

@[expose] public section

set_option maxRecDepth 16384
set_option maxHeartbeats 2000000

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem ind0 : ∀ t, win0_0.index t = ![0] := (by decide +kernel : ∀ t : Fin grid0.N, _)
theorem ind1 : ∀ t, win0_1.index t = ![t.val / 8, t.val % 8, 0] := (by decide +kernel : ∀ t : Fin grid0.N, _)
theorem ind2 : ∀ t, win0_2.index t = ![t.val / 8, 0, 0] := (by decide +kernel : ∀ t : Fin grid0.N, _)
theorem ind3 : ∀ t, win0_3.index t = ![t.val / 8, 0, 0] := (by decide +kernel : ∀ t : Fin grid0.N, _)
theorem ind4 : ∀ t, win0_4.index t = ![0, 0, 0] := (by decide +kernel : ∀ t : Fin grid0.N, _)
theorem ind5 : ∀ t, win0_5.index t = ![0, 0, 0] := (by decide +kernel : ∀ t : Fin grid0.N, _)
theorem ind6 : ∀ t, win0_6.index t = ![0, 0, 0] := (by decide +kernel : ∀ t : Fin grid0.N, _)
theorem ind7 : ∀ t, win0_7.index t = ![0, 0, 0] := (by decide +kernel : ∀ t : Fin grid0.N, _)
theorem ind8 : ∀ t, win0_8.index t = ![0, 0] := (by decide +kernel : ∀ t : Fin grid0.N, _)
theorem ind9 : ∀ t, win0_9.index t = ![0, 0] := (by decide +kernel : ∀ t : Fin grid0.N, _)
theorem ind10 : ∀ t, win0_10.index t = ![0, 0, 0] := (by decide +kernel : ∀ t : Fin grid0.N, _)
theorem ind11 : ∀ t, win0_11.index t = ![0, 0] := (by decide +kernel : ∀ t : Fin grid0.N, _)
theorem ind12 : ∀ t, win0_12.index t = ![t.val / 8, t.val % 8, 0] := (by decide +kernel : ∀ t : Fin grid0.N, _)

theorem N128 (t : Fin cfg0.N) : t.val < 128 := Nat.lt_of_lt_of_eq t.isLt N_0

/-- Batch `b` of a batched array. -/
def batch {n k : ℕ} {e : EltTy} (X : Vec F ⟨3, ![16, n, k]⟩ e) (b : Fin 16) : Vec F ⟨3, ![1, n, k]⟩ e := fun y => X (ix3 b (y 1) (y 2))

theorem blk0 (c : Dev nD) (t : Fin cfg0.N) : (iblk m c 0 t : Vec F S1 .i32) = V m c main_v35 := by
  funext y; blk_ext [iblk, ind0 t]
theorem blk1 (c : Dev nD) (t : Fin cfg0.N) : (iblk m c 1 t : Vec F S1x512x256 .bf16)
    = fun y => V m c main_v68 (ix3 ⟨t.val / 8, by have := N128 t; omega⟩ ⟨512 * (t.val % 8) + (y 1).val, by have : (y 1).val < 512 := (y 1).isLt; omega⟩ (y 2)) := by
  funext y; blk_ext [iblk, ind1 t]
theorem blk2 (c : Dev nD) (t : Fin cfg0.N) : (iblk m c 2 t : Vec F S1x4096x128 .bf16) = batch (V m c main_v69) ⟨t.val / 8, by have := N128 t; omega⟩ := by
  funext y; unfold batch; blk_ext [iblk, ind2 t]
theorem blk3 (c : Dev nD) (t : Fin cfg0.N) : (iblk m c 3 t : Vec F S1x4096x128 .bf16) = batch (V m c main_v70) ⟨t.val / 8, by have := N128 t; omega⟩ := by
  funext y; unfold batch; blk_ext [iblk, ind3 t]
theorem blk4 (c : Dev nD) (t : Fin cfg0.N) : (iblk m c 4 t : Vec F S2x4096x128 .f32) = V m c main_v66 := by
  funext y; blk_ext [iblk, ind4 t]
theorem blk5 (c : Dev nD) (t : Fin cfg0.N) : (iblk m c 5 t : Vec F S8x256x128 .bf16) = V m c main_v3 := by
  funext y; blk_ext [iblk, ind5 t]
theorem blk6 (c : Dev nD) (t : Fin cfg0.N) : (iblk m c 6 t : Vec F S8x128x128 .bf16) = V m c main_v8 := by
  funext y; blk_ext [iblk, ind6 t]
theorem blk7 (c : Dev nD) (t : Fin cfg0.N) : (iblk m c 7 t : Vec F S8x128x128 .bf16) = V m c main_v19 := by
  funext y; blk_ext [iblk, ind7 t]
theorem blk8 (c : Dev nD) (t : Fin cfg0.N) : (iblk m c 8 t : Vec F S1x128 .f32) = V m c main_v21 := by
  funext y; blk_ext [iblk, ind8 t]
theorem blk9 (c : Dev nD) (t : Fin cfg0.N) : (iblk m c 9 t : Vec F S1x128 .f32) = V m c main_v23 := by
  funext y; blk_ext [iblk, ind9 t]
theorem blk10 (c : Dev nD) (t : Fin cfg0.N) : (iblk m c 10 t : Vec F S8x1x128 .f32) = V m c main_cst := by
  funext y; blk_ext [iblk, ind10 t]
theorem blk11 (c : Dev nD) (t : Fin cfg0.N) : (iblk m c 11 t : Vec F S1x128 .f32) = V m c main_v42 := by
  funext y; blk_ext [iblk, ind11 t]

theorem hFlag_cases (a5 a6 : FVec F S96 .f32) : hFlag a5 a6 = (fun _ => 1#32) ∨ hFlag a5 a6 = (fun _ => 0#32) := by
  have e : ∀ y : S1.Idx, hFlag a5 a6 y = (flagBit a5 a6 (fun a => a.elim0)).setWidth 32 := fun y =>
    congrArg (fun z => (flagBit a5 a6 z).setWidth 32) (funext fun a => a.elim0)
  have hb : ∀ b : BitVec 1, b.setWidth 32 = 1#32 ∨ b.setWidth 32 = 0#32 := by decide
  rcases hb (flagBit a5 a6 (fun a => a.elim0)) with h | h
  · left; funext y; rw [e y, h]
  · right; funext y; rw [e y, h]

/-- The keys of a point's batch, as the scratch holds them. -/
def KTat (c : Dev nD) (t : Fin cfg0.N) : Vec F S8x4x128x1024 .bf16 :=
  KT (iblk m c 2 t) (iblk m c 3 t) (iblk m c 4 t) (iblk m c 6 t) (iblk m c 9 t)
/-- The values of a point's batch, as the scratch holds them. -/
def VSat (c : Dev nD) (t : Fin cfg0.N) : Vec F S8x4096x128 .bf16 := VS (iblk m c 2 t) (iblk m c 7 t) (iblk m c 10 t)

theorem KTat_eq (c : Dev nD) (t : Fin cfg0.N) : KTat m c t
    = KT (batch (V m c main_v69) ⟨t.val / 8, by have := N128 t; omega⟩) (batch (V m c main_v70) ⟨t.val / 8, by have := N128 t; omega⟩) (V m c main_v66) (V m c main_v8) (V m c main_v23) := by
  unfold KTat
  rw [← blk2, ← blk3, ← blk4 m c t, ← blk6 m c t, ← blk9 m c t]

theorem VSat_eq (c : Dev nD) (t : Fin cfg0.N) : VSat m c t
    = VS (batch (V m c main_v69) ⟨t.val / 8, by have := N128 t; omega⟩) (V m c main_v19) (V m c main_cst) := by
  unfold VSat
  rw [← blk2, ← blk7 m c t, ← blk10 m c t]

theorem KTat_congr (c : Dev nD) {t t' : Fin cfg0.N} (h : t.val / 8 = t'.val / 8) : KTat m c t = KTat m c t' := by
  rw [KTat_eq, KTat_eq]; simp only [h]
theorem VSat_congr (c : Dev nD) {t t' : Fin cfg0.N} (h : t.val / 8 = t'.val / 8) : VSat m c t = VSat m c t' := by
  rw [VSat_eq, VSat_eq]; simp only [h]

/-- The one word of the flag's array. -/
def flagIx : S1.Idx := Shape.Idx.first (numel1_S1.symm ▸ Nat.one_pos)
def flagWord (c : Dev nD) : BitVec 32 := (V m c main_v35 : IVec S1 32) flagIx

/-- The block a point leaves in the output's buffer. -/
def outAt (c : Dev nD) (t : Fin cfg0.N) : Vec F S1x512x512 .bf16 :=
  outOf (if flagWord m c = 1#32
    then accFast (Qb (iblk m c 1 t) (iblk m c 4 t) (iblk m c 5 t) (iblk m c 8 t) (iblk m c 11 t) (grid0.coords t 1)) (KTat m c t) (VSat m c t)
    else accSlow (Qb (iblk m c 1 t) (iblk m c 4 t) (iblk m c 5 t) (iblk m c 8 t) (iblk m c 11 t) (grid0.coords t 1)) (KTat m c t) (VSat m c t))

theorem outAt_one (c : Dev nD) (t : Fin cfg0.N) (h : (V m c main_v35 : IVec S1 32) = fun _ => 1#32) : outAt m c t
    = outOf (accFast (Qb (iblk m c 1 t) (iblk m c 4 t) (iblk m c 5 t) (iblk m c 8 t) (iblk m c 11 t) (grid0.coords t 1)) (KTat m c t) (VSat m c t)) := by
  unfold outAt flagWord; rw [if_pos (by rw [h])]

theorem outAt_zero (c : Dev nD) (t : Fin cfg0.N) (h : (V m c main_v35 : IVec S1 32) = fun _ => 0#32) : outAt m c t
    = outOf (accSlow (Qb (iblk m c 1 t) (iblk m c 4 t) (iblk m c 5 t) (iblk m c 8 t) (iblk m c 11 t) (grid0.coords t 1)) (KTat m c t) (VSat m c t)) := by
  unfold outAt flagWord; rw [if_neg (by rw [h]; exact (by decide : ¬ (0#32 : BitVec 32) = 1#32))]

theorem flag_word (c : Dev nD) (t : Fin cfg0.N) (b : BitVec 32) (h : (V m c main_v35 : IVec S1 32) = fun _ => b)
    (arg2 : Memref sig .tc .smem S1 .i32) (harg2 : arg2.IsWhole) :
    arg2.view.readAt (Elt F) (Rect.unit (s := S1) ![0] S1.size inb_S1_S1_0).toLoadRect (harg2.unread (iblk m c 0 t)) (Shape.Idx.first (numel1_S1.symm ▸ Nat.one_pos)) = b := by
  rw [View.readAt_eq_ld, harg2.read_unread, blk0 m c t, h]

end Cert.KI

end
-- ==== Proof.KI.Acc.lean ====
module

public import proofs.«01_k».proof.Proof.KI.Defs
public import Idealize.ShloMosaic.Lib.Pipeline.ValueKit.Basic

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Eight slabs stacked. -/
def asm {e : EltTy} (P : Fin 8 → Vec F S1x512x128 e) : Vec F S8x512x128 e := fun y => P (y 0) (ix3 0 (y 1) (y 2))

theorem inb_q (h : Fin 8) : ∀ a, (![h.val, 0, 0] : Fin 3 → ℕ) a + S1x512x128.size a ≤ S8x512x128.size a := by
  revert h; decide +kernel

theorem q_piece {e : EltTy} (P : Fin 8 → Vec F S1x512x128 e) (h : Fin 8)
    (inb : ∀ a, (![h.val, 0, 0] : Fin 3 → ℕ) a + S1x512x128.size a ≤ S8x512x128.size a) (w : Vec F S1x512x128 e) (hw : w = P h)
    (x : S1x512x128.Idx) : w x = asm P ((Rect.unit (s := S8x512x128) ![h.val, 0, 0] S1x512x128.size inb).emb x) := by
  subst hw
  have h0 : (x 0).val = 0 := Nat.lt_one_iff.1 (x 0).isLt
  have e0 : (Rect.unit (s := S8x512x128) ![h.val, 0, 0] S1x512x128.size inb).emb x 0 = h :=
    Fin.ext (by show h.val + 1 * (x 0).val = h.val; omega)
  have e1 : (Rect.unit (s := S8x512x128) ![h.val, 0, 0] S1x512x128.size inb).emb x 1 = x 1 :=
    Fin.ext (by show 0 + 1 * (x 1).val = (x 1).val; omega)
  have e2 : (Rect.unit (s := S8x512x128) ![h.val, 0, 0] S1x512x128.size inb).emb x 2 = x 2 :=
    Fin.ext (by show 0 + 1 * (x 2).val = (x 2).val; omega)
  unfold asm
  rw [e0, e1, e2]
  refine congrArg _ (funext fun a => Fin.ext ?_)
  fin_cases a
  · exact h0
  · rfl
  · rfl

theorem qS_asm {e : EltTy} (P : Fin 8 → Vec F S1x512x128 e) (h : Fin 8) : qS (asm P) h = P h :=
  funext fun x => (q_piece P h (inb_q h) (P h) rfl x).symm

theorem mem_q (h : Fin 8) (inb : ∀ a, (![h.val, 0, 0] : Fin 3 → ℕ) a + S1x512x128.size a ≤ S8x512x128.size a) (y : S8x512x128.Idx)
    (h0 : (y 0).val = h.val) : y ∈ (Rect.unit (s := S8x512x128) ![h.val, 0, 0] S1x512x128.size inb).set := by
  rw [Rect.mem_set_unit]
  intro a
  have h1 : (y 1).val < 512 := (y 1).isLt
  have h2 : (y 2).val < 128 := (y 2).isLt
  fin_cases a
  · exact ⟨le_of_eq h0.symm, by show (y 0).val < h.val + 1; omega⟩
  · exact ⟨Nat.zero_le _, by show (y 1).val < 0 + 512; omega⟩
  · exact ⟨Nat.zero_le _, by show (y 2).val < 0 + 128; omega⟩

/-- Eight stores of slabs, in order, leave the stack. -/
theorem read_stack {e : EltTy} {sp : Space} (v : View sig .tc sp S8x512x128 e) (f : v.ty.Contents (Elt F)) (P : Fin 8 → Vec F S1x512x128 e)
    (i0 : ∀ a, (![0, 0, 0] : Fin 3 → ℕ) a + S1x512x128.size a ≤ S8x512x128.size a)
    (i1 : ∀ a, (![1, 0, 0] : Fin 3 → ℕ) a + S1x512x128.size a ≤ S8x512x128.size a)
    (i2 : ∀ a, (![2, 0, 0] : Fin 3 → ℕ) a + S1x512x128.size a ≤ S8x512x128.size a)
    (i3 : ∀ a, (![3, 0, 0] : Fin 3 → ℕ) a + S1x512x128.size a ≤ S8x512x128.size a)
    (i4 : ∀ a, (![4, 0, 0] : Fin 3 → ℕ) a + S1x512x128.size a ≤ S8x512x128.size a)
    (i5 : ∀ a, (![5, 0, 0] : Fin 3 → ℕ) a + S1x512x128.size a ≤ S8x512x128.size a)
    (i6 : ∀ a, (![6, 0, 0] : Fin 3 → ℕ) a + S1x512x128.size a ≤ S8x512x128.size a)
    (i7 : ∀ a, (![7, 0, 0] : Fin 3 → ℕ) a + S1x512x128.size a ≤ S8x512x128.size a) :
    v.read (Elt F) (v.writes (Elt F) f
      [⟨Rect.unit (s := S8x512x128) ![7, 0, 0] S1x512x128.size i7, P 7⟩, ⟨Rect.unit (s := S8x512x128) ![6, 0, 0] S1x512x128.size i6, P 6⟩,
       ⟨Rect.unit (s := S8x512x128) ![5, 0, 0] S1x512x128.size i5, P 5⟩, ⟨Rect.unit (s := S8x512x128) ![4, 0, 0] S1x512x128.size i4, P 4⟩,
       ⟨Rect.unit (s := S8x512x128) ![3, 0, 0] S1x512x128.size i3, P 3⟩, ⟨Rect.unit (s := S8x512x128) ![2, 0, 0] S1x512x128.size i2, P 2⟩,
       ⟨Rect.unit (s := S8x512x128) ![1, 0, 0] S1x512x128.size i1, P 1⟩, ⟨Rect.unit (s := S8x512x128) ![0, 0, 0] S1x512x128.size i0, P 0⟩]) = asm P := by
  funext y
  refine View.read_writes_apply_of_pieces v f _ _ ?_ y ?_
  · intro p hp
    simp only [List.mem_cons, List.not_mem_nil, or_false] at hp
    rcases hp with rfl | hp
    · exact q_piece P 7 i7 _ rfl
    rcases hp with rfl | hp
    · exact q_piece P 6 i6 _ rfl
    rcases hp with rfl | hp
    · exact q_piece P 5 i5 _ rfl
    rcases hp with rfl | hp
    · exact q_piece P 4 i4 _ rfl
    rcases hp with rfl | hp
    · exact q_piece P 3 i3 _ rfl
    rcases hp with rfl | hp
    · exact q_piece P 2 i2 _ rfl
    rcases hp with rfl | hp
    · exact q_piece P 1 i1 _ rfl
    subst hp
    · exact q_piece P 0 i0 _ rfl
  · have h8 : (y 0).val < 8 := (y 0).isLt
    obtain h | h | h | h | h | h | h | h : (y 0).val = 0 ∨ (y 0).val = 1 ∨ (y 0).val = 2 ∨ (y 0).val = 3 ∨ (y 0).val = 4 ∨ (y 0).val = 5 ∨ (y 0).val = 6 ∨ (y 0).val = 7 := by omega
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_q 0 i0 y h⟩
    · exact ⟨_, (List.mem_cons_of_mem _ (List.mem_cons_of_mem _ (List.mem_cons_of_mem _ (List.mem_cons_of_mem _ (List.mem_cons_of_mem _ (List.mem_cons_of_mem _ List.mem_cons_self)))))), mem_q 1 i1 y h⟩
    · exact ⟨_, (List.mem_cons_of_mem _ (List.mem_cons_of_mem _ (List.mem_cons_of_mem _ (List.mem_cons_of_mem _ (List.mem_cons_of_mem _ List.mem_cons_self))))), mem_q 2 i2 y h⟩
    · exact ⟨_, (List.mem_cons_of_mem _ (List.mem_cons_of_mem _ (List.mem_cons_of_mem _ (List.mem_cons_of_mem _ List.mem_cons_self)))), mem_q 3 i3 y h⟩
    · exact ⟨_, (List.mem_cons_of_mem _ (List.mem_cons_of_mem _ (List.mem_cons_of_mem _ List.mem_cons_self))), mem_q 4 i4 y h⟩
    · exact ⟨_, (List.mem_cons_of_mem _ (List.mem_cons_of_mem _ List.mem_cons_self)), mem_q 5 i5 y h⟩
    · exact ⟨_, (List.mem_cons_of_mem _ List.mem_cons_self), mem_q 6 i6 y h⟩
    · exact ⟨_, List.mem_cons_self, mem_q 7 i7 y h⟩

theorem inb_kt' {off : Fin 4 → ℕ} {h : Fin 8} {k : Fin 4} (ho : off = ![h.val, k.val, 0, 0]) : ∀ a, off a + S1x1x128x1024.size a ≤ S8x4x128x1024.size a := by
  subst ho; revert h k; decide +kernel

theorem inb_vs' {off : Fin 3 → ℕ} {h : Fin 8} {k : Fin 4} (ho : off = ![h.val, 1024 * k.val, 0]) : ∀ a, off a + S1x1024x128.size a ≤ S8x4096x128.size a := by
  subst ho; revert h k; decide +kernel

theorem t2_lt (k : Fin k0_t2_loop.trips) : k.val < 4 := Nat.lt_of_lt_of_le k.isLt k0_t2_abs.2.1
theorem t2_trips : k0_t2_loop.trips = 4 := by decide +kernel

section
variable (𝒱 : Variants) (c : Dev nD) (bd : Option 𝒱.V) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole)
  (X_arg15 : BufTy.Contents (Elt F) arg15.view.ty) (X_arg16 : BufTy.Contents (Elt F) arg16.view.ty) (X_arg17 : BufTy.Contents (Elt F) arg17.view.ty)

theorem acc_read (f : BufTy.Contents (Elt F) arg18.view.ty) (h : Fin 8) (k : Fin 4) {o : Fin 4 → ℕ} {o' : Fin 3 → ℕ} (ho : o = ![h.val, k.val, 0, 0]) (ho' : o' = ![h.val, 1024 * k.val, 0])
    (i1 : ∀ a, (![h.val, 0, 0] : Fin 3 → ℕ) a + S1x512x128.size a ≤ S8x512x128.size a) (i2 : ∀ a, o a + S1x1x128x1024.size a ≤ S8x4x128x1024.size a)
    (i3 : ∀ a, o' a + S1x1024x128.size a ≤ S8x4096x128.size a) :
    k0_pay36 (arg17.view.readAt (Elt F) (Rect.unit (s := S8x512x128) ![h.val, 0, 0] S1x512x128.size i1).toLoadRect X_arg17)
      (arg15.view.readAt (Elt F) (Rect.unit (s := S8x4x128x1024) o S1x1x128x1024.size i2).toLoadRect X_arg15)
      (arg18.view.readAt (Elt F) (Rect.unit (s := S8x512x128) ![h.val, 0, 0] S1x512x128.size i1).toLoadRect f)
      (arg16.view.readAt (Elt F) (Rect.unit (s := S8x4096x128) o' S1x1024x128.size i3).toLoadRect X_arg16)
    = k0_pay36 (qS (arg17.view.read (Elt F) X_arg17) h) (ktS (arg15.view.read (Elt F) X_arg15) h k) (qS (arg18.view.read (Elt F) f) h) (vS (arg16.view.read (Elt F) X_arg16) h k) := by
  subst ho; subst ho'; rfl

theorem trip18 (v0 : IVec S1x128 32) (k : Fin k0_t2_loop.trips) (f : BufTy.Contents (Elt F) arg18.view.ty) (g : BufTy.Contents (Elt F) arg18.view.ty) :
    arg18.view.read (Elt F) (arg18.view.writes (Elt F) g (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 X_arg15 X_arg16 X_arg17 k f))
      = asm fun h => k0_pay36 (qS (arg17.view.read (Elt F) X_arg17) h) (ktS (arg15.view.read (Elt F) X_arg15) h ⟨k.val, t2_lt k⟩) (qS (arg18.view.read (Elt F) f) h) (vS (arg16.view.read (Elt F) X_arg16) h ⟨k.val, t2_lt k⟩) := by
  have e0 := acc_read (F := F) (arg15 := arg15) (arg16 := arg16) (arg17 := arg17) (arg18 := arg18) (X_arg15 := X_arg15) (X_arg16 := X_arg16) (X_arg17 := X_arg17) (f := f) (h := (0 : Fin 8)) (k := ⟨k.val, t2_lt k⟩) (ho := k0_off22_eq k) (ho' := k0_off23_eq k) (i1 := inb_q _) (i2 := inb_kt' (h := (0 : Fin 8)) (k := ⟨k.val, t2_lt k⟩) (k0_off22_eq k)) (i3 := inb_vs' (h := (0 : Fin 8)) (k := ⟨k.val, t2_lt k⟩) (k0_off23_eq k))
  have e1 := acc_read (F := F) (arg15 := arg15) (arg16 := arg16) (arg17 := arg17) (arg18 := arg18) (X_arg15 := X_arg15) (X_arg16 := X_arg16) (X_arg17 := X_arg17) (f := f) (h := (1 : Fin 8)) (k := ⟨k.val, t2_lt k⟩) (ho := k0_off24_eq k) (ho' := k0_off25_eq k) (i1 := inb_q _) (i2 := inb_kt' (h := (1 : Fin 8)) (k := ⟨k.val, t2_lt k⟩) (k0_off24_eq k)) (i3 := inb_vs' (h := (1 : Fin 8)) (k := ⟨k.val, t2_lt k⟩) (k0_off25_eq k))
  have e2 := acc_read (F := F) (arg15 := arg15) (arg16 := arg16) (arg17 := arg17) (arg18 := arg18) (X_arg15 := X_arg15) (X_arg16 := X_arg16) (X_arg17 := X_arg17) (f := f) (h := (2 : Fin 8)) (k := ⟨k.val, t2_lt k⟩) (ho := k0_off26_eq k) (ho' := k0_off27_eq k) (i1 := inb_q _) (i2 := inb_kt' (h := (2 : Fin 8)) (k := ⟨k.val, t2_lt k⟩) (k0_off26_eq k)) (i3 := inb_vs' (h := (2 : Fin 8)) (k := ⟨k.val, t2_lt k⟩) (k0_off27_eq k))
  have e3 := acc_read (F := F) (arg15 := arg15) (arg16 := arg16) (arg17 := arg17) (arg18 := arg18) (X_arg15 := X_arg15) (X_arg16 := X_arg16) (X_arg17 := X_arg17) (f := f) (h := (3 : Fin 8)) (k := ⟨k.val, t2_lt k⟩) (ho := k0_off28_eq k) (ho' := k0_off29_eq k) (i1 := inb_q _) (i2 := inb_kt' (h := (3 : Fin 8)) (k := ⟨k.val, t2_lt k⟩) (k0_off28_eq k)) (i3 := inb_vs' (h := (3 : Fin 8)) (k := ⟨k.val, t2_lt k⟩) (k0_off29_eq k))
  have e4 := acc_read (F := F) (arg15 := arg15) (arg16 := arg16) (arg17 := arg17) (arg18 := arg18) (X_arg15 := X_arg15) (X_arg16 := X_arg16) (X_arg17 := X_arg17) (f := f) (h := (4 : Fin 8)) (k := ⟨k.val, t2_lt k⟩) (ho := k0_off30_eq k) (ho' := k0_off31_eq k) (i1 := inb_q _) (i2 := inb_kt' (h := (4 : Fin 8)) (k := ⟨k.val, t2_lt k⟩) (k0_off30_eq k)) (i3 := inb_vs' (h := (4 : Fin 8)) (k := ⟨k.val, t2_lt k⟩) (k0_off31_eq k))
  have e5 := acc_read (F := F) (arg15 := arg15) (arg16 := arg16) (arg17 := arg17) (arg18 := arg18) (X_arg15 := X_arg15) (X_arg16 := X_arg16) (X_arg17 := X_arg17) (f := f) (h := (5 : Fin 8)) (k := ⟨k.val, t2_lt k⟩) (ho := k0_off32_eq k) (ho' := k0_off33_eq k) (i1 := inb_q _) (i2 := inb_kt' (h := (5 : Fin 8)) (k := ⟨k.val, t2_lt k⟩) (k0_off32_eq k)) (i3 := inb_vs' (h := (5 : Fin 8)) (k := ⟨k.val, t2_lt k⟩) (k0_off33_eq k))
  have e6 := acc_read (F := F) (arg15 := arg15) (arg16 := arg16) (arg17 := arg17) (arg18 := arg18) (X_arg15 := X_arg15) (X_arg16 := X_arg16) (X_arg17 := X_arg17) (f := f) (h := (6 : Fin 8)) (k := ⟨k.val, t2_lt k⟩) (ho := k0_off34_eq k) (ho' := k0_off35_eq k) (i1 := inb_q _) (i2 := inb_kt' (h := (6 : Fin 8)) (k := ⟨k.val, t2_lt k⟩) (k0_off34_eq k)) (i3 := inb_vs' (h := (6 : Fin 8)) (k := ⟨k.val, t2_lt k⟩) (k0_off35_eq k))
  have e7 := acc_read (F := F) (arg15 := arg15) (arg16 := arg16) (arg17 := arg17) (arg18 := arg18) (X_arg15 := X_arg15) (X_arg16 := X_arg16) (X_arg17 := X_arg17) (f := f) (h := (7 : Fin 8)) (k := ⟨k.val, t2_lt k⟩) (ho := k0_off36_eq k) (ho' := k0_off37_eq k) (i1 := inb_q _) (i2 := inb_kt' (h := (7 : Fin 8)) (k := ⟨k.val, t2_lt k⟩) (k0_off36_eq k)) (i3 := inb_vs' (h := (7 : Fin 8)) (k := ⟨k.val, t2_lt k⟩) (k0_off37_eq k))
  rw [← read_stack arg18.view g _ (inb_q 0) (inb_q 1) (inb_q 2) (inb_q 3) (inb_q 4) (inb_q 5) (inb_q 6) (inb_q 7)]
  dsimp only
  rw [← e0, ← e1, ← e2, ← e3, ← e4, ← e5, ← e6, ← e7]
  dsimp only [tripL_k0_t2]
  unfold trip_k0_t2
  rfl

theorem acc18 (v0 : IVec S1x128 32) (G : BufTy.Contents (Elt F) arg18.view.ty) (hG : arg18.view.read (Elt F) G = asm fun _ => accZ) : ∀ n, n ≤ k0_t2_loop.trips →
    arg18.view.read (Elt F) (arg18.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 X_arg15 X_arg16 X_arg17 G n)) = asm fun h => accF (qS (arg17.view.read (Elt F) X_arg17) h) (ktS (arg15.view.read (Elt F) X_arg15) h) (vS (arg16.view.read (Elt F) X_arg16) h) n
  | 0, _ => hG
  | n + 1, hn => by
    have hn4 : n < 4 := lt_of_lt_of_eq (show n < k0_t2_loop.trips from hn) t2_trips
    rw [pb_k0_t2_succ (k := ⟨n, hn⟩), View.writes_append, trip18, acc18 v0 G hG n (Nat.le_of_succ_le hn)]
    refine congrArg asm (funext fun h => ?_)
    rw [qS_asm, accF, dif_pos hn4]

theorem st_read (h : Fin 8) (k : Fin 4) {o : Fin 4 → ℕ} {o' : Fin 3 → ℕ} (ho : o = ![h.val, k.val, 0, 0]) (ho' : o' = ![h.val, 1024 * k.val, 0])
    (a : FVec F S512x1 .f32 × FVec F S512x128 .f32)
    (i1 : ∀ a, (![h.val, 0, 0] : Fin 3 → ℕ) a + S1x512x128.size a ≤ S8x512x128.size a) (i2 : ∀ a, o a + S1x1x128x1024.size a ≤ S8x4x128x1024.size a)
    (i3 : ∀ a, o' a + S1x1024x128.size a ≤ S8x4096x128.size a) :
    ((k0_pay60 a.1 (arg17.view.readAt (Elt F) (Rect.unit (s := S8x512x128) ![h.val, 0, 0] S1x512x128.size i1).toLoadRect X_arg17)
      (arg15.view.readAt (Elt F) (Rect.unit (s := S8x4x128x1024) o S1x1x128x1024.size i2).toLoadRect X_arg15),
     k0_pay61 a.1 a.2 (arg17.view.readAt (Elt F) (Rect.unit (s := S8x512x128) ![h.val, 0, 0] S1x512x128.size i1).toLoadRect X_arg17)
      (arg15.view.readAt (Elt F) (Rect.unit (s := S8x4x128x1024) o S1x1x128x1024.size i2).toLoadRect X_arg15)
      (arg16.view.readAt (Elt F) (Rect.unit (s := S8x4096x128) o' S1x1024x128.size i3).toLoadRect X_arg16)) : FVec F S512x1 .f32 × FVec F S512x128 .f32)
    = (k0_pay60 a.1 (qS (arg17.view.read (Elt F) X_arg17) h) (ktS (arg15.view.read (Elt F) X_arg15) h k), k0_pay61 a.1 a.2 (qS (arg17.view.read (Elt F) X_arg17) h) (ktS (arg15.view.read (Elt F) X_arg15) h k) (vS (arg16.view.read (Elt F) X_arg16) h k)) := by
  subst ho; subst ho'; rfl

theorem slow3  : ∀ n, n ≤ k0_t3_loop.trips →
    st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X_arg15 X_arg16 X_arg17 (k0_pay57, k0_pay58) n = stS (qS (arg17.view.read (Elt F) X_arg17) 0) (ktS (arg15.view.read (Elt F) X_arg15) 0) (vS (arg16.view.read (Elt F) X_arg16) 0) n
  | 0, _ => rfl
  | n + 1, hn => by
    have hn4 : n < 4 := lt_of_lt_of_le (show n < k0_t3_loop.trips from hn) k0_t3_abs.2.1
    rw [st_k0_t3_succ (k := ⟨n, hn⟩), slow3  n (Nat.le_of_succ_le hn), stS, dif_pos hn4,
      ← st_read (F := F) (arg15 := arg15) (arg16 := arg16) (arg17 := arg17) (X_arg15 := X_arg15) (X_arg16 := X_arg16) (X_arg17 := X_arg17) (h := (0 : Fin 8)) (k := ⟨n, hn4⟩) (ho := k0_off38_eq ⟨n, hn⟩) (ho' := k0_off39_eq ⟨n, hn⟩) (i1 := inb_q _) (i2 := inb_kt' (h := (0 : Fin 8)) (k := ⟨n, hn4⟩) (k0_off38_eq ⟨n, hn⟩)) (i3 := inb_vs' (h := (0 : Fin 8)) (k := ⟨n, hn4⟩) (k0_off39_eq ⟨n, hn⟩))]
    dsimp only [tripR_k0_t3]
    unfold trip_k0_t3
    rfl

theorem slow4  : ∀ n, n ≤ k0_t4_loop.trips →
    st_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X_arg15 X_arg16 X_arg17 (k0_pay57, k0_pay58) n = stS (qS (arg17.view.read (Elt F) X_arg17) 1) (ktS (arg15.view.read (Elt F) X_arg15) 1) (vS (arg16.view.read (Elt F) X_arg16) 1) n
  | 0, _ => rfl
  | n + 1, hn => by
    have hn4 : n < 4 := lt_of_lt_of_le (show n < k0_t4_loop.trips from hn) k0_t4_abs.2.1
    rw [st_k0_t4_succ (k := ⟨n, hn⟩), slow4  n (Nat.le_of_succ_le hn), stS, dif_pos hn4,
      ← st_read (F := F) (arg15 := arg15) (arg16 := arg16) (arg17 := arg17) (X_arg15 := X_arg15) (X_arg16 := X_arg16) (X_arg17 := X_arg17) (h := (1 : Fin 8)) (k := ⟨n, hn4⟩) (ho := k0_off40_eq ⟨n, hn⟩) (ho' := k0_off41_eq ⟨n, hn⟩) (i1 := inb_q _) (i2 := inb_kt' (h := (1 : Fin 8)) (k := ⟨n, hn4⟩) (k0_off40_eq ⟨n, hn⟩)) (i3 := inb_vs' (h := (1 : Fin 8)) (k := ⟨n, hn4⟩) (k0_off41_eq ⟨n, hn⟩))]
    dsimp only [tripR_k0_t4]
    unfold trip_k0_t4
    rfl

theorem slow5  : ∀ n, n ≤ k0_t5_loop.trips →
    st_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X_arg15 X_arg16 X_arg17 (k0_pay57, k0_pay58) n = stS (qS (arg17.view.read (Elt F) X_arg17) 2) (ktS (arg15.view.read (Elt F) X_arg15) 2) (vS (arg16.view.read (Elt F) X_arg16) 2) n
  | 0, _ => rfl
  | n + 1, hn => by
    have hn4 : n < 4 := lt_of_lt_of_le (show n < k0_t5_loop.trips from hn) k0_t5_abs.2.1
    rw [st_k0_t5_succ (k := ⟨n, hn⟩), slow5  n (Nat.le_of_succ_le hn), stS, dif_pos hn4,
      ← st_read (F := F) (arg15 := arg15) (arg16 := arg16) (arg17 := arg17) (X_arg15 := X_arg15) (X_arg16 := X_arg16) (X_arg17 := X_arg17) (h := (2 : Fin 8)) (k := ⟨n, hn4⟩) (ho := k0_off42_eq ⟨n, hn⟩) (ho' := k0_off43_eq ⟨n, hn⟩) (i1 := inb_q _) (i2 := inb_kt' (h := (2 : Fin 8)) (k := ⟨n, hn4⟩) (k0_off42_eq ⟨n, hn⟩)) (i3 := inb_vs' (h := (2 : Fin 8)) (k := ⟨n, hn4⟩) (k0_off43_eq ⟨n, hn⟩))]
    dsimp only [tripR_k0_t5]
    unfold trip_k0_t5
    rfl

theorem slow6  : ∀ n, n ≤ k0_t6_loop.trips →
    st_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  X_arg15 X_arg16 X_arg17 (k0_pay57, k0_pay58) n = stS (qS (arg17.view.read (Elt F) X_arg17) 3) (ktS (arg15.view.read (Elt F) X_arg15) 3) (vS (arg16.view.read (Elt F) X_arg16) 3) n
  | 0, _ => rfl
  | n + 1, hn => by
    have hn4 : n < 4 := lt_of_lt_of_le (show n < k0_t6_loop.trips from hn) k0_t6_abs.2.1
    rw [st_k0_t6_succ (k := ⟨n, hn⟩), slow6  n (Nat.le_of_succ_le hn), stS, dif_pos hn4,
      ← st_read (F := F) (arg15 := arg15) (arg16 := arg16) (arg17 := arg17) (X_arg15 := X_arg15) (X_arg16 := X_arg16) (X_arg17 := X_arg17) (h := (3 : Fin 8)) (k := ⟨n, hn4⟩) (ho := k0_off44_eq ⟨n, hn⟩) (ho' := k0_off45_eq ⟨n, hn⟩) (i1 := inb_q _) (i2 := inb_kt' (h := (3 : Fin 8)) (k := ⟨n, hn4⟩) (k0_off44_eq ⟨n, hn⟩)) (i3 := inb_vs' (h := (3 : Fin 8)) (k := ⟨n, hn4⟩) (k0_off45_eq ⟨n, hn⟩))]
    dsimp only [tripR_k0_t6]
    unfold trip_k0_t6
    rfl

theorem slow7 (v313_1 : FVec F S512x128 .f32) : ∀ n, n ≤ k0_t7_loop.trips →
    st_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v313_1 X_arg15 X_arg16 X_arg17 (k0_pay57, k0_pay58) n = stS (qS (arg17.view.read (Elt F) X_arg17) 4) (ktS (arg15.view.read (Elt F) X_arg15) 4) (vS (arg16.view.read (Elt F) X_arg16) 4) n
  | 0, _ => rfl
  | n + 1, hn => by
    have hn4 : n < 4 := lt_of_lt_of_le (show n < k0_t7_loop.trips from hn) k0_t7_abs.2.1
    rw [st_k0_t7_succ (k := ⟨n, hn⟩), slow7 v313_1 n (Nat.le_of_succ_le hn), stS, dif_pos hn4,
      ← st_read (F := F) (arg15 := arg15) (arg16 := arg16) (arg17 := arg17) (X_arg15 := X_arg15) (X_arg16 := X_arg16) (X_arg17 := X_arg17) (h := (4 : Fin 8)) (k := ⟨n, hn4⟩) (ho := k0_off46_eq ⟨n, hn⟩) (ho' := k0_off47_eq ⟨n, hn⟩) (i1 := inb_q _) (i2 := inb_kt' (h := (4 : Fin 8)) (k := ⟨n, hn4⟩) (k0_off46_eq ⟨n, hn⟩)) (i3 := inb_vs' (h := (4 : Fin 8)) (k := ⟨n, hn4⟩) (k0_off47_eq ⟨n, hn⟩))]
    dsimp only [tripR_k0_t7]
    unfold trip_k0_t7
    rfl

theorem slow8 (v313_1 : FVec F S512x128 .f32) : ∀ n, n ≤ k0_t8_loop.trips →
    st_k0_t8 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v313_1 X_arg15 X_arg16 X_arg17 (k0_pay57, k0_pay58) n = stS (qS (arg17.view.read (Elt F) X_arg17) 5) (ktS (arg15.view.read (Elt F) X_arg15) 5) (vS (arg16.view.read (Elt F) X_arg16) 5) n
  | 0, _ => rfl
  | n + 1, hn => by
    have hn4 : n < 4 := lt_of_lt_of_le (show n < k0_t8_loop.trips from hn) k0_t8_abs.2.1
    rw [st_k0_t8_succ (k := ⟨n, hn⟩), slow8 v313_1 n (Nat.le_of_succ_le hn), stS, dif_pos hn4,
      ← st_read (F := F) (arg15 := arg15) (arg16 := arg16) (arg17 := arg17) (X_arg15 := X_arg15) (X_arg16 := X_arg16) (X_arg17 := X_arg17) (h := (5 : Fin 8)) (k := ⟨n, hn4⟩) (ho := k0_off48_eq ⟨n, hn⟩) (ho' := k0_off49_eq ⟨n, hn⟩) (i1 := inb_q _) (i2 := inb_kt' (h := (5 : Fin 8)) (k := ⟨n, hn4⟩) (k0_off48_eq ⟨n, hn⟩)) (i3 := inb_vs' (h := (5 : Fin 8)) (k := ⟨n, hn4⟩) (k0_off49_eq ⟨n, hn⟩))]
    dsimp only [tripR_k0_t8]
    unfold trip_k0_t8
    rfl

theorem slow9 (v313_1 : FVec F S512x128 .f32) : ∀ n, n ≤ k0_t9_loop.trips →
    st_k0_t9 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v313_1 X_arg15 X_arg16 X_arg17 (k0_pay57, k0_pay58) n = stS (qS (arg17.view.read (Elt F) X_arg17) 6) (ktS (arg15.view.read (Elt F) X_arg15) 6) (vS (arg16.view.read (Elt F) X_arg16) 6) n
  | 0, _ => rfl
  | n + 1, hn => by
    have hn4 : n < 4 := lt_of_lt_of_le (show n < k0_t9_loop.trips from hn) k0_t9_abs.2.1
    rw [st_k0_t9_succ (k := ⟨n, hn⟩), slow9 v313_1 n (Nat.le_of_succ_le hn), stS, dif_pos hn4,
      ← st_read (F := F) (arg15 := arg15) (arg16 := arg16) (arg17 := arg17) (X_arg15 := X_arg15) (X_arg16 := X_arg16) (X_arg17 := X_arg17) (h := (6 : Fin 8)) (k := ⟨n, hn4⟩) (ho := k0_off50_eq ⟨n, hn⟩) (ho' := k0_off51_eq ⟨n, hn⟩) (i1 := inb_q _) (i2 := inb_kt' (h := (6 : Fin 8)) (k := ⟨n, hn4⟩) (k0_off50_eq ⟨n, hn⟩)) (i3 := inb_vs' (h := (6 : Fin 8)) (k := ⟨n, hn4⟩) (k0_off51_eq ⟨n, hn⟩))]
    dsimp only [tripR_k0_t9]
    unfold trip_k0_t9
    rfl

theorem slow10 (v0 : IVec S1x128 32) (cst_198 : F .f32) : ∀ n, n ≤ k0_t10_loop.trips →
    st_k0_t10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 cst_198 X_arg15 X_arg16 X_arg17 (k0_pay57, k0_pay58) n = stS (qS (arg17.view.read (Elt F) X_arg17) 7) (ktS (arg15.view.read (Elt F) X_arg15) 7) (vS (arg16.view.read (Elt F) X_arg16) 7) n
  | 0, _ => rfl
  | n + 1, hn => by
    have hn4 : n < 4 := lt_of_lt_of_le (show n < k0_t10_loop.trips from hn) k0_t10_abs.2.1
    rw [st_k0_t10_succ (k := ⟨n, hn⟩), slow10 v0 cst_198 n (Nat.le_of_succ_le hn), stS, dif_pos hn4,
      ← st_read (F := F) (arg15 := arg15) (arg16 := arg16) (arg17 := arg17) (X_arg15 := X_arg15) (X_arg16 := X_arg16) (X_arg17 := X_arg17) (h := (7 : Fin 8)) (k := ⟨n, hn4⟩) (ho := k0_off52_eq ⟨n, hn⟩) (ho' := k0_off53_eq ⟨n, hn⟩) (i1 := inb_q _) (i2 := inb_kt' (h := (7 : Fin 8)) (k := ⟨n, hn4⟩) (k0_off52_eq ⟨n, hn⟩)) (i3 := inb_vs' (h := (7 : Fin 8)) (k := ⟨n, hn4⟩) (k0_off53_eq ⟨n, hn⟩))]
    dsimp only [tripR_k0_t10]
    unfold trip_k0_t10
    rfl

end

end Cert.KI
-- ==== Proof.KI.Fill.lean ====
module

public import proofs.«01_k».proof.Proof.KI.Defs
public import Idealize.ShloMosaic.Lib.Pipeline.ValueKit.Basic

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem t1_lt (k : Fin k0_t1_loop.trips) : k.val < 4 := Nat.lt_of_lt_of_le k.isLt k0_t1_abs.2.1

theorem t1_trips : k0_t1_loop.trips = 4 := by decide +kernel

theorem inb_kt {off : Fin 4 → ℕ} {h : Fin 8} {k : Fin 4} (ho : off = ![h.val, k.val, 0, 0]) : ∀ a, off a + S1x1x128x1024.size a ≤ S8x4x128x1024.size a := by
  subst ho; revert h k; decide +kernel

theorem inb_vs {off : Fin 3 → ℕ} {h : Fin 8} {k : Fin 4} (ho : off = ![h.val, 1024 * k.val, 0]) : ∀ a, off a + S1x1024x128.size a ≤ S8x4096x128.size a := by
  subst ho; revert h k; decide +kernel

theorem mem_kt {off : Fin 4 → ℕ} {h : Fin 8} {k : Fin 4} (ho : off = ![h.val, k.val, 0, 0])
    (inb : ∀ a, off a + S1x1x128x1024.size a ≤ S8x4x128x1024.size a) (y : S8x4x128x1024.Idx) (h0 : (y 0).val = h.val) (h1 : (y 1).val = k.val) :
    y ∈ (Rect.unit (s := S8x4x128x1024) off S1x1x128x1024.size inb).set := by
  subst ho
  rw [Rect.mem_set_unit]
  intro a
  have h2 : (y 2).val < 128 := (y 2).isLt
  have h3 : (y 3).val < 1024 := (y 3).isLt
  fin_cases a
  · exact ⟨le_of_eq h0.symm, by show (y 0).val < h.val + 1; omega⟩
  · exact ⟨le_of_eq h1.symm, by show (y 1).val < k.val + 1; omega⟩
  · exact ⟨Nat.zero_le _, by show (y 2).val < 0 + 128; omega⟩
  · exact ⟨Nat.zero_le _, by show (y 3).val < 0 + 1024; omega⟩

theorem mem_vs {off : Fin 3 → ℕ} {h : Fin 8} {k : Fin 4} (ho : off = ![h.val, 1024 * k.val, 0])
    (inb : ∀ a, off a + S1x1024x128.size a ≤ S8x4096x128.size a) (y : S8x4096x128.Idx) (h0 : (y 0).val = h.val) (h1 : (y 1).val / 1024 = k.val) :
    y ∈ (Rect.unit (s := S8x4096x128) off S1x1024x128.size inb).set := by
  subst ho
  rw [Rect.mem_set_unit]
  intro a
  have h2 : (y 2).val < 128 := (y 2).isLt
  fin_cases a
  · exact ⟨le_of_eq h0.symm, by show (y 0).val < h.val + 1; omega⟩
  · exact ⟨by show 1024 * k.val ≤ (y 1).val; omega, by show (y 1).val < 1024 * k.val + 1024; omega⟩
  · exact ⟨Nat.zero_le _, by show (y 2).val < 0 + 128; omega⟩

theorem kt_piece (x2 x3 : Vec F S1x4096x128 .bf16) (x4 : Vec F S2x4096x128 .f32) (x6 : Vec F S8x128x128 .bf16) (x9 : Vec F S1x128 .f32)
    {off : Fin 4 → ℕ} (h : Fin 8) (k : Fin 4) (ho : off = ![h.val, k.val, 0, 0])
    (inb : ∀ a, off a + S1x1x128x1024.size a ≤ S8x4x128x1024.size a) (w : Vec F S1x1x128x1024 .bf16) (hw : w = KTb x2 x3 x4 x6 x9 h k)
    (x : S1x1x128x1024.Idx) :
    w x = KT x2 x3 x4 x6 x9 ((Rect.unit (s := S8x4x128x1024) off S1x1x128x1024.size inb).emb x) := by
  subst ho; subst hw
  have h0 : (x 0).val = 0 := Nat.lt_one_iff.1 (x 0).isLt
  have h1 : (x 1).val = 0 := Nat.lt_one_iff.1 (x 1).isLt
  have e0 : (Rect.unit (s := S8x4x128x1024) ![h.val, k.val, 0, 0] S1x1x128x1024.size inb).emb x 0 = h :=
    Fin.ext (by show h.val + 1 * (x 0).val = h.val; omega)
  have e1 : (Rect.unit (s := S8x4x128x1024) ![h.val, k.val, 0, 0] S1x1x128x1024.size inb).emb x 1 = k :=
    Fin.ext (by show k.val + 1 * (x 1).val = k.val; omega)
  have e2 : (Rect.unit (s := S8x4x128x1024) ![h.val, k.val, 0, 0] S1x1x128x1024.size inb).emb x 2 = x 2 :=
    Fin.ext (by show 0 + 1 * (x 2).val = (x 2).val; omega)
  have e3 : (Rect.unit (s := S8x4x128x1024) ![h.val, k.val, 0, 0] S1x1x128x1024.size inb).emb x 3 = x 3 :=
    Fin.ext (by show 0 + 1 * (x 3).val = (x 3).val; omega)
  unfold KT
  rw [e0, e1, e2, e3]
  refine congrArg _ (funext fun a => Fin.ext ?_)
  fin_cases a
  · exact h0
  · exact h1
  · rfl
  · rfl

theorem vs_piece (x2 : Vec F S1x4096x128 .bf16) (x7 : Vec F S8x128x128 .bf16) (x10 : Vec F S8x1x128 .f32)
    {off : Fin 3 → ℕ} (h : Fin 8) (k : Fin 4) (ho : off = ![h.val, 1024 * k.val, 0])
    (inb : ∀ a, off a + S1x1024x128.size a ≤ S8x4096x128.size a) (w : Vec F S1x1024x128 .bf16) (hw : w = VSb x2 x7 x10 h k)
    (x : S1x1024x128.Idx) :
    w x = VS x2 x7 x10 ((Rect.unit (s := S8x4096x128) off S1x1024x128.size inb).emb x) := by
  subst ho; subst hw
  have h0 : (x 0).val = 0 := Nat.lt_one_iff.1 (x 0).isLt
  have h1 : (x 1).val < 1024 := (x 1).isLt
  have e0 : (Rect.unit (s := S8x4096x128) ![h.val, 1024 * k.val, 0] S1x1024x128.size inb).emb x 0 = h :=
    Fin.ext (by show h.val + 1 * (x 0).val = h.val; omega)
  have e1 : ((Rect.unit (s := S8x4096x128) ![h.val, 1024 * k.val, 0] S1x1024x128.size inb).emb x 1).val = 1024 * k.val + (x 1).val := by
    show 1024 * k.val + 1 * (x 1).val = _; omega
  have e2 : (Rect.unit (s := S8x4096x128) ![h.val, 1024 * k.val, 0] S1x1024x128.size inb).emb x 2 = x 2 :=
    Fin.ext (by show 0 + 1 * (x 2).val = (x 2).val; omega)
  unfold VS
  rw [e0, e2]
  have ek : (⟨((Rect.unit (s := S8x4096x128) ![h.val, 1024 * k.val, 0] S1x1024x128.size inb).emb x 1).val / 1024, by rw [e1]; omega⟩ : Fin 4) = k :=
    Fin.ext (by show ((Rect.unit (s := S8x4096x128) ![h.val, 1024 * k.val, 0] S1x1024x128.size inb).emb x 1).val / 1024 = k.val; rw [e1]; omega)
  rw [ek]
  refine congrArg _ (funext fun a => Fin.ext ?_)
  fin_cases a
  · exact h0
  · show (x 1).val = ((Rect.unit (s := S8x4096x128) ![h.val, 1024 * k.val, 0] S1x1024x128.size inb).emb x 1).val % 1024
    rw [e1]; omega
  · rfl

section
variable (𝒱 : Variants) (c : Dev nD) (bd : Option 𝒱.V) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole)
  (k0_h1 : k0_cond1 i = 1#1) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg9 : BufTy.Contents (Elt F) arg9.view.ty) (X_arg11 : BufTy.Contents (Elt F) arg11.view.ty) (X_arg12 : BufTy.Contents (Elt F) arg12.view.ty)

theorem ktb_read (h : Fin 8) (k : Fin 4) {o1 o2 o3 : Fin 3 → ℕ} (ho1 : o1 = ![0, 1024 * k.val, 0]) (ho2 : o2 = ![0, 1024 * k.val, 0]) (ho3 : o3 = ![1, 1024 * k.val, 0])
    (i1 : ∀ a, o1 a + S1x1024x128.size a ≤ S1x4096x128.size a) (i2 : ∀ a, o2 a + S1x1024x128.size a ≤ S2x4096x128.size a)
    (i3 : ∀ a, o3 a + S1x1024x128.size a ≤ S2x4096x128.size a) (i4 : ∀ a, (![h.val, 0, 0] : Fin 3 → ℕ) a + S1x128x128.size a ≤ S8x128x128.size a)
    (i5 : ∀ a, (![0, 0] : Fin 2 → ℕ) a + S1x128.size a ≤ S1x128.size a) :
    k0_pay8 (k0_pay7 k0_pay114 k0_pay115 (arg4.view.readAt (Elt F) (Rect.unit (s := S1x4096x128) o1 S1x1024x128.size i1).toLoadRect X_arg4)
      (arg5.view.readAt (Elt F) (Rect.unit (s := S1x4096x128) o1 S1x1024x128.size i1).toLoadRect X_arg5)
      (arg6.view.readAt (Elt F) (Rect.unit (s := S2x4096x128) o2 S1x1024x128.size i2).toLoadRect X_arg6)
      (arg6.view.readAt (Elt F) (Rect.unit (s := S2x4096x128) o3 S1x1024x128.size i3).toLoadRect X_arg6)
      (arg8.view.readAt (Elt F) (Rect.unit (s := S8x128x128) ![h.val, 0, 0] S1x128x128.size i4).toLoadRect X_arg8)
      (arg11.view.readAt (Elt F) (Rect.unit (s := S1x128) ![0, 0] S1x128.size i5).toLoadRect X_arg11))
    = KTb (arg4.view.read (Elt F) X_arg4) (arg5.view.read (Elt F) X_arg5) (arg6.view.read (Elt F) X_arg6) (arg8.view.read (Elt F) X_arg8) (arg11.view.read (Elt F) X_arg11) h k := by
  subst ho1; subst ho2; subst ho3
  unfold KTb
  have e : arg11.view.readAt (Elt F) (Rect.unit (s := S1x128) ![0, 0] S1x128.size i5).toLoadRect X_arg11 = arg11.view.read (Elt F) X_arg11 :=
    View.ld_unit_lit (S := S1x128) i5 _ (by decide)
  rw [e]
  rfl

theorem vsb_read (h : Fin 8) (k : Fin 4) {o1 : Fin 3 → ℕ} (ho1 : o1 = ![0, 1024 * k.val, 0])
    (i1 : ∀ a, o1 a + S1x1024x128.size a ≤ S1x4096x128.size a) (i4 : ∀ a, (![h.val, 0, 0] : Fin 3 → ℕ) a + S1x128x128.size a ≤ S8x128x128.size a)
    (i5 : ∀ a, (![h.val, 0, 0] : Fin 3 → ℕ) a + S1x1x128.size a ≤ S8x1x128.size a) :
    k0_pay9 (k0_pay3 (arg4.view.readAt (Elt F) (Rect.unit (s := S1x4096x128) o1 S1x1024x128.size i1).toLoadRect X_arg4))
      (arg9.view.readAt (Elt F) (Rect.unit (s := S8x128x128) ![h.val, 0, 0] S1x128x128.size i4).toLoadRect X_arg9)
      (arg12.view.readAt (Elt F) (Rect.unit (s := S8x1x128) ![h.val, 0, 0] S1x1x128.size i5).toLoadRect X_arg12)
    = VSb (arg4.view.read (Elt F) X_arg4) (arg9.view.read (Elt F) X_arg9) (arg12.view.read (Elt F) X_arg12) h k := by
  subst ho1; rfl

theorem trip15 (k : Fin k0_t1_loop.trips) : ∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 k).1, ∀ x, p.2 x = KT (arg4.view.read (Elt F) X_arg4) (arg5.view.read (Elt F) X_arg5) (arg6.view.read (Elt F) X_arg6) (arg8.view.read (Elt F) X_arg8) (arg11.view.read (Elt F) X_arg11) (p.1.emb x) := by
  intro p hp
  dsimp only [tripL_k0_t1] at hp
  unfold trip_k0_t1 at hp
  dsimp only at hp
  simp only [List.mem_cons, List.not_mem_nil, or_false] at hp
  rcases hp with rfl | hp
  · exact kt_piece _ _ _ _ _ (7 : Fin 8) ⟨k.val, t1_lt k⟩ (k0_off18_eq k) (inb_kt (h := (7 : Fin 8)) (k := ⟨k.val, t1_lt k⟩) (k0_off18_eq k)) _ (ktb_read (X_arg4 := X_arg4) (X_arg5 := X_arg5) (X_arg6 := X_arg6) (X_arg8 := X_arg8) (X_arg11 := X_arg11) (h := (7 : Fin 8)) (k := ⟨k.val, t1_lt k⟩) (ho1 := k0_off1_eq k) (ho2 := k0_off2_eq k) (ho3 := k0_off3_eq k) ..)
  rcases hp with rfl | hp
  · exact kt_piece _ _ _ _ _ (6 : Fin 8) ⟨k.val, t1_lt k⟩ (k0_off16_eq k) (inb_kt (h := (6 : Fin 8)) (k := ⟨k.val, t1_lt k⟩) (k0_off16_eq k)) _ (ktb_read (X_arg4 := X_arg4) (X_arg5 := X_arg5) (X_arg6 := X_arg6) (X_arg8 := X_arg8) (X_arg11 := X_arg11) (h := (6 : Fin 8)) (k := ⟨k.val, t1_lt k⟩) (ho1 := k0_off1_eq k) (ho2 := k0_off2_eq k) (ho3 := k0_off3_eq k) ..)
  rcases hp with rfl | hp
  · exact kt_piece _ _ _ _ _ (5 : Fin 8) ⟨k.val, t1_lt k⟩ (k0_off14_eq k) (inb_kt (h := (5 : Fin 8)) (k := ⟨k.val, t1_lt k⟩) (k0_off14_eq k)) _ (ktb_read (X_arg4 := X_arg4) (X_arg5 := X_arg5) (X_arg6 := X_arg6) (X_arg8 := X_arg8) (X_arg11 := X_arg11) (h := (5 : Fin 8)) (k := ⟨k.val, t1_lt k⟩) (ho1 := k0_off1_eq k) (ho2 := k0_off2_eq k) (ho3 := k0_off3_eq k) ..)
  rcases hp with rfl | hp
  · exact kt_piece _ _ _ _ _ (4 : Fin 8) ⟨k.val, t1_lt k⟩ (k0_off12_eq k) (inb_kt (h := (4 : Fin 8)) (k := ⟨k.val, t1_lt k⟩) (k0_off12_eq k)) _ (ktb_read (X_arg4 := X_arg4) (X_arg5 := X_arg5) (X_arg6 := X_arg6) (X_arg8 := X_arg8) (X_arg11 := X_arg11) (h := (4 : Fin 8)) (k := ⟨k.val, t1_lt k⟩) (ho1 := k0_off1_eq k) (ho2 := k0_off2_eq k) (ho3 := k0_off3_eq k) ..)
  rcases hp with rfl | hp
  · exact kt_piece _ _ _ _ _ (3 : Fin 8) ⟨k.val, t1_lt k⟩ (k0_off10_eq k) (inb_kt (h := (3 : Fin 8)) (k := ⟨k.val, t1_lt k⟩) (k0_off10_eq k)) _ (ktb_read (X_arg4 := X_arg4) (X_arg5 := X_arg5) (X_arg6 := X_arg6) (X_arg8 := X_arg8) (X_arg11 := X_arg11) (h := (3 : Fin 8)) (k := ⟨k.val, t1_lt k⟩) (ho1 := k0_off1_eq k) (ho2 := k0_off2_eq k) (ho3 := k0_off3_eq k) ..)
  rcases hp with rfl | hp
  · exact kt_piece _ _ _ _ _ (2 : Fin 8) ⟨k.val, t1_lt k⟩ (k0_off8_eq k) (inb_kt (h := (2 : Fin 8)) (k := ⟨k.val, t1_lt k⟩) (k0_off8_eq k)) _ (ktb_read (X_arg4 := X_arg4) (X_arg5 := X_arg5) (X_arg6 := X_arg6) (X_arg8 := X_arg8) (X_arg11 := X_arg11) (h := (2 : Fin 8)) (k := ⟨k.val, t1_lt k⟩) (ho1 := k0_off1_eq k) (ho2 := k0_off2_eq k) (ho3 := k0_off3_eq k) ..)
  rcases hp with rfl | hp
  · exact kt_piece _ _ _ _ _ (1 : Fin 8) ⟨k.val, t1_lt k⟩ (k0_off6_eq k) (inb_kt (h := (1 : Fin 8)) (k := ⟨k.val, t1_lt k⟩) (k0_off6_eq k)) _ (ktb_read (X_arg4 := X_arg4) (X_arg5 := X_arg5) (X_arg6 := X_arg6) (X_arg8 := X_arg8) (X_arg11 := X_arg11) (h := (1 : Fin 8)) (k := ⟨k.val, t1_lt k⟩) (ho1 := k0_off1_eq k) (ho2 := k0_off2_eq k) (ho3 := k0_off3_eq k) ..)
  subst hp
  · exact kt_piece _ _ _ _ _ (0 : Fin 8) ⟨k.val, t1_lt k⟩ (k0_off4_eq k) (inb_kt (h := (0 : Fin 8)) (k := ⟨k.val, t1_lt k⟩) (k0_off4_eq k)) _ (ktb_read (X_arg4 := X_arg4) (X_arg5 := X_arg5) (X_arg6 := X_arg6) (X_arg8 := X_arg8) (X_arg11 := X_arg11) (h := (0 : Fin 8)) (k := ⟨k.val, t1_lt k⟩) (ho1 := k0_off1_eq k) (ho2 := k0_off2_eq k) (ho3 := k0_off3_eq k) ..)

theorem trip16 (k : Fin k0_t1_loop.trips) : ∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 k).2, ∀ x, p.2 x = VS (arg4.view.read (Elt F) X_arg4) (arg9.view.read (Elt F) X_arg9) (arg12.view.read (Elt F) X_arg12) (p.1.emb x) := by
  intro p hp
  dsimp only [tripL_k0_t1] at hp
  unfold trip_k0_t1 at hp
  dsimp only at hp
  simp only [List.mem_cons, List.not_mem_nil, or_false] at hp
  rcases hp with rfl | hp
  · exact vs_piece _ _ _ (7 : Fin 8) ⟨k.val, t1_lt k⟩ (k0_off19_eq k) (inb_vs (h := (7 : Fin 8)) (k := ⟨k.val, t1_lt k⟩) (k0_off19_eq k)) _ (vsb_read (X_arg4 := X_arg4) (X_arg9 := X_arg9) (X_arg12 := X_arg12) (h := (7 : Fin 8)) (k := ⟨k.val, t1_lt k⟩) (ho1 := k0_off1_eq k) ..)
  rcases hp with rfl | hp
  · exact vs_piece _ _ _ (6 : Fin 8) ⟨k.val, t1_lt k⟩ (k0_off17_eq k) (inb_vs (h := (6 : Fin 8)) (k := ⟨k.val, t1_lt k⟩) (k0_off17_eq k)) _ (vsb_read (X_arg4 := X_arg4) (X_arg9 := X_arg9) (X_arg12 := X_arg12) (h := (6 : Fin 8)) (k := ⟨k.val, t1_lt k⟩) (ho1 := k0_off1_eq k) ..)
  rcases hp with rfl | hp
  · exact vs_piece _ _ _ (5 : Fin 8) ⟨k.val, t1_lt k⟩ (k0_off15_eq k) (inb_vs (h := (5 : Fin 8)) (k := ⟨k.val, t1_lt k⟩) (k0_off15_eq k)) _ (vsb_read (X_arg4 := X_arg4) (X_arg9 := X_arg9) (X_arg12 := X_arg12) (h := (5 : Fin 8)) (k := ⟨k.val, t1_lt k⟩) (ho1 := k0_off1_eq k) ..)
  rcases hp with rfl | hp
  · exact vs_piece _ _ _ (4 : Fin 8) ⟨k.val, t1_lt k⟩ (k0_off13_eq k) (inb_vs (h := (4 : Fin 8)) (k := ⟨k.val, t1_lt k⟩) (k0_off13_eq k)) _ (vsb_read (X_arg4 := X_arg4) (X_arg9 := X_arg9) (X_arg12 := X_arg12) (h := (4 : Fin 8)) (k := ⟨k.val, t1_lt k⟩) (ho1 := k0_off1_eq k) ..)
  rcases hp with rfl | hp
  · exact vs_piece _ _ _ (3 : Fin 8) ⟨k.val, t1_lt k⟩ (k0_off11_eq k) (inb_vs (h := (3 : Fin 8)) (k := ⟨k.val, t1_lt k⟩) (k0_off11_eq k)) _ (vsb_read (X_arg4 := X_arg4) (X_arg9 := X_arg9) (X_arg12 := X_arg12) (h := (3 : Fin 8)) (k := ⟨k.val, t1_lt k⟩) (ho1 := k0_off1_eq k) ..)
  rcases hp with rfl | hp
  · exact vs_piece _ _ _ (2 : Fin 8) ⟨k.val, t1_lt k⟩ (k0_off9_eq k) (inb_vs (h := (2 : Fin 8)) (k := ⟨k.val, t1_lt k⟩) (k0_off9_eq k)) _ (vsb_read (X_arg4 := X_arg4) (X_arg9 := X_arg9) (X_arg12 := X_arg12) (h := (2 : Fin 8)) (k := ⟨k.val, t1_lt k⟩) (ho1 := k0_off1_eq k) ..)
  rcases hp with rfl | hp
  · exact vs_piece _ _ _ (1 : Fin 8) ⟨k.val, t1_lt k⟩ (k0_off7_eq k) (inb_vs (h := (1 : Fin 8)) (k := ⟨k.val, t1_lt k⟩) (k0_off7_eq k)) _ (vsb_read (X_arg4 := X_arg4) (X_arg9 := X_arg9) (X_arg12 := X_arg12) (h := (1 : Fin 8)) (k := ⟨k.val, t1_lt k⟩) (ho1 := k0_off1_eq k) ..)
  subst hp
  · exact vs_piece _ _ _ (0 : Fin 8) ⟨k.val, t1_lt k⟩ (k0_off5_eq k) (inb_vs (h := (0 : Fin 8)) (k := ⟨k.val, t1_lt k⟩) (k0_off5_eq k)) _ (vsb_read (X_arg4 := X_arg4) (X_arg9 := X_arg9) (X_arg12 := X_arg12) (h := (0 : Fin 8)) (k := ⟨k.val, t1_lt k⟩) (ho1 := k0_off1_eq k) ..)

theorem cover15 (k : Fin k0_t1_loop.trips) (y : S8x4x128x1024.Idx) (hy : (y 1).val = k.val) : ∃ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 k).1, y ∈ p.1.set := by
  dsimp only [tripL_k0_t1]
  unfold trip_k0_t1
  dsimp only
  have h8 : (y 0).val < 8 := (y 0).isLt
  obtain h | h | h | h | h | h | h | h : (y 0).val = 0 ∨ (y 0).val = 1 ∨ (y 0).val = 2 ∨ (y 0).val = 3 ∨ (y 0).val = 4 ∨ (y 0).val = 5 ∨ (y 0).val = 6 ∨ (y 0).val = 7 := by omega
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_kt (h := (0 : Fin 8)) (k := ⟨k.val, t1_lt k⟩) (k0_off4_eq k) (inb_kt (h := (0 : Fin 8)) (k := ⟨k.val, t1_lt k⟩) (k0_off4_eq k)) y h hy⟩
  · exact ⟨_, (List.mem_cons_of_mem _ (List.mem_cons_of_mem _ (List.mem_cons_of_mem _ (List.mem_cons_of_mem _ (List.mem_cons_of_mem _ (List.mem_cons_of_mem _ List.mem_cons_self)))))), mem_kt (h := (1 : Fin 8)) (k := ⟨k.val, t1_lt k⟩) (k0_off6_eq k) (inb_kt (h := (1 : Fin 8)) (k := ⟨k.val, t1_lt k⟩) (k0_off6_eq k)) y h hy⟩
  · exact ⟨_, (List.mem_cons_of_mem _ (List.mem_cons_of_mem _ (List.mem_cons_of_mem _ (List.mem_cons_of_mem _ (List.mem_cons_of_mem _ List.mem_cons_self))))), mem_kt (h := (2 : Fin 8)) (k := ⟨k.val, t1_lt k⟩) (k0_off8_eq k) (inb_kt (h := (2 : Fin 8)) (k := ⟨k.val, t1_lt k⟩) (k0_off8_eq k)) y h hy⟩
  · exact ⟨_, (List.mem_cons_of_mem _ (List.mem_cons_of_mem _ (List.mem_cons_of_mem _ (List.mem_cons_of_mem _ List.mem_cons_self)))), mem_kt (h := (3 : Fin 8)) (k := ⟨k.val, t1_lt k⟩) (k0_off10_eq k) (inb_kt (h := (3 : Fin 8)) (k := ⟨k.val, t1_lt k⟩) (k0_off10_eq k)) y h hy⟩
  · exact ⟨_, (List.mem_cons_of_mem _ (List.mem_cons_of_mem _ (List.mem_cons_of_mem _ List.mem_cons_self))), mem_kt (h := (4 : Fin 8)) (k := ⟨k.val, t1_lt k⟩) (k0_off12_eq k) (inb_kt (h := (4 : Fin 8)) (k := ⟨k.val, t1_lt k⟩) (k0_off12_eq k)) y h hy⟩
  · exact ⟨_, (List.mem_cons_of_mem _ (List.mem_cons_of_mem _ List.mem_cons_self)), mem_kt (h := (5 : Fin 8)) (k := ⟨k.val, t1_lt k⟩) (k0_off14_eq k) (inb_kt (h := (5 : Fin 8)) (k := ⟨k.val, t1_lt k⟩) (k0_off14_eq k)) y h hy⟩
  · exact ⟨_, (List.mem_cons_of_mem _ List.mem_cons_self), mem_kt (h := (6 : Fin 8)) (k := ⟨k.val, t1_lt k⟩) (k0_off16_eq k) (inb_kt (h := (6 : Fin 8)) (k := ⟨k.val, t1_lt k⟩) (k0_off16_eq k)) y h hy⟩
  · exact ⟨_, List.mem_cons_self, mem_kt (h := (7 : Fin 8)) (k := ⟨k.val, t1_lt k⟩) (k0_off18_eq k) (inb_kt (h := (7 : Fin 8)) (k := ⟨k.val, t1_lt k⟩) (k0_off18_eq k)) y h hy⟩

theorem pieces15 : ∀ n, n ≤ k0_t1_loop.trips → ∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 n).1, ∀ x, p.2 x = KT (arg4.view.read (Elt F) X_arg4) (arg5.view.read (Elt F) X_arg5) (arg6.view.read (Elt F) X_arg6) (arg8.view.read (Elt F) X_arg8) (arg11.view.read (Elt F) X_arg11) (p.1.emb x)
  | 0, _, p, hp, _ => by
    have e : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 0).1 = [] := rfl
    rw [e] at hp
    exact absurd hp List.not_mem_nil
  | n + 1, hn, p, hp, x => by
    rw [pb_k0_t1_succ (k := ⟨n, hn⟩)] at hp
    rcases List.mem_append.1 hp with hp | hp
    · exact trip15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 ⟨n, hn⟩ p hp x
    · exact pieces15 n (Nat.le_of_succ_le hn) p hp x

theorem covers15 : ∀ n, n ≤ k0_t1_loop.trips → ∀ y : S8x4x128x1024.Idx, (y 1).val < n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 n).1, y ∈ p.1.set
  | 0, _, y, hy => absurd hy (Nat.not_lt_zero _)
  | n + 1, hn, y, hy => by
    rw [pb_k0_t1_succ (k := ⟨n, hn⟩)]
    rcases Nat.lt_succ_iff_lt_or_eq.1 hy with h | h
    · obtain ⟨p, hp, hm⟩ := covers15 n (Nat.le_of_succ_le hn) y h
      exact ⟨p, List.mem_append_right _ hp, hm⟩
    · obtain ⟨p, hp, hm⟩ := cover15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 ⟨n, hn⟩ y h
      exact ⟨p, List.mem_append_left _ hp, hm⟩

/-- What the fill leaves in the scratch, whatever was there. -/
theorem fill15 (G : BufTy.Contents (Elt F) arg15.view.ty) :
    arg15.view.read (Elt F) (arg15.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 k0_t1_loop.trips).1) = KT (arg4.view.read (Elt F) X_arg4) (arg5.view.read (Elt F) X_arg5) (arg6.view.read (Elt F) X_arg6) (arg8.view.read (Elt F) X_arg8) (arg11.view.read (Elt F) X_arg11) := by
  funext y
  refine View.read_writes_apply_of_pieces arg15.view G _ _ (pieces15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 _ (le_refl _)) y (covers15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 _ (le_refl _) y ?_)
  rw [t1_trips]
  exact (y 1).isLt

theorem cover16 (k : Fin k0_t1_loop.trips) (y : S8x4096x128.Idx) (hy : (y 1).val / 1024 = k.val) : ∃ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 k).2, y ∈ p.1.set := by
  dsimp only [tripL_k0_t1]
  unfold trip_k0_t1
  dsimp only
  have h8 : (y 0).val < 8 := (y 0).isLt
  obtain h | h | h | h | h | h | h | h : (y 0).val = 0 ∨ (y 0).val = 1 ∨ (y 0).val = 2 ∨ (y 0).val = 3 ∨ (y 0).val = 4 ∨ (y 0).val = 5 ∨ (y 0).val = 6 ∨ (y 0).val = 7 := by omega
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_vs (h := (0 : Fin 8)) (k := ⟨k.val, t1_lt k⟩) (k0_off5_eq k) (inb_vs (h := (0 : Fin 8)) (k := ⟨k.val, t1_lt k⟩) (k0_off5_eq k)) y h hy⟩
  · exact ⟨_, (List.mem_cons_of_mem _ (List.mem_cons_of_mem _ (List.mem_cons_of_mem _ (List.mem_cons_of_mem _ (List.mem_cons_of_mem _ (List.mem_cons_of_mem _ List.mem_cons_self)))))), mem_vs (h := (1 : Fin 8)) (k := ⟨k.val, t1_lt k⟩) (k0_off7_eq k) (inb_vs (h := (1 : Fin 8)) (k := ⟨k.val, t1_lt k⟩) (k0_off7_eq k)) y h hy⟩
  · exact ⟨_, (List.mem_cons_of_mem _ (List.mem_cons_of_mem _ (List.mem_cons_of_mem _ (List.mem_cons_of_mem _ (List.mem_cons_of_mem _ List.mem_cons_self))))), mem_vs (h := (2 : Fin 8)) (k := ⟨k.val, t1_lt k⟩) (k0_off9_eq k) (inb_vs (h := (2 : Fin 8)) (k := ⟨k.val, t1_lt k⟩) (k0_off9_eq k)) y h hy⟩
  · exact ⟨_, (List.mem_cons_of_mem _ (List.mem_cons_of_mem _ (List.mem_cons_of_mem _ (List.mem_cons_of_mem _ List.mem_cons_self)))), mem_vs (h := (3 : Fin 8)) (k := ⟨k.val, t1_lt k⟩) (k0_off11_eq k) (inb_vs (h := (3 : Fin 8)) (k := ⟨k.val, t1_lt k⟩) (k0_off11_eq k)) y h hy⟩
  · exact ⟨_, (List.mem_cons_of_mem _ (List.mem_cons_of_mem _ (List.mem_cons_of_mem _ List.mem_cons_self))), mem_vs (h := (4 : Fin 8)) (k := ⟨k.val, t1_lt k⟩) (k0_off13_eq k) (inb_vs (h := (4 : Fin 8)) (k := ⟨k.val, t1_lt k⟩) (k0_off13_eq k)) y h hy⟩
  · exact ⟨_, (List.mem_cons_of_mem _ (List.mem_cons_of_mem _ List.mem_cons_self)), mem_vs (h := (5 : Fin 8)) (k := ⟨k.val, t1_lt k⟩) (k0_off15_eq k) (inb_vs (h := (5 : Fin 8)) (k := ⟨k.val, t1_lt k⟩) (k0_off15_eq k)) y h hy⟩
  · exact ⟨_, (List.mem_cons_of_mem _ List.mem_cons_self), mem_vs (h := (6 : Fin 8)) (k := ⟨k.val, t1_lt k⟩) (k0_off17_eq k) (inb_vs (h := (6 : Fin 8)) (k := ⟨k.val, t1_lt k⟩) (k0_off17_eq k)) y h hy⟩
  · exact ⟨_, List.mem_cons_self, mem_vs (h := (7 : Fin 8)) (k := ⟨k.val, t1_lt k⟩) (k0_off19_eq k) (inb_vs (h := (7 : Fin 8)) (k := ⟨k.val, t1_lt k⟩) (k0_off19_eq k)) y h hy⟩

theorem pieces16 : ∀ n, n ≤ k0_t1_loop.trips → ∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 n).2, ∀ x, p.2 x = VS (arg4.view.read (Elt F) X_arg4) (arg9.view.read (Elt F) X_arg9) (arg12.view.read (Elt F) X_arg12) (p.1.emb x)
  | 0, _, p, hp, _ => by
    have e : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 0).2 = [] := rfl
    rw [e] at hp
    exact absurd hp List.not_mem_nil
  | n + 1, hn, p, hp, x => by
    rw [pb_k0_t1_succ (k := ⟨n, hn⟩)] at hp
    rcases List.mem_append.1 hp with hp | hp
    · exact trip16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 ⟨n, hn⟩ p hp x
    · exact pieces16 n (Nat.le_of_succ_le hn) p hp x

theorem covers16 : ∀ n, n ≤ k0_t1_loop.trips → ∀ y : S8x4096x128.Idx, (y 1).val / 1024 < n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 n).2, y ∈ p.1.set
  | 0, _, y, hy => absurd hy (Nat.not_lt_zero _)
  | n + 1, hn, y, hy => by
    rw [pb_k0_t1_succ (k := ⟨n, hn⟩)]
    rcases Nat.lt_succ_iff_lt_or_eq.1 hy with h | h
    · obtain ⟨p, hp, hm⟩ := covers16 n (Nat.le_of_succ_le hn) y h
      exact ⟨p, List.mem_append_right _ hp, hm⟩
    · obtain ⟨p, hp, hm⟩ := cover16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 ⟨n, hn⟩ y h
      exact ⟨p, List.mem_append_left _ hp, hm⟩

/-- What the fill leaves in the scratch, whatever was there. -/
theorem fill16 (G : BufTy.Contents (Elt F) arg16.view.ty) :
    arg16.view.read (Elt F) (arg16.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 k0_t1_loop.trips).2) = VS (arg4.view.read (Elt F) X_arg4) (arg9.view.read (Elt F) X_arg9) (arg12.view.read (Elt F) X_arg12) := by
  funext y
  refine View.read_writes_apply_of_pieces arg16.view G _ _ (pieces16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 _ (le_refl _)) y (covers16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg4 X_arg5 X_arg6 X_arg8 X_arg9 X_arg11 X_arg12 _ (le_refl _) y ?_)
  rw [t1_trips]
  have : (y 1).val < 4096 := (y 1).isLt
  omega

end

end Cert.KI
-- ==== Proof.KI.RunC.lean ====
module

public import proofs.«01_k».proof.Proof.KI.Base

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole, the key and value scratch as found, flag one: what its stores leave, found by the run. -/
def runC (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : ¬ k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : word1 (arg2.view.readAt (Elt F) (Rect.unit (s := S1) ![0] S1.size inb_S1_S1_0).toLoadRect (harg2.unread x0) (Shape.Idx.first (numel1_S1.symm ▸ Nat.one_pos)))) (hc2 : ¬ word0 (arg2.view.readAt (Elt F) (Rect.unit (s := S1) ![0] S1.size inb_S1_S1_0).toLoadRect (harg2.unread x0) (Shape.Idx.first (numel1_S1.symm ▸ Nat.one_pos)))) :
    { L14 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare d15 ∗ owns (c : Thread nD τ) arg16 fullShare d16 ∗ owns (c : Thread nD τ) arg17 fullShare d17 ∗ owns (c : Thread nD τ) arg18 fullShare d18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L14) ∗ owns (c : Thread nD τ) arg15 fullShare d15 ∗ owns (c : Thread nD τ) arg16 fullShare d16 ∗ (∃ d, owns (c : Thread nD τ) arg17 fullShare d) ∗ (∃ d, owns (c : Thread nD τ) arg18 fullShare d)) -∗ K ⟨⟩))
          ⊢ wp frame (wpE (defs₀ (F := F)) Variants.none c none) E (cc0_mla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_mla_eq_skeleton]; unfold cc0_mla_skel
    simp only [k0_part30_eq_skeleton]; unfold k0_part30_skel
    simp only [k0_part17_eq_skeleton]; unfold k0_part17_skel
    simp only [k0_part24_eq_skeleton, k0_part25_eq_skeleton, k0_part26_eq_skeleton, k0_part27_eq_skeleton, k0_part28_eq_skeleton, k0_part29_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs15, %hfs15, HS15⟩, ⟨%fs16, %hfs16, HS16⟩, ⟨%fs17, %hfs17, HS17⟩, ⟨%fs18, %hfs18, HS18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs15; obtain rfl := harg16.eq_unread hfs16; obtain rfl := harg17.eq_unread hfs17; obtain rfl := harg18.eq_unread hfs18
    sl_exec (disch := first | sl_exact hc0 | sl_exact hc1 | sl_exact hc2 | (dsimp only; sl_exact hc2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS15]
    · iexists _; isplitr; · ipureintro; exact harg15.read_unread _
      iexact HS15
    isplitl [HS16]
    · iexists _; isplitr; · ipureintro; exact harg16.read_unread _
      iexact HS16
    isplitl [HS17]
    · iexists _, _; isplitr; swap; · iexact HS17
      ipureintro; rfl
    iexists _, _; isplitr; swap; · iexact HS18
    ipureintro; rfl

end Cert.KI

end
-- ==== Proof.KI.RunD.lean ====
module

public import proofs.«01_k».proof.Proof.KI.RunC

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole, the key and value scratch as found, flag zero: what its stores leave, found by the run. -/
def runD (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : ¬ k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : ¬ word1 (arg2.view.readAt (Elt F) (Rect.unit (s := S1) ![0] S1.size inb_S1_S1_0).toLoadRect (harg2.unread x0) (Shape.Idx.first (numel1_S1.symm ▸ Nat.one_pos)))) (hc2 : word0 (arg2.view.readAt (Elt F) (Rect.unit (s := S1) ![0] S1.size inb_S1_S1_0).toLoadRect (harg2.unread x0) (Shape.Idx.first (numel1_S1.symm ▸ Nat.one_pos)))) :
    { L14 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare d15 ∗ owns (c : Thread nD τ) arg16 fullShare d16 ∗ owns (c : Thread nD τ) arg17 fullShare d17 ∗ owns (c : Thread nD τ) arg18 fullShare d18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L14) ∗ owns (c : Thread nD τ) arg15 fullShare d15 ∗ owns (c : Thread nD τ) arg16 fullShare d16 ∗ (∃ d, owns (c : Thread nD τ) arg17 fullShare d) ∗ (∃ d, owns (c : Thread nD τ) arg18 fullShare d)) -∗ K ⟨⟩))
          ⊢ wp frame (wpE (defs₀ (F := F)) Variants.none c none) E (cc0_mla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_mla_eq_skeleton]; unfold cc0_mla_skel
    simp only [k0_part30_eq_skeleton]; unfold k0_part30_skel
    simp only [k0_part17_eq_skeleton]; unfold k0_part17_skel
    simp only [k0_part24_eq_skeleton, k0_part25_eq_skeleton, k0_part26_eq_skeleton, k0_part27_eq_skeleton, k0_part28_eq_skeleton, k0_part29_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs15, %hfs15, HS15⟩, ⟨%fs16, %hfs16, HS16⟩, ⟨%fs17, %hfs17, HS17⟩, ⟨%fs18, %hfs18, HS18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs15; obtain rfl := harg16.eq_unread hfs16; obtain rfl := harg17.eq_unread hfs17; obtain rfl := harg18.eq_unread hfs18
    sl_exec (disch := first | sl_exact hc0 | sl_exact hc1 | sl_exact hc2 | (dsimp only; sl_exact hc2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS15]
    · iexists _; isplitr; · ipureintro; exact harg15.read_unread _
      iexact HS15
    isplitl [HS16]
    · iexists _; isplitr; · ipureintro; exact harg16.read_unread _
      iexact HS16
    isplitl [HS17]
    · iexists _, _; isplitr; swap; · iexact HS17
      ipureintro; rfl
    iexists _, _; isplitr; swap; · iexact HS18
    ipureintro; rfl

end Cert.KI

end
-- ==== Proof.KI.RunA.lean ====
module

public import proofs.«01_k».proof.Proof.KI.RunD

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole, filling the key and value scratch, flag one: what its stores leave, found by the run. -/
def runA (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : word1 (arg2.view.readAt (Elt F) (Rect.unit (s := S1) ![0] S1.size inb_S1_S1_0).toLoadRect (harg2.unread x0) (Shape.Idx.first (numel1_S1.symm ▸ Nat.one_pos)))) (hc2 : ¬ word0 (arg2.view.readAt (Elt F) (Rect.unit (s := S1) ![0] S1.size inb_S1_S1_0).toLoadRect (harg2.unread x0) (Shape.Idx.first (numel1_S1.symm ▸ Nat.one_pos)))) :
    Σ' (L15 : List (View.Piece (Elt F) S8x4x128x1024 .bf16)) (L16 : List (View.Piece (Elt F) S8x4096x128 .bf16)), { L14 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare d15 ∗ owns (c : Thread nD τ) arg16 fullShare d16 ∗ owns (c : Thread nD τ) arg17 fullShare d17 ∗ owns (c : Thread nD τ) arg18 fullShare d18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L14) ∗ (arg15.view.loc (c : Thread nD τ) ↦[arg15.view.set]{fullShare} arg15.view.writes (Elt F) (harg15.unread d15) L15) ∗ (arg16.view.loc (c : Thread nD τ) ↦[arg16.view.set]{fullShare} arg16.view.writes (Elt F) (harg16.unread d16) L16) ∗ (∃ d, owns (c : Thread nD τ) arg17 fullShare d) ∗ (∃ d, owns (c : Thread nD τ) arg18 fullShare d)) -∗ K ⟨⟩))
          ⊢ wp frame (wpE (defs₀ (F := F)) Variants.none c none) E (cc0_mla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_mla_eq_skeleton]; unfold cc0_mla_skel
    simp only [k0_part30_eq_skeleton]; unfold k0_part30_skel
    simp only [k0_part17_eq_skeleton]; unfold k0_part17_skel
    simp only [k0_part24_eq_skeleton, k0_part25_eq_skeleton, k0_part26_eq_skeleton, k0_part27_eq_skeleton, k0_part28_eq_skeleton, k0_part29_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs15, %hfs15, HS15⟩, ⟨%fs16, %hfs16, HS16⟩, ⟨%fs17, %hfs17, HS17⟩, ⟨%fs18, %hfs18, HS18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs15; obtain rfl := harg16.eq_unread hfs16; obtain rfl := harg17.eq_unread hfs17; obtain rfl := harg18.eq_unread hfs18
    sl_exec (disch := first | sl_exact hc0 | sl_exact hc1 | sl_exact hc2 | (dsimp only; sl_exact hc2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS15]; · iexact HS15
    isplitl [HS16]; · iexact HS16
    isplitl [HS17]
    · iexists _, _; isplitr; swap; · iexact HS17
      ipureintro; rfl
    iexists _, _; isplitr; swap; · iexact HS18
    ipureintro; rfl

end Cert.KI

end
-- ==== Proof.KI.RunB.lean ====
module

public import proofs.«01_k».proof.Proof.KI.RunA

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run whole, filling the key and value scratch, flag zero: what its stores leave, found by the run. -/
def runB (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : ¬ word1 (arg2.view.readAt (Elt F) (Rect.unit (s := S1) ![0] S1.size inb_S1_S1_0).toLoadRect (harg2.unread x0) (Shape.Idx.first (numel1_S1.symm ▸ Nat.one_pos)))) (hc2 : word0 (arg2.view.readAt (Elt F) (Rect.unit (s := S1) ![0] S1.size inb_S1_S1_0).toLoadRect (harg2.unread x0) (Shape.Idx.first (numel1_S1.symm ▸ Nat.one_pos)))) :
    Σ' (L15 : List (View.Piece (Elt F) S8x4x128x1024 .bf16)) (L16 : List (View.Piece (Elt F) S8x4096x128 .bf16)), { L14 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare d15 ∗ owns (c : Thread nD τ) arg16 fullShare d16 ∗ owns (c : Thread nD τ) arg17 fullShare d17 ∗ owns (c : Thread nD τ) arg18 fullShare d18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L14) ∗ (arg15.view.loc (c : Thread nD τ) ↦[arg15.view.set]{fullShare} arg15.view.writes (Elt F) (harg15.unread d15) L15) ∗ (arg16.view.loc (c : Thread nD τ) ↦[arg16.view.set]{fullShare} arg16.view.writes (Elt F) (harg16.unread d16) L16) ∗ (∃ d, owns (c : Thread nD τ) arg17 fullShare d) ∗ (∃ d, owns (c : Thread nD τ) arg18 fullShare d)) -∗ K ⟨⟩))
          ⊢ wp frame (wpE (defs₀ (F := F)) Variants.none c none) E (cc0_mla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_mla_eq_skeleton]; unfold cc0_mla_skel
    simp only [k0_part30_eq_skeleton]; unfold k0_part30_skel
    simp only [k0_part17_eq_skeleton]; unfold k0_part17_skel
    simp only [k0_part24_eq_skeleton, k0_part25_eq_skeleton, k0_part26_eq_skeleton, k0_part27_eq_skeleton, k0_part28_eq_skeleton, k0_part29_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs15, %hfs15, HS15⟩, ⟨%fs16, %hfs16, HS16⟩, ⟨%fs17, %hfs17, HS17⟩, ⟨%fs18, %hfs18, HS18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs15; obtain rfl := harg16.eq_unread hfs16; obtain rfl := harg17.eq_unread hfs17; obtain rfl := harg18.eq_unread hfs18
    sl_exec (disch := first | sl_exact hc0 | sl_exact hc1 | sl_exact hc2 | (dsimp only; sl_exact hc2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS15]; · iexact HS15
    isplitl [HS16]; · iexact HS16
    isplitl [HS17]
    · iexists _, _; isplitr; swap; · iexact HS17
      ipureintro; rfl
    iexists _, _; isplitr; swap; · iexact HS18
    ipureintro; rfl

end Cert.KI

end
-- ==== Proof.KI.Out.lean ====
module

public import proofs.«01_k».proof.Proof.KI.Acc
public import proofs.«01_k».proof.Proof.KI.Fill
public import proofs.«01_k».proof.Proof.KI.RunB

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem o_piece (acc : Fin 8 → FVec F S1x512x128 .f32) (p : Fin 4)
    (inb : ∀ a, (![0, 0, 128 * p.val] : Fin 3 → ℕ) a + S1x512x128.size a ≤ S1x512x512.size a) (w : Vec F S1x512x128 .bf16) (hw : w = fin2 (acc (head2 p)) (acc (head3 p)))
    (x : S1x512x128.Idx) : w x = outOf acc ((Rect.unit (s := S1x512x512) ![0, 0, 128 * p.val] S1x512x128.size inb).emb x) := by
  subst hw
  have h0 : (x 0).val = 0 := Nat.lt_one_iff.1 (x 0).isLt
  have h2 : (x 2).val < 128 := (x 2).isLt
  have e1 : (Rect.unit (s := S1x512x512) ![0, 0, 128 * p.val] S1x512x128.size inb).emb x 1 = x 1 :=
    Fin.ext (by show 0 + 1 * (x 1).val = (x 1).val; omega)
  have e2 : ((Rect.unit (s := S1x512x512) ![0, 0, 128 * p.val] S1x512x128.size inb).emb x 2).val = 128 * p.val + (x 2).val := by
    show 128 * p.val + 1 * (x 2).val = _; omega
  have ek : (⟨((Rect.unit (s := S1x512x512) ![0, 0, 128 * p.val] S1x512x128.size inb).emb x 2).val / 128, by rw [e2]; omega⟩ : Fin 4) = p :=
    Fin.ext (by show ((Rect.unit (s := S1x512x512) ![0, 0, 128 * p.val] S1x512x128.size inb).emb x 2).val / 128 = p.val; rw [e2]; omega)
  unfold outOf
  rw [e1, ek]
  refine congrArg _ (funext fun a => Fin.ext ?_)
  fin_cases a
  · exact h0
  · rfl
  · show (x 2).val = ((Rect.unit (s := S1x512x512) ![0, 0, 128 * p.val] S1x512x128.size inb).emb x 2).val % 128
    rw [e2]; omega

theorem mem_o (p : Fin 4) (inb : ∀ a, (![0, 0, 128 * p.val] : Fin 3 → ℕ) a + S1x512x128.size a ≤ S1x512x512.size a) (y : S1x512x512.Idx)
    (h0 : (y 2).val / 128 = p.val) : y ∈ (Rect.unit (s := S1x512x512) ![0, 0, 128 * p.val] S1x512x128.size inb).set := by
  rw [Rect.mem_set_unit]
  intro a
  have h1 : (y 0).val < 1 := (y 0).isLt
  have h2 : (y 1).val < 512 := (y 1).isLt
  fin_cases a
  · exact ⟨Nat.zero_le _, by show (y 0).val < 0 + 1; omega⟩
  · exact ⟨Nat.zero_le _, by show (y 1).val < 0 + 512; omega⟩
  · exact ⟨by show 128 * p.val ≤ (y 2).val; omega, by show (y 2).val < 128 * p.val + 128; omega⟩

theorem out_pieces {sp : Space} (v : View sig .tc sp S1x512x512 .bf16) (f : v.ty.Contents (Elt F)) (acc : Fin 8 → FVec F S1x512x128 .f32)
    (i0 : ∀ a, (![0, 0, 0] : Fin 3 → ℕ) a + S1x512x128.size a ≤ S1x512x512.size a)
    (i1 : ∀ a, (![0, 0, 128] : Fin 3 → ℕ) a + S1x512x128.size a ≤ S1x512x512.size a)
    (i2 : ∀ a, (![0, 0, 256] : Fin 3 → ℕ) a + S1x512x128.size a ≤ S1x512x512.size a)
    (i3 : ∀ a, (![0, 0, 384] : Fin 3 → ℕ) a + S1x512x128.size a ≤ S1x512x512.size a) :
    v.read (Elt F) (v.writes (Elt F) f
      [⟨Rect.unit (s := S1x512x512) ![0, 0, 384] S1x512x128.size i3, fin2 (acc 6) (acc 7)⟩, ⟨Rect.unit (s := S1x512x512) ![0, 0, 256] S1x512x128.size i2, fin2 (acc 4) (acc 5)⟩,
       ⟨Rect.unit (s := S1x512x512) ![0, 0, 128] S1x512x128.size i1, fin2 (acc 2) (acc 3)⟩, ⟨Rect.unit (s := S1x512x512) ![0, 0, 0] S1x512x128.size i0, fin2 (acc 0) (acc 1)⟩]) = outOf acc := by
  funext y
  refine View.read_writes_apply_of_pieces v f _ _ ?_ y ?_
  · intro p hp
    simp only [List.mem_cons, List.not_mem_nil, or_false] at hp
    rcases hp with rfl | hp
    · exact o_piece acc 3 i3 _ rfl
    rcases hp with rfl | hp
    · exact o_piece acc 2 i2 _ rfl
    rcases hp with rfl | hp
    · exact o_piece acc 1 i1 _ rfl
    subst hp
    · exact o_piece acc 0 i0 _ rfl
  · have h8 : (y 2).val < 512 := (y 2).isLt
    obtain h | h | h | h : (y 2).val / 128 = 0 ∨ (y 2).val / 128 = 1 ∨ (y 2).val / 128 = 2 ∨ (y 2).val / 128 = 3 := by omega
    · exact ⟨_, (List.mem_cons_of_mem _ (List.mem_cons_of_mem _ (List.mem_cons_of_mem _ List.mem_cons_self))), mem_o 0 i0 y h⟩
    · exact ⟨_, (List.mem_cons_of_mem _ (List.mem_cons_of_mem _ List.mem_cons_self)), mem_o 1 i1 y h⟩
    · exact ⟨_, (List.mem_cons_of_mem _ List.mem_cons_self), mem_o 2 i2 y h⟩
    · exact ⟨_, List.mem_cons_self, mem_o 3 i3 y h⟩

theorem out_pieces_of {sp : Space} (v : View sig .tc sp S1x512x512 .bf16) (f : v.ty.Contents (Elt F)) (acc : Fin 8 → FVec F S1x512x128 .f32)
    (i0 : ∀ a, (![0, 0, 0] : Fin 3 → ℕ) a + S1x512x128.size a ≤ S1x512x512.size a)
    (i1 : ∀ a, (![0, 0, 128] : Fin 3 → ℕ) a + S1x512x128.size a ≤ S1x512x512.size a)
    (i2 : ∀ a, (![0, 0, 256] : Fin 3 → ℕ) a + S1x512x128.size a ≤ S1x512x512.size a)
    (i3 : ∀ a, (![0, 0, 384] : Fin 3 → ℕ) a + S1x512x128.size a ≤ S1x512x512.size a)
    (a0 a1 a2 a3 a4 a5 a6 a7 : FVec F S1x512x128 .f32) (h0 : a0 = acc 0) (h1 : a1 = acc 1) (h2 : a2 = acc 2) (h3 : a3 = acc 3)
    (h4 : a4 = acc 4) (h5 : a5 = acc 5) (h6 : a6 = acc 6) (h7 : a7 = acc 7) :
    v.read (Elt F) (v.writes (Elt F) f
      [⟨Rect.unit (s := S1x512x512) ![0, 0, 384] S1x512x128.size i3, fin2 a6 a7⟩, ⟨Rect.unit (s := S1x512x512) ![0, 0, 256] S1x512x128.size i2, fin2 a4 a5⟩,
       ⟨Rect.unit (s := S1x512x512) ![0, 0, 128] S1x512x128.size i1, fin2 a2 a3⟩, ⟨Rect.unit (s := S1x512x512) ![0, 0, 0] S1x512x128.size i0, fin2 a0 a1⟩]) = outOf acc := by
  subst h0; subst h1; subst h2; subst h3; subst h4; subst h5; subst h6; subst h7
  exact out_pieces v f acc i0 i1 i2 i3

theorem slab_of {e : EltTy} {sp : Space} (v : View sig .tc sp S8x512x128 e) (L : List (View.Piece (Elt F) S8x512x128 e)) (P : Fin 8 → Vec F S1x512x128 e)
    (hL : v.read (Elt F) (v.writes (Elt F) v.junk L) = asm P) (h : Fin 8)
    (inb : ∀ a, (![h.val, 0, 0] : Fin 3 → ℕ) a + S1x512x128.size a ≤ S8x512x128.size a) :
    v.readCov L (Rect.unit (s := S8x512x128) ![h.val, 0, 0] S1x512x128.size inb).toLoadRect = P h := by
  unfold View.readCov
  rw [View.readAt_eq_ld, hL]
  exact qS_asm P h

theorem zero_read {sp : Space} (v : View sig .tc sp S8x512x128 .f32) (f : v.ty.Contents (Elt F))
    (iz : ∀ a, (![0, 0, 0] : Fin 3 → ℕ) a + S8x512x128.size a ≤ S8x512x128.size a) :
    v.read (Elt F) (v.writes (Elt F) f [⟨Rect.unit (s := S8x512x128) ![0, 0, 0] S8x512x128.size iz, k0_pay45⟩]) = asm fun _ => accZ := by
  funext y
  refine View.read_writes_apply_of_pieces v f (fun y => (asm (fun _ => accZ) : Vec F S8x512x128 .f32) y) _ ?_ y ?_
  · intro p hp
    simp only [List.mem_cons, List.not_mem_nil, or_false] at hp
    subst hp
    intro x; rfl
  · refine ⟨_, List.mem_cons_self, ?_⟩
    rw [Rect.mem_set_unit]
    intro a
    have h0 := (y a).isLt
    fin_cases a
    · exact ⟨Nat.zero_le _, lt_of_lt_of_eq h0 (Nat.zero_add _).symm⟩
    · exact ⟨Nat.zero_le _, lt_of_lt_of_eq h0 (Nat.zero_add _).symm⟩
    · exact ⟨Nat.zero_le _, lt_of_lt_of_eq h0 (Nat.zero_add _).symm⟩

theorem inb_rq {off : Fin 3 → ℕ} {a : Fin 2} {j : Fin 8} (ho : off = ![a.val, 512 * j.val, 0]) : ∀ b, off b + S1x512x128.size b ≤ S2x4096x128.size b := by
  subst ho; revert a j; decide +kernel

theorem inb_wq (h : Fin 8) : ∀ a, (![h.val, 0, 0] : Fin 3 → ℕ) a + S1x256x128.size a ≤ S8x256x128.size a := by
  revert h; decide +kernel

section
variable (𝒱 : Variants) (c : Dev nD) (bd : Option 𝒱.V) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole)

theorem q_read (X_arg3 : BufTy.Contents (Elt F) arg3.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (h j : Fin 8) {o1 o2 : Fin 3 → ℕ} (ho1 : o1 = ![0, 512 * j.val, 0]) (ho2 : o2 = ![1, 512 * j.val, 0])
    (i1 : ∀ a, o1 a + S1x512x128.size a ≤ S2x4096x128.size a) (i2 : ∀ a, o2 a + S1x512x128.size a ≤ S2x4096x128.size a)
    (i3 : ∀ a, (![0, 0, 0] : Fin 3 → ℕ) a + S1x512x256.size a ≤ S1x512x256.size a)
    (i4 : ∀ a, (![h.val, 0, 0] : Fin 3 → ℕ) a + S1x256x128.size a ≤ S8x256x128.size a)
    (i5 : ∀ a, (![0, 0] : Fin 2 → ℕ) a + S1x128.size a ≤ S1x128.size a) :
    k0_pay131 k0_pay114 (k0_pay117 (arg6.view.readAt (Elt F) (Rect.unit (s := S2x4096x128) o1 S1x512x128.size i1).toLoadRect X_arg6))
      (k0_pay118 (arg6.view.readAt (Elt F) (Rect.unit (s := S2x4096x128) o2 S1x512x128.size i2).toLoadRect X_arg6))
      (k0_pay120 (k0_pay119 (arg10.view.readAt (Elt F) (Rect.unit (s := S1x128) ![0, 0] S1x128.size i5).toLoadRect X_arg10)) (Named.named κ "log2_scale" 0x3E16C740#32))
      (arg3.view.readAt (Elt F) (Rect.unit (s := S1x512x256) ![0, 0, 0] S1x512x256.size i3).toLoadRect X_arg3)
      (arg7.view.readAt (Elt F) (Rect.unit (s := S8x256x128) ![h.val, 0, 0] S1x256x128.size i4).toLoadRect X_arg7)
      (arg13.view.readAt (Elt F) (Rect.unit (s := S1x128) ![0, 0] S1x128.size i5).toLoadRect X_arg13)
    = Qb (arg3.view.read (Elt F) X_arg3) (arg6.view.read (Elt F) X_arg6) (arg7.view.read (Elt F) X_arg7) (arg10.view.read (Elt F) X_arg10) (arg13.view.read (Elt F) X_arg13) j h := by
  subst ho1; subst ho2
  unfold Qb
  have e1 : arg3.view.readAt (Elt F) (Rect.unit (s := S1x512x256) ![0, 0, 0] S1x512x256.size i3).toLoadRect X_arg3 = arg3.view.read (Elt F) X_arg3 :=
    View.ld_unit_lit (S := S1x512x256) i3 _ (by decide)
  have e2 : arg10.view.readAt (Elt F) (Rect.unit (s := S1x128) ![0, 0] S1x128.size i5).toLoadRect X_arg10 = arg10.view.read (Elt F) X_arg10 :=
    View.ld_unit_lit (S := S1x128) i5 _ (by decide)
  have e3 : arg13.view.readAt (Elt F) (Rect.unit (s := S1x128) ![0, 0] S1x128.size i5).toLoadRect X_arg13 = arg13.view.read (Elt F) X_arg13 :=
    View.ld_unit_lit (S := S1x128) i5 _ (by decide)
  rw [e1, e2, e3]
  rfl

theorem fast_slab (v0 : IVec S1x128 32) (X_arg15 : BufTy.Contents (Elt F) arg15.view.ty) (X_arg16 : BufTy.Contents (Elt F) arg16.view.ty) (X_arg17 : BufTy.Contents (Elt F) arg17.view.ty)
    (kt : Vec F S8x4x128x1024 .bf16) (v : Vec F S8x4096x128 .bf16) (qf : Fin 8 → Vec F S1x512x128 .bf16)
    (hk : arg15.view.read (Elt F) X_arg15 = kt) (hv : arg16.view.read (Elt F) X_arg16 = v) (hq : arg17.view.read (Elt F) X_arg17 = asm qf)
    (iz : ∀ a, (![0, 0, 0] : Fin 3 → ℕ) a + S8x512x128.size a ≤ S8x512x128.size a) (h : Fin 8)
    (inb : ∀ a, (![h.val, 0, 0] : Fin 3 → ℕ) a + S1x512x128.size a ≤ S8x512x128.size a) :
    arg18.view.readCov (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 X_arg15 X_arg16 X_arg17 (arg18.view.writes (Elt F) arg18.view.junk [⟨Rect.unit (s := S8x512x128) ![0, 0, 0] S8x512x128.size iz, k0_pay45⟩]) k0_t2_loop.trips
        ++ [⟨Rect.unit (s := S8x512x128) ![0, 0, 0] S8x512x128.size iz, k0_pay45⟩])
      (Rect.unit (s := S8x512x128) ![h.val, 0, 0] S1x512x128.size inb).toLoadRect = accFast qf kt v h := by
  refine slab_of arg18.view _ (accFast qf kt v) ?_ h inb
  rw [View.writes_append, acc18 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg15 X_arg16 X_arg17 v0 _ (zero_read arg18.view _ iz) _ (le_refl _), hk, hv, hq, t2_trips]
  refine congrArg asm (funext fun h => ?_)
  rw [qS_asm]; rfl

end

section
variable  (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : ¬ k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : word1 (arg2.view.readAt (Elt F) (Rect.unit (s := S1) ![0] S1.size inb_S1_S1_0).toLoadRect (harg2.unread x0) (Shape.Idx.first (numel1_S1.symm ▸ Nat.one_pos)))) (hc2 : ¬ word0 (arg2.view.readAt (Elt F) (Rect.unit (s := S1) ![0] S1.size inb_S1_S1_0).toLoadRect (harg2.unread x0) (Shape.Idx.first (numel1_S1.symm ▸ Nat.one_pos))))

theorem q17_C : arg17.view.read (Elt F) (arg17.view.writes (Elt F) arg17.view.junk (runC.sl.HS17_8 c i arg3 harg3 arg6 harg6 arg7 harg7 arg10 harg10 arg13 harg13 x1 x4 x5 x8 x11))
    = asm (Qb x1 x4 x5 x8 x11 (i 1)) := by
  have e0 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (0 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e0
  have e1 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (1 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e1
  have e2 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (2 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e2
  have e3 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (3 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e3
  have e4 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (4 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e4
  have e5 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (5 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e5
  have e6 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (6 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e6
  have e7 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (7 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e7
  rw [← read_stack arg17.view arg17.view.junk _ (inb_q 0) (inb_q 1) (inb_q 2) (inb_q 3) (inb_q 4) (inb_q 5) (inb_q 6) (inb_q 7), ← e0, ← e1, ← e2, ← e3, ← e4, ← e5, ← e6, ← e7]
  rfl

theorem outC (f : arg14.view.ty.Contents (Elt F)) : arg14.view.read (Elt F) (arg14.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 d15 d16 d17 d18 hc1 hc2).1)
    = outOf (accFast (Qb x1 x4 x5 x8 x11 (i 1)) d15 d16) := by
  have hq := q17_C (F := F) (c := c) (i := i) (arg17 := arg17) (harg3 := harg3) (harg6 := harg6) (harg7 := harg7) (harg10 := harg10) (harg13 := harg13) (x1 := x1) (x4 := x4) (x5 := x5) (x8 := x8) (x11 := x11)
  have hk : arg15.view.read (Elt F) (harg15.unread d15) = d15 := harg15.read_unread _
  have hv : arg16.view.read (Elt F) (harg16.unread d16) = d16 := harg16.read_unread _
  have e0 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runC.sl.v0 _ _ _ _ _ _ hk hv hq inb_S8x512x128_S8x512x128_0_0_0 (0 : Fin 8) (inb_q _)
  have e1 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runC.sl.v0 _ _ _ _ _ _ hk hv hq inb_S8x512x128_S8x512x128_0_0_0 (1 : Fin 8) (inb_q _)
  have e2 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runC.sl.v0 _ _ _ _ _ _ hk hv hq inb_S8x512x128_S8x512x128_0_0_0 (2 : Fin 8) (inb_q _)
  have e3 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runC.sl.v0 _ _ _ _ _ _ hk hv hq inb_S8x512x128_S8x512x128_0_0_0 (3 : Fin 8) (inb_q _)
  have e4 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runC.sl.v0 _ _ _ _ _ _ hk hv hq inb_S8x512x128_S8x512x128_0_0_0 (4 : Fin 8) (inb_q _)
  have e5 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runC.sl.v0 _ _ _ _ _ _ hk hv hq inb_S8x512x128_S8x512x128_0_0_0 (5 : Fin 8) (inb_q _)
  have e6 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runC.sl.v0 _ _ _ _ _ _ hk hv hq inb_S8x512x128_S8x512x128_0_0_0 (6 : Fin 8) (inb_q _)
  have e7 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runC.sl.v0 _ _ _ _ _ _ hk hv hq inb_S8x512x128_S8x512x128_0_0_0 (7 : Fin 8) (inb_q _)
  have h := out_pieces_of arg14.view f _ inb_S1x512x512_S1x512x128_0_0_0 inb_S1x512x512_S1x512x128_0_0_128 inb_S1x512x512_S1x512x128_0_0_256 inb_S1x512x512_S1x512x128_0_0_384 _ _ _ _ _ _ _ _ e0 e1 e2 e3 e4 e5 e6 e7
  rw [← h]
  unfold runC
  rfl

end

section
variable  (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : ¬ k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : ¬ word1 (arg2.view.readAt (Elt F) (Rect.unit (s := S1) ![0] S1.size inb_S1_S1_0).toLoadRect (harg2.unread x0) (Shape.Idx.first (numel1_S1.symm ▸ Nat.one_pos)))) (hc2 : word0 (arg2.view.readAt (Elt F) (Rect.unit (s := S1) ![0] S1.size inb_S1_S1_0).toLoadRect (harg2.unread x0) (Shape.Idx.first (numel1_S1.symm ▸ Nat.one_pos))))

theorem q17_D : arg17.view.read (Elt F) (arg17.view.writes (Elt F) arg17.view.junk (runD.sl.HS17_8 c i arg3 harg3 arg6 harg6 arg7 harg7 arg10 harg10 arg13 harg13 x1 x4 x5 x8 x11))
    = asm (Qb x1 x4 x5 x8 x11 (i 1)) := by
  have e0 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (0 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e0
  have e1 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (1 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e1
  have e2 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (2 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e2
  have e3 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (3 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e3
  have e4 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (4 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e4
  have e5 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (5 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e5
  have e6 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (6 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e6
  have e7 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (7 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e7
  rw [← read_stack arg17.view arg17.view.junk _ (inb_q 0) (inb_q 1) (inb_q 2) (inb_q 3) (inb_q 4) (inb_q 5) (inb_q 6) (inb_q 7), ← e0, ← e1, ← e2, ← e3, ← e4, ← e5, ← e6, ← e7]
  rfl

theorem outD (f : arg14.view.ty.Contents (Elt F)) : arg14.view.read (Elt F) (arg14.view.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 d15 d16 d17 d18 hc1 hc2).1)
    = outOf (accSlow (Qb x1 x4 x5 x8 x11 (i 1)) d15 d16) := by
  have hq := q17_D (F := F) (c := c) (i := i) (arg17 := arg17) (harg3 := harg3) (harg6 := harg6) (harg7 := harg7) (harg10 := harg10) (harg13 := harg13) (x1 := x1) (x4 := x4) (x5 := x5) (x8 := x8) (x11 := x11)
  have hk : arg15.view.read (Elt F) (harg15.unread d15) = d15 := harg15.read_unread _
  have hv : arg16.view.read (Elt F) (harg16.unread d16) = d16 := harg16.read_unread _
  have s0 : k0_pay62 (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  (harg15.unread d15) (harg16.unread d16) (arg17.view.writes (Elt F) arg17.view.junk (runD.sl.HS17_8 c i arg3 harg3 arg6 harg6 arg7 harg7 arg10 harg10 arg13 harg13 x1 x4 x5 x8 x11)) (k0_pay57, k0_pay58) k0_t3_loop.trips).2 = accSlow (Qb x1 x4 x5 x8 x11 (i 1)) d15 d16 0 := by
    rw [slow3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg15.unread d15) (harg16.unread d16) (arg17.view.writes (Elt F) arg17.view.junk (runD.sl.HS17_8 c i arg3 harg3 arg6 harg6 arg7 harg7 arg10 harg10 arg13 harg13 x1 x4 x5 x8 x11))  _ (le_refl _), hk, hv, hq, qS_asm]; rfl
  have s1 : k0_pay62 (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  (harg15.unread d15) (harg16.unread d16) (arg17.view.writes (Elt F) arg17.view.junk (runD.sl.HS17_8 c i arg3 harg3 arg6 harg6 arg7 harg7 arg10 harg10 arg13 harg13 x1 x4 x5 x8 x11)) (k0_pay57, k0_pay58) k0_t4_loop.trips).2 = accSlow (Qb x1 x4 x5 x8 x11 (i 1)) d15 d16 1 := by
    rw [slow4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg15.unread d15) (harg16.unread d16) (arg17.view.writes (Elt F) arg17.view.junk (runD.sl.HS17_8 c i arg3 harg3 arg6 harg6 arg7 harg7 arg10 harg10 arg13 harg13 x1 x4 x5 x8 x11))  _ (le_refl _), hk, hv, hq, qS_asm]; rfl
  have s2 : k0_pay62 (st_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  (harg15.unread d15) (harg16.unread d16) (arg17.view.writes (Elt F) arg17.view.junk (runD.sl.HS17_8 c i arg3 harg3 arg6 harg6 arg7 harg7 arg10 harg10 arg13 harg13 x1 x4 x5 x8 x11)) (k0_pay57, k0_pay58) k0_t5_loop.trips).2 = accSlow (Qb x1 x4 x5 x8 x11 (i 1)) d15 d16 2 := by
    rw [slow5 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg15.unread d15) (harg16.unread d16) (arg17.view.writes (Elt F) arg17.view.junk (runD.sl.HS17_8 c i arg3 harg3 arg6 harg6 arg7 harg7 arg10 harg10 arg13 harg13 x1 x4 x5 x8 x11))  _ (le_refl _), hk, hv, hq, qS_asm]; rfl
  have s3 : k0_pay62 (st_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  (harg15.unread d15) (harg16.unread d16) (arg17.view.writes (Elt F) arg17.view.junk (runD.sl.HS17_8 c i arg3 harg3 arg6 harg6 arg7 harg7 arg10 harg10 arg13 harg13 x1 x4 x5 x8 x11)) (k0_pay57, k0_pay58) k0_t6_loop.trips).2 = accSlow (Qb x1 x4 x5 x8 x11 (i 1)) d15 d16 3 := by
    rw [slow6 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg15.unread d15) (harg16.unread d16) (arg17.view.writes (Elt F) arg17.view.junk (runD.sl.HS17_8 c i arg3 harg3 arg6 harg6 arg7 harg7 arg10 harg10 arg13 harg13 x1 x4 x5 x8 x11))  _ (le_refl _), hk, hv, hq, qS_asm]; rfl
  have s4 : k0_pay62 (st_k0_t7 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (runD.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x4 x5 x8 x11 d15 d16) (harg15.unread d15) (harg16.unread d16) (arg17.view.writes (Elt F) arg17.view.junk (runD.sl.HS17_8 c i arg3 harg3 arg6 harg6 arg7 harg7 arg10 harg10 arg13 harg13 x1 x4 x5 x8 x11)) (k0_pay57, k0_pay58) k0_t7_loop.trips).2 = accSlow (Qb x1 x4 x5 x8 x11 (i 1)) d15 d16 4 := by
    rw [slow7 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg15.unread d15) (harg16.unread d16) (arg17.view.writes (Elt F) arg17.view.junk (runD.sl.HS17_8 c i arg3 harg3 arg6 harg6 arg7 harg7 arg10 harg10 arg13 harg13 x1 x4 x5 x8 x11)) (runD.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x4 x5 x8 x11 d15 d16) _ (le_refl _), hk, hv, hq, qS_asm]; rfl
  have s5 : k0_pay62 (st_k0_t8 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (runD.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x4 x5 x8 x11 d15 d16) (harg15.unread d15) (harg16.unread d16) (arg17.view.writes (Elt F) arg17.view.junk (runD.sl.HS17_8 c i arg3 harg3 arg6 harg6 arg7 harg7 arg10 harg10 arg13 harg13 x1 x4 x5 x8 x11)) (k0_pay57, k0_pay58) k0_t8_loop.trips).2 = accSlow (Qb x1 x4 x5 x8 x11 (i 1)) d15 d16 5 := by
    rw [slow8 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg15.unread d15) (harg16.unread d16) (arg17.view.writes (Elt F) arg17.view.junk (runD.sl.HS17_8 c i arg3 harg3 arg6 harg6 arg7 harg7 arg10 harg10 arg13 harg13 x1 x4 x5 x8 x11)) (runD.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x4 x5 x8 x11 d15 d16) _ (le_refl _), hk, hv, hq, qS_asm]; rfl
  have s6 : k0_pay62 (st_k0_t9 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (runD.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x4 x5 x8 x11 d15 d16) (harg15.unread d15) (harg16.unread d16) (arg17.view.writes (Elt F) arg17.view.junk (runD.sl.HS17_8 c i arg3 harg3 arg6 harg6 arg7 harg7 arg10 harg10 arg13 harg13 x1 x4 x5 x8 x11)) (k0_pay57, k0_pay58) k0_t9_loop.trips).2 = accSlow (Qb x1 x4 x5 x8 x11 (i 1)) d15 d16 6 := by
    rw [slow9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg15.unread d15) (harg16.unread d16) (arg17.view.writes (Elt F) arg17.view.junk (runD.sl.HS17_8 c i arg3 harg3 arg6 harg6 arg7 harg7 arg10 harg10 arg13 harg13 x1 x4 x5 x8 x11)) (runD.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x4 x5 x8 x11 d15 d16) _ (le_refl _), hk, hv, hq, qS_asm]; rfl
  have s7 : k0_pay62 (st_k0_t10 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runD.sl.v0 runD.sl.cst_198 (harg15.unread d15) (harg16.unread d16) (arg17.view.writes (Elt F) arg17.view.junk (runD.sl.HS17_8 c i arg3 harg3 arg6 harg6 arg7 harg7 arg10 harg10 arg13 harg13 x1 x4 x5 x8 x11)) (k0_pay57, k0_pay58) k0_t10_loop.trips).2 = accSlow (Qb x1 x4 x5 x8 x11 (i 1)) d15 d16 7 := by
    rw [slow10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg15.unread d15) (harg16.unread d16) (arg17.view.writes (Elt F) arg17.view.junk (runD.sl.HS17_8 c i arg3 harg3 arg6 harg6 arg7 harg7 arg10 harg10 arg13 harg13 x1 x4 x5 x8 x11)) runD.sl.v0 runD.sl.cst_198 _ (le_refl _), hk, hv, hq, qS_asm]; rfl
  have hS : arg18.view.read (Elt F) (arg18.view.writes (Elt F) arg18.view.junk (runD.sl.HS18_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x4 x5 x8 x11 d15 d16)) = asm (accSlow (Qb x1 x4 x5 x8 x11 (i 1)) d15 d16) := by
    rw [← read_stack arg18.view arg18.view.junk _ (inb_q 0) (inb_q 1) (inb_q 2) (inb_q 3) (inb_q 4) (inb_q 5) (inb_q 6) (inb_q 7), ← s0, ← s1, ← s2, ← s3, ← s4, ← s5, ← s6, ← s7]
    rfl
  have e0 := slab_of (F := F) arg18.view _ _ hS (0 : Fin 8) (inb_q _)
  have e1 := slab_of (F := F) arg18.view _ _ hS (1 : Fin 8) (inb_q _)
  have e2 := slab_of (F := F) arg18.view _ _ hS (2 : Fin 8) (inb_q _)
  have e3 := slab_of (F := F) arg18.view _ _ hS (3 : Fin 8) (inb_q _)
  have e4 := slab_of (F := F) arg18.view _ _ hS (4 : Fin 8) (inb_q _)
  have e5 := slab_of (F := F) arg18.view _ _ hS (5 : Fin 8) (inb_q _)
  have e6 := slab_of (F := F) arg18.view _ _ hS (6 : Fin 8) (inb_q _)
  have e7 := slab_of (F := F) arg18.view _ _ hS (7 : Fin 8) (inb_q _)
  have h := out_pieces_of arg14.view f _ inb_S1x512x512_S1x512x128_0_0_0 inb_S1x512x512_S1x512x128_0_0_128 inb_S1x512x512_S1x512x128_0_0_256 inb_S1x512x512_S1x512x128_0_0_384 _ _ _ _ _ _ _ _ e0 e1 e2 e3 e4 e5 e6 e7
  rw [← h]
  unfold runD
  rfl

end

section
variable  (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : word1 (arg2.view.readAt (Elt F) (Rect.unit (s := S1) ![0] S1.size inb_S1_S1_0).toLoadRect (harg2.unread x0) (Shape.Idx.first (numel1_S1.symm ▸ Nat.one_pos)))) (hc2 : ¬ word0 (arg2.view.readAt (Elt F) (Rect.unit (s := S1) ![0] S1.size inb_S1_S1_0).toLoadRect (harg2.unread x0) (Shape.Idx.first (numel1_S1.symm ▸ Nat.one_pos))))

theorem q17_A : arg17.view.read (Elt F) (arg17.view.writes (Elt F) arg17.view.junk (runA.sl.HS17_8 c i arg3 harg3 arg6 harg6 arg7 harg7 arg10 harg10 arg13 harg13 x1 x4 x5 x8 x11))
    = asm (Qb x1 x4 x5 x8 x11 (i 1)) := by
  have e0 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (0 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e0
  have e1 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (1 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e1
  have e2 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (2 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e2
  have e3 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (3 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e3
  have e4 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (4 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e4
  have e5 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (5 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e5
  have e6 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (6 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e6
  have e7 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (7 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e7
  rw [← read_stack arg17.view arg17.view.junk _ (inb_q 0) (inb_q 1) (inb_q 2) (inb_q 3) (inb_q 4) (inb_q 5) (inb_q 6) (inb_q 7), ← e0, ← e1, ← e2, ← e3, ← e4, ← e5, ← e6, ← e7]
  rfl

theorem k15_A : arg15.view.read (Elt F) (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) = KT x2 x3 x4 x6 x9 := by
  rw [fill15 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) (harg15.unread d15), harg4.read_unread, harg5.read_unread, harg6.read_unread, harg8.read_unread, harg11.read_unread]

theorem v16_A : arg16.view.read (Elt F) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) = VS x2 x7 x10 := by
  rw [fill16 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) (harg16.unread d16), harg4.read_unread, harg9.read_unread, harg12.read_unread]

theorem outA (f : arg14.view.ty.Contents (Elt F)) : arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 d15 d16 d17 d18 hc1 hc2).2.2.1)
    = outOf (accFast (Qb x1 x4 x5 x8 x11 (i 1)) (KT x2 x3 x4 x6 x9) (VS x2 x7 x10)) := by
  have hq := q17_A (F := F) (c := c) (i := i) (arg17 := arg17) (harg3 := harg3) (harg6 := harg6) (harg7 := harg7) (harg10 := harg10) (harg13 := harg13) (x1 := x1) (x4 := x4) (x5 := x5) (x8 := x8) (x11 := x11)
  have hk := k15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x6 x7 x9 x10 d15
  have hv := v16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x6 x7 x9 x10 d16
  have e0 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runA.sl.v0 _ _ _ _ _ _ hk hv hq inb_S8x512x128_S8x512x128_0_0_0 (0 : Fin 8) (inb_q _)
  have e1 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runA.sl.v0 _ _ _ _ _ _ hk hv hq inb_S8x512x128_S8x512x128_0_0_0 (1 : Fin 8) (inb_q _)
  have e2 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runA.sl.v0 _ _ _ _ _ _ hk hv hq inb_S8x512x128_S8x512x128_0_0_0 (2 : Fin 8) (inb_q _)
  have e3 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runA.sl.v0 _ _ _ _ _ _ hk hv hq inb_S8x512x128_S8x512x128_0_0_0 (3 : Fin 8) (inb_q _)
  have e4 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runA.sl.v0 _ _ _ _ _ _ hk hv hq inb_S8x512x128_S8x512x128_0_0_0 (4 : Fin 8) (inb_q _)
  have e5 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runA.sl.v0 _ _ _ _ _ _ hk hv hq inb_S8x512x128_S8x512x128_0_0_0 (5 : Fin 8) (inb_q _)
  have e6 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runA.sl.v0 _ _ _ _ _ _ hk hv hq inb_S8x512x128_S8x512x128_0_0_0 (6 : Fin 8) (inb_q _)
  have e7 := fast_slab (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runA.sl.v0 _ _ _ _ _ _ hk hv hq inb_S8x512x128_S8x512x128_0_0_0 (7 : Fin 8) (inb_q _)
  have h := out_pieces_of arg14.view f _ inb_S1x512x512_S1x512x128_0_0_0 inb_S1x512x512_S1x512x128_0_0_128 inb_S1x512x512_S1x512x128_0_0_256 inb_S1x512x512_S1x512x128_0_0_384 _ _ _ _ _ _ _ _ e0 e1 e2 e3 e4 e5 e6 e7
  rw [← h]
  unfold runA
  rfl

end

section
variable  (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : ¬ word1 (arg2.view.readAt (Elt F) (Rect.unit (s := S1) ![0] S1.size inb_S1_S1_0).toLoadRect (harg2.unread x0) (Shape.Idx.first (numel1_S1.symm ▸ Nat.one_pos)))) (hc2 : word0 (arg2.view.readAt (Elt F) (Rect.unit (s := S1) ![0] S1.size inb_S1_S1_0).toLoadRect (harg2.unread x0) (Shape.Idx.first (numel1_S1.symm ▸ Nat.one_pos))))

theorem q17_B : arg17.view.read (Elt F) (arg17.view.writes (Elt F) arg17.view.junk (runB.sl.HS17_8 c i arg3 harg3 arg6 harg6 arg7 harg7 arg10 harg10 arg13 harg13 x1 x4 x5 x8 x11))
    = asm (Qb x1 x4 x5 x8 x11 (i 1)) := by
  have e0 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (0 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e0
  have e1 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (1 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e1
  have e2 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (2 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e2
  have e3 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (3 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e3
  have e4 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (4 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e4
  have e5 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (5 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e5
  have e6 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (6 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e6
  have e7 := q_read (F := F) (arg3 := arg3) (arg6 := arg6) (arg7 := arg7) (arg10 := arg10) (arg13 := arg13) (X_arg3 := harg3.unread x1) (X_arg6 := harg6.unread x4) (X_arg7 := harg7.unread x5) (X_arg10 := harg10.unread x8) (X_arg13 := harg13.unread x11) (h := (7 : Fin 8)) (j := i 1) (ho1 := k0_off20_eq i) (ho2 := k0_off21_eq i) (i1 := inb_rq (a := 0) (j := i 1) (k0_off20_eq i)) (i2 := inb_rq (a := 1) (j := i 1) (k0_off21_eq i)) (i3 := by decide +kernel) (i4 := inb_wq _) (i5 := by decide +kernel)
  rw [harg3.read_unread, harg6.read_unread, harg7.read_unread, harg10.read_unread, harg13.read_unread] at e7
  rw [← read_stack arg17.view arg17.view.junk _ (inb_q 0) (inb_q 1) (inb_q 2) (inb_q 3) (inb_q 4) (inb_q 5) (inb_q 6) (inb_q 7), ← e0, ← e1, ← e2, ← e3, ← e4, ← e5, ← e6, ← e7]
  rfl

theorem k15_B : arg15.view.read (Elt F) (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) = KT x2 x3 x4 x6 x9 := by
  rw [fill15 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) (harg15.unread d15), harg4.read_unread, harg5.read_unread, harg6.read_unread, harg8.read_unread, harg11.read_unread]

theorem v16_B : arg16.view.read (Elt F) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) = VS x2 x7 x10 := by
  rw [fill16 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) (harg16.unread d16), harg4.read_unread, harg9.read_unread, harg12.read_unread]

theorem outB (f : arg14.view.ty.Contents (Elt F)) : arg14.view.read (Elt F) (arg14.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 d15 d16 d17 d18 hc1 hc2).2.2.1)
    = outOf (accSlow (Qb x1 x4 x5 x8 x11 (i 1)) (KT x2 x3 x4 x6 x9) (VS x2 x7 x10)) := by
  have hq := q17_B (F := F) (c := c) (i := i) (arg17 := arg17) (harg3 := harg3) (harg6 := harg6) (harg7 := harg7) (harg10 := harg10) (harg13 := harg13) (x1 := x1) (x4 := x4) (x5 := x5) (x8 := x8) (x11 := x11)
  have hk := k15_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x6 x7 x9 x10 d15
  have hv := v16_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x6 x7 x9 x10 d16
  have s0 : k0_pay62 (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (k0_pay57, k0_pay58) k0_t3_loop.trips).2 = accSlow (Qb x1 x4 x5 x8 x11 (i 1)) (KT x2 x3 x4 x6 x9) (VS x2 x7 x10) 0 := by
    rw [slow3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11))  _ (le_refl _), hk, hv, hq, qS_asm]; rfl
  have s1 : k0_pay62 (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (k0_pay57, k0_pay58) k0_t4_loop.trips).2 = accSlow (Qb x1 x4 x5 x8 x11 (i 1)) (KT x2 x3 x4 x6 x9) (VS x2 x7 x10) 1 := by
    rw [slow4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11))  _ (le_refl _), hk, hv, hq, qS_asm]; rfl
  have s2 : k0_pay62 (st_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (k0_pay57, k0_pay58) k0_t5_loop.trips).2 = accSlow (Qb x1 x4 x5 x8 x11 (i 1)) (KT x2 x3 x4 x6 x9) (VS x2 x7 x10) 2 := by
    rw [slow5 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11))  _ (le_refl _), hk, hv, hq, qS_asm]; rfl
  have s3 : k0_pay62 (st_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (k0_pay57, k0_pay58) k0_t6_loop.trips).2 = accSlow (Qb x1 x4 x5 x8 x11 (i 1)) (KT x2 x3 x4 x6 x9) (VS x2 x7 x10) 3 := by
    rw [slow6 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11))  _ (le_refl _), hk, hv, hq, qS_asm]; rfl
  have s4 : k0_pay62 (st_k0_t7 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (runB.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 x11 d15 d16) (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (k0_pay57, k0_pay58) k0_t7_loop.trips).2 = accSlow (Qb x1 x4 x5 x8 x11 (i 1)) (KT x2 x3 x4 x6 x9) (VS x2 x7 x10) 4 := by
    rw [slow7 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (runB.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 x11 d15 d16) _ (le_refl _), hk, hv, hq, qS_asm]; rfl
  have s5 : k0_pay62 (st_k0_t8 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (runB.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 x11 d15 d16) (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (k0_pay57, k0_pay58) k0_t8_loop.trips).2 = accSlow (Qb x1 x4 x5 x8 x11 (i 1)) (KT x2 x3 x4 x6 x9) (VS x2 x7 x10) 5 := by
    rw [slow8 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (runB.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 x11 d15 d16) _ (le_refl _), hk, hv, hq, qS_asm]; rfl
  have s6 : k0_pay62 (st_k0_t9 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (runB.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 x11 d15 d16) (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (k0_pay57, k0_pay58) k0_t9_loop.trips).2 = accSlow (Qb x1 x4 x5 x8 x11 (i 1)) (KT x2 x3 x4 x6 x9) (VS x2 x7 x10) 6 := by
    rw [slow9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (runB.sl.r_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 x11 d15 d16) _ (le_refl _), hk, hv, hq, qS_asm]; rfl
  have s7 : k0_pay62 (st_k0_t10 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 runB.sl.v0 runB.sl.cst_198 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) (k0_pay57, k0_pay58) k0_t10_loop.trips).2 = accSlow (Qb x1 x4 x5 x8 x11 (i 1)) (KT x2 x3 x4 x6 x9) (VS x2 x7 x10) 7 := by
    rw [slow10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (arg15.view.writes (Elt F) (harg15.unread d15) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).1) (arg16.view.writes (Elt F) (harg16.unread d16) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg4.unread x2) (harg5.unread x3) (harg6.unread x4) (harg8.unread x6) (harg9.unread x7) (harg11.unread x9) (harg12.unread x10) k0_t1_loop.trips).2) (arg17.view.writes (Elt F) arg17.view.junk (runB.sl.HS17_8 c i arg3 harg3 arg6 harg6 arg7 harg7 arg10 harg10 arg13 harg13 x1 x4 x5 x8 x11)) runB.sl.v0 runB.sl.cst_198 _ (le_refl _), hk, hv, hq, qS_asm]; rfl
  have hS : arg18.view.read (Elt F) (arg18.view.writes (Elt F) arg18.view.junk (runB.sl.HS18_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 x11 d15 d16)) = asm (accSlow (Qb x1 x4 x5 x8 x11 (i 1)) (KT x2 x3 x4 x6 x9) (VS x2 x7 x10)) := by
    rw [← read_stack arg18.view arg18.view.junk _ (inb_q 0) (inb_q 1) (inb_q 2) (inb_q 3) (inb_q 4) (inb_q 5) (inb_q 6) (inb_q 7), ← s0, ← s1, ← s2, ← s3, ← s4, ← s5, ← s6, ← s7]
    rfl
  have e0 := slab_of (F := F) arg18.view _ _ hS (0 : Fin 8) (inb_q _)
  have e1 := slab_of (F := F) arg18.view _ _ hS (1 : Fin 8) (inb_q _)
  have e2 := slab_of (F := F) arg18.view _ _ hS (2 : Fin 8) (inb_q _)
  have e3 := slab_of (F := F) arg18.view _ _ hS (3 : Fin 8) (inb_q _)
  have e4 := slab_of (F := F) arg18.view _ _ hS (4 : Fin 8) (inb_q _)
  have e5 := slab_of (F := F) arg18.view _ _ hS (5 : Fin 8) (inb_q _)
  have e6 := slab_of (F := F) arg18.view _ _ hS (6 : Fin 8) (inb_q _)
  have e7 := slab_of (F := F) arg18.view _ _ hS (7 : Fin 8) (inb_q _)
  have h := out_pieces_of arg14.view f _ inb_S1x512x512_S1x512x128_0_0_0 inb_S1x512x512_S1x512x128_0_0_128 inb_S1x512x512_S1x512x128_0_0_256 inb_S1x512x512_S1x512x128_0_0_384 _ _ _ _ _ _ _ _ e0 e1 e2 e3 e4 e5 e6 e7
  rw [← h]
  unfold runB
  rfl

end

end Cert.KI
-- ==== Proof.KI.Body.lean ====
module

public import proofs.«01_k».proof.Proof.KI.Blk
public import proofs.«01_k».proof.Proof.KI.Out

@[expose] public section

set_option maxRecDepth 16384
set_option maxHeartbeats 2000000

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable  (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : word1 (arg2.view.readAt (Elt F) (Rect.unit (s := S1) ![0] S1.size inb_S1_S1_0).toLoadRect (harg2.unread x0) (Shape.Idx.first (numel1_S1.symm ▸ Nat.one_pos)))) (hc2 : ¬ word0 (arg2.view.readAt (Elt F) (Rect.unit (s := S1) ![0] S1.size inb_S1_S1_0).toLoadRect (harg2.unread x0) (Shape.Idx.first (numel1_S1.symm ▸ Nat.one_pos))))
theorem kept_A : arg15.view.read (Elt F) (arg15.view.writes (Elt F) (harg15.unread d15) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 d15 d16 d17 d18 hc1 hc2).1) = KT x2 x3 x4 x6 x9 :=
  k15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x6 x7 x9 x10 d15
theorem vkept_A : arg16.view.read (Elt F) (arg16.view.writes (Elt F) (harg16.unread d16) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 d15 d16 d17 d18 hc1 hc2).2.1) = VS x2 x7 x10 :=
  v16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x6 x7 x9 x10 d16
end

section
variable  (c : Dev nD) (i : grid0.Coords) (arg2 : Memref sig .tc .smem S1 .i32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x4096x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S8x1x128 .f32) (harg12 : arg12.IsWhole) (arg13 : Memref sig .tc .vmem S1x128 .f32) (harg13 : arg13.IsWhole) (arg14 : Memref sig .tc .vmem S1x512x512 .bf16) (harg14 : arg14.IsWhole) (arg15 : Memref sig .tc .vmem S8x4x128x1024 .bf16) (harg15 : arg15.IsWhole) (arg16 : Memref sig .tc .vmem S8x4096x128 .bf16) (harg16 : arg16.IsWhole) (arg17 : Memref sig .tc .vmem S8x512x128 .bf16) (harg17 : arg17.IsWhole) (arg18 : Memref sig .tc .vmem S8x512x128 .f32) (harg18 : arg18.IsWhole) (hc0 : k0_cond1 i = 1#1)
    (x0 : Vec F S1 .i32) (x1 : Vec F S1x512x256 .bf16) (x2 : Vec F S1x4096x128 .bf16) (x3 : Vec F S1x4096x128 .bf16) (x4 : Vec F S2x4096x128 .f32) (x5 : Vec F S8x256x128 .bf16) (x6 : Vec F S8x128x128 .bf16) (x7 : Vec F S8x128x128 .bf16) (x8 : Vec F S1x128 .f32) (x9 : Vec F S1x128 .f32) (x10 : Vec F S8x1x128 .f32) (x11 : Vec F S1x128 .f32)
    (d15 : Vec F S8x4x128x1024 .bf16) (d16 : Vec F S8x4096x128 .bf16) (d17 : Vec F S8x512x128 .bf16) (d18 : Vec F S8x512x128 .f32)
    (hc1 : ¬ word1 (arg2.view.readAt (Elt F) (Rect.unit (s := S1) ![0] S1.size inb_S1_S1_0).toLoadRect (harg2.unread x0) (Shape.Idx.first (numel1_S1.symm ▸ Nat.one_pos)))) (hc2 : word0 (arg2.view.readAt (Elt F) (Rect.unit (s := S1) ![0] S1.size inb_S1_S1_0).toLoadRect (harg2.unread x0) (Shape.Idx.first (numel1_S1.symm ▸ Nat.one_pos))))
theorem kept_B : arg15.view.read (Elt F) (arg15.view.writes (Elt F) (harg15.unread d15) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 d15 d16 d17 d18 hc1 hc2).1) = KT x2 x3 x4 x6 x9 :=
  k15_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x6 x7 x9 x10 d15
theorem vkept_B : arg16.view.read (Elt F) (arg16.view.writes (Elt F) (harg16.unread d16) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 d15 d16 d17 d18 hc1 hc2).2.1) = VS x2 x7 x10 :=
  v16_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x6 x7 x9 x10 d16
end

variable (m : (ℓ : Loc nD τ sig) → Buf (Elt F) ℓ) (ρ : Dev nD → PrngReg)

/-- The scratch between points: before the first at any contents; then the batch's keys and values, the rest at any. -/
def PhiS (c : Dev nD) : (n : ℕ) → n ≤ cfg0.N → sProp 𝕄
  | 0, _ => Pipeline.ΦA spec0 c
  | n + 1, hn => iprop(iprop(owns (c : Thread nD τ) scr0 fullShare (KTat m c ⟨n, hn⟩) ∗ owns (c : Thread nD τ) scr1 fullShare (VSat m c ⟨n, hn⟩)
      ∗ (∃ d, owns (c : Thread nD τ) scr2 fullShare d) ∗ (∃ d, owns (c : Thread nD τ) scr3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr0 fullShare (KTat m c ⟨n, hn⟩) ∗ owns (c : Thread nD τ) scr1 fullShare (VSat m c ⟨n, hn⟩)
      ∗ (∃ d, owns (c : Thread nD τ) scr2 fullShare d) ∗ (∃ d, owns (c : Thread nD τ) scr3 fullShare d)) ∗ (∃ r, prngReg c r)) := rfl

theorem PhiS_pos (c : Dev nD) (n : ℕ) (h : n ≤ cfg0.N) (hz : n ≠ 0) :
    PhiS m c n h = iprop(iprop(owns (c : Thread nD τ) scr0 fullShare (KTat m c ⟨n - 1, by omega⟩) ∗ owns (c : Thread nD τ) scr1 fullShare (VSat m c ⟨n - 1, by omega⟩)
      ∗ (∃ d, owns (c : Thread nD τ) scr2 fullShare d) ∗ (∃ d, owns (c : Thread nD τ) scr3 fullShare d)) ∗ (∃ r, prngReg c r)) := by
  cases n with
  | zero => exact absurd rfl hz
  | succ n => rfl

/-- The proof data: each input's buffer at its block, the output's at the attention of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at a point, the windows one by one; -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d))
    ∗ (∃ d, owns (c : Thread nD τ) (mem12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t)
    ∗ owns (c : Thread nD τ) (mem9 t) fullShare ((dats m 0 c).after 9 t)
    ∗ owns (c : Thread nD τ) (mem10 t) fullShare ((dats m 0 c).after 10 t)
    ∗ owns (c : Thread nD τ) (mem11 t) fullShare ((dats m 0 c).after 11 t)
    ∗ owns (c : Thread nD τ) (mem12 t) fullShare ((dats m 0 c).after 12 t))

theorem word1_one : word1 1#32 := by decide
theorem word0_zero : word0 0#32 := by decide
theorem not_word1_zero : ¬ word1 0#32 := by decide
theorem not_word0_one : ¬ word0 1#32 := by decide

set_option maxHeartbeats 25600000 in
theorem sound_A (c : Dev nD) (t : Fin cfg0.N) (h0 : t.val % 8 = 0) (hf : (V m c main_v35 : IVec S1 32) = fun _ => 1#32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hw := fun a h => flag_word m c t _ hf a h
  by_cases hz : t.val = 0
  · rw [PhiS_castSucc m c t, PhiS_zero m c _ _ hz, scoped_eq]
    iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA c (grid0.coords t) _ _ _ _ _ _ _ _ _ _ _ _ _ _ _ _ _ _ _ _ _ _ _ _ _ _ _ _ _ _ _ _ _ _ ((first_tile t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ e2 e3 (by rw [hw]; exact word1_one) (by rw [hw]; exact not_word0_one)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, ⟨%f12, H12⟩, HS0, HS1, HS2, HS3⟩
    isplitl [HS0 HS1 HS2 HS3 Hg]
    · isplitl [HS0 HS1 HS2 HS3]
      · isplitl [HS0]
        · unfold owns; iexists _; isplitr
          swap; · iexact HS0
          ipureintro; exact kept_A c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _
        isplitl [HS1]
        · unfold owns; iexists _; isplitr
          swap; · iexact HS1
          ipureintro; exact vkept_A c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact (outA c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).trans (outAt_one m c t hf).symm
  · rw [PhiS_castSucc m c t, PhiS_pos m c _ _ hz]
    iintro ⟨⟨⟨HS0, HS1, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA c (grid0.coords t) _ _ _ _ _ _ _ _ _ _ _ _ _ _ _ _ _ _ _ _ _ _ _ _ _ _ _ _ _ _ _ _ _ _ ((first_tile t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ e2 e3 (by rw [hw]; exact word1_one) (by rw [hw]; exact not_word0_one)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, ⟨%f12, H12⟩, HS0, HS1, HS2, HS3⟩
    isplitl [HS0 HS1 HS2 HS3 Hg]
    · isplitl [HS0 HS1 HS2 HS3]
      · isplitl [HS0]
        · unfold owns; iexists _; isplitr
          swap; · iexact HS0
          ipureintro; exact kept_A c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _
        isplitl [HS1]
        · unfold owns; iexists _; isplitr
          swap; · iexact HS1
          ipureintro; exact vkept_A c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact (outA c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).trans (outAt_one m c t hf).symm

set_option maxHeartbeats 25600000 in
theorem sound_B (c : Dev nD) (t : Fin cfg0.N) (h0 : t.val % 8 = 0) (hf : (V m c main_v35 : IVec S1 32) = fun _ => 0#32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hw := fun a h => flag_word m c t _ hf a h
  by_cases hz : t.val = 0
  · rw [PhiS_castSucc m c t, PhiS_zero m c _ _ hz, scoped_eq]
    iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords t) _ _ _ _ _ _ _ _ _ _ _ _ _ _ _ _ _ _ _ _ _ _ _ _ _ _ _ _ _ _ _ _ _ _ ((first_tile t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ e2 e3 (by rw [hw]; exact not_word1_zero) (by rw [hw]; exact word0_zero)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, ⟨%f12, H12⟩, HS0, HS1, HS2, HS3⟩
    isplitl [HS0 HS1 HS2 HS3 Hg]
    · isplitl [HS0 HS1 HS2 HS3]
      · isplitl [HS0]
        · unfold owns; iexists _; isplitr
          swap; · iexact HS0
          ipureintro; exact kept_B c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _
        isplitl [HS1]
        · unfold owns; iexists _; isplitr
          swap; · iexact HS1
          ipureintro; exact vkept_B c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact (outB c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).trans (outAt_zero m c t hf).symm
  · rw [PhiS_castSucc m c t, PhiS_pos m c _ _ hz]
    iintro ⟨⟨⟨HS0, HS1, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords t) _ _ _ _ _ _ _ _ _ _ _ _ _ _ _ _ _ _ _ _ _ _ _ _ _ _ _ _ _ _ _ _ _ _ ((first_tile t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ e2 e3 (by rw [hw]; exact not_word1_zero) (by rw [hw]; exact word0_zero)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, ⟨%f12, H12⟩, HS0, HS1, HS2, HS3⟩
    isplitl [HS0 HS1 HS2 HS3 Hg]
    · isplitl [HS0 HS1 HS2 HS3]
      · isplitl [HS0]
        · unfold owns; iexists _; isplitr
          swap; · iexact HS0
          ipureintro; exact kept_B c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _
        isplitl [HS1]
        · unfold owns; iexists _; isplitr
          swap; · iexact HS1
          ipureintro; exact vkept_B c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact (outB c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).trans (outAt_zero m c t hf).symm

set_option maxHeartbeats 25600000 in
theorem sound_C (c : Dev nD) (t : Fin cfg0.N) (h0 : ¬ t.val % 8 = 0) (hf : (V m c main_v35 : IVec S1 32) = fun _ => 1#32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hw := fun a h => flag_word m c t _ hf a h
  have hz : t.val ≠ 0 := fun h => h0 (by rw [h])
  have hN := N128 t
  rw [PhiS_castSucc m c t, PhiS_pos m c _ _ hz]
  rw [KTat_congr m c (t := ⟨t.val - 1, by omega⟩) (t' := t) (by show (t.val - 1) / 8 = t.val / 8; omega), VSat_congr m c (t := ⟨t.val - 1, by omega⟩) (t' := t) (by show (t.val - 1) / 8 = t.val / 8; omega)]
  iintro ⟨⟨⟨HS0, HS1, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC c (grid0.coords t) _ _ _ _ _ _ _ _ _ _ _ _ _ _ _ _ _ _ _ _ _ _ _ _ _ _ _ _ _ _ _ _ _ _ (fun h => h0 ((first_tile t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ e2 e3 (by rw [hw]; exact word1_one) (by rw [hw]; exact not_word0_one)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%f12, H12⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro
  exact (outC c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).trans (outAt_one m c t hf).symm

set_option maxHeartbeats 25600000 in
theorem sound_D (c : Dev nD) (t : Fin cfg0.N) (h0 : ¬ t.val % 8 = 0) (hf : (V m c main_v35 : IVec S1 32) = fun _ => 0#32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hw := fun a h => flag_word m c t _ hf a h
  have hz : t.val ≠ 0 := fun h => h0 (by rw [h])
  have hN := N128 t
  rw [PhiS_castSucc m c t, PhiS_pos m c _ _ hz]
  rw [KTat_congr m c (t := ⟨t.val - 1, by omega⟩) (t' := t) (by show (t.val - 1) / 8 = t.val / 8; omega), VSat_congr m c (t := ⟨t.val - 1, by omega⟩) (t' := t) (by show (t.val - 1) / 8 = t.val / 8; omega)]
  iintro ⟨⟨⟨HS0, HS1, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runD c (grid0.coords t) _ _ _ _ _ _ _ _ _ _ _ _ _ _ _ _ _ _ _ _ _ _ _ _ _ _ _ _ _ _ _ _ _ _ (fun h => h0 ((first_tile t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ e2 e3 (by rw [hw]; exact not_word1_zero) (by rw [hw]; exact word0_zero)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%f12, H12⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro
  exact (outD c (grid0.coords t) _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).trans (outAt_zero m c t hf).symm

theorem sound_body (c : Dev nD) (t : Fin cfg0.N) :
    bodyPre m c t ⊢ wp frame (wpE (defs₀ (F := F)) Variants.none c none) Set.univ (bodyAt0 t) (fun _ => bodyPost m c t) := by
  have hf : (V m c main_v35 : IVec S1 32) = (fun _ => 1#32) ∨ (V m c main_v35 : IVec S1 32) = fun _ => 0#32 := by
    rw [V_hFlag]; exact hFlag_cases _ _
  by_cases h0 : t.val % 8 = 0
  · rcases hf with hf | hf
    · exact sound_A m c t h0 hf
    · exact sound_B m c t h0 hf
  · rcases hf with hf | hf
    · exact sound_C m c t h0 hf
    · exact sound_D m c t h0 hf

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, scoped_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KI

end
-- ==== Proof.Val.Math.lean ====
module

public import Idealize.ShloMosaic.Lib.Pointwise

@[expose] public section

set_option maxRecDepth 16384

noncomputable section

namespace Cert.Val

open Idealize.ShloMosaic

/-! ## The literals -/

theorem lit96 : Ideal.ofBits .f32 1119879168#32 = ((96 : ℝ) : EReal) := by
  simp [Ideal.ofBits, Ideal.ieee, -EReal.coe_mul]; norm_num

theorem litEps : ∃ e : ℝ, 0 < e ∧ Ideal.ofBits .f32 897988541#32 = (e : EReal) := by
  refine ⟨_, ?_, by simp [Ideal.ofBits, Ideal.ieee, -EReal.coe_mul]; rfl⟩
  norm_num

theorem litBot : Ideal.ofBits .f32 4286578688#32 = (⊥ : EReal) := by
  simp [Ideal.ofBits, Ideal.ieee]

theorem litTop : Ideal.ofBits .f32 2139095040#32 = (⊤ : EReal) := by
  simp [Ideal.ofBits, Ideal.ieee]

theorem litOne : Ideal.ofBits .f32 1065353216#32 = (1 : EReal) := by
  simp [Ideal.ofBits, Ideal.ieee, -EReal.coe_mul]; norm_num

theorem lit1e4 : Ideal.ofBits .f32 1176256512#32 = ((10000 : ℝ) : EReal) := by
  simp [Ideal.ofBits, Ideal.ieee, -EReal.coe_mul]; norm_num

theorem lit16 : Ideal.ofBits .f32 1098907648#32 = ((16 : ℝ) : EReal) := by
  simp [Ideal.ofBits, Ideal.ieee, -EReal.coe_mul]; norm_num

theorem litC1 : ∃ r : ℝ, Ideal.ofBits .f32 1097100764#32 = (r : EReal) :=
  ⟨_, by simp [Ideal.ofBits, Ideal.ieee, -EReal.coe_mul]; rfl⟩
theorem litC2 : ∃ r : ℝ, Ideal.ofBits .f32 1036831949#32 = (r : EReal) :=
  ⟨_, by simp [Ideal.ofBits, Ideal.ieee, -EReal.coe_mul]; rfl⟩

/-! ## Sums of extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum_nonneg {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem sq_nonneg' (x : EReal) : 0 ≤ x * x := by
  induction x using EReal.rec with
  | bot => simp
  | top => simp
  | coe r => rw [← EReal.coe_mul]; exact EReal.coe_nonneg.mpr (mul_self_nonneg r)

/-- A component over the root of a mean of squares is a real, infinite components included. -/
theorem norm_real (x : Fin 96 → EReal) (e : ℝ) (he : 0 < e) : ∃ u : Fin 96 → ℝ, ∀ d,
    x d * Ideal.rsqrt ((∑ i, x i * x i) * ((1 / 96 : ℝ) : EReal) + (e : EReal)) = (u d : EReal) := by
  by_cases h : ∃ d, x d * x d = ⊤
  · obtain ⟨d0, h0⟩ := h
    have hs : (∑ i, x i * x i) = ⊤ := by
      apply top_unique
      rw [← h0]
      exact Finset.single_le_sum (f := fun i => x i * x i) (fun i _ => sq_nonneg' (x i)) (Finset.mem_univ d0)
    refine ⟨fun _ => 0, fun d => ?_⟩
    rw [hs, EReal.top_mul_coe_of_pos (by norm_num), EReal.top_add_coe, Ideal.rsqrt_top, mul_zero]; rfl
  · have hr : ∀ d, ∃ r : ℝ, x d = r := by
      intro d
      have hd : x d * x d ≠ ⊤ := fun k => h ⟨d, k⟩
      generalize x d = y at hd
      induction y using EReal.rec with
      | bot => simp at hd
      | top => simp at hd
      | coe r => exact ⟨r, rfl⟩
    choose r hr using hr
    have hp : 0 < (∑ i, r i * r i) * (1 / 96) + e :=
      add_pos_of_nonneg_of_pos (mul_nonneg (Finset.sum_nonneg fun i _ => mul_self_nonneg (r i)) (by norm_num)) he
    refine ⟨fun d => r d * (Real.sqrt ((∑ i, r i * r i) * (1 / 96) + e))⁻¹, fun d => ?_⟩
    rw [hr d, show (∑ i, x i * x i) = ((∑ i, r i * r i : ℝ) : EReal) by
      rw [coe_sum]; exact Finset.sum_congr rfl fun i _ => by rw [hr i, EReal.coe_mul],
      ← EReal.coe_mul, ← EReal.coe_add, Ideal.rsqrt_coe, if_neg (not_lt.mpr hp.le), if_neg hp.ne', ← EReal.coe_mul]

/-- The greatest of finitely many reals, and at least one, is a real. -/
theorem fold_max_real {ι : Type*} (s : Finset ι) (hs : s.Nonempty) (f : ι → EReal) (hf : ∀ i, ∃ r : ℝ, f i = r) :
    ∃ r : ℝ, s.fold max ⊥ f = (r : EReal) := by
  classical
  induction hs using Finset.Nonempty.cons_induction with
  | singleton a => obtain ⟨r, h⟩ := hf a; exact ⟨r, by rw [Finset.fold_singleton, h, max_bot_right]⟩
  | cons a s ha hs ih =>
    obtain ⟨r, h⟩ := hf a; obtain ⟨q, hq⟩ := ih
    exact ⟨max r q, by rw [Finset.fold_cons, h, hq]; exact (EReal.coe_strictMono.monotone.map_max).symm⟩

theorem exp2_coe_pos (s : ℝ) : ∃ r : ℝ, 0 < r ∧ Ideal.exp2 (s : EReal) = r := ⟨Real.rpow 2 s, Real.rpow_pos_of_pos (by norm_num) s, Ideal.exp2_coe ..⟩

/-- Weights of a softmax do not see a common positive factor. -/
theorem soft {n : ℕ} [NeZero n] (w : Fin n → ℝ) (hw : ∀ t, 0 < w t) (a : ℝ) (ha : 0 < a) (v : Fin n → EReal) :
    (∑ t, ((a * w t : ℝ) : EReal) * v t) * Ideal.div 1 (∑ t, ((a * w t : ℝ) : EReal))
      = ∑ t, Ideal.div (w t : EReal) (∑ t, (w t : EReal)) * v t := by
  have hS : 0 < ∑ t, w t := Finset.sum_pos (fun t _ => hw t) ⟨0, Finset.mem_univ _⟩
  have haS : 0 < ∑ t, a * w t := by rw [← Finset.mul_sum]; exact mul_pos ha hS
  rw [← coe_sum, ← coe_sum, Ideal.div_coe haS.ne', one_mul, mul_comm, mul_sum_nonneg _ _ (by positivity)]
  refine Finset.sum_congr rfl fun t _ => ?_
  rw [Ideal.div_coe hS.ne', ← mul_assoc, ← EReal.coe_mul, ← EReal.coe_mul]
  congr 2
  rw [← Finset.mul_sum]; field_simp

/-! ## One head's row over four key blocks -/

/-- The running sum over the blocks, the weights relative to `μ` taken out. -/
def T (w : Fin 4 → Fin 1024 → ℝ) (v : Fin 4 → Fin 1024 → EReal) : ℕ → EReal
  | 0 => 0
  | n + 1 => if h : n < 4 then T w v n + ∑ r, (w ⟨n, h⟩ r : EReal) * v ⟨n, h⟩ r else T w v n

theorem T_four (w : Fin 4 → Fin 1024 → ℝ) (v : Fin 4 → Fin 1024 → EReal) :
    T w v 4 = ∑ k, ∑ r, (w k r : EReal) * v k r := by
  simp only [T, Fin.sum_univ_four]; simp

theorem sum_4096 {M : Type*} [AddCommMonoid M] (f : Fin 4096 → M) :
    ∑ t, f t = ∑ k : Fin 4, ∑ r : Fin 1024, f ⟨1024 * k.val + r.val, by omega⟩ := by
  rw [← Finset.sum_product', Finset.univ_product_univ]
  refine Fintype.sum_equiv ((finProdFinEquiv (m := 4) (n := 1024)).symm.trans (Equiv.refl _)) _ _ fun t => ?_
  congr 1
  apply Fin.ext
  simp [finProdFinEquiv]
  omega

end Cert.Val

end
-- ==== Proof.Val.Pay.lean ====
module

public import proofs.«01_k».proof.Proof.Val.Math
public import proofs.«01_k».proof.Proof.KI.Defs

@[expose] public section

set_option maxRecDepth 16384
set_option maxHeartbeats 400000

noncomputable section

namespace Cert.Val

open Cert.KernelIdeal Cert.KernelIdeal.Gen Cert.KI
open Idealize.ShloMosaic Idealize.ShloMosaic.TcCoe Idealize.ShloMosaic.Tactic Idealize.SL.Sem

/-- A row times its inverse root mean square and a gain. -/
def nrm (X G : Fin 128 → EReal) (l : Fin 128) : EReal :=
  X l * Ideal.rsqrt ((∑ i, X i * X i) * ((1 / 96 : ℝ) : EReal) + Ideal.ofBits .f32 897988541#32) * G l

/-- The matrix that brings each half of the rotary lanes to the other's place. -/
def swp (k l : Fin 128) : EReal :=
  if (64 ≤ l.val ∧ l.val < 80 ∧ k.val = l.val + 16) ∨ (80 ≤ l.val ∧ l.val < 96 ∧ k.val + 16 = l.val) then 1 else 0

/-- A normalised row, rotated, with an extra lane added. -/
def mid (N C D O : Fin 128 → EReal) (l : Fin 128) : EReal := N l * C l + (∑ k, N k * swp k l) * D l + O l

/-! ## The payloads at an index -/

theorem swap_word : ∀ k l : Fin 128, IntOp.ori
        (IntOp.andi
          (IntOp.andi (IntOp.cmpi CmpIPredicate.sge (BitVec.ofNat 32 l.val) 64#32)
            (IntOp.cmpi CmpIPredicate.slt (BitVec.ofNat 32 l.val) 80#32))
          (IntOp.cmpi CmpIPredicate.eq (BitVec.ofNat 32 k.val) (IntOp.addi (BitVec.ofNat 32 l.val) 16#32)))
        (IntOp.andi
          (IntOp.andi (IntOp.cmpi CmpIPredicate.sge (BitVec.ofNat 32 l.val) 80#32)
            (IntOp.cmpi CmpIPredicate.slt (BitVec.ofNat 32 l.val) 96#32))
          (IntOp.cmpi CmpIPredicate.eq (BitVec.ofNat 32 k.val) (IntOp.subi (BitVec.ofNat 32 l.val) 16#32)))
    = if (64 ≤ l.val ∧ l.val < 80 ∧ k.val = l.val + 16) ∨ (80 ≤ l.val ∧ l.val < 96 ∧ k.val + 16 = l.val) then 1#1 else 0#1 := by
  decide +kernel

theorem sel_if (p : Prop) [Decidable p] (a b : EReal) : Scalar.select (if p then 1#1 else 0#1) a b = if p then a else b := by
  by_cases h : p
  · rw [if_pos h, if_pos h]; rfl
  · rw [if_neg h, if_neg h]; rfl

theorem swap_at (k l : Fin 128) : (k0_pay114 : FVec Ideal S128x128 .bf16) (ix2 k l) = swp k l := by
  unfold k0_pay114
  pointwise
  rw [swap_word, sel_if]
  rfl

theorem eq_word : ∀ l : Fin 128, IntOp.cmpi CmpIPredicate.eq (BitVec.ofNat 32 l.val) 127#32 = if l.val = 127 then 1#1 else 0#1 := by decide +kernel
theorem eq_word0 : ∀ l : Fin 128, IntOp.cmpi CmpIPredicate.eq (BitVec.ofNat 32 l.val) 0#32 = if l = 0 then 1#1 else 0#1 := by decide +kernel
theorem eq_word64 : ∀ l : Fin 128, IntOp.cmpi CmpIPredicate.eq (BitVec.ofNat 32 l.val) 64#32 = if l = 64 then 1#1 else 0#1 := by decide +kernel
theorem lt_word64 : ∀ l : Fin 128, IntOp.cmpi CmpIPredicate.slt (BitVec.ofNat 32 l.val) 64#32 = if l.val < 64 then 1#1 else 0#1 := by decide +kernel

theorem one_at (l : Fin 128) : (k0_pay115 : FVec Ideal S1x128 .f32) (ix2 0 l) = if l.val = 127 then 1 else 0 := by
  unfold k0_pay115
  pointwise
  rw [eq_word, sel_if]

theorem inv_qk : (Named.named (F := Ideal) (φ := .f32) κ "inv_qk" 1009429163#32 : EReal) = ((1 / 96 : ℝ) : EReal) :=
  IdealRules.named_const.ideal_named_scalar _ _ _ _ rfl

/-- The scale of the scores, to base two. -/
def sg : ℝ := ((Real.sqrt 96) * (Real.log 2))⁻¹
theorem log2_scale : (Named.named (F := Ideal) (φ := .f32) κ "log2_scale" 0x3E16C740#32 : EReal) = (sg : EReal) :=
  IdealRules.named_const.ideal_named_scalar _ _ _ _ rfl

theorem q_at (sw : FVec Ideal S128x128 .bf16) (C D : FVec Ideal S512x128 .f32) (g : FVec Ideal S1x128 .f32) (x : Vec Ideal S1x512x256 .bf16) (w : Vec Ideal S1x256x128 .bf16)
    (sh : Vec Ideal S1x128 .f32) (r : Fin 512) (l : Fin 128) (hsw : ∀ k l, sw (ix2 k l) = swp k l) : k0_pay131 sw C D g x w sh (ix3 0 r l)
    = mid (nrm (fun l => ∑ e, x (ix3 0 r e) * w (ix3 0 e l)) (fun l => g (ix2 0 l))) (fun l => C (ix2 r l)) (fun l => D (ix2 r l)) (fun l => sh (ix2 0 l)) l := by
  unfold k0_pay131 mid nrm
  pointwise
  simp only [inv_qk, hsw]

theorem k_at (sw : FVec Ideal S128x128 .bf16) (o : FVec Ideal S1x128 .f32) (x : Vec Ideal S1x1024x128 .bf16) (kr : Vec Ideal S1x1024x128 .bf16) (C D : Vec Ideal S1x1024x128 .f32) (w : Vec Ideal S1x128x128 .bf16)
    (g : Vec Ideal S1x128 .f32) (r : Fin 1024) (l : Fin 128) (hsw : ∀ k l, sw (ix2 k l) = swp k l) : k0_pay8 (k0_pay7 sw o x kr C D w g) (ix4 0 0 l r)
    = mid (nrm (fun l => ∑ e, x (ix3 0 r e) * w (ix3 0 e l) + kr (ix3 0 r l)) (fun l => g (ix2 0 l))) (fun l => C (ix3 0 r l)) (fun l => D (ix3 0 r l)) (fun l => o (ix2 0 l)) l := by
  unfold k0_pay8 k0_pay7 k0_pay3 k0_pay4 k0_pay5 k0_pay6 mid nrm
  pointwise
  simp only [inv_qk, hsw]

theorem v_at (x : Vec Ideal S1x1024x128 .bf16) (w : Vec Ideal S1x128x128 .bf16)
    (o : Vec Ideal S1x1x128 .f32) (r : Fin 1024) (l : Fin 128) : k0_pay9 (k0_pay3 x) w o (ix3 0 r l) = ∑ e, x (ix3 0 r e) * w (ix3 0 e l) + o (ix3 0 0 l) := by
  unfold k0_pay9 k0_pay3
  pointwise

theorem Qb_at (x1 : Vec Ideal S1x512x256 .bf16) (x4 : Vec Ideal S2x4096x128 .f32) (x5 : Vec Ideal S8x256x128 .bf16) (x8 x11 : Vec Ideal S1x128 .f32)
    (j h : Fin 8) (r : Fin 512) (l : Fin 128) : Qb x1 x4 x5 x8 x11 j h (ix3 0 r l)
    = mid (nrm (fun l => ∑ e, x1 (ix3 0 r e) * x5 (ix3 h e l)) (fun l => x8 (ix2 0 l) * (sg : EReal))) (fun l => x4 (ix3 0 ⟨512 * j.val + r.val, by omega⟩ l))
      (fun l => x4 (ix3 1 ⟨512 * j.val + r.val, by omega⟩ l)) (fun l => x11 (ix2 0 l)) l := by
  unfold Qb
  rw [q_at _ _ _ _ _ _ _ _ _ swap_at]
  unfold k0_pay117 k0_pay118 k0_pay119 k0_pay120 ropeQ wqS
  pointwise
  rw [log2_scale]

theorem KTb_at (x2 x3 : Vec Ideal S1x4096x128 .bf16) (x4 : Vec Ideal S2x4096x128 .f32) (x6 : Vec Ideal S8x128x128 .bf16) (x9 : Vec Ideal S1x128 .f32)
    (h : Fin 8) (k : Fin 4) (r : Fin 1024) (l : Fin 128) : KTb x2 x3 x4 x6 x9 h k (ix4 0 0 l r)
    = mid (nrm (fun l => ∑ e, x2 (ix3 0 ⟨1024 * k.val + r.val, by omega⟩ e) * x6 (ix3 h e l) + x3 (ix3 0 ⟨1024 * k.val + r.val, by omega⟩ l)) (fun l => x9 (ix2 0 l)))
      (fun l => x4 (ix3 0 ⟨1024 * k.val + r.val, by omega⟩ l)) (fun l => x4 (ix3 1 ⟨1024 * k.val + r.val, by omega⟩ l)) (fun l => if l.val = 127 then 1 else 0) l := by
  unfold KTb
  rw [k_at _ _ _ _ _ _ _ _ _ _ swap_at]
  simp only [one_at]
  unfold rS ropeS wS
  pointwise

theorem VSb_at (x2 : Vec Ideal S1x4096x128 .bf16) (x7 : Vec Ideal S8x128x128 .bf16) (x10 : Vec Ideal S8x1x128 .f32) (h : Fin 8) (k : Fin 4) (r : Fin 1024) (l : Fin 128) :
    VSb x2 x7 x10 h k (ix3 0 r l) = ∑ e, x2 (ix3 0 ⟨1024 * k.val + r.val, by omega⟩ e) * x7 (ix3 h e l) + x10 (ix3 h 0 l) := by
  unfold VSb
  rw [v_at]
  unfold rS wS oneS
  pointwise

theorem fast_at (q : Vec Ideal S1x512x128 .bf16) (k : Vec Ideal S1x1x128x1024 .bf16) (a : FVec Ideal S1x512x128 .f32) (v : Vec Ideal S1x1024x128 .bf16) (r : Fin 512) (l : Fin 128) :
   k0_pay36 q k a v (ix3 0 r l) = a (ix3 0 r l) + ∑ x, Ideal.exp2 (∑ y, q (ix3 0 r y) * k (ix4 0 0 y x)) * v (ix3 0 x l) := by
  unfold k0_pay36
  pointwise
  rfl

theorem sum_pick (a : Fin 128 → EReal) (j : Fin 128) : (∑ l, if l = j then a l else 0) = a j := by
  rw [Finset.sum_ite_eq' Finset.univ j a, if_pos (Finset.mem_univ _)]

theorem fin_at (a b : FVec Ideal S1x512x128 .f32) (r : Fin 512) (l : Fin 128) :
   fin2 a b (ix3 0 r l) = if l.val < 64 then a (ix3 0 r l) * Ideal.div 1 (a (ix3 0 r 64)) else b (ix3 0 r l) * Ideal.div 1 (b (ix3 0 r 0)) := by
  unfold fin2 k0_pay51 k0_pay48 k0_pay49 k0_pay50 iota0
  pointwise
  simp only [eq_word0, eq_word64, lt_word64, sel_if]
  rw [sum_pick, sum_pick]

theorem sc_at (q : Vec Ideal S1x512x128 .bf16) (k : Vec Ideal S1x1x128x1024 .bf16) (r : Fin 512) (x : Fin 1024) :
   k0_pay59 q k (ix2 r x) = ∑ y, q (ix3 0 r y) * k (ix4 0 0 y x) := by
  unfold k0_pay59
  pointwise

theorem m_at (m : FVec Ideal S512x1 .f32) (q : Vec Ideal S1x512x128 .bf16) (k : Vec Ideal S1x1x128x1024 .bf16) (r : Fin 512) :
   k0_pay60 m q k (ix2 r 0) = max (m (ix2 r 0)) (Finset.univ.fold max ⊥ fun x : Fin 1024 => k0_pay59 q k (ix2 r x)) := by
  unfold k0_pay60
  pointwise
  rw [litBot]

theorem acc_at (m : FVec Ideal S512x1 .f32) (a : FVec Ideal S512x128 .f32) (q : Vec Ideal S1x512x128 .bf16) (k : Vec Ideal S1x1x128x1024 .bf16) (v : Vec Ideal S1x1024x128 .bf16) (r : Fin 512) (l : Fin 128) :
   k0_pay61 m a q k v (ix2 r l) = Ideal.exp2 (m (ix2 r 0) - k0_pay60 m q k (ix2 r 0)) * a (ix2 r l) + ∑ x, Ideal.exp2 (k0_pay59 q k (ix2 r x) - k0_pay60 m q k (ix2 r 0)) * v (ix3 0 x l) := by
  unfold k0_pay61
  pointwise
  rfl

end Cert.Val

end
-- ==== Proof.Val.Ref.lean ====
module

public import proofs.«01_k».proof.Proof.Gen.ReferenceIdeal.Run
public import proofs.«01_k».proof.Proof.Val.Math

@[expose] public section

set_option maxRecDepth 16384
set_option maxHeartbeats 400000

noncomputable section

namespace Cert.Val

open Cert.ReferenceIdeal Cert.ReferenceIdeal.Gen Cert.ReferenceIdeal.Value
open Idealize.ShloMosaic Idealize.ShloMosaic.TcCoe Idealize.ShloMosaic.Tactic Idealize.SL.Sem

/-! ## The mathematics, of arrays read at an index -/

/-- A head's query of a row, -/
def Xq (a0 : FVec Ideal ⟨3, ![16, 4096, 256]⟩ .f32) (a3 : FVec Ideal ⟨2, ![256, 768]⟩ .f32) (b : Fin 16) (h : Fin 8) (s : Fin 4096) (d : Fin 96) : EReal :=
  ∑ k : Fin 256, a0 (ix3 b s k) * a3 (ix2 k ⟨h.val * 96 + d.val, by omega⟩)
/-- its key and value from the latent, -/
def Lk (a1 : FVec Ideal ⟨3, ![16, 4096, 128]⟩ .f32) (a4 : FVec Ideal ⟨2, ![128, 1024]⟩ .f32) (b : Fin 16) (h : Fin 8) (s : Fin 4096) (d : Fin 128) : EReal :=
  ∑ k : Fin 128, a1 (ix3 b s k) * a4 (ix2 k ⟨h.val * 128 + d.val, by omega⟩)
/-- and its key, the shared rotary part after its own. -/
def Xk (a1 : FVec Ideal ⟨3, ![16, 4096, 128]⟩ .f32) (a2 : FVec Ideal ⟨3, ![16, 4096, 32]⟩ .f32) (a4 : FVec Ideal ⟨2, ![128, 1024]⟩ .f32)
    (b : Fin 16) (h : Fin 8) (s : Fin 4096) (d : Fin 96) : EReal :=
  if hd : d.val < 64 then Lk a1 a4 b h s ⟨d.val, by omega⟩ else a2 (ix3 b s ⟨d.val - 64, by omega⟩)

/-- The inverse root of a row's mean square. -/
def rinv (x : Fin 96 → EReal) : EReal :=
  Ideal.rsqrt ((∑ i, x i * x i) * ((1 / 96 : ℝ) : EReal) + Ideal.ofBits .f32 897988541#32)

/-- The angle of position `s` and frequency `i`. -/
def ang (s : Fin 4096) (i : Fin 16) : ℝ := (s.val : ℝ) * Real.rpow 10000 (-(i.val : ℝ) * (1 / 16))

/-- The rotary embedding of the last 32 components, a half against a half. -/
def rot (x : Fin 96 → EReal) (s : Fin 4096) (d : Fin 96) : EReal :=
  if h : d.val < 64 then x d
  else if h2 : d.val - 64 < 16 then
    x ⟨64 + (d.val - 64), by omega⟩ * (Real.cos (ang s ⟨d.val - 64, h2⟩) : ℝ) - x ⟨64 + (16 + (d.val - 64)), by omega⟩ * (Real.sin (ang s ⟨d.val - 64, h2⟩) : ℝ)
  else x ⟨64 + (d.val - 64 - 16), by omega⟩ * (Real.sin (ang s ⟨d.val - 64 - 16, by omega⟩) : ℝ)
    + x ⟨64 + (16 + (d.val - 64 - 16)), by omega⟩ * (Real.cos (ang s ⟨d.val - 64 - 16, by omega⟩) : ℝ)

/-- The product of a rotated query with a rotated key, before the scale. -/
def sc (xq xk : Fin 96 → EReal) (gq gk : Fin 96 → EReal) (s t : Fin 4096) : EReal :=
  ∑ x, rot (fun d => xq d * rinv xq * gq d) s x * rot (fun d => xk d * rinv xk * gk d) t x

variable (V0 : Valuation τ sig (Elt Ideal))

abbrev A0 : FVec Ideal S16x4096x256 .f32 := V0 (Proc.devRef .tc main_arg0)
abbrev A1 : FVec Ideal S16x4096x128 .f32 := V0 (Proc.devRef .tc main_arg1)
abbrev A2 : FVec Ideal S16x4096x32 .f32 := V0 (Proc.devRef .tc main_arg2)
abbrev A3 : FVec Ideal S256x768 .f32 := V0 (Proc.devRef .tc main_arg3)
abbrev A4 : FVec Ideal S128x1024 .f32 := V0 (Proc.devRef .tc main_arg4)
abbrev A5 : FVec Ideal S96 .f32 := V0 (Proc.devRef .tc main_arg5)
abbrev A6 : FVec Ideal S96 .f32 := V0 (Proc.devRef .tc main_arg6)

theorem r3 (b : Fin 16) (h : Fin 8) (s : Fin 4096) (d : Fin 96) : (res_main_v3 V0 : FVec Ideal S16x8x4096x96 .f32) (ix4 b h s d)
    = Xq (A0 V0) (A3 V0) b h s d := by
  unfold res_main_v3
  pointwise
  rfl

theorem r6 (b : Fin 16) (h : Fin 8) (s : Fin 4096) (d : Fin 128) : (res_main_v6 V0 : FVec Ideal S16x8x4096x128 .f32) (ix4 b h s d)
    = Lk (A1 V0) (A4 V0) b h s d := by
  unfold res_main_v6
  pointwise
  rfl

theorem r11 (b : Fin 16) (h : Fin 8) (s : Fin 4096) (d : Fin 96) : (res_main_v11 V0 : FVec Ideal S16x8x4096x96 .f32) (ix4 b h s d)
    = Xk (A1 V0) (A2 V0) (A4 V0) b h s d := by
  unfold res_main_v11 Xk
  pointwise
  split
  · rw [← r6]
  · rfl

theorem div96 (x : EReal) : Ideal.div x (Ideal.ofBits .f32 1119879168#32) = x * ((1 / 96 : ℝ) : EReal) := by
  rw [lit96, Ideal.div_coe (by norm_num)]

theorem r24 (b : Fin 16) (h : Fin 8) (s : Fin 4096) (d : Fin 96) : (res_main_v24 V0 : FVec Ideal S16x8x4096x96 .f32) (ix4 b h s d)
    = Xq (A0 V0) (A3 V0) b h s d * rinv (Xq (A0 V0) (A3 V0) b h s) * A5 V0 (ix1 d) := by
  unfold res_main_v24
  pointwise
  simp only [r3, div96]
  rfl

theorem r37 (b : Fin 16) (h : Fin 8) (s : Fin 4096) (d : Fin 96) : (res_main_v37 V0 : FVec Ideal S16x8x4096x96 .f32) (ix4 b h s d)
    = Xk (A1 V0) (A2 V0) (A4 V0) b h s d * rinv (Xk (A1 V0) (A2 V0) (A4 V0) b h s) * A6 V0 (ix1 d) := by
  unfold res_main_v37
  pointwise
  simp only [r11, div96]
  rfl

theorem sitofp_small (n : ℕ) (h : n < 2 ^ 31) : (FloatOps.sitofp (F := Ideal) .f32 (BitVec.ofNat 32 n) : EReal) = ((n : ℝ) : EReal) := by
  show (((BitVec.ofNat 32 n).toInt : ℝ) : EReal) = _
  rw [BitVec.toInt_ofNat', Int.bmod_eq_of_le (by omega) (by omega)]; simp

theorem r51 (s : Fin 4096) (d : Fin 16) : (res_main_v51 V0 : FVec Ideal S4096x16 .f32) (ix2 s d) = ((ang s d : ℝ) : EReal) := by
  unfold res_main_v51 res_main_v0
  pointwise
  rw [lit1e4, lit16, Ideal.div_coe (by norm_num)]
  rw [sitofp_small s.val (by omega), sitofp_small d.val (by omega), ← EReal.coe_neg, ← EReal.coe_mul, Ideal.pow_coe_coe, ← EReal.coe_mul]
  rfl

theorem r85 (s : Fin 4096) (d : Fin 16) : (res_main_v85 V0 : FVec Ideal S4096x16 .f32) (ix2 s d) = ((ang s d : ℝ) : EReal) := by
  rw [← r51 V0]
  unfold res_main_v51 res_main_v85
  rfl

theorem r52 (s : Fin 4096) (d : Fin 16) : (res_main_v52 V0 : FVec Ideal S4096x16 .f32) (ix2 s d) = ((Real.cos (ang s d) : ℝ) : EReal) := by
  unfold res_main_v52
  pointwise
  rw [r51, Ideal.cos_coe]
theorem r53 (s : Fin 4096) (d : Fin 16) : (res_main_v53 V0 : FVec Ideal S4096x16 .f32) (ix2 s d) = ((Real.sin (ang s d) : ℝ) : EReal) := by
  unfold res_main_v53
  pointwise
  rw [r51, Ideal.sin_coe]
theorem r86 (s : Fin 4096) (d : Fin 16) : (res_main_v86 V0 : FVec Ideal S4096x16 .f32) (ix2 s d) = ((Real.cos (ang s d) : ℝ) : EReal) := by
  unfold res_main_v86
  pointwise
  rw [r85, Ideal.cos_coe]
theorem r87 (s : Fin 4096) (d : Fin 16) : (res_main_v87 V0 : FVec Ideal S4096x16 .f32) (ix2 s d) = ((Real.sin (ang s d) : ℝ) : EReal) := by
  unfold res_main_v87
  pointwise
  rw [r85, Ideal.sin_coe]

theorem r54 (b : Fin 16) (h : Fin 8) (s : Fin 4096) (d : Fin 16) : (res_main_v54 V0 : FVec Ideal S16x8x4096x16 .f32) (ix4 b h s d)
    = (res_main_v24 V0 : FVec Ideal S16x8x4096x96 .f32) (ix4 b h s ⟨64 + d.val, by omega⟩) := by
  unfold res_main_v54 res_main_v39
  pointwise
  try rfl
theorem r55 (b : Fin 16) (h : Fin 8) (s : Fin 4096) (d : Fin 16) : (res_main_v55 V0 : FVec Ideal S16x8x4096x16 .f32) (ix4 b h s d)
    = (res_main_v24 V0 : FVec Ideal S16x8x4096x96 .f32) (ix4 b h s ⟨64 + (16 + d.val), by omega⟩) := by
  unfold res_main_v55 res_main_v39
  pointwise
  try rfl
theorem r88 (b : Fin 16) (h : Fin 8) (s : Fin 4096) (d : Fin 16) : (res_main_v88 V0 : FVec Ideal S16x8x4096x16 .f32) (ix4 b h s d)
    = (res_main_v37 V0 : FVec Ideal S16x8x4096x96 .f32) (ix4 b h s ⟨64 + d.val, by omega⟩) := by
  unfold res_main_v88 res_main_v73
  pointwise
  try rfl
theorem r89 (b : Fin 16) (h : Fin 8) (s : Fin 4096) (d : Fin 16) : (res_main_v89 V0 : FVec Ideal S16x8x4096x16 .f32) (ix4 b h s d)
    = (res_main_v37 V0 : FVec Ideal S16x8x4096x96 .f32) (ix4 b h s ⟨64 + (16 + d.val), by omega⟩) := by
  unfold res_main_v89 res_main_v73
  pointwise
  try rfl

end Cert.Val

end
-- ==== Proof.Val.Row.lean ====
module

public import proofs.«01_k».proof.Proof.Val.Pay
public import proofs.«01_k».proof.Proof.Val.Ref

@[expose] public section

set_option maxRecDepth 16384
set_option maxHeartbeats 400000

noncomputable section

namespace Cert.Val

open Idealize.ShloMosaic

/-! ## Rows of 96 components held in 128 lanes -/

def padR (x : Fin 96 → EReal) (l : Fin 128) : EReal := if h : l.val < 96 then x ⟨l.val, h⟩ else 0

theorem sum128 (f : Fin 128 → EReal) : ∑ l, f l = (∑ d : Fin 96, f ⟨d.val, by omega⟩) + ∑ d : Fin 32, f ⟨96 + d.val, by omega⟩ :=
  Fin.sum_univ_add (a := 96) (b := 32) f

theorem padR_lt (x : Fin 96 → EReal) (d : Fin 96) : padR x ⟨d.val, by omega⟩ = x d := by
  unfold padR; rw [dif_pos d.isLt]

theorem padR_ge (x : Fin 96 → EReal) (d : Fin 32) : padR x ⟨96 + d.val, by omega⟩ = 0 := by
  unfold padR; rw [dif_neg (by simp)]

theorem nrm_pad (x g : Fin 96 → EReal) : nrm (padR x) (padR g) = padR fun d => x d * rinv x * g d := by
  have e : (∑ i, padR x i * padR x i) = ∑ i, x i * x i := by
    rw [sum128]
    simp only [padR_lt, padR_ge, mul_zero, Finset.sum_const_zero, add_zero]
  funext l
  unfold nrm
  rw [e]
  unfold padR rinv
  by_cases h : l.val < 96
  · simp only [dif_pos h]
  · simp only [dif_neg h, mul_zero, zero_mul]

/-- The lanes of the table of cosines at a position, -/
def ropC (s : Fin 4096) (l : Fin 128) : EReal :=
  if h : l.val < 64 then 1 else if h2 : l.val - 64 < 16 then ((Real.cos (ang s ⟨l.val - 64, h2⟩) : ℝ) : EReal)
      else if h3 : l.val - 64 - 16 < 16 then ((Real.cos (ang s ⟨l.val - 64 - 16, h3⟩) : ℝ) : EReal) else 1
/-- and of the table of signed sines. -/
def ropD (s : Fin 4096) (l : Fin 128) : EReal :=
  if h : l.val < 64 then 0 else if h2 : l.val - 64 < 16 then -((Real.sin (ang s ⟨l.val - 64, h2⟩) : ℝ) : EReal)
      else if h3 : l.val - 64 - 16 < 16 then ((Real.sin (ang s ⟨l.val - 64 - 16, h3⟩) : ℝ) : EReal) else 0

theorem sum_swp (N : Fin 128 → EReal) (l k : Fin 128) (h : (64 ≤ l.val ∧ l.val < 80 ∧ k.val = l.val + 16) ∨ (80 ≤ l.val ∧ l.val < 96 ∧ k.val + 16 = l.val)) :
    (∑ k, N k * swp k l) = N k := by
  rw [Finset.sum_eq_single k]
  · unfold swp; rw [if_pos h, mul_one]
  · intro j _ hj
    unfold swp
    rw [if_neg, mul_zero]
    intro h'
    apply hj; apply Fin.ext; omega
  · intro h'; exact absurd (Finset.mem_univ _) h'

theorem mid_pad (n : Fin 96 → EReal) (s : Fin 4096) (O : Fin 128 → EReal) (hO : ∀ l, l.val < 96 → O l = 0) (l : Fin 128) :
    mid (padR n) (ropC s) (ropD s) O l = padR (rot n s) l + O l := by
  unfold mid
  congr 1
  by_cases h0 : l.val < 64
  · have hl : l.val < 96 := by omega
    unfold ropC ropD padR rot
    simp only [dif_pos h0, dif_pos hl, mul_one, mul_zero, add_zero]
  · by_cases h1 : l.val - 64 < 16
    · have hl : l.val < 96 := by omega
      have hk : l.val + 16 < 96 := by omega
      rw [sum_swp _ l ⟨l.val + 16, by omega⟩ (Or.inl ⟨by omega, by omega, rfl⟩)]
      unfold ropC ropD padR rot
      simp only [dif_neg h0, dif_pos h1, dif_pos hl, dif_pos hk, mul_neg, sub_eq_add_neg]
      congr 3 <;> first | omega | (congr 1 <;> first | omega | (apply Fin.ext; simp only; omega))
    · by_cases h2 : l.val - 64 - 16 < 16
      · have hl : l.val < 96 := by omega
        have hk : l.val - 16 < 96 := by omega
        rw [sum_swp _ l ⟨l.val - 16, by omega⟩ (Or.inr ⟨by omega, by omega, by simp only; omega⟩)]
        unfold ropC ropD padR rot
        simp only [dif_neg h0, dif_neg h1, dif_pos h2, dif_pos hl, dif_pos hk]
        rw [add_comm]
        congr 2 <;> first | omega | (congr 1 <;> first | omega | (apply Fin.ext; simp only; omega))
      · have hl : ¬ l.val < 96 := by omega
        unfold ropD padR
        simp only [dif_neg h0, dif_neg h1, dif_neg h2, dif_neg hl, mul_zero, zero_mul, add_zero]

/-- A score of padded rows: the shift lane of the query meets the one of the key. -/
theorem score_pad (a b : Fin 96 → EReal) (sh : EReal) :
    (∑ l, (padR a l + if l.val = 127 then sh else 0) * (padR b l + if l.val = 127 then 1 else 0)) = (∑ d, a d * b d) + sh := by
  rw [sum128]
  congr 1
  · refine Finset.sum_congr rfl fun d _ => ?_
    rw [padR_lt, padR_lt, if_neg (by simp only; omega), if_neg (by simp only; omega), add_zero, add_zero]
  · rw [Finset.sum_eq_single 31]
    · have e31 : (⟨96 + (31 : Fin 32).val, by decide⟩ : Fin 128).val = 127 := rfl
      rw [padR_ge, padR_ge, if_pos e31, if_pos e31, zero_add, zero_add, mul_one]
    · intro d _ hd
      have : d.val ≠ 31 := fun h => hd (Fin.ext h)
      rw [padR_ge, padR_ge, if_neg (by simp only; omega), zero_add, zero_mul]
    · intro h'; exact absurd (Finset.mem_univ _) h'

/-! ## Real rows -/

def rotR (x : Fin 96 → ℝ) (s : Fin 4096) (d : Fin 96) : ℝ :=
  if h : d.val < 64 then x d
  else if h2 : d.val - 64 < 16 then
    x ⟨64 + (d.val - 64), by omega⟩ * Real.cos (ang s ⟨d.val - 64, h2⟩) - x ⟨64 + (16 + (d.val - 64)), by omega⟩ * Real.sin (ang s ⟨d.val - 64, h2⟩)
  else x ⟨64 + (d.val - 64 - 16), by omega⟩ * Real.sin (ang s ⟨d.val - 64 - 16, by omega⟩)
    + x ⟨64 + (16 + (d.val - 64 - 16)), by omega⟩ * Real.cos (ang s ⟨d.val - 64 - 16, by omega⟩)

theorem rot_coe (x : Fin 96 → ℝ) (s : Fin 4096) (d : Fin 96) : rot (fun d => ((x d : ℝ) : EReal)) s d = ((rotR x s d : ℝ) : EReal) := by
  unfold rot rotR
  split
  · rfl
  · split
    · rw [EReal.coe_sub, EReal.coe_mul, EReal.coe_mul]
    · rw [EReal.coe_add, EReal.coe_mul, EReal.coe_mul]

theorem rotR_smul (x : Fin 96 → ℝ) (c : ℝ) (s : Fin 4096) (d : Fin 96) : rotR (fun d => x d * c) s d = rotR x s d * c := by
  unfold rotR
  split
  · rfl
  · split <;> ring

theorem sqrt96 : 0 < Real.sqrt 96 := Real.sqrt_pos.mpr (by norm_num)

/-- With finite gains every scaled score is a real `z`; the kernel's score, in base two, is `z / log 2` and the shift. -/
theorem scores (xq xk gq gk : Fin 96 → EReal) (hq : ∀ d, ∃ r : ℝ, gq d = r) (hk : ∀ d, ∃ r : ℝ, gk d = r) (s t : Fin 4096) : ∃ z : ℝ,
    sc xq xk gq gk s t * ((1 / Real.sqrt 96 : ℝ) : EReal) = (z : EReal)
    ∧ (∑ d, rot (fun d => xq d * rinv xq * (gq d * (sg : EReal))) s d * rot (fun d => xk d * rinv xk * gk d) t d) = ((z / Real.log 2 : ℝ) : EReal) := by
  obtain ⟨e, he, hE⟩ := litEps
  obtain ⟨u, hu⟩ := norm_real xq e he
  obtain ⟨w, hw⟩ := norm_real xk e he
  choose p hp using hq
  choose q hq' using hk
  have h1 : ∀ d, xq d * rinv xq = (u d : EReal) := fun d => by unfold rinv; rw [hE]; exact hu d
  have h2 : ∀ d, xk d * rinv xk = (w d : EReal) := fun d => by unfold rinv; rw [hE]; exact hw d
  refine ⟨(∑ d, rotR (fun d => u d * p d) s d * rotR (fun d => w d * q d) t d) * (1 / Real.sqrt 96), ?_, ?_⟩
  · unfold sc
    simp only [h1, h2, hp, hq', ← EReal.coe_mul, rot_coe, ← coe_sum]
  · simp only [h1, h2, hp, hq', ← EReal.coe_mul, rot_coe, ← coe_sum]
    congr 1
    have : ∀ d, rotR (fun d => u d * (p d * sg)) s d = rotR (fun d => u d * p d) s d * sg := fun d => by
      rw [← rotR_smul]; congr 1; funext d; ring
    simp only [this]
    rw [Finset.sum_mul, Finset.sum_div]
    refine Finset.sum_congr rfl fun d _ => ?_
    unfold sg
    have := sqrt96.ne'
    have : Real.log 2 ≠ 0 := (Real.log_pos (by norm_num)).ne'
    field_simp

theorem rpow_exp (z c : ℝ) : Real.rpow 2 (z / Real.log 2 + c) = Real.rpow 2 c * Real.exp z := by
  have h0 : Real.log 2 ≠ 0 := (Real.log_pos (by norm_num)).ne'
  have : Real.rpow 2 (z / Real.log 2 + c) = Real.rpow 2 (z / Real.log 2) * Real.rpow 2 c := Real.rpow_add (by norm_num) _ _
  rw [this, mul_comm]
  congr 1
  show (2 : ℝ) ^ (z / Real.log 2) = _
  rw [Real.rpow_def_of_pos (by norm_num)]
  congr 1
  field_simp

end Cert.Val

end
-- ==== Proof.Val.HostAt.lean ====
module

public import proofs.«01_k».proof.Proof.Val.Ref
public import proofs.«01_k».proof.Proof.KI.Host
public import Idealize.ShloMosaic.Lib.Routing.OpsOne

@[expose] public section

set_option maxRecDepth 16384
set_option maxHeartbeats 400000

noncomputable section

namespace Cert.Val

open Cert.KernelIdeal Cert.KernelIdeal.Gen Cert.KI
open Idealize.ShloMosaic Idealize.ShloMosaic.TcCoe Idealize.ShloMosaic.Tactic Idealize.SL.Sem

theorem sitofp_zero : (FloatOps.sitofp (F := Ideal) .f32 0#32 : EReal) = 0 := by
  have := sitofp_small 0 (by norm_num)
  simpa using this

theorem hWq_at (a3 : FVec Ideal S256x768 .f32) (h : Fin 8) (e : Fin 256) (l : Fin 128) :
    hWq a3 (ix3 h e l) = if hl : l.val < 96 then a3 (ix2 e ⟨h.val * 96 + l.val, by omega⟩) else 0 := by
  unfold hWq
  pointwise
  rw [sitofp_zero]

theorem hWk_at (a4 : FVec Ideal S128x1024 .f32) (h : Fin 8) (e : Fin 128) (l : Fin 128) :
    hWk a4 (ix3 h e l) = if l.val < 64 then a4 (ix2 e ⟨h.val * 128 + l.val, by omega⟩) else 0 := by
  unfold hWk hWkv
  pointwise
  rw [sitofp_zero]
  rfl

theorem even_at (h : Fin 8) : evenHead (ix1 h) = if h.val % 2 = 0 then 1#1 else 0#1 := by
  unfold evenHead modTwo remTwo two
  pointwise
  revert h
  decide +kernel

theorem hWv_at (a4 : FVec Ideal S128x1024 .f32) (h : Fin 8) (e : Fin 128) (l : Fin 128) :
    hWv a4 (ix3 h e l) = if h.val % 2 = 0 then (if hl : l.val < 64 then a4 (ix2 e ⟨h.val * 128 + (64 + l.val), by omega⟩) else 0)
      else (if hl : l.val < 64 then 0 else a4 (ix2 e ⟨h.val * 128 + (64 + (l.val - 64)), by omega⟩)) := by
  unfold hWv hVpart hWkv hZero
  pointwise
  rw [even_at]
  by_cases hh : h.val % 2 = 0
  · simp only [if_pos hh]; rfl
  · simp only [if_neg hh]; rfl

theorem hKg_at (a : FVec Ideal S96 .f32) (l : Fin 128) : hKg a (ix2 0 l) = if hl : l.val < 96 then a (ix1 ⟨l.val, hl⟩) else 0 := by
  unfold hKg hPad
  pointwise
  rw [sitofp_zero]

theorem hQg_at (a : FVec Ideal S96 .f32) (l : Fin 128) : hQg a (ix2 0 l) = if hl : l.val < 96 then a (ix1 ⟨l.val, hl⟩) else 0 := by
  unfold hQg hPad
  pointwise
  rw [sitofp_zero]

/-- What the shift lane of a query holds. -/
def shv (a b : FVec Ideal S96 .f32) : EReal := (select (flagBit a b) (Host.negf (hBound a b)) (constant S_ .f32 0x00000000#32)) ix0

theorem hShift_at (a b : FVec Ideal S96 .f32) (l : Fin 128) : hShift a b (ix2 0 l) = if l.val = 127 then shv a b else 0 := by
  unfold hShift
  have e0 : ∀ x : Fin 2, (concatenate S2 0 [⟨S1, broadcastInDim S1 ![] bcast_S_S1 (constantI S_ 32 0#32)⟩, ⟨S1, broadcastInDim S1 ![] bcast_S_S1 (constantI S_ 32 127#32)⟩] concatenates_S1_S1_S2_d0 : IVec S2 32) (ix1 x) = if x.val < 1 then 0#32 else 127#32 := by
    intro x
    pointwise
    rfl
  refine (Idealize.ShloMosaic.Routing.scatter_cell_signed (R := 1) (C := 128) (w := 32) scatter_S1x128_S2_S__n_01_01_0 rfl rfl rfl _ _ _ 0 l).trans ?_
  have ez : (broadcastInDim S1x128 ![] bcast_S_S1x128 (constant S_ .f32 0x00000000#32) : FVec Ideal S1x128 .f32) (ix2 0 l) = 0 := by pointwise
  have c0 : (0#32 : BitVec 32).toInt = 0 := by decide
  have c1 : (127#32 : BitVec 32).toInt = 127 := by decide
  erw [e0 0, e0 1, ez]
  simp only [Fin.val_zero, Fin.val_one, Nat.lt_irrefl, if_false, zero_lt_one, if_true, c0, c1]
  by_cases h : l.val = 127
  · rw [if_pos h, if_pos ⟨rfl, by rw [h]; rfl⟩]; rfl
  · rw [if_neg h, if_neg fun hh => h (by have := hh.2; omega)]

theorem abs_real (x : EReal) (h : ∃ r : ℝ, x = (r : EReal)) : ∃ r : ℝ, (FloatOps.absf (F := Ideal) (φ := .f32) x : EReal) = (r : EReal) := by
  obtain ⟨r, rfl⟩ := h
  refine ⟨max r (-r), ?_⟩
  show max (r : EReal) (-(r : EReal)) = _
  rw [← EReal.coe_neg]; exact (EReal.coe_strictMono.monotone.map_max).symm

theorem bound_at (a b : FVec Ideal S96 .f32) (ha : ∀ d, ∃ r : ℝ, a (ix1 d) = (r : EReal)) (hb : ∀ d, ∃ r : ℝ, b (ix1 d) = (r : EReal)) : ∃ r : ℝ, hBound a b ix0 = (r : EReal) := by
  obtain ⟨x, hx⟩ := fold_max_real Finset.univ ⟨0, Finset.mem_univ _⟩ (fun d : Fin 96 => (FloatOps.absf (F := Ideal) (φ := .f32) (a (ix1 d)) : EReal)) fun d => abs_real _ (ha d)
  obtain ⟨y, hy⟩ := fold_max_real Finset.univ ⟨0, Finset.mem_univ _⟩ (fun d : Fin 96 => (FloatOps.absf (F := Ideal) (φ := .f32) (b (ix1 d)) : EReal)) fun d => abs_real _ (hb d)
  obtain ⟨p, hp⟩ := litC1
  obtain ⟨q, hq⟩ := litC2
  refine ⟨x * y * p + q, ?_⟩
  unfold hBound
  pointwise
  rw [litBot, hx, hy, hp, hq, EReal.coe_add, EReal.coe_mul, EReal.coe_mul]

theorem shv_real (a b : FVec Ideal S96 .f32) (ha : ∀ d, ∃ r : ℝ, a (ix1 d) = (r : EReal)) (hb : ∀ d, ∃ r : ℝ, b (ix1 d) = (r : EReal)) : ∃ r : ℝ, shv a b = (r : EReal) := by
  obtain ⟨r, hr⟩ := bound_at a b ha hb
  unfold shv
  pointwise
  rw [hr]
  unfold Scalar.select
  split
  · exact ⟨-r, (EReal.coe_neg r).symm⟩
  · exact ⟨0, rfl⟩

theorem hKr_at (a : FVec Ideal S16x4096x32 .f32) (b : Fin 16) (s : Fin 4096) (l : Fin 128) :
    hKr a (ix3 b s l) = if hl : 64 ≤ l.val ∧ l.val - 64 < 32 then a (ix3 b s ⟨l.val - 64, hl.2⟩) else 0 := by
  unfold hKr
  pointwise
  rw [sitofp_zero]

theorem hCq_at (a : FVec Ideal S16x4096x256 .f32) (i) : hCq a i = a i := rfl
theorem hCkv_at (a : FVec Ideal S16x4096x128 .f32) (i) : hCkv a i = a i := rfl

theorem hAng_at (s : Fin 4096) (d : Fin 16) : (hAng : FVec Ideal S4096x16 .f32) (ix2 s d) = ((ang s d : ℝ) : EReal) := by
  unfold hAng
  pointwise
  rw [lit1e4, lit16, Ideal.div_coe (by norm_num)]
  rw [sitofp_small s.val (by omega), sitofp_small d.val (by omega), ← EReal.coe_neg, ← EReal.coe_mul, Ideal.pow_coe_coe, ← EReal.coe_mul]
  rfl

theorem hRope_at (s : Fin 4096) (l : Fin 128) : (hRope : FVec Ideal S2x4096x128 .f32) (ix3 0 s l)
    = if h : l.val < 64 then 1 else if h2 : l.val - 64 < 16 then ((Real.cos (ang s ⟨l.val - 64, h2⟩) : ℝ) : EReal)
      else if h3 : l.val - 64 - 16 < 16 then ((Real.cos (ang s ⟨l.val - 64 - 16, h3⟩) : ℝ) : EReal) else 1 := by
  unfold hRope hCos
  pointwise
  simp only [hAng_at, Ideal.cos_coe]

theorem hRope_at1 (s : Fin 4096) (l : Fin 128) : (hRope : FVec Ideal S2x4096x128 .f32) (ix3 1 s l)
    = if h : l.val < 64 then 0 else if h2 : l.val - 64 < 16 then -((Real.sin (ang s ⟨l.val - 64, h2⟩) : ℝ) : EReal)
      else if h3 : l.val - 64 - 16 < 16 then ((Real.sin (ang s ⟨l.val - 64 - 16, h3⟩) : ℝ) : EReal) else 0 := by
  unfold hRope hSin
  pointwise
  simp only [hAng_at, Ideal.sin_coe]

theorem lit0_at : ∀ (h : Fin 8) (l : Fin 128), lit0 (S8x1x128.rowMajor (ix3 h 0 l)) = if l.val = (if h.val % 2 = 0 then 64 else 0) then 0x3F800000#32 else 0#32 := by
  decide +kernel

theorem hOne_at (h : Fin 8) (l : Fin 128) : (hOne : FVec Ideal S8x1x128 .f32) (ix3 h 0 l) = if l.val = (if h.val % 2 = 0 then 64 else 0) then 1 else 0 := by
  unfold hOne
  rw [lit0_at]
  by_cases hh : l.val = (if h.val % 2 = 0 then 64 else 0)
  · rw [if_pos hh, if_pos hh]; exact litOne
  · rw [if_neg hh, if_neg hh]; exact Ideal.ofBits_zero_f32

end Cert.Val

end
-- ==== Proof.Val.Acc.lean ====
module

public import proofs.«01_k».proof.Proof.Val.Pay

@[expose] public section

set_option maxRecDepth 16384
set_option maxHeartbeats 400000

noncomputable section

namespace Cert.Val

open Cert.KernelIdeal Cert.KernelIdeal.Gen Cert.KI
open Idealize.ShloMosaic Idealize.ShloMosaic.TcCoe Idealize.ShloMosaic.Tactic Idealize.SL.Sem

theorem exp2_of (x : ℝ) : Ideal.exp2 (x : EReal) = ((Real.rpow 2 x : ℝ) : EReal) := Ideal.exp2_coe ..
theorem rpow_pos (x : ℝ) : 0 < Real.rpow 2 x := Real.rpow_pos_of_pos (by norm_num) x
theorem rpow_add (x y : ℝ) : Real.rpow 2 (x + y) = Real.rpow 2 x * Real.rpow 2 y := Real.rpow_add (by norm_num) x y

variable (q : Vec Ideal S1x512x128 .bf16) (kt : Fin 4 → Vec Ideal S1x1x128x1024 .bf16) (v : Fin 4 → Vec Ideal S1x1024x128 .bf16) (r : Fin 512)
  (s : Fin 4 → Fin 1024 → ℝ) (hs : ∀ k x, ∑ y, q (ix3 0 r y) * kt k (ix4 0 0 y x) = ((s k x : ℝ) : EReal))

/-- The weighted values of lane `l` over the first `n` blocks. -/
def TT (l : Fin 128) (n : ℕ) : EReal := T (fun k x => Real.rpow 2 (s k x)) (fun k x => v k (ix3 0 x l)) n

include hs in
theorem fast_n (l : Fin 128) : ∀ n, accF q kt v n (ix3 0 r l) = TT v s l n
  | 0 => by
    show Ideal.ofBits .f32 0x00000000#32 = _
    rw [Ideal.ofBits_zero_f32]; rfl
  | n + 1 => by
    have ih := fast_n l n
    unfold TT at ih ⊢
    simp only [accF, T]
    split
    · rename_i h
      rw [fast_at, ih]
      simp only [hs, exp2_of]
    · exact ih

/-- What the running maximum and the accumulators of a row hold. -/
def Inv (m : EReal) (a t : Fin 128 → EReal) : Prop :=
  (m = ⊥ ∧ (∀ l, a l = 0) ∧ ∀ l, t l = 0) ∨ ∃ μ : ℝ, m = (μ : EReal) ∧ ∀ l, a l = ((Real.rpow 2 (-μ) : ℝ) : EReal) * t l

theorem inv_step (m : EReal) (a t : Fin 128 → EReal) (h : Inv m a t) (z : Fin 1024 → ℝ) (u : Fin 1024 → Fin 128 → EReal) (m' : EReal)
    (hm : m' = max m (Finset.univ.fold max ⊥ fun x => (z x : EReal))) :
    Inv m' (fun l => Ideal.exp2 (m - m') * a l + ∑ x, Ideal.exp2 ((z x : EReal) - m') * u x l) (fun l => t l + ∑ x, ((Real.rpow 2 (z x) : ℝ) : EReal) * u x l) := by
  obtain ⟨M, hM⟩ := fold_max_real Finset.univ ⟨0, Finset.mem_univ _⟩ (fun x : Fin 1024 => (z x : EReal)) fun x => ⟨_, rfl⟩
  rw [hM] at hm
  have hsum : ∀ (μ : ℝ) (l : Fin 128), (∑ x, Ideal.exp2 ((z x : EReal) - (μ : EReal)) * u x l)
      = ((Real.rpow 2 (-μ) : ℝ) : EReal) * ∑ x, ((Real.rpow 2 (z x) : ℝ) : EReal) * u x l := by
    intro μ l
    rw [mul_sum_nonneg _ _ (rpow_pos _).le]
    refine Finset.sum_congr rfl fun x _ => ?_
    rw [← EReal.coe_sub, exp2_of, sub_eq_add_neg, rpow_add, mul_comm (Real.rpow 2 (z x)), EReal.coe_mul, mul_assoc]
  right
  rcases h with ⟨hb, ha, ht⟩ | ⟨μ, hμ, ha⟩
  · subst hb
    rw [max_bot_left] at hm
    subst hm
    refine ⟨M, rfl, fun l => ?_⟩
    dsimp only
    rw [ha, ht, mul_zero, zero_add, zero_add, hsum]
  · subst hμ
    have hm2 : m' = ((max μ M : ℝ) : EReal) := by rw [hm]; exact (EReal.coe_strictMono.monotone.map_max).symm
    subst hm2
    refine ⟨max μ M, rfl, fun l => ?_⟩
    dsimp only
    rw [ha, hsum, ← EReal.coe_sub, exp2_of, EReal.left_distrib_of_nonneg_of_ne_top (EReal.coe_nonneg.mpr (rpow_pos _).le) (EReal.coe_ne_top _), ← mul_assoc, ← EReal.coe_mul, ← rpow_add]
    congr 4
    ring_nf

include hs in
theorem slow_n : ∀ n, Inv ((stS q kt v n).1 (ix2 r 0)) (fun l => (stS q kt v n).2 (ix2 r l)) (fun l => TT v s l n)
  | 0 => by
    left
    refine ⟨?_, fun l => ?_, fun l => rfl⟩
    · exact litBot
    · exact Ideal.ofBits_zero_f32
  | n + 1 => by
    have ih := slow_n n
    unfold TT at ih ⊢
    by_cases h : n < 4
    · have e : stS q kt v (n + 1) = (k0_pay60 (stS q kt v n).1 q (kt ⟨n, h⟩), k0_pay61 (stS q kt v n).1 (stS q kt v n).2 q (kt ⟨n, h⟩) (v ⟨n, h⟩)) := by
        simp only [stS, dif_pos h]
      have e2 : ∀ x, k0_pay59 q (kt ⟨n, h⟩) (ix2 r x) = ((s ⟨n, h⟩ x : ℝ) : EReal) := fun x => by rw [sc_at, hs]
      have st := inv_step _ _ _ ih (s ⟨n, h⟩) (fun x l => v ⟨n, h⟩ (ix3 0 x l)) _ rfl
      simp only [T, dif_pos h]
      rw [e]
      dsimp only
      simp only [acc_at, m_at, e2]
      exact st
    · have e : stS q kt v (n + 1) = stS q kt v n := by simp only [stS, dif_neg h]
      simp only [T, dif_neg h]
      rw [e]
      exact ih

theorem p62_at (a : FVec Ideal S512x128 .f32) (l : Fin 128) : k0_pay62 a (ix3 0 r l) = a (ix2 r l) := by
  unfold k0_pay62
  pointwise

include hs in
theorem fast_row : ∃ a : ℝ, 0 < a ∧ ∀ l, accF q kt v 4 (ix3 0 r l) = ∑ k, ∑ x, ((a * Real.rpow 2 (s k x) : ℝ) : EReal) * v k (ix3 0 x l) := by
  refine ⟨1, one_pos, fun l => ?_⟩
  rw [fast_n q kt v r s hs, TT, T_four]
  simp only [one_mul]

include hs in
theorem slow_row : ∃ a : ℝ, 0 < a ∧ ∀ l, k0_pay62 (stS q kt v 4).2 (ix3 0 r l) = ∑ k, ∑ x, ((a * Real.rpow 2 (s k x) : ℝ) : EReal) * v k (ix3 0 x l) := by
  rcases slow_n q kt v r s hs 4 with ⟨hb, ha, ht⟩ | ⟨μ, hμ, ha⟩
  · refine ⟨1, one_pos, fun l => ?_⟩
    rw [p62_at]
    refine (ha l).trans ((ht l).symm.trans ?_)
    beta_reduce
    unfold TT
    rw [T_four]
    simp only [one_mul]
  · refine ⟨Real.rpow 2 (-μ), rpow_pos _, fun l => ?_⟩
    rw [p62_at]
    refine (ha l).trans ?_
    beta_reduce
    unfold TT
    rw [T_four, mul_sum_nonneg _ _ (rpow_pos _).le]
    refine Finset.sum_congr rfl fun k _ => ?_
    rw [mul_sum_nonneg _ _ (rpow_pos _).le]
    refine Finset.sum_congr rfl fun x _ => ?_
    rw [EReal.coe_mul, mul_assoc]

end Cert.Val

end
-- ==== Proof.Val.Kern.lean ====
module

public import proofs.«01_k».proof.Proof.Val.Row
public import proofs.«01_k».proof.Proof.Val.HostAt
public import proofs.«01_k».proof.Proof.Val.Acc
public import proofs.«01_k».proof.Proof.KI.Blk

@[expose] public section

set_option maxRecDepth 16384
set_option maxHeartbeats 400000

noncomputable section

namespace Cert.Val

open Cert.KernelIdeal Cert.KernelIdeal.Gen Cert.KI
open Idealize.ShloMosaic Idealize.ShloMosaic.TcCoe Idealize.ShloMosaic.Tactic Idealize.SL.Sem

variable (a0 : FVec Ideal S16x4096x256 .f32) (a1 : FVec Ideal S16x4096x128 .f32) (a2 : FVec Ideal S16x4096x32 .f32)
  (a3 : FVec Ideal S256x768 .f32) (a4 : FVec Ideal S128x1024 .f32) (a5 a6 : FVec Ideal S96 .f32)

/-! ## The arrays of a batch, of the arguments -/

def ropI : FVec Ideal S2x4096x128 .f32 := hRope
def oneI : FVec Ideal S8x1x128 .f32 := hOne
def ckvB (b : Fin 16) : Vec Ideal S1x4096x128 .bf16 := batch (hCkv a1) b
def krB (b : Fin 16) : Vec Ideal S1x4096x128 .bf16 := batch (hKr a2) b
def qIn (b : Fin 16) (j : Fin 8) : Vec Ideal S1x512x256 .bf16 :=
  fun y => hCq a0 (ix3 b ⟨512 * j.val + (y 1).val, by have : (y 1).val < 512 := (y 1).isLt; omega⟩ (y 2))
def qArr (b : Fin 16) (j h : Fin 8) : Vec Ideal S1x512x128 .bf16 := Qb (qIn a0 b j) ropI (hWq a3) (hQg a5) (hShift a5 a6) j h
def kArr (b : Fin 16) : Vec Ideal S8x4x128x1024 .bf16 := KT (ckvB a1 b) (krB a2 b) ropI (hWk a4) (hKg a6)
def vArr (b : Fin 16) : Vec Ideal S8x4096x128 .bf16 := VS (ckvB a1 b) (hWv a4) oneI

theorem cosFun (s : Fin 4096) : (fun l => ropI (ix3 0 s l)) = ropC s := funext fun l => hRope_at s l
theorem sinFun (s : Fin 4096) : (fun l => ropI (ix3 1 s l)) = ropD s := funext fun l => hRope_at1 s l

/-- A query row of the kernel, lane by lane. -/
theorem qArr_at (b : Fin 16) (j h : Fin 8) (r : Fin 512) (l : Fin 128) : qArr a0 a3 a5 a6 b j h (ix3 0 r l)
    = padR (rot (fun d => Xq a0 a3 b h ⟨512 * j.val + r.val, by omega⟩ d * rinv (Xq a0 a3 b h ⟨512 * j.val + r.val, by omega⟩) * (a5 (ix1 d) * (sg : EReal))) ⟨512 * j.val + r.val, by omega⟩) l
      + if l.val = 127 then shv a5 a6 else 0 := by
  unfold qArr
  rw [Qb_at, cosFun, sinFun]
  have e1 : (fun l => ∑ e, qIn a0 b j (ix3 0 r e) * hWq a3 (ix3 h e l)) = padR (Xq a0 a3 b h ⟨512 * j.val + r.val, by omega⟩) := by
    funext l
    unfold padR Xq
    simp only [hWq_at]
    by_cases hl : l.val < 96
    · simp only [dif_pos hl]; rfl
    · simp only [dif_neg hl, mul_zero, Finset.sum_const_zero]
  have e2 : (fun l => hQg a5 (ix2 0 l) * (sg : EReal)) = padR fun d => a5 (ix1 d) * (sg : EReal) := by
    funext l
    unfold padR
    rw [hQg_at]
    by_cases hl : l.val < 96
    · rw [dif_pos hl, dif_pos hl]
    · rw [dif_neg hl, dif_neg hl, zero_mul]
  have e3 : (fun l => hShift a5 a6 (ix2 0 l)) = fun l : Fin 128 => if l.val = 127 then shv a5 a6 else 0 := funext fun l => hShift_at a5 a6 l
  rw [e1, e2, e3, nrm_pad, mid_pad _ _ _ fun l hl => if_neg (by omega)]

/-- A key row of the kernel, lane by lane. -/
theorem kArr_at (b : Fin 16) (h : Fin 8) (k : Fin 4) (x : Fin 1024) (l : Fin 128) : ktS (kArr a1 a2 a4 a6 b) h k (ix4 0 0 l x)
    = padR (rot (fun d => Xk a1 a2 a4 b h ⟨1024 * k.val + x.val, by omega⟩ d * rinv (Xk a1 a2 a4 b h ⟨1024 * k.val + x.val, by omega⟩) * a6 (ix1 d)) ⟨1024 * k.val + x.val, by omega⟩) l
      + if l.val = 127 then 1 else 0 := by
  have e0 : ktS (kArr a1 a2 a4 a6 b) h k (ix4 0 0 l x) = KTb (ckvB a1 b) (krB a2 b) ropI (hWk a4) (hKg a6) h k (ix4 0 0 l x) := by
    unfold ktS
    pointwise
    rfl
  rw [e0, KTb_at, cosFun, sinFun]
  have e1 : (fun l => ∑ e, ckvB a1 b (ix3 0 (⟨1024 * k.val + x.val, by omega⟩ : Fin 4096) e) * hWk a4 (ix3 h e l) + krB a2 b (ix3 0 (⟨1024 * k.val + x.val, by omega⟩ : Fin 4096) l))
      = padR (Xk a1 a2 a4 b h ⟨1024 * k.val + x.val, by omega⟩) := by
    funext l
    have ek : krB a2 b (ix3 0 (⟨1024 * k.val + x.val, by omega⟩ : Fin 4096) l) = _ := hKr_at a2 b ⟨1024 * k.val + x.val, by omega⟩ l
    unfold padR Xk Lk
    rw [ek]
    simp only [hWk_at]
    by_cases h0 : l.val < 64
    · have hl : l.val < 96 := by omega
      have hn : ¬ (64 ≤ l.val ∧ l.val - 64 < 32) := by omega
      simp only [if_pos h0, dif_pos h0, dif_pos hl, dif_neg hn, add_zero]; rfl
    · simp only [if_neg h0, dif_neg h0, mul_zero, Finset.sum_const_zero, zero_add]
      by_cases hl : l.val < 96
      · have hn : 64 ≤ l.val ∧ l.val - 64 < 32 := by omega
        simp only [dif_pos hl, dif_pos hn]
      · have hn : ¬ (64 ≤ l.val ∧ l.val - 64 < 32) := by omega
        simp only [dif_neg hl, dif_neg hn]
  have e2 : (fun l => hKg a6 (ix2 0 l)) = padR fun d => a6 (ix1 d) := funext fun l => hKg_at a6 l
  rw [e1, e2, nrm_pad, mid_pad _ _ _ fun l hl => if_neg (by omega)]

/-- The lane of component `d` of a head's values, and of its denominator. -/
def vLane (h : Fin 8) (d : Fin 64) : Fin 128 := ⟨h.val % 2 * 64 + d.val, by omega⟩
def dLane (h : Fin 8) : Fin 128 := if h.val % 2 = 0 then 64 else 0

theorem vArr_at (b : Fin 16) (h : Fin 8) (k : Fin 4) (x : Fin 1024) (l : Fin 128) : vS (vArr a1 a4 b) h k (ix3 0 x l)
    = ∑ e, a1 (ix3 b ⟨1024 * k.val + x.val, by omega⟩ e) * hWv a4 (ix3 h e l) + oneI (ix3 h 0 l) := by
  have e0 : vS (vArr a1 a4 b) h k (ix3 0 x l) = vArr a1 a4 b (ix3 h ⟨1024 * k.val + x.val, by omega⟩ l) := by
    unfold vS
    pointwise
  have e1 : vArr a1 a4 b (ix3 h ⟨1024 * k.val + x.val, by omega⟩ l) = VSb (ckvB a1 b) (hWv a4) oneI h ⟨(1024 * k.val + x.val) / 1024, by omega⟩ (ix3 0 ⟨(1024 * k.val + x.val) % 1024, Nat.mod_lt _ (by decide)⟩ l) := rfl
  have k1 : (⟨(1024 * k.val + x.val) / 1024, by omega⟩ : Fin 4) = k := Fin.ext (by simp only; omega)
  have k2 : (⟨(1024 * k.val + x.val) % 1024, Nat.mod_lt _ (by decide)⟩ : Fin 1024) = x := Fin.ext (by simp only; omega)
  rw [e0, e1, k1, k2, VSb_at]
  rfl

theorem v_lane (b : Fin 16) (h : Fin 8) (k : Fin 4) (x : Fin 1024) (d : Fin 64) : vS (vArr a1 a4 b) h k (ix3 0 x (vLane h d))
    = Lk a1 a4 b h ⟨1024 * k.val + x.val, by omega⟩ ⟨64 + d.val, by omega⟩ := by
  rw [vArr_at, oneI, hOne_at]
  unfold Lk
  simp only [hWv_at]
  by_cases h0 : h.val % 2 = 0
  · have hl : (vLane h d).val < 64 := by unfold vLane; simp only; omega
    have hn : ¬ (vLane h d).val = 64 := by omega
    simp only [if_pos h0, dif_pos hl, if_neg hn, add_zero]
    refine Finset.sum_congr rfl fun e _ => ?_
    congr 3
    apply Fin.ext; unfold vLane; simp only; omega
  · have hl : ¬ (vLane h d).val < 64 := by unfold vLane; simp only; omega
    have hn : ¬ (vLane h d).val = 0 := by omega
    simp only [if_neg h0, dif_neg hl, if_neg hn, add_zero]
    refine Finset.sum_congr rfl fun e _ => ?_
    congr 3
    apply Fin.ext; unfold vLane; simp only; omega

theorem d_lane (b : Fin 16) (h : Fin 8) (k : Fin 4) (x : Fin 1024) : vS (vArr a1 a4 b) h k (ix3 0 x (dLane h)) = 1 := by
  rw [vArr_at, oneI, hOne_at]
  simp only [hWv_at]
  by_cases h0 : h.val % 2 = 0
  · have hl : (dLane h).val = 64 := by unfold dLane; rw [if_pos h0]; rfl
    have hn : ¬ (dLane h).val < 64 := by omega
    simp only [if_pos h0, dif_neg hn, if_pos hl, mul_zero, Finset.sum_const_zero, zero_add]
  · have hl : (dLane h).val = 0 := by unfold dLane; rw [if_neg h0]; rfl
    have hn : (dLane h).val < 64 := by omega
    simp only [if_neg h0, dif_pos hn, if_pos hl, mul_zero, Finset.sum_const_zero, zero_add]

/-- Component `d` of head `h` in a row of the output block. -/
theorem outOf_at (acc : Fin 8 → FVec Ideal S1x512x128 .f32) (r : Fin 512) (h : Fin 8) (d : Fin 64) :
    outOf acc (ix3 0 r ⟨h.val * 64 + d.val, by omega⟩) = acc h (ix3 0 r (vLane h d)) * Ideal.div 1 (acc h (ix3 0 r (dLane h))) := by
  have e0 : outOf acc (ix3 0 r ⟨h.val * 64 + d.val, by omega⟩)
      = fin2 (acc (head2 ⟨(h.val * 64 + d.val) / 128, by omega⟩)) (acc (head3 ⟨(h.val * 64 + d.val) / 128, by omega⟩)) (ix3 0 r ⟨(h.val * 64 + d.val) % 128, Nat.mod_lt _ (by decide)⟩) := rfl
  have el : (⟨(h.val * 64 + d.val) % 128, Nat.mod_lt _ (by decide)⟩ : Fin 128) = vLane h d := Fin.ext (by unfold vLane; simp only; omega)
  rw [e0, el, fin_at]
  by_cases h0 : h.val % 2 = 0
  · have hl : (vLane h d).val < 64 := by unfold vLane; simp only; omega
    have eh : head2 ⟨(h.val * 64 + d.val) / 128, by omega⟩ = h := Fin.ext (by unfold head2; simp only; omega)
    have ed : dLane h = 64 := by unfold dLane; rw [if_pos h0]
    rw [if_pos hl, eh, ed]
  · have hl : ¬ (vLane h d).val < 64 := by unfold vLane; simp only; omega
    have eh : head3 ⟨(h.val * 64 + d.val) / 128, by omega⟩ = h := Fin.ext (by unfold head3; simp only; omega)
    have ed : dLane h = 0 := by unfold dLane; rw [if_neg h0]
    rw [if_neg hl, eh, ed]

end Cert.Val

end
-- ==== Proof.Val.Out.lean ====
module

public import proofs.«01_k».proof.Proof.Val.Kern

@[expose] public section

set_option maxRecDepth 16384
set_option maxHeartbeats 400000

noncomputable section

namespace Cert.Val

open Cert.KernelIdeal Cert.KernelIdeal.Gen Cert.KI
open Idealize.ShloMosaic Idealize.ShloMosaic.TcCoe Idealize.ShloMosaic.Tactic Idealize.SL.Sem

variable (a0 : FVec Ideal S16x4096x256 .f32) (a1 : FVec Ideal S16x4096x128 .f32) (a2 : FVec Ideal S16x4096x32 .f32)
  (a3 : FVec Ideal S256x768 .f32) (a4 : FVec Ideal S128x1024 .f32) (a5 a6 : FVec Ideal S96 .f32)

/-- The scaled score of a query position with a key position. -/
def Z (b : Fin 16) (h : Fin 8) (s t : Fin 4096) : EReal :=
  sc (Xq a0 a3 b h s) (Xk a1 a2 a4 b h t) (fun d => a5 (ix1 d)) (fun d => a6 (ix1 d)) s t * ((1 / Real.sqrt 96 : ℝ) : EReal)

theorem Z_real (h5 : ∀ d, ∃ r : ℝ, a5 (ix1 d) = (r : EReal)) (h6 : ∀ d, ∃ r : ℝ, a6 (ix1 d) = (r : EReal)) (b : Fin 16) (h : Fin 8) (s t : Fin 4096) :
    ∃ z : ℝ, Z a0 a1 a2 a3 a4 a5 a6 b h s t = (z : EReal) := by
  obtain ⟨z, hz, -⟩ := scores (Xq a0 a3 b h s) (Xk a1 a2 a4 b h t) _ _ h5 h6 s t
  exact ⟨z, hz⟩

/-- The attention of one row: softmax weights of the scores less `M`, times the values. -/
def att (b : Fin 16) (h : Fin 8) (s : Fin 4096) (d : Fin 64) (M : ℝ) : EReal :=
  ∑ t, Ideal.div (Ideal.exp (Z a0 a1 a2 a3 a4 a5 a6 b h s t - (M : EReal))) (∑ t, Ideal.exp (Z a0 a1 a2 a3 a4 a5 a6 b h s t - (M : EReal)))
    * Lk a1 a4 b h t ⟨64 + d.val, by omega⟩

/-- Accumulators that hold weighted values, up to a positive factor, give the attention. -/
theorem row_att (b : Fin 16) (h : Fin 8) (s : Fin 4096) (d : Fin 64) (M : ℝ) (z : Fin 4096 → ℝ) (hz : ∀ t, Z a0 a1 a2 a3 a4 a5 a6 b h s t = (z t : EReal))
    (c a : ℝ) (ha : 0 < a) (A : Fin 128 → EReal)
    (hA : ∀ l, A l = ∑ k : Fin 4, ∑ x : Fin 1024, ((a * Real.rpow 2 (z ⟨1024 * k.val + x.val, by omega⟩ / Real.log 2 + c) : ℝ) : EReal) * vS (vArr a1 a4 b) h k (ix3 0 x l)) :
    A (vLane h d) * Ideal.div 1 (A (dLane h)) = att a0 a1 a2 a3 a4 a5 a6 b h s d M := by
  have hw : ∀ t, a * Real.rpow 2 (z t / Real.log 2 + c) = (a * Real.rpow 2 c * Real.exp M) * Real.exp (z t - M) := fun t => by
    rw [rpow_exp, Real.exp_sub]
    field_simp
  have e1 : A (vLane h d) = ∑ t, (((a * Real.rpow 2 c * Real.exp M) * Real.exp (z t - M) : ℝ) : EReal) * Lk a1 a4 b h t ⟨64 + d.val, by omega⟩ := by
    rw [hA, sum_4096]
    simp only [v_lane, hw]
  have e2 : A (dLane h) = ∑ t, (((a * Real.rpow 2 c * Real.exp M) * Real.exp (z t - M) : ℝ) : EReal) := by
    rw [hA, sum_4096]
    simp only [d_lane, hw, mul_one]
  rw [e1, e2, soft (fun t => Real.exp (z t - M)) (fun t => Real.exp_pos _) _ (mul_pos (mul_pos ha (rpow_pos c)) (Real.exp_pos M))]
  unfold att
  simp only [hz, ← EReal.coe_sub, Ideal.exp_coe]

theorem kern_scores (h5 : ∀ d, ∃ r : ℝ, a5 (ix1 d) = (r : EReal)) (h6 : ∀ d, ∃ r : ℝ, a6 (ix1 d) = (r : EReal)) (b : Fin 16) (j h : Fin 8) (r : Fin 512) :
    ∃ (z : Fin 4096 → ℝ) (c : ℝ), (∀ t, Z a0 a1 a2 a3 a4 a5 a6 b h ⟨512 * j.val + r.val, by omega⟩ t = (z t : EReal))
      ∧ ∀ (k : Fin 4) (x : Fin 1024), (∑ y, qArr a0 a3 a5 a6 b j h (ix3 0 r y) * ktS (kArr a1 a2 a4 a6 b) h k (ix4 0 0 y x))
        = ((z ⟨1024 * k.val + x.val, by omega⟩ / Real.log 2 + c : ℝ) : EReal) := by
  obtain ⟨c, hc⟩ := shv_real a5 a6 h5 h6
  choose z hz1 hz2 using fun t => scores (Xq a0 a3 b h ⟨512 * j.val + r.val, by omega⟩) (Xk a1 a2 a4 b h t) _ _ h5 h6 ⟨512 * j.val + r.val, by omega⟩ t
  refine ⟨z, c, hz1, fun k x => ?_⟩
  simp only [qArr_at, kArr_at]
  rw [score_pad, hc, EReal.coe_add]
  exact congrArg (· + (c : EReal)) (hz2 _)

theorem fast_att (h5 : ∀ d, ∃ r : ℝ, a5 (ix1 d) = (r : EReal)) (h6 : ∀ d, ∃ r : ℝ, a6 (ix1 d) = (r : EReal)) (b : Fin 16) (j h : Fin 8) (r : Fin 512) (d : Fin 64) (M : ℝ) :
    outOf (accFast (qArr a0 a3 a5 a6 b j) (kArr a1 a2 a4 a6 b) (vArr a1 a4 b)) (ix3 0 r ⟨h.val * 64 + d.val, by omega⟩)
      = att a0 a1 a2 a3 a4 a5 a6 b h ⟨512 * j.val + r.val, by omega⟩ d M := by
  obtain ⟨z, c, hz, hs⟩ := kern_scores a0 a1 a2 a3 a4 a5 a6 h5 h6 b j h r
  obtain ⟨a, ha, hA⟩ := fast_row (qArr a0 a3 a5 a6 b j h) (ktS (kArr a1 a2 a4 a6 b) h) (vS (vArr a1 a4 b) h) r _ hs
  rw [outOf_at]
  exact row_att a0 a1 a2 a3 a4 a5 a6 b h _ d M z hz c a ha (fun l => accFast (qArr a0 a3 a5 a6 b j) (kArr a1 a2 a4 a6 b) (vArr a1 a4 b) h (ix3 0 r l)) hA

theorem slow_att (h5 : ∀ d, ∃ r : ℝ, a5 (ix1 d) = (r : EReal)) (h6 : ∀ d, ∃ r : ℝ, a6 (ix1 d) = (r : EReal)) (b : Fin 16) (j h : Fin 8) (r : Fin 512) (d : Fin 64) (M : ℝ) :
    outOf (accSlow (qArr a0 a3 a5 a6 b j) (kArr a1 a2 a4 a6 b) (vArr a1 a4 b)) (ix3 0 r ⟨h.val * 64 + d.val, by omega⟩)
      = att a0 a1 a2 a3 a4 a5 a6 b h ⟨512 * j.val + r.val, by omega⟩ d M := by
  obtain ⟨z, c, hz, hs⟩ := kern_scores a0 a1 a2 a3 a4 a5 a6 h5 h6 b j h r
  obtain ⟨a, ha, hA⟩ := slow_row (qArr a0 a3 a5 a6 b j h) (ktS (kArr a1 a2 a4 a6 b) h) (vS (vArr a1 a4 b) h) r _ hs
  rw [outOf_at]
  exact row_att a0 a1 a2 a3 a4 a5 a6 b h _ d M z hz c a ha (fun l => accSlow (qArr a0 a3 a5 a6 b j) (kArr a1 a2 a4 a6 b) (vArr a1 a4 b) h (ix3 0 r l)) hA

end Cert.Val

end
-- ==== Proof.Val.Arr.lean ====
module

public import proofs.«01_k».proof.Proof.Val.Out
public import proofs.«01_k».proof.Proof.KI.Body
public import Idealize.ShloMosaic.Lib.Pipeline.Covers

@[expose] public section

set_option maxRecDepth 16384
set_option maxHeartbeats 400000

noncomputable section

namespace Cert.Val

open Cert.KernelIdeal Cert.KernelIdeal.Gen Cert.KI
open Idealize.ShloMosaic Idealize.ShloMosaic.TcCoe Idealize.ShloMosaic.Tactic Idealize.SL.Sem

variable (m : (ℓ : Loc nD τ sig) → Buf (Elt Ideal) ℓ)

def B0 (c : Dev nD) : FVec Ideal S16x4096x256 .f32 := m ((c : Thread nD τ).loc main_arg0)
def B1 (c : Dev nD) : FVec Ideal S16x4096x128 .f32 := m ((c : Thread nD τ).loc main_arg1)
def B2 (c : Dev nD) : FVec Ideal S16x4096x32 .f32 := m ((c : Thread nD τ).loc main_arg2)
def B3 (c : Dev nD) : FVec Ideal S256x768 .f32 := m ((c : Thread nD τ).loc main_arg3)
def B4 (c : Dev nD) : FVec Ideal S128x1024 .f32 := m ((c : Thread nD τ).loc main_arg4)
def B5 (c : Dev nD) : FVec Ideal S96 .f32 := m ((c : Thread nD τ).loc main_arg5)
def B6 (c : Dev nD) : FVec Ideal S96 .f32 := m ((c : Thread nD τ).loc main_arg6)

theorem coord1 : ∀ t, (grid0.coords t 1).val = t.val % 8 := (by decide +kernel : ∀ t : Fin grid0.N, _)

theorem q_eq (c : Dev nD) (t : Fin cfg0.N) : Qb (F := Ideal) (iblk m c 1 t) (iblk m c 4 t) (iblk m c 5 t) (iblk m c 8 t) (iblk m c 11 t) (grid0.coords t 1)
    = qArr (B0 m c) (B3 m c) (B5 m c) (B6 m c) ⟨t.val / 8, by have := N128 t; omega⟩ ⟨t.val % 8, by omega⟩ := by
  have e : (grid0.coords t 1 : Fin 8) = ⟨t.val % 8, Nat.mod_lt _ (by decide)⟩ := Fin.ext (coord1 t)
  have e1 : (iblk m c 1 t : Vec Ideal S1x512x256 .bf16) = qIn (B0 m c) ⟨t.val / 8, by have := N128 t; omega⟩ ⟨t.val % 8, by omega⟩ := by
    rw [blk1, V_hCq]; rfl
  have e4 : (iblk m c 4 t : Vec Ideal S2x4096x128 .f32) = ropI := (blk4 m c t).trans (V_hRope m c)
  have e5 : (iblk m c 5 t : Vec Ideal S8x256x128 .bf16) = hWq (B3 m c) := (blk5 m c t).trans (V_hWq m c)
  have e8 : (iblk m c 8 t : Vec Ideal S1x128 .f32) = hQg (B5 m c) := (blk8 m c t).trans (V_hQg m c)
  have e11 : (iblk m c 11 t : Vec Ideal S1x128 .f32) = hShift (B5 m c) (B6 m c) := (blk11 m c t).trans (V_hShift m c)
  funext h
  unfold qArr
  rw [← e1, ← e4, ← e5, ← e8, ← e11]
  exact congrArg (fun n : Fin 8 => Qb (F := Ideal) (iblk m c 1 t) (iblk m c 4 t) (iblk m c 5 t) (iblk m c 8 t) (iblk m c 11 t) n h) e

theorem k_eq (c : Dev nD) (t : Fin cfg0.N) : KTat m c t = kArr (B1 m c) (B2 m c) (B4 m c) (B6 m c) ⟨t.val / 8, by have := N128 t; omega⟩ := by
  rw [KTat_eq, V_hCkv, V_hKr, V_hRope, V_hWk, V_hKg]
  rfl

theorem v_eq (c : Dev nD) (t : Fin cfg0.N) : VSat m c t = vArr (B1 m c) (B4 m c) ⟨t.val / 8, by have := N128 t; omega⟩ := by
  rw [VSat_eq, V_hCkv, V_hWv, V_hOne]
  rfl

/-- The block of a point: the attention of its rows. -/
theorem outAt_at (c : Dev nD) (h5 : ∀ d, ∃ r : ℝ, B5 m c (ix1 d) = (r : EReal)) (h6 : ∀ d, ∃ r : ℝ, B6 m c (ix1 d) = (r : EReal))
    (t : Fin cfg0.N) (r : Fin 512) (h : Fin 8) (d : Fin 64) (M : ℝ) : outAt m c t (ix3 0 r ⟨h.val * 64 + d.val, by omega⟩)
    = att (B0 m c) (B1 m c) (B2 m c) (B3 m c) (B4 m c) (B5 m c) (B6 m c) ⟨t.val / 8, by have := N128 t; omega⟩ h ⟨512 * (t.val % 8) + r.val, by omega⟩ d M := by
  rcases hFlag_cases (B5 m c) (B6 m c) with hf | hf
  · rw [outAt_one m c t ((V_hFlag m c).trans hf), q_eq, k_eq, v_eq]
    exact fast_att _ _ _ _ _ _ _ h5 h6 _ ⟨t.val % 8, by omega⟩ h r d M
  · rw [outAt_zero m c t ((V_hFlag m c).trans hf), q_eq, k_eq, v_eq]
    exact slow_att _ _ _ _ _ _ _ h5 h6 _ ⟨t.val % 8, by omega⟩ h r d M

theorem covers12 : (cfg0.win 12).Covers :=
  (cfg0.win 12).covers_of_indexMap_surj rfl (by decide) fun β => by
    have h0 : (β ⟨0, by decide⟩).val < 16 := lt_of_lt_of_eq (β ⟨0, by decide⟩).isLt (by decide +kernel)
    have h1 : (β ⟨1, by decide⟩).val < 8 := lt_of_lt_of_eq (β ⟨1, by decide⟩).isLt (by decide +kernel)
    have h2 : (β ⟨2, by decide⟩).val < 1 := lt_of_lt_of_eq (β ⟨2, by decide⟩).isLt (by decide +kernel)
    let t : Fin grid0.N := ⟨8 * (β ⟨0, by decide⟩).val + (β ⟨1, by decide⟩).val, by rw [show grid0.N = 128 from N_0]; omega⟩
    refine ⟨grid0.coords t, fun a => ?_⟩
    refine (congrFun (ind12 t) a).trans ?_
    match a with
    | ⟨0, _⟩ => show (8 * (β ⟨0, by decide⟩).val + (β ⟨1, by decide⟩).val) / 8 = _; omega
    | ⟨1, _⟩ => show (8 * (β ⟨0, by decide⟩).val + (β ⟨1, by decide⟩).val) % 8 = _; omega
    | ⟨2, _⟩ => show 0 = (β ⟨2, by decide⟩).val; omega

theorem emb12 (t : Fin cfg0.N) (y : S1x512x512.Idx) : ((win0_12.blk t).view.emb y : S16x4096x512.Idx)
    = ix3 ⟨t.val / 8, by have := N128 t; omega⟩ ⟨512 * (t.val % 8) + (y 1).val, by have : (y 1).val < 512 := (y 1).isLt; omega⟩ (y 2) := by
  blk_ext [ind12 t]

theorem out_arr (c : Dev nD) (h5 : ∀ d, ∃ r : ℝ, B5 m c (ix1 d) = (r : EReal)) (h6 : ∀ d, ∃ r : ℝ, B6 m c (ix1 d) = (r : EReal))
    (G : FVec Ideal S16x4096x512 .bf16) (hG : ∀ (b : Fin 16) (h : Fin 8) (s : Fin 4096) (d : Fin 64), ∃ M : ℝ, G (ix3 b s ⟨h.val * 64 + d.val, by omega⟩)
      = att (B0 m c) (B1 m c) (B2 m c) (B3 m c) (B4 m c) (B5 m c) (B6 m c) b h s d M) :
    (dats m 0 c).arrAt 12 cfg0.N = G := by
  refine (dats m 0 c).arrAt_eq_of_covers 12 _ covers12 fun t hf y => ?_
  blk_simp
  rw [after0_12]
  have hr : (y 1).val < 512 := (y 1).isLt
  have hc : (y 2).val < 512 := (y 2).isLt
  have h0 : (y 0).val < 1 := (y 0).isLt
  have ey : (y : S1x512x512.Idx) = ix3 0 ⟨(y 1).val, hr⟩ ⟨(⟨(y 2).val / 64, by omega⟩ : Fin 8).val * 64 + (⟨(y 2).val % 64, by omega⟩ : Fin 64).val, by show (y 2).val / 64 * 64 + (y 2).val % 64 < 512; omega⟩ := by
    funext a
    match a with
    | ⟨0, _⟩ => exact Fin.ext (by show (y 0).val = 0; omega)
    | ⟨1, _⟩ => rfl
    | ⟨2, _⟩ => exact Fin.ext (by show (y 2).val = (y 2).val / 64 * 64 + (y 2).val % 64; omega)
  obtain ⟨M, hM⟩ := hG ⟨t.val / 8, by have := N128 t; omega⟩ ⟨(y 2).val / 64, by omega⟩ ⟨512 * (t.val % 8) + (y 1).val, by omega⟩ ⟨(y 2).val % 64, by omega⟩
  refine (congrArg (outAt m c t) ey).trans ((outAt_at m c h5 h6 t ⟨(y 1).val, hr⟩ ⟨(y 2).val / 64, by omega⟩ ⟨(y 2).val % 64, by omega⟩ M).trans (hM.symm.trans ?_))
  refine (congrArg G ?_).symm
  refine (emb12 t y).trans ?_
  funext a
  match a with
  | ⟨0, _⟩ => rfl
  | ⟨1, _⟩ => rfl
  | ⟨2, _⟩ => exact Fin.ext (by show (y 2).val = (y 2).val / 64 * 64 + (y 2).val % 64; omega)

end Cert.Val

end
-- ==== Proof.Val.Pre.lean ====
module

public import proofs.«01_k».proof.Defs
public import proofs.«01_k».proof.Proof.Val.Arr
public import Idealize.ShloMosaic.Lib.ReduceAll

@[expose] public section

set_option maxRecDepth 16384
set_option maxHeartbeats 400000

noncomputable section

namespace Cert.Val

open Cert.Pre_gains_finite
open Idealize.ShloMosaic Idealize.ShloMosaic.TcCoe Idealize.ShloMosaic.Tactic Idealize.SL.Sem

theorem preFacts : Cert.Pre_gains_finite.Facts where
  bcast_S_S96 := by decide
  reducesTo_S96_S_d0 := by decide
  h_S_ := by decide

/-- A value whose absolute value is under the infinity is a real. -/
theorem real_of_abs (x : EReal) (h : max x (-x) < ⊤) : ∃ r : ℝ, x = (r : EReal) := by
  induction x using EReal.rec with
  | bot => simp at h
  | coe r => exact ⟨r, rfl⟩
  | top => simp at h

theorem finite_at [Cert.Pre_gains_finite.Facts] (g : FVec Ideal S96 .f32)
    (e : Host.reduce IntOp.andi (cmpf .olt (Host.absf g) (broadcastInDim S96 ![] Facts.bcast_S_S96 (constant S_ .f32 0x7F800000#32))) (constantI S_ 1 1#1) Facts.reducesTo_S96_S_d0 Facts.h_S_ ix0 = 1#1)
    (d : Fin 96) : ∃ r : ℝ, g (ix1 d) = (r : EReal) := by
  have : Subsingleton S_.Idx := ⟨fun a b => funext fun i => i.elim0⟩
  have h := Host.reduce_andi_all _ _ _ _ _ e (ix1 d)
  have h' : Ideal.cmp .olt (max (g (ix1 d) : EReal) (-(g (ix1 d) : EReal))) (Ideal.ofBits .f32 2139095040#32) = 1#1 := h
  rw [litTop] at h'
  refine real_of_abs _ ?_
  by_contra hn
  simp [Ideal.cmp, hn] at h'

theorem gains [Cert.Pre_gains_finite.Facts] (m : (ℓ : Loc Cert.KernelIdeal.nD Cert.KernelIdeal.τ Cert.KernelIdeal.sig) → Buf (Elt Ideal) ℓ)
    (h : Cert.Pre_KernelIdeal_gains_finite m) (c : Dev Cert.KernelIdeal.nD) :
    (∀ d, ∃ r : ℝ, B5 m c (ix1 d) = (r : EReal)) ∧ ∀ d, ∃ r : ℝ, B6 m c (ix1 d) = (r : EReal) := by
  have e := congrFun (h c) ix0
  unfold fn at e
  obtain ⟨e5, e6⟩ := IntOp.andi_eq_one.mp e
  exact ⟨finite_at _ e5, finite_at _ e6⟩

end Cert.Val

end
-- ==== Proof.Val.Ref2.lean ====
module

public import proofs.«01_k».proof.Proof.Val.Ref

@[expose] public section

set_option maxRecDepth 16384
set_option maxHeartbeats 400000

noncomputable section

namespace Cert.Val

open Cert.ReferenceIdeal Cert.ReferenceIdeal.Gen Cert.ReferenceIdeal.Value
open Idealize.ShloMosaic Idealize.ShloMosaic.TcCoe Idealize.ShloMosaic.Tactic Idealize.SL.Sem

variable (V0 : Valuation τ sig (Elt Ideal))

/-- The scaled scores. -/
def S109 : FVec Ideal S16x8x4096x4096 .f32 := res_main_v109 V0

theorem divr (x : EReal) : Ideal.div x (Ideal.sqrt (Ideal.ofBits .f32 1119879168#32)) = x * ((1 / Real.sqrt 96 : ℝ) : EReal) := by
  rw [lit96, Ideal.sqrt_coe, if_neg (by norm_num), Ideal.div_coe (Real.sqrt_pos.mpr (by norm_num)).ne']

/-- A rotated row read off its pieces. -/
theorem rot_read (g : Fin 96 → EReal) (s : Fin 4096) (x : Fin 96) (a b : Fin 16 → EReal) (C D : Fin 16 → EReal)
    (ha : ∀ d, a d = g ⟨64 + d.val, by omega⟩) (hb : ∀ d, b d = g ⟨64 + (16 + d.val), by omega⟩)
    (hC : ∀ d, C d = ((Real.cos (ang s d) : ℝ) : EReal)) (hD : ∀ d, D d = ((Real.sin (ang s d) : ℝ) : EReal)) :
    (if h_1 : x.val < 64 then g x else if h_2 : x.val - 64 < 16 then a ⟨x.val - 64, h_2⟩ * C ⟨x.val - 64, h_2⟩ - b ⟨x.val - 64, h_2⟩ * D ⟨x.val - 64, h_2⟩
      else a ⟨x.val - 64 - 16, by omega⟩ * D ⟨x.val - 64 - 16, by omega⟩ + b ⟨x.val - 64 - 16, by omega⟩ * C ⟨x.val - 64 - 16, by omega⟩) = rot g s x := by
  unfold rot; simp only [ha, hb, hC, hD]

def G24 (b : Fin 16) (h : Fin 8) (s : Fin 4096) : Fin 96 → EReal := fun d => res_main_v24 V0 (ix4 b h s d)
def G37 (b : Fin 16) (h : Fin 8) (s : Fin 4096) : Fin 96 → EReal := fun d => res_main_v37 V0 (ix4 b h s d)

theorem r109 (b : Fin 16) (h : Fin 8) (s t : Fin 4096) : S109 V0 (ix4 b h s t)
    = sc (Xq (A0 V0) (A3 V0) b h s) (Xk (A1 V0) (A2 V0) (A4 V0) b h t) (fun d => A5 V0 (ix1 d)) (fun d => A6 V0 (ix1 d)) s t
      * ((1 / Real.sqrt 96 : ℝ) : EReal) := by
  unfold S109 res_main_v109
  pointwise
  rw [divr]
  have e1 : (fun d => Xq (A0 V0) (A3 V0) b h s d * rinv (Xq (A0 V0) (A3 V0) b h s) * A5 V0 (ix1 d)) = G24 V0 b h s := (funext (r24 V0 b h s)).symm
  have e2 : (fun d => Xk (A1 V0) (A2 V0) (A4 V0) b h t d * rinv (Xk (A1 V0) (A2 V0) (A4 V0) b h t) * A6 V0 (ix1 d)) = G37 V0 b h t := (funext (r37 V0 b h t)).symm
  unfold sc
  rw [e1, e2]
  refine congrArg (· * ((1 / Real.sqrt 96 : ℝ) : EReal)) (Finset.sum_congr rfl fun x _ => ?_)
  have k1 := rot_read (G24 V0 b h s) s x (fun d => res_main_v54 V0 (ix4 b h s d)) (fun d => res_main_v55 V0 (ix4 b h s d)) (fun d => res_main_v52 V0 (ix2 s d)) (fun d => res_main_v53 V0 (ix2 s d))
    (r54 V0 b h s) (r55 V0 b h s) (r52 V0 s) (r53 V0 s)
  have k2 := rot_read (G37 V0 b h t) t x (fun d => res_main_v88 V0 (ix4 b h t d)) (fun d => res_main_v89 V0 (ix4 b h t d)) (fun d => res_main_v86 V0 (ix2 t d)) (fun d => res_main_v87 V0 (ix2 t d))
    (r88 V0 b h t) (r89 V0 b h t) (r86 V0 t) (r87 V0 t)
  rw [← k1, ← k2]
  unfold G24 G37
  beta_reduce
  with_reducible rfl

end Cert.Val

end
-- ==== Proof.Val.Ref3.lean ====
module

public import proofs.«01_k».proof.Proof.Val.Ref2

@[expose] public section

set_option maxRecDepth 16384
set_option maxHeartbeats 400000

noncomputable section

namespace Cert.Val

open Cert.ReferenceIdeal Cert.ReferenceIdeal.Gen Cert.ReferenceIdeal.Value
open Idealize.ShloMosaic Idealize.ShloMosaic.TcCoe Idealize.ShloMosaic.Tactic Idealize.SL.Sem

variable (V0 : Valuation τ sig (Elt Ideal))

/-- The exponentials of scores less their row's maximum. -/
def eOf (S : FVec Ideal S16x8x4096x4096 .f32) : FVec Ideal S16x8x4096x4096 .f32 :=
  Host.exp (subf S (broadcastInDim S16x8x4096x4096 ![0, 1, 2, 3] bcast_S16x8x4096x1_S16x8x4096x4096_0_1_2_3 (broadcastInDim S16x8x4096x1 ![0, 1, 2] bcast_S16x8x4096_S16x8x4096x1_0_1_2 (maximumf (broadcastInDim S16x8x4096 ![] bcast_S_S16x8x4096 (constant S_ .f32 0xFF800000#32)) (Host.reduce FloatOps.maximumf S (constant S_ .f32 0xFF800000#32) reducesTo_S16x8x4096x4096_S16x8x4096_d3 h_S_)))))

theorem eOf_eq : (res_main_v116 V0 : FVec Ideal S16x8x4096x4096 .f32) = eOf (S109 V0) := by
  unfold eOf S109 res_main_v116
  with_reducible rfl

theorem bc_at (R : FVec Ideal S16x8x4096 .f32) (b : Fin 16) (h : Fin 8) (s t : Fin 4096) :
    (broadcastInDim S16x8x4096x4096 ![0, 1, 2, 3] bcast_S16x8x4096x1_S16x8x4096x4096_0_1_2_3 (broadcastInDim S16x8x4096x1 ![0, 1, 2] bcast_S16x8x4096_S16x8x4096x1_0_1_2 R)) (ix4 b h s t) = R (ix3 b h s) := by
  pointwise

theorem mx_at (R : FVec Ideal S16x8x4096 .f32) (b : Fin 16) (h : Fin 8) (s : Fin 4096) :
    (maximumf (broadcastInDim S16x8x4096 ![] bcast_S_S16x8x4096 (constant S_ .f32 0xFF800000#32)) R) (ix3 b h s) = R (ix3 b h s) := by
  pointwise
  rw [litBot, max_bot_left]

theorem red_at (S : FVec Ideal S16x8x4096x4096 .f32) (c : FVec Ideal S_ .f32) (hr : S16x8x4096x4096.ReducesTo [3] S16x8x4096) (hu : 0 < S_.numel) (b : Fin 16) (h : Fin 8) (s : Fin 4096) :
    Host.reduce FloatOps.maximumf S c hr hu (ix3 b h s) = Finset.univ.fold max (c (Shape.Idx.first hu)) fun t : Fin 4096 => S (ix4 b h s t) := by
  simp only [pointwise]

theorem eOf_at (S : FVec Ideal S16x8x4096x4096 .f32) (hf : ∀ i, ∃ r : ℝ, S i = (r : EReal)) (b : Fin 16) (h : Fin 8) (s : Fin 4096) : ∃ M : ℝ,
    ∀ t, eOf S (ix4 b h s t) = Ideal.exp (S (ix4 b h s t) - (M : EReal)) := by
  obtain ⟨M, hM⟩ := fold_max_real Finset.univ ⟨0, Finset.mem_univ _⟩ (fun t : Fin 4096 => S (ix4 b h s t)) fun t => hf _
  refine ⟨M, fun t => ?_⟩
  rw [← hM]
  have e : eOf S (ix4 b h s t) = Ideal.exp (S (ix4 b h s t) - _) := rfl
  rw [e, bc_at, mx_at, red_at]
  have e0 : (constant S_ .f32 0xFF800000#32 : FVec Ideal S_ .f32) (Shape.Idx.first h_S_) = ⊥ := litBot
  rw [e0]

/-- The weighted values of exponentials `E` and latents `L`. -/
def oOf (E : FVec Ideal S16x8x4096x4096 .f32) (L : FVec Ideal S16x8x4096x128 .f32) : FVec Ideal S16x4096x512 .bf16 :=
  truncf .bf16 (shapeCast _ (transpose S16x4096x8x64 [0, 2, 1, 3] (Host.dotGeneral dot_S16x8x4096x4096_S16x8x4096x64_S16x8x4096x64_3_2_2_3_01_01 none (Host.divf E (broadcastInDim S16x8x4096x4096 ![0, 1, 2, 3] bcast_S16x8x4096x1_S16x8x4096x4096_0_1_2_3 (broadcastInDim S16x8x4096x1 ![0, 1, 2] bcast_S16x8x4096_S16x8x4096x1_0_1_2 (Host.reduceAdd E (constant S_ .f32 0x00000000#32) reducesTo_S16x8x4096x4096_S16x8x4096_d3 h_S_)))) (extractStridedSlice S16x8x4096x64 ![0, 0, 0, 64] L slices_S16x8x4096x128_S16x8x4096x64_0_0_0_64)) transposes_S16x8x4096x64_S16x4096x8x64_0_2_1_3) shapeCasts_S16x4096x8x64_S16x4096x512) bitsLt_bf16_f32

theorem oOf_at (E : FVec Ideal S16x8x4096x4096 .f32) (L : FVec Ideal S16x8x4096x128 .f32) (b : Fin 16) (h : Fin 8) (s : Fin 4096) (d : Fin 64) :
    oOf E L (ix3 b s ⟨h.val * 64 + d.val, by omega⟩)
      = ∑ t, Ideal.div (E (ix4 b h s t)) (∑ t, E (ix4 b h s t)) * L (ix4 b h t ⟨64 + d.val, by omega⟩) := by
  have e1 : (h.val * 64 + d.val) / 64 = h.val := by omega
  have e2 : (h.val * 64 + d.val) % 64 = d.val := by omega
  unfold oOf
  pointwise

theorem oOf_at' (E : FVec Ideal S16x8x4096x4096 .f32) (L : FVec Ideal S16x8x4096x128 .f32) (b : Fin 16) (h : Fin 8) (s : Fin 4096) (d : Fin 64)
    (e l : Fin 4096 → EReal) (hE : ∀ t, E (ix4 b h s t) = e t) (hL : ∀ t, L (ix4 b h t ⟨64 + d.val, by omega⟩) = l t) :
    oOf E L (ix3 b s ⟨h.val * 64 + d.val, by omega⟩) = ∑ t, Ideal.div (e t) (∑ t, e t) * l t := by
  rw [oOf_at]
  refine Finset.sum_congr rfl fun t _ => ?_
  rw [hE, hL, Finset.sum_congr rfl fun t _ => hE t]

/-- What the reference returns. -/
def refOut : FVec Ideal S16x4096x512 .bf16 := oOf (eOf (S109 V0)) (res_main_v6 V0)

theorem ref_at (b : Fin 16) (h : Fin 8) (s : Fin 4096) (d : Fin 64) (hf : ∀ i, ∃ r : ℝ, S109 V0 i = (r : EReal)) : ∃ M : ℝ,
    refOut V0 (ix3 b s ⟨h.val * 64 + d.val, by omega⟩)
      = ∑ t, Ideal.div (Ideal.exp (S109 V0 (ix4 b h s t) - (M : EReal))) (∑ t, Ideal.exp (S109 V0 (ix4 b h s t) - (M : EReal)))
        * Lk (A1 V0) (A4 V0) b h t ⟨64 + d.val, by omega⟩ := by
  obtain ⟨M, hM⟩ := eOf_at (S109 V0) hf b h s
  refine ⟨M, ?_⟩
  unfold refOut
  exact oOf_at' _ _ _ _ _ _ _ _ hM fun t => r6 V0 b h t _

end Cert.Val

end
-- ==== Proof.Val.Fin.lean ====
module

public import proofs.«01_k».proof.Proof.Val.Pre
public import proofs.«01_k».proof.Proof.Val.Ref3

@[expose] public section

set_option maxRecDepth 16384
set_option maxHeartbeats 400000

noncomputable section

namespace Cert.Val

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo

section
variable (V0 : Valuation τ sig (Elt Ideal))

/-- The reference's rows are the attention of its arguments. -/
theorem ref_att (a0 : FVec Ideal S16x4096x256 .f32) (a1 : FVec Ideal S16x4096x128 .f32) (a2 : FVec Ideal S16x4096x32 .f32)
    (a3 : FVec Ideal S256x768 .f32) (a4 : FVec Ideal S128x1024 .f32) (a5 a6 : FVec Ideal S96 .f32)
    (e0 : A0 V0 = a0) (e1 : A1 V0 = a1) (e2 : A2 V0 = a2) (e3 : A3 V0 = a3) (e4 : A4 V0 = a4) (e5 : A5 V0 = a5) (e6 : A6 V0 = a6)
    (h5 : ∀ d, ∃ r : ℝ, a5 (ix1 d) = (r : EReal)) (h6 : ∀ d, ∃ r : ℝ, a6 (ix1 d) = (r : EReal))
    (b : Fin 16) (h : Fin 8) (s : Fin 4096) (d : Fin 64) : ∃ M : ℝ,
    refOut V0 (ix3 b s ⟨h.val * 64 + d.val, by omega⟩) = att a0 a1 a2 a3 a4 a5 a6 b h s d M := by
  have ez : ∀ b h s t, S109 V0 (ix4 b h s t) = Z a0 a1 a2 a3 a4 a5 a6 b h s t := fun b h s t => by
    rw [r109, e0, e1, e2, e3, e4, e5, e6]; rfl
  have hf : ∀ i, ∃ r : ℝ, S109 V0 i = (r : EReal) := fun i => by
    have ei : i = ix4 (i 0) (i 1) (i 2) (i 3) := by
      funext a
      match a with
      | ⟨0, _⟩ => rfl
      | ⟨1, _⟩ => rfl
      | ⟨2, _⟩ => rfl
      | ⟨3, _⟩ => rfl
    obtain ⟨z, hz⟩ := Z_real a0 a1 a2 a3 a4 a5 a6 h5 h6 (i 0) (i 1) (i 2) (i 3)
    exact ⟨z, (congrArg (S109 V0) ei).trans ((ez _ _ _ _).trans hz)⟩
  obtain ⟨M, hM⟩ := ref_at V0 b h s d hf
  refine ⟨M, hM.trans ?_⟩
  unfold att
  simp only [ez, e1, e4]

end

/-- The reference's run ends with `refOut` of its launch contents. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v124) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (by unfold refOut oOf; rw [← eOf_eq]), (h c).2⟩)
    (Cert.ReferenceIdeal.Value.run (F := Ideal) m ρ)

/-- The kernel and the reference end with the same array. -/
theorem algebraic [Cert.Pre_gains_finite.Facts] : Cert.algebraic_KernelIdeal_ReferenceIdeal_pre_gains_finite (hKernelIdeal := Cert.KernelIdeal.Gen.facts) (hReferenceIdeal := Cert.ReferenceIdeal.Gen.facts) := by
  intro m g m' g' hP hA
  refine ⟨fun c => (refOut (launchContents m' c) : FVec Ideal S16x4096x512 .bf16), ?_, run_ref m' g'⟩
  refine (θ_run _ _ _).mono (fun r h c => ?_) (Idealize.ShloMosaic.θ_run_and (Cert.KI.frame m g) (Cert.KI.run_main m g))
  refine ⟨?_, h.1.1 c⟩
  obtain ⟨h5, h6⟩ := gains m hP c
  obtain ⟨e0, e1, e2, e3, e4, e5, e6⟩ := hA c
  refine ((h.2 c).1 12).trans (out_arr m c h5 h6 _ fun b hh s d => ?_)
  exact ref_att (launchContents m' c) _ _ _ _ _ _ _ e0 e1 e2 e3 e4 e5 e6 h5 h6 b hh s d

end Cert.Val

end
-- ==== Proof.EI.Run.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a used block: the expert network of the staged rows and weights goes out. -/
theorem run_used (c : Dev nD) (q : PosShare TreeShare) (i : grid0.Coords) (arg1 : Memref sig .tc .smem S288 .i32) (harg1 : arg1.IsWhole) (arg2 : Memref sig .tc .smem S1 .i32) (harg2 : arg2.IsWhole) (arg3 : Memref sig .tc .vmem S512x512 .i32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole)
    (x0 : Vec F S1 .i32) (x1 : Vec F S512x512 .i32) (x2 x3 : Vec F S1x1x1024x512 .f32) (x4 : Vec F S1x1x512x1024 .f32)
    (hc1 : k0_cond1 i (arg2.view.readAt (Elt F) (Rect.unit (s := S1) ![0] S1.size inb_S1_S1_0).toLoadRect (harg2.unread x0) (Shape.Idx.first (numel1_S1.symm ▸ Nat.one_pos))) = 1#1)
    (hc2 : ¬ k0_cond2 i (arg2.view.readAt (Elt F) (Rect.unit (s := S1) ![0] S1.size inb_S1_S1_0).toLoadRect (harg2.unread x0) (Shape.Idx.first (numel1_S1.symm ▸ Nat.one_pos))) = 1#1)
    (E : Set ℕ) (K : PUnit → sProp 𝕄) :
    iprop(owns (c : Thread nD τ) arg2 q x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 q x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay1 (k0_pay3 x1 x2 x3) (k0_pay4 x4))) -∗ K ⟨⟩))
      ⊢ wp frame (wpE (defs₀ (F := F)) Variants.none c none) E (cc0_moe_mlp i arg1 harg1 arg2 harg2 arg3 harg3 arg4 harg4 arg5 harg5 arg6 harg6 arg7 harg7) K := by
  simp only [cc0_moe_mlp_eq_skeleton]; unfold cc0_moe_mlp_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap
  · iexact H5
  ipureintro
  refine (View.read_writes_full _ _ _ _ _).trans ?_
  exact congr (congrArg k0_pay1 (congr (congr (congrArg k0_pay3 ((View.readAt_full _ _ _).trans (harg3.read_unread _)))
    ((View.readAt_full _ _ _).trans (harg4.read_unread _))) ((View.readAt_full _ _ _).trans (harg5.read_unread _))))
    (congrArg k0_pay4 ((View.readAt_full _ _ _).trans (harg6.read_unread _)))

/-- The body at a block past the used ones: zeros go out. -/
theorem run_idle (c : Dev nD) (q : PosShare TreeShare) (i : grid0.Coords) (arg1 : Memref sig .tc .smem S288 .i32) (harg1 : arg1.IsWhole) (arg2 : Memref sig .tc .smem S1 .i32) (harg2 : arg2.IsWhole) (arg3 : Memref sig .tc .vmem S512x512 .i32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole)
    (x0 : Vec F S1 .i32) (x1 : Vec F S512x512 .i32) (x2 x3 : Vec F S1x1x1024x512 .f32) (x4 : Vec F S1x1x512x1024 .f32)
    (hc1 : ¬ k0_cond1 i (arg2.view.readAt (Elt F) (Rect.unit (s := S1) ![0] S1.size inb_S1_S1_0).toLoadRect (harg2.unread x0) (Shape.Idx.first (numel1_S1.symm ▸ Nat.one_pos))) = 1#1)
    (hc2 : k0_cond2 i (arg2.view.readAt (Elt F) (Rect.unit (s := S1) ![0] S1.size inb_S1_S1_0).toLoadRect (harg2.unread x0) (Shape.Idx.first (numel1_S1.symm ▸ Nat.one_pos))) = 1#1)
    (E : Set ℕ) (K : PUnit → sProp 𝕄) :
    iprop(owns (c : Thread nD τ) arg2 q x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 q x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 (F := F))) -∗ K ⟨⟩))
      ⊢ wp frame (wpE (defs₀ (F := F)) Variants.none c none) E (cc0_moe_mlp i arg1 harg1 arg2 harg2 arg3 harg3 arg4 harg4 arg5 harg5 arg6 harg6 arg7 harg7) K := by
  simp only [cc0_moe_mlp_eq_skeleton]; unfold cc0_moe_mlp_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap
  · iexact H5
  ipureintro
  exact View.read_writes_full _ _ _ _ _

end Cert.EI

end
-- ==== Proof.EI.Body.lean ====
module

public import proofs.«01_k».proof.Proof.EI.Run
public import Idealize.ShloMosaic.Lib.Pipeline.Kit
public import Idealize.ShloMosaic.Lib.Pipeline.Frame
public import Idealize.ShloMosaic.Lib.Affine

@[expose] public section

set_option maxRecDepth 16384

noncomputable section

namespace Cert.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

/-- The two branches of the body are each other's complement. -/
theorem cond_compl (i : grid0.Coords) (w : BitVec 32) : k0_cond2 i w = 1#1 ↔ ¬ k0_cond1 i w = 1#1 := by
  unfold k0_cond1 k0_cond2
  dsimp only
  generalize BitVec.ofNat 32 (i 0).val = a
  simp only [Scalar.cmpi, Scalar.extui, IntOp.cmpi]
  by_cases h : a.slt w = true
  · have h' : (!(a.slt w)) = false := by simp [h]
    simp [BitVec.sle_eq_not_slt, h]
  · simp [BitVec.sle_eq_not_slt, h]

theorem not_idle (i : grid0.Coords) (w : BitVec 32) : (!(k0_cond1 i w == 1#1) && !(k0_cond2 i w == 1#1)) = false := by
  by_cases h : k0_cond1 i w = 1#1
  · simp [h]
  · simp [h, (cond_compl i w).2 h]

variable (m : (ℓ : Loc nD τ sig) → Buf (Elt F) ℓ) (ρ : Dev nD → PrngReg)

/-- The one core's tables. -/
def pf : pre0.Contents (Elt F) := fun k => m (((0 : Dev nD) : Thread nD τ).loc (pre0.ref k))

/-- Every buffer's contents at the call. -/
def V (c : Dev nD) (b : Ref sig .tc) : Buf (Elt F) ((c : Thread nD τ).loc b) := m ((c : Thread nD τ).loc b)

variable (hok : ok0 (pf m))

/-- The tables, at which every block lies in its array. -/
def adm : (pcfg0 (F := F)).Adm := ⟨pf m, hok⟩

abbrev adms : (p : Fin 1) → (pcfgs (F := F) p).Adm := fun _ => adm m hok

/-- The word that counts the used blocks. -/
def nUsed : BitVec 32 := (m (((0 : Dev nD) : Thread nD τ).loc main_arg2) : Vec F S1 .i32) (Shape.Idx.first (numel1_S1.symm ▸ Nat.one_pos))

/-- A window's block at a point. -/
def iblk (c : Dev nD) (w : Fin 5) (t : Fin grid0.N) : ((cfg0 (adm m hok)).win w).block.Idx → Elt F ((cfg0 (adm m hok)).win w).elt :=
  (((cfg0 (adm m hok)).win w).blk t).view.read (Elt F) (V m c (Pipeline.arrRef spec0 w))

/-- What the body leaves of the output at a point. -/
def outAt (c : Dev nD) (t : Fin grid0.N) : Vec F S512x1024 .bf16 :=
  if k0_cond1 (grid0.coords t) (nUsed m) = 1#1 then
    k0_pay1 (k0_pay3 (iblk m hok c 0 t) (iblk m hok c 1 t) (iblk m hok c 2 t)) (k0_pay4 (iblk m hok c 3 t))
  else k0_pay2

/-- The proof data: each input's buffer at its block, the output's at the expert network of the point. -/
def dats (p : Fin 1) (c : Dev nD) : Dat τ (Elt F) Unit ℕ (UR sig nD τ) ℕ (Pipeline.pin pcfgs (adms m hok) p) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => outAt m hok c t
  Φ _ := iprop(Pipeline.ΦA spec0 c ∗ Pipeline.ΦT pre0 (pf m) c)
  q _ := fullShare
  owed _ := 0

theorem A_eq (c : Dev nD) (w : Fin 5) : (dats m hok 0 c).A w = V m c (Pipeline.arrRef spec0 w) := by
  dsimp only [dats]

theorem Phi_eq (c : Dev nD) (t : Fin (grid0.N + 1)) : (dats m hok 0 c).Φ t = iprop(Pipeline.ΦA spec0 c ∗ Pipeline.ΦT pre0 (pf m) c) := by
  dsimp only [dats]

theorem after_0 (c : Dev nD) (t : Fin grid0.N) : (dats m hok 0 c).after 0 t = iblk m hok c 0 t := rfl
theorem after_1 (c : Dev nD) (t : Fin grid0.N) : (dats m hok 0 c).after 1 t = iblk m hok c 1 t := rfl
theorem after_2 (c : Dev nD) (t : Fin grid0.N) : (dats m hok 0 c).after 2 t = iblk m hok c 2 t := rfl
theorem after_3 (c : Dev nD) (t : Fin grid0.N) : (dats m hok 0 c).after 3 t = iblk m hok c 3 t := rfl
theorem after_4 (c : Dev nD) (t : Fin grid0.N) : (dats m hok 0 c).after 4 t = outAt m hok c t := rfl

theorem before_0 (c : Dev nD) (t : Fin grid0.N) (d) : (dats m hok 0 c).before 0 t d = iblk m hok c 0 t :=
  ((dats m hok 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin grid0.N) (d) : (dats m hok 0 c).before 1 t d = iblk m hok c 1 t :=
  ((dats m hok 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin grid0.N) (d) : (dats m hok 0 c).before 2 t d = iblk m hok c 2 t :=
  ((dats m hok 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin grid0.N) (d) : (dats m hok 0 c).before 3 t d = iblk m hok c 3 t :=
  ((dats m hok 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The body at a point, on the point's buffers. -/
abbrev bodyAt (t : Fin grid0.N) : Prog (TpuEff nD τ sig (Elt F) Λ₀ .tc) PUnit :=
  cc0_moe_mlp (grid0.coords t) (Memref.whole main_arg1) (Memref.isWhole_whole _) (Memref.whole main_arg2) (Memref.isWhole_whole _)
    (spec0_0.stage ((cfg0 (adm m hok)).slots t 0)) (hstage0_0 (((cfg0 (adm m hok)).slots t 0).cast nbuf0_0))
    (spec0_1.stage ((cfg0 (adm m hok)).slots t 1)) (hstage0_1 (((cfg0 (adm m hok)).slots t 1).cast nbuf0_1))
    (spec0_2.stage ((cfg0 (adm m hok)).slots t 2)) (hstage0_2 (((cfg0 (adm m hok)).slots t 2).cast nbuf0_2))
    (spec0_3.stage ((cfg0 (adm m hok)).slots t 3)) (hstage0_3 (((cfg0 (adm m hok)).slots t 3).cast nbuf0_3))
    (spec0_4.stage ((cfg0 (adm m hok)).slots t 4)) (hstage0_4 (((cfg0 (adm m hok)).slots t 4).cast nbuf0_4))

/-- What the body is called with at a point, the windows one by one; -/
def bodyPre (c : Dev nD) (t : Fin grid0.N) : sProp 𝕄 :=
  iprop((dats m hok 0 c).Φ t.castSucc ∗ (dats m hok 0 c).owesAt () t.castSucc
    ∗ (∃ d, owns (c : Thread nD τ) (spec0_0.stage ((cfg0 (adm m hok)).slots t 0)) fullShare ((dats m hok 0 c).before 0 t d))
    ∗ (∃ d, owns (c : Thread nD τ) (spec0_1.stage ((cfg0 (adm m hok)).slots t 1)) fullShare ((dats m hok 0 c).before 1 t d))
    ∗ (∃ d, owns (c : Thread nD τ) (spec0_2.stage ((cfg0 (adm m hok)).slots t 2)) fullShare ((dats m hok 0 c).before 2 t d))
    ∗ (∃ d, owns (c : Thread nD τ) (spec0_3.stage ((cfg0 (adm m hok)).slots t 3)) fullShare ((dats m hok 0 c).before 3 t d))
    ∗ (∃ d, owns (c : Thread nD τ) (spec0_4.stage ((cfg0 (adm m hok)).slots t 4)) fullShare ((dats m hok 0 c).before 4 t d)))

/-- and what it returns. -/
def bodyPost (c : Dev nD) (t : Fin grid0.N) : sProp 𝕄 :=
  iprop((dats m hok 0 c).Φ t.succ ∗ (dats m hok 0 c).owesAt () t.succ
    ∗ owns (c : Thread nD τ) (spec0_0.stage ((cfg0 (adm m hok)).slots t 0)) fullShare ((dats m hok 0 c).after 0 t)
    ∗ owns (c : Thread nD τ) (spec0_1.stage ((cfg0 (adm m hok)).slots t 1)) fullShare ((dats m hok 0 c).after 1 t)
    ∗ owns (c : Thread nD τ) (spec0_2.stage ((cfg0 (adm m hok)).slots t 2)) fullShare ((dats m hok 0 c).after 2 t)
    ∗ owns (c : Thread nD τ) (spec0_3.stage ((cfg0 (adm m hok)).slots t 3)) fullShare ((dats m hok 0 c).after 3 t)
    ∗ owns (c : Thread nD τ) (spec0_4.stage ((cfg0 (adm m hok)).slots t 4)) fullShare ((dats m hok 0 c).after 4 t))

theorem word_eq (x : Vec F S1 .i32) :
    (Memref.whole main_arg2).view.readAt (Elt F) (Rect.unit (s := S1) ![0] S1.size inb_S1_S1_0).toLoadRect ((Memref.isWhole_whole main_arg2).unread x) (Shape.Idx.first (numel1_S1.symm ▸ Nat.one_pos))
      = x (Shape.Idx.first (numel1_S1.symm ▸ Nat.one_pos)) :=
  congrFun ((View.readAt_full _ _ _).trans ((Memref.isWhole_whole main_arg2).read_unread x)) _

/-- The tables' shares, one table after the other. -/
theorem tables_split (c : Dev nD) : (Pipeline.ΦT pre0 (pf m) c : sProp 𝕄)
    = iprop(((c : Thread nD τ).loc main_arg1 ↦{fullShare.right} (pf m 0 : Buf (Elt F) ((c : Thread nD τ).loc main_arg1)))
        ∗ ((c : Thread nD τ).loc main_arg2 ↦{fullShare.right} (pf m 1 : Buf (Elt F) ((c : Thread nD τ).loc main_arg2)))) := by
  unfold Pipeline.ΦT Pipeline.prefHeld
  rw [show (Finset.univ : Finset (Fin 2)) = insert 0 {1} from by decide, bigSep_insert (by decide), bigSep_singleton]
  rfl

theorem owns_table (c : Dev nD) (q : PosShare TreeShare) (x : Buf (Elt F) ((c : Thread nD τ).loc main_arg2)) :
    (((c : Thread nD τ).loc main_arg2 ↦{q} x : sProp 𝕄)) ⊢ owns (c : Thread nD τ) (Memref.whole main_arg2) q (x : Vec F S1 .i32) := by
  unfold owns
  iintro H
  iexists x
  isplitr
  · ipureintro; rfl
  iexact H

theorem table_owns (c : Dev nD) (q : PosShare TreeShare) (x : Buf (Elt F) ((c : Thread nD τ).loc main_arg2)) :
    owns (c : Thread nD τ) (Memref.whole main_arg2) q (x : Vec F S1 .i32) ⊢ (((c : Thread nD τ).loc main_arg2 ↦{q} x : sProp 𝕄)) := by
  unfold owns
  iintro ⟨%f, %hf, H⟩
  obtain rfl : f = x := hf
  iexact H

theorem sound_used (c : Dev nD) (t : Fin grid0.N) (h : k0_cond1 (grid0.coords t) (nUsed m) = 1#1) :
    bodyPre m hok c t ⊢ wp frame (wpE (defs₀ (F := F)) Variants.none c none) Set.univ (bodyAt m hok t) (fun _ => bodyPost m hok c t) := by
  unfold bodyPre bodyPost
  simp only [before_0, before_1, before_2, before_3, after_0, after_1, after_2, after_3, after_4, Phi_eq]
  rw [tables_split]
  iintro ⟨⟨HA, HT1, HT2⟩, Howe, ⟨%e0, H0⟩, ⟨%e1, H1⟩, ⟨%e2, H2⟩, ⟨%e3, H3⟩, ⟨%e4, H4⟩⟩
  ihave HT := owns_table c fullShare.right (pf m 1) $$ HT2
  iapply (run_used c fullShare.right (grid0.coords t) _ _ _ _ _ _ _ _ _ _ _ _ _ _ (pf m 1) (iblk m hok c 0 t) (iblk m hok c 1 t) (iblk m hok c 2 t) (iblk m hok c 3 t)
    ((congrArg (k0_cond1 (grid0.coords t)) (word_eq (m (((0 : Dev nD) : Thread nD τ).loc main_arg2)))).trans h)
    (fun h2 => (cond_compl _ _).1 ((congrArg (k0_cond2 (grid0.coords t)) (word_eq (m (((0 : Dev nD) : Thread nD τ).loc main_arg2)))).symm.trans h2) h))
  isplitl [HT]; · iexact HT
  isplitl [H0]; · iexact H0
  isplitl [H1]; · iexact H1
  isplitl [H2]; · iexact H2
  isplitl [H3]; · iexact H3
  isplitl [H4]; · iexists _; iexact H4
  iintro ⟨HT, H0, H1, H2, H3, H4⟩
  ihave HT2 := table_owns c fullShare.right (pf m 1) $$ HT
  isplitl [HA HT1 HT2]
  · isplitl [HA]; · iexact HA
    isplitl [HT1]; · iexact HT1
    iexact HT2
  isplitl [Howe]; · iexact Howe
  isplitl [H0]; · iexact H0
  isplitl [H1]; · iexact H1
  isplitl [H2]; · iexact H2
  isplitl [H3]; · iexact H3
  rw [show outAt m hok c t = _ from if_pos h]
  iexact H4

theorem sound_idle (c : Dev nD) (t : Fin grid0.N) (h : ¬ k0_cond1 (grid0.coords t) (nUsed m) = 1#1) :
    bodyPre m hok c t ⊢ wp frame (wpE (defs₀ (F := F)) Variants.none c none) Set.univ (bodyAt m hok t) (fun _ => bodyPost m hok c t) := by
  unfold bodyPre bodyPost
  simp only [before_0, before_1, before_2, before_3, after_0, after_1, after_2, after_3, after_4, Phi_eq]
  rw [tables_split]
  iintro ⟨⟨HA, HT1, HT2⟩, Howe, ⟨%e0, H0⟩, ⟨%e1, H1⟩, ⟨%e2, H2⟩, ⟨%e3, H3⟩, ⟨%e4, H4⟩⟩
  ihave HT := owns_table c fullShare.right (pf m 1) $$ HT2
  iapply (run_idle c fullShare.right (grid0.coords t) _ _ _ _ _ _ _ _ _ _ _ _ _ _ (pf m 1) (iblk m hok c 0 t) (iblk m hok c 1 t) (iblk m hok c 2 t) (iblk m hok c 3 t)
    (fun h1 => h ((congrArg (k0_cond1 (grid0.coords t)) (word_eq (m (((0 : Dev nD) : Thread nD τ).loc main_arg2)))).symm.trans h1))
    ((congrArg (k0_cond2 (grid0.coords t)) (word_eq (m (((0 : Dev nD) : Thread nD τ).loc main_arg2)))).trans ((cond_compl _ _).2 h)))
  isplitl [HT]; · iexact HT
  isplitl [H0]; · iexact H0
  isplitl [H1]; · iexact H1
  isplitl [H2]; · iexact H2
  isplitl [H3]; · iexact H3
  isplitl [H4]; · iexists _; iexact H4
  iintro ⟨HT, H0, H1, H2, H3, H4⟩
  ihave HT2 := table_owns c fullShare.right (pf m 1) $$ HT
  isplitl [HA HT1 HT2]
  · isplitl [HA]; · iexact HA
    isplitl [HT1]; · iexact HT1
    iexact HT2
  isplitl [Howe]; · iexact Howe
  isplitl [H0]; · iexact H0
  isplitl [H1]; · iexact H1
  isplitl [H2]; · iexact H2
  isplitl [H3]; · iexact H3
  rw [show outAt m hok c t = _ from if_neg h]
  iexact H4

theorem sound_body (c : Dev nD) (t : Fin grid0.N) :
    bodyPre m hok c t ⊢ wp frame (wpE (defs₀ (F := F)) Variants.none c none) Set.univ (bodyAt m hok t) (fun _ => bodyPost m hok c t) := by
  by_cases h : k0_cond1 (grid0.coords t) (nUsed m) = 1#1
  · exact sound_used m hok c t h
  · exact sound_idle m hok c t h

theorem defs₀_row (t : Fin grid0.N) :
    defs₀ (F := F) .tc (cfg0 (adm m hok)).body ((cfg0 (adm m hok)).bodyArgs t ((cfg0 (adm m hok)).slots t)) = bodyAt m hok t := by
  unfold defs₀; rw [Defs.onTc_tc]

theorem idle_out (t : Fin grid0.N) : (cfg0 (adm m hok)).idle 4 ((cfg0 (adm m hok)).grid.coords t) = false :=
  not_idle (grid0.coords t) ((pf m).atD 1 ![0])

theorem of_not_idle {M : Type} [URA M] (b : Bool) (hb : b = false) (P Q : sProp M) : Q ⊢ (match b with | true => P | false => Q) := by
  subst hb; exact .rfl

theorem body_obligation (c : Dev nD) : BodyObligation (dats (F := F) m hok 0 c) (defs₀ (F := F)) Variants.none () Set.univ := fun t => by
  rw [bigSep_W0, bigSep_W0, defs₀_row]
  refine triple_restated (sound_body m hok c t) rfl .rfl fun _ => ?_
  unfold bodyPost
  iintro ⟨HP, Howe, H0, H1, H2, H3, H4⟩
  isplitl [HP]; · iexact HP
  isplitl [Howe]; · iexact Howe
  isplitl [H0]; · iexact H0
  isplitl [H1]; · iexact H1
  isplitl [H2]; · iexact H2
  isplitl [H3]; · iexact H3
  rw [idle_out]
  iexact H4

theorem tables_at (c : Dev nD) (k : Fin pre0.K) : V m c (pre0.ref k) = (adm m hok).1 k := by
  obtain rfl : c = 0 := Subsingleton.elim _ _
  rfl

/-- The call run from any memory whose tables keep every block in its array: each array ends at what the
    write-backs leave, the other buffers as they were, no signal pending. -/
theorem run : θ_run (defs (F := F)) (onTc main) ⟨m, fun _ => 0, ρ⟩
    (fun r => Pipeline.FramePost (Pipeline.pin pcfgs (adms m hok)) (dats m hok) 0 (V m) r ∧ r.2.sem = fun _ => 0) :=
  Pipeline.θ_run_frameP pcfgs (adms m hok) (dats m hok) 0 launch0 defs₀ Variants.none m ρ main
    (fun c => (body_obligation m hok c).loose) (fun c w => by fin_cases w <;> rfl) (fun _ _ => rfl) (V m)
    (Pipeline.hmainP_region (pcs := pcfgs) (p := 0) (defs₀ := defs₀) (𝒱₀ := Variants.none) (m := m) (main := main) (h := fun c => rfl)) (A_eq m hok) (tables_at m hok) (Phi_eq m hok) _ (fun _ h => h)

include hok in
/-- The call changes no argument and leaves no signal pending. -/
theorem frame : θ_run (defs (F := F)) (onTc main) ⟨m, fun _ => 0, ρ⟩ (fun r => (∀ c : Dev nD,
      r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)) ∧ r.2.sem = fun _ => 0) := by
  refine (θ_run (defs (F := F)) _ _).mono (fun r h => ⟨fun c => ?_, h.2⟩) (run m ρ hok)
  obtain ⟨ha, hr⟩ := h.1 c
  refine ⟨(ha 0).trans ((dats m hok 0 c).arrAt_in 0 rfl _), hr main_arg1 (show main_arg1 ∈ Pipeline.restRefs sig spec0 from by decide), hr main_arg2 (show main_arg2 ∈ Pipeline.restRefs sig spec0 from by decide),
    (ha 1).trans ((dats m hok 0 c).arrAt_in 1 rfl _), (ha 2).trans ((dats m hok 0 c).arrAt_in 2 rfl _),
    (ha 3).trans ((dats m hok 0 c).arrAt_in 3 rfl _)⟩

end Cert.EI

end
-- ==== Proof.EI.Ok.lean ====
module

public import proofs.«01_k».proof.Proof.EI.Body

@[expose] public section

set_option maxRecDepth 16384

noncomputable section

namespace Cert.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The block table. -/
abbrev blkE : IVec S288 32 := m (((0 : Dev nD) : Thread nD τ).loc main_arg1)

/-- The expert of the block at a grid point. -/
def wordAt (i : grid0.Coords) : BitVec 32 := (pf m).at 0 (Rect.unit (s := S288) (k0_off1 i) S1.size (k0_off1_inb i)) numel1_S1

theorem index1 (i : grid0.Coords) : cc0_transform_1 k0_off1_inb numel1_S1 (pf m) i = ![0, (wordAt m i).toNat, 0, 0] := rfl
theorem index2 (i : grid0.Coords) : cc0_transform_2 k0_off1_inb numel1_S1 (pf m) i = ![0, (wordAt m i).toNat, 0, 0] := rfl
theorem index3 (i : grid0.Coords) : cc0_transform_3 k0_off1_inb numel1_S1 (pf m) i = ![0, (wordAt m i).toNat, 0, 0] := rfl

theorem wordAt_lt (h : ∀ j, (blkE m j).toNat < 32) (i : grid0.Coords) : (wordAt m i).toNat < 32 := h _

/-- Every expert in range keeps every block of the weights in its array. -/
theorem ok_of_lt (h : ∀ j, (blkE m j).toNat < 32) : ok0 (pf m) := by
  have hw := wordAt_lt m h
  refine ⟨fun i => ⟨?_, .inl rfl⟩, fun i => ⟨?_, .inl rfl⟩, fun i => ⟨?_, .inl rfl⟩⟩
  · rw [index1]
    intro a
    have := hw i
    fin_cases a
    · exact (by decide : (0 + 1) * 1 ≤ 4)
    · exact (by omega : ((wordAt m i).toNat + 1) * 1 ≤ 32)
    · exact (by decide : (0 + 1) * 1024 ≤ 1024)
    · exact (by decide : (0 + 1) * 512 ≤ 512)
  · rw [index2]
    intro a
    have := hw i
    fin_cases a
    · exact (by decide : (0 + 1) * 1 ≤ 4)
    · exact (by omega : ((wordAt m i).toNat + 1) * 1 ≤ 32)
    · exact (by decide : (0 + 1) * 1024 ≤ 1024)
    · exact (by decide : (0 + 1) * 512 ≤ 512)
  · rw [index3]
    intro a
    have := hw i
    fin_cases a
    · exact (by decide : (0 + 1) * 1 ≤ 4)
    · exact (by omega : ((wordAt m i).toNat + 1) * 1 ≤ 32)
    · exact (by decide : (0 + 1) * 512 ≤ 512)
    · exact (by decide : (0 + 1) * 1024 ≤ 1024)

end Cert.EI

end
-- ==== Proof.ValE.Words.lean ====
module

public import Idealize.ShloMosaic.PureOps
public import Idealize.ShloMosaic.Lib.IdealHost

@[expose] public section

noncomputable section

namespace Cert.ValE

open Idealize.ShloMosaic

/-- A 16-bit float is the 32-bit float of the same sign and exponent whose fraction ends in sixteen zeros. -/
theorem ieee_widen (w : BitVec 32) (h : BitVec 16) (h1 : w.extractLsb' 31 1 = h.extractLsb' 15 1)
    (h2 : w.extractLsb' 23 8 = h.extractLsb' 7 8) (h3 : (w.extractLsb' 0 23).toNat = (h.extractLsb' 0 7).toNat * 2 ^ 16) :
    Ideal.ofBits .f32 w = Ideal.ofBits .bf16 h := by
  show Ideal.ieee 8 23 w = Ideal.ieee 8 7 h
  unfold Ideal.ieee
  simp only [Nat.reduceAdd, h1, h2, h3]
  generalize (h.extractLsb' 0 7).toNat = f
  generalize (h.extractLsb' 7 8).toNat = x
  generalize (h.extractLsb' 15 1 == 1#1) = n
  have hf : f * 2 ^ 16 = 0 ↔ f = 0 := by omega
  have p : ∀ k : ℤ, (2 : ℝ) ^ (k - 7) = 2 ^ 16 * (2 : ℝ) ^ (k - 23) := fun k => by
    rw [show k - 7 = (16 : ℤ) + (k - 23) by ring, zpow_add₀ (by norm_num)]; norm_num
  simp only [hf]
  split_ifs
  all_goals first | rfl | skip
  all_goals
    refine congrArg _ ?_
    push_cast
    first
      | rw [p]; ring
      | have q : (2 : ℝ) ^ (-133 : ℤ) = 65536 * (2 : ℝ) ^ (-149 : ℤ) := by norm_num
        rw [q]; ring

/-- A half of a word: a 16-bit float. -/
def half (s : ℕ) (w : BitVec 32) : EReal := Ideal.ofBits .bf16 (w.extractLsb' (s * 16) 16)

theorem low_half (w : BitVec 32) : Ideal.ofBits .f32 (w <<< 16) = half 0 w := by
  refine ieee_widen _ _ ?_ ?_ ?_
  · apply BitVec.eq_of_toNat_eq
    simp only [BitVec.extractLsb'_toNat, BitVec.toNat_shiftLeft, Nat.shiftRight_eq_div_pow, Nat.shiftLeft_eq]
    omega
  · apply BitVec.eq_of_toNat_eq
    simp only [BitVec.extractLsb'_toNat, BitVec.toNat_shiftLeft, Nat.shiftRight_eq_div_pow, Nat.shiftLeft_eq]
    omega
  · simp only [BitVec.extractLsb'_toNat, BitVec.toNat_shiftLeft, Nat.shiftRight_eq_div_pow, Nat.shiftLeft_eq]
    omega

theorem high_word (w : BitVec 32) : w &&& 0xFFFF0000#32 = (w >>> 16) <<< 16 := by
  ext i hi
  interval_cases i <;> simp

theorem high_half (w : BitVec 32) : Ideal.ofBits .f32 (w &&& 0xFFFF0000#32) = half 1 w := by
  rw [high_word, low_half]
  unfold half
  refine congrArg _ ?_
  ext i hi; simp [BitVec.getElem_extractLsb']

/-! ## The expert's mathematics, of words and weights -/

/-- A row of packed words against a column: the low halves are the row's first 512 entries. -/
def up (x : Fin 512 → BitVec 32) (w : Fin 1024 → EReal) : EReal :=
  ∑ k : Fin 512, half 0 (x k) * w ⟨k.val, by omega⟩ + ∑ k : Fin 512, half 1 (x k) * w ⟨512 + k.val, by omega⟩

/-- The gate: `a` times its logistic, times `b`. -/
def gate (a b : EReal) : EReal :=
  a * Ideal.div (Ideal.ofBits .f32 0x3F800000#32) (Ideal.ofBits .f32 0x3F800000#32 + Ideal.exp (-a)) * b

/-- A row of the expert's output. -/
def expert (x : Fin 512 → BitVec 32) (w1 w3 : Fin 1024 → Fin 512 → EReal) (w2 : Fin 512 → EReal) : EReal :=
  ∑ f : Fin 512, gate (up x fun k => w1 k f) (up x fun k => w3 k f) * w2 f

end Cert.ValE

end
-- ==== Proof.ValE.Ref.lean ====
module

public import proofs.«01_k».proof.Proof.Gen.ExpertsRefIdeal.Run
public import proofs.«01_k».proof.Proof.ValE.Words
public import Idealize.ShloMosaic.Lib.BitcastConvert
public import Idealize.ShloMosaic.Lib.Pointwise

@[expose] public section

set_option maxRecDepth 16384
set_option maxHeartbeats 400000

noncomputable section

namespace Cert.ValE

open Cert.ExpertsRefIdeal Cert.ExpertsRefIdeal.Gen Cert.ExpertsRefIdeal.Value
open Idealize.ShloMosaic Idealize.ShloMosaic.TcCoe Idealize.ShloMosaic.Tactic Idealize.SL.Sem

/-! ## The reference's values, each of the ones before it -/

/-- The table, as start indices; -/
def rIdx (e : IVec S288 32) : IVec S288x1 32 :=
  broadcastInDim S288x1 ![0] bcast_S288_S288x1_0 (select (cmpi .slt e (broadcastInDim S288 ![] bcast_S_S288 (constantI S_ 32 0#32))) (addi e (broadcastInDim S288 ![] bcast_S_S288 (constantI S_ 32 32#32))) e)
/-- the halves of the words, -/
def rBits (x : IVec S147456x512 32) : FVec Ideal S147456x512x2 .bf16 :=
  bitcastToFloat (F := Ideal) .bf16 (Host.bitcastConvertNarrow S147456x512x2 16 x splits_S147456x512_w32_S147456x512x2_w16)
def rLo (x : IVec S147456x512 32) : FVec Ideal S147456x512 .bf16 :=
  shapeCast _ (extractStridedSlice S147456x512x1 ![0, 0, 0] (rBits x) slices_S147456x512x2_S147456x512x1_0_0_0) shapeCasts_S147456x512x1_S147456x512
def rHi (x : IVec S147456x512 32) : FVec Ideal S147456x512 .bf16 :=
  shapeCast _ (extractStridedSlice S147456x512x1 ![0, 0, 1] (rBits x) slices_S147456x512x2_S147456x512x1_0_0_1) shapeCasts_S147456x512x1_S147456x512
/-- the rows they make, -/
def rRows (x : IVec S147456x512 32) : FVec Ideal S288x512x1024 .f32 :=
  extf .f32 (shapeCast _ (concatenate S147456x1024 1 [⟨S147456x512, rLo x⟩, ⟨S147456x512, rHi x⟩] concatenates_S147456x512_S147456x512_S147456x1024_d1) shapeCasts_S147456x1024_S288x512x1024) bitsLt_bf16_f32
/-- each block's weights, -/
def rW (e : IVec S288 32) (w : FVec Ideal S4x32x1024x512 .f32) : FVec Ideal S288x1024x512 .f32 :=
  Host.gather gather_S32x1024x512_S288x1_S288x1024x512_12_0_n_n_0_1_11024512 (shapeCast _ (extractStridedSlice S1x32x1024x512 ![0, 0, 0, 0] w slices_S4x32x1024x512_S1x32x1024x512_0_0_0_0) shapeCasts_S1x32x1024x512_S32x1024x512) (rIdx e)
def rW2 (e : IVec S288 32) (w : FVec Ideal S4x32x512x1024 .f32) : FVec Ideal S288x512x1024 .f32 :=
  Host.gather gather_S32x512x1024_S288x1_S288x512x1024_12_0_n_n_0_1_15121024 (shapeCast _ (extractStridedSlice S1x32x512x1024 ![0, 0, 0, 0] w slices_S4x32x512x1024_S1x32x512x1024_0_0_0_0) shapeCasts_S1x32x512x1024_S32x512x1024) (rIdx e)
/-- the products up, -/
def rUp (x : IVec S147456x512 32) (e : IVec S288 32) (w : FVec Ideal S4x32x1024x512 .f32) : FVec Ideal S288x512x512 .f32 :=
  Host.dotGeneral dot_S288x512x1024_S288x1024x512_S288x512x512_2_1_1_2_0_0 none (rRows x) (rW e w)
/-- the gate, -/
def rGate (a b : FVec Ideal S288x512x512 .f32) : FVec Ideal S288x512x512 .f32 :=
  mulf (mulf a (Host.divf (broadcastInDim S288x512x512 ![] bcast_S_S288x512x512 (constant S_ .f32 0x3F800000#32)) (addf (broadcastInDim S288x512x512 ![] bcast_S_S288x512x512 (constant S_ .f32 0x3F800000#32)) (Host.exp (Host.negf a))))) b
/-- the product down, -/
def rDown (h : FVec Ideal S288x512x512 .f32) (w : FVec Ideal S288x512x1024 .f32) : FVec Ideal S288x512x1024 .f32 :=
  Host.dotGeneral dot_S288x512x512_S288x512x1024_S288x512x1024_2_1_1_2_0_0 none h w
/-- and the blocks in use. -/
def rOut (n : IVec S1 32) (y : FVec Ideal S288x512x1024 .f32) : FVec Ideal S147456x1024 .bf16 :=
  truncf .bf16 (shapeCast _ (select (broadcastInDim S288x512x1024 ![0, 1, 2] bcast_S288x1x1_S288x512x1024_0_1_2 (broadcastInDim S288x1x1 ![0] bcast_S288_S288x1x1_0 (cmpi .slt (iotaInDim S288 32 0) (broadcastInDim S288 ![] bcast_S_S288 (shapeCast _ n shapeCasts_S1_S_))))) y (broadcastInDim S288x512x1024 ![] bcast_S_S288x512x1024 (constant S_ .f32 0x00000000#32))) shapeCasts_S288x512x1024_S147456x1024) bitsLt_bf16_f32

/-- The reference's result, of its arguments. -/
def rAll (x : IVec S147456x512 32) (e : IVec S288 32) (n : IVec S1 32) (w1 w3 : FVec Ideal S4x32x1024x512 .f32) (w2 : FVec Ideal S4x32x512x1024 .f32) : FVec Ideal S147456x1024 .bf16 :=
  rOut n (rDown (rGate (rUp x e w1) (rUp x e w3)) (rW2 e w2))

theorem res_eq (m : (ℓ : Loc nD τ sig) → Buf (Elt Ideal) ℓ) (c : Dev nD) : (res_main_v47 m c : FVec Ideal S147456x1024 .bf16)
    = rAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v47 rAll rOut rDown rGate rUp rW rW2 rRows rLo rHi rBits rIdx
  rfl

/-! ## At an index -/

theorem idx_at (e : IVec S288 32) (i : Fin 288) (h : (e (ix1 i)).toNat < 32) : rIdx e (ix2 i 0) = e (ix1 i) := by
  unfold rIdx
  pointwise
  have : IntOp.cmpi CmpIPredicate.slt (e (ix1 i)) 0#32 = 0#1 := by
    show BitVec.ofBool (BitVec.slt _ _) = _
    have : BitVec.slt (e (ix1 i)) 0#32 = false := by
      rw [BitVec.slt_eq_decide, decide_eq_false_iff_not, BitVec.toInt_eq_toNat_of_lt (by omega)]
      simp
    rw [this]; rfl
  rw [this]; rfl

theorem bits_at (x : IVec S147456x512 32) (r : Fin 147456) (k : Fin 512) (s : Fin 2) : rBits x (ix3 r k s) = half s.val (x (ix2 r k)) := by
  unfold rBits half
  pointwise
  refine congrArg (fun j : S147456x512.Idx => Ideal.ofBits FTy.bf16 (BitVec.extractLsb' (s.val * 16) 16 (x j))) ?_
  funext a
  match a with
  | ⟨0, _⟩ => rfl
  | ⟨1, _⟩ => rfl

theorem lo_at (x : IVec S147456x512 32) (r : Fin 147456) (k : Fin 512) : rLo x (ix2 r k) = half 0 (x (ix2 r k)) := by
  unfold rLo
  pointwise
  exact bits_at x r k 0
theorem hi_at (x : IVec S147456x512 32) (r : Fin 147456) (k : Fin 512) : rHi x (ix2 r k) = half 1 (x (ix2 r k)) := by
  unfold rHi
  pointwise
  exact bits_at x r k 1

theorem rows_lo (x : IVec S147456x512 32) (i : Fin 288) (r k : Fin 512) : rRows x (ix3 i r ⟨k.val, by omega⟩) = half 0 (x (ix2 ⟨i.val * 512 + r.val, by omega⟩ k)) := by
  unfold rRows
  pointwise
  exact lo_at x _ k
theorem rows_hi (x : IVec S147456x512 32) (i : Fin 288) (r k : Fin 512) : rRows x (ix3 i r ⟨512 + k.val, by omega⟩) = half 1 (x (ix2 ⟨i.val * 512 + r.val, by omega⟩ k)) := by
  unfold rRows
  pointwise
  exact hi_at x _ k

theorem w_at (e : IVec S288 32) (w : FVec Ideal S4x32x1024x512 .f32) (i : Fin 288) (k : Fin 1024) (f : Fin 512) (h : (e (ix1 i)).toNat < 32) :
    rW e w (ix3 i k f) = w (ix4 0 ⟨(e (ix1 i)).toNat, h⟩ k f) := by
  have g : ∀ x : FVec Ideal S32x1024x512 .f32, Host.gather gather_S32x1024x512_S288x1_S288x1024x512_12_0_n_n_0_1_11024512 x (rIdx e) (ix3 i k f)
      = x (ix3 ⟨(e (ix1 i)).toNat, h⟩ k f) := fun x => by
    unfold Host.gather
    refine congrArg x ?_
    funext a
    refine Fin.ext ?_
    show GatherDims.start _ _ _ a + GatherDims.batchCoord _ _ a + GatherDims.offCoord _ _ a = _
    rw [GatherDims.batchCoord_eq_zero _ _ _ List.not_mem_nil]
    match a with
    | ⟨0, _⟩ =>
      rw [GatherDims.offCoord_eq_zero _ _ _ (fun q => ((GatherDims.mem_sKept _ _).mp q).1 (List.mem_singleton.mpr rfl))]
      have p : GatherDims.start gather_S32x1024x512_S288x1_S288x1024x512_12_0_n_n_0_1_11024512 (ix3 i k f) (rIdx e) (0 : Fin S32x1024x512.rank) = min (rIdx e (GatherDims.siIdx gather_S32x1024x512_S288x1_S288x1024x512_12_0_n_n_0_1_11024512 (ix3 i k f) ⟨0, by decide⟩)).toInt.toNat 31 :=
        dif_pos (show (0 : Fin 3) ∈ [(0 : Fin 3)] from List.mem_singleton.mpr rfl)
      refine (congrArg (fun n => n + 0 + 0) p).trans ?_
      have z : (GatherDims.siIdx gather_S32x1024x512_S288x1_S288x1024x512_12_0_n_n_0_1_11024512 (ix3 i k f) ⟨0, by decide⟩ : S288x1.Idx) = ix2 i 0 := by
        funext b
        match b with
        | ⟨0, _⟩ => rfl
        | ⟨1, _⟩ => rfl
      refine (congrArg (fun j => min (rIdx e j).toInt.toNat 31 + 0 + 0) z).trans ?_
      rw [idx_at e i h, BitVec.toInt_eq_toNat_of_lt (by omega)]
      show min (e (ix1 i)).toNat 31 + 0 + 0 = (e (ix1 i)).toNat
      omega
    | ⟨1, _⟩ =>
      have z : GatherDims.start gather_S32x1024x512_S288x1_S288x1024x512_12_0_n_n_0_1_11024512 (ix3 i k f) (rIdx e) (1 : Fin S32x1024x512.rank) = 0 :=
        dif_neg (show ¬ (1 : Fin 3) ∈ [(0 : Fin 3)] by decide)
      refine (congrArg (fun n => n + 0 + GatherDims.offCoord gather_S32x1024x512_S288x1_S288x1024x512_12_0_n_n_0_1_11024512 (ix3 i k f) (1 : Fin S32x1024x512.rank)) z).trans ?_
      show 0 + 0 + k.val = k.val
      omega
    | ⟨2, _⟩ =>
      have z : GatherDims.start gather_S32x1024x512_S288x1_S288x1024x512_12_0_n_n_0_1_11024512 (ix3 i k f) (rIdx e) (2 : Fin S32x1024x512.rank) = 0 :=
        dif_neg (show ¬ (2 : Fin 3) ∈ [(0 : Fin 3)] by decide)
      refine (congrArg (fun n => n + 0 + GatherDims.offCoord gather_S32x1024x512_S288x1_S288x1024x512_12_0_n_n_0_1_11024512 (ix3 i k f) (2 : Fin S32x1024x512.rank)) z).trans ?_
      show 0 + 0 + f.val = f.val
      omega
  unfold rW
  rw [g]
  pointwise

theorem w2_at (e : IVec S288 32) (w : FVec Ideal S4x32x512x1024 .f32) (i : Fin 288) (f : Fin 512) (d : Fin 1024) (h : (e (ix1 i)).toNat < 32) :
    rW2 e w (ix3 i f d) = w (ix4 0 ⟨(e (ix1 i)).toNat, h⟩ f d) := by
  have g : ∀ x : FVec Ideal S32x512x1024 .f32, Host.gather gather_S32x512x1024_S288x1_S288x512x1024_12_0_n_n_0_1_15121024 x (rIdx e) (ix3 i f d)
      = x (ix3 ⟨(e (ix1 i)).toNat, h⟩ f d) := fun x => by
    unfold Host.gather
    refine congrArg x ?_
    funext a
    refine Fin.ext ?_
    show GatherDims.start _ _ _ a + GatherDims.batchCoord _ _ a + GatherDims.offCoord _ _ a = _
    rw [GatherDims.batchCoord_eq_zero _ _ _ List.not_mem_nil]
    match a with
    | ⟨0, _⟩ =>
      rw [GatherDims.offCoord_eq_zero _ _ _ (fun q => ((GatherDims.mem_sKept _ _).mp q).1 (List.mem_singleton.mpr rfl))]
      have p : GatherDims.start gather_S32x512x1024_S288x1_S288x512x1024_12_0_n_n_0_1_15121024 (ix3 i f d) (rIdx e) (0 : Fin S32x512x1024.rank) = min (rIdx e (GatherDims.siIdx gather_S32x512x1024_S288x1_S288x512x1024_12_0_n_n_0_1_15121024 (ix3 i f d) ⟨0, by decide⟩)).toInt.toNat 31 :=
        dif_pos (show (0 : Fin 3) ∈ [(0 : Fin 3)] from List.mem_singleton.mpr rfl)
      refine (congrArg (fun n => n + 0 + 0) p).trans ?_
      have z : (GatherDims.siIdx gather_S32x512x1024_S288x1_S288x512x1024_12_0_n_n_0_1_15121024 (ix3 i f d) ⟨0, by decide⟩ : S288x1.Idx) = ix2 i 0 := by
        funext b
        match b with
        | ⟨0, _⟩ => rfl
        | ⟨1, _⟩ => rfl
      refine (congrArg (fun j => min (rIdx e j).toInt.toNat 31 + 0 + 0) z).trans ?_
      rw [idx_at e i h, BitVec.toInt_eq_toNat_of_lt (by omega)]
      show min (e (ix1 i)).toNat 31 + 0 + 0 = (e (ix1 i)).toNat
      omega
    | ⟨1, _⟩ =>
      have z : GatherDims.start gather_S32x512x1024_S288x1_S288x512x1024_12_0_n_n_0_1_15121024 (ix3 i f d) (rIdx e) (1 : Fin S32x512x1024.rank) = 0 :=
        dif_neg (show ¬ (1 : Fin 3) ∈ [(0 : Fin 3)] by decide)
      refine (congrArg (fun n => n + 0 + GatherDims.offCoord gather_S32x512x1024_S288x1_S288x512x1024_12_0_n_n_0_1_15121024 (ix3 i f d) (1 : Fin S32x512x1024.rank)) z).trans ?_
      show 0 + 0 + f.val = f.val
      omega
    | ⟨2, _⟩ =>
      have z : GatherDims.start gather_S32x512x1024_S288x1_S288x512x1024_12_0_n_n_0_1_15121024 (ix3 i f d) (rIdx e) (2 : Fin S32x512x1024.rank) = 0 :=
        dif_neg (show ¬ (2 : Fin 3) ∈ [(0 : Fin 3)] by decide)
      refine (congrArg (fun n => n + 0 + GatherDims.offCoord gather_S32x512x1024_S288x1_S288x512x1024_12_0_n_n_0_1_15121024 (ix3 i f d) (2 : Fin S32x512x1024.rank)) z).trans ?_
      show 0 + 0 + d.val = d.val
      omega
  unfold rW2
  rw [g]
  pointwise

theorem sum_halves (f : Fin 1024 → EReal) : ∑ k, f k = ∑ k : Fin 512, f ⟨k.val, by omega⟩ + ∑ k : Fin 512, f ⟨512 + k.val, by omega⟩ :=
  Fin.sum_univ_add (a := 512) (b := 512) f

theorem up_at (x : IVec S147456x512 32) (e : IVec S288 32) (w : FVec Ideal S4x32x1024x512 .f32) (i : Fin 288) (r f : Fin 512) (h : (e (ix1 i)).toNat < 32) :
    rUp x e w (ix3 i r f) = up (fun k => x (ix2 ⟨i.val * 512 + r.val, by omega⟩ k)) fun k => w (ix4 0 ⟨(e (ix1 i)).toNat, h⟩ k f) := by
  have s : rUp x e w (ix3 i r f) = ∑ k : Fin 1024, rRows x (ix3 i r k) * rW e w (ix3 i k f) := by
    unfold rUp
    pointwise
  rw [s, sum_halves]
  unfold up
  simp only [rows_lo, rows_hi, w_at e w i _ f h]

theorem gate_at (a b : FVec Ideal S288x512x512 .f32) (i : Fin 288) (r f : Fin 512) : rGate a b (ix3 i r f) = gate (a (ix3 i r f)) (b (ix3 i r f)) := by
  unfold rGate gate
  pointwise

theorem down_at (h : FVec Ideal S288x512x512 .f32) (w : FVec Ideal S288x512x1024 .f32) (i : Fin 288) (r : Fin 512) (d : Fin 1024) :
    rDown h w (ix3 i r d) = ∑ f : Fin 512, h (ix3 i r f) * w (ix3 i f d) := by
  unfold rDown
  pointwise

theorem out_row (n : IVec S1 32) (y : FVec Ideal S288x512x1024 .f32) (i : Fin 288) (r : Fin 512) (d : Fin 1024) :
    rOut n y (ix2 ⟨i.val * 512 + r.val, by omega⟩ d) = if BitVec.slt (BitVec.ofNat 32 i.val) (n (ix1 0)) then y (ix3 i r d) else 0 := by
  have d1 : (i.val * 512 + r.val) / 512 = i.val := by omega
  have d2 : (i.val * 512 + r.val) % 512 = r.val := by omega
  unfold rOut
  pointwise
  show Scalar.select (BitVec.ofBool (BitVec.slt _ _)) _ _ = _
  cases BitVec.slt (BitVec.ofNat 32 i.val) (n (ix1 0)) <;> rfl

/-- The reference, read at an index. -/
theorem all_at (x : IVec S147456x512 32) (e : IVec S288 32) (n : IVec S1 32) (w1 w3 : FVec Ideal S4x32x1024x512 .f32) (w2 : FVec Ideal S4x32x512x1024 .f32)
    (i : Fin 288) (r : Fin 512) (d : Fin 1024) (h : (e (ix1 i)).toNat < 32) : rAll x e n w1 w3 w2 (ix2 ⟨i.val * 512 + r.val, by omega⟩ d)
    = if BitVec.slt (BitVec.ofNat 32 i.val) (n (ix1 0)) then
        expert (fun k => x (ix2 ⟨i.val * 512 + r.val, by omega⟩ k)) (fun k f => w1 (ix4 0 ⟨(e (ix1 i)).toNat, h⟩ k f))
          (fun k f => w3 (ix4 0 ⟨(e (ix1 i)).toNat, h⟩ k f)) (fun f => w2 (ix4 0 ⟨(e (ix1 i)).toNat, h⟩ f d))
      else 0 := by
  unfold rAll expert
  rw [out_row, down_at]
  simp only [gate_at, up_at x e _ i r _ h, w2_at e w2 i _ d h]

end Cert.ValE

end
-- ==== Proof.ValE.Pay.lean ====
module

public import proofs.«01_k».proof.Proof.ValE.Words
public import proofs.«01_k».proof.Proof.EI.Ok
public import Idealize.ShloMosaic.Lib.Pointwise

@[expose] public section

set_option maxRecDepth 16384
set_option maxHeartbeats 400000

noncomputable section

namespace Cert.ValE

open Cert.ExpertsIdeal Cert.ExpertsIdeal.Gen
open Idealize.ShloMosaic Idealize.ShloMosaic.TcCoe Idealize.ShloMosaic.Tactic Idealize.SL.Sem

theorem hid_at (x : Vec Ideal S512x512 .i32) (w1 w3 : Vec Ideal S1x1x1024x512 .f32) (r f : Fin 512) : (k0_pay3 x w1 w3 : FVec Ideal S512x512 .bf16) (ix2 r f)
    = gate (up (fun k => x (ix2 r k)) fun k => w1 (ix4 0 0 k f)) (up (fun k => x (ix2 r k)) fun k => w3 (ix4 0 0 k f)) := by
  have e0 : ∀ w : BitVec 32, Ideal.ofBits FTy.f32 (IntOp.shli ArithUnit.vector w 16#32) = half 0 w := fun w => low_half w
  have e1 : ∀ w : BitVec 32, Ideal.ofBits FTy.f32 (IntOp.andi w 4294901760#32) = half 1 w := fun w => high_half w
  unfold k0_pay3 gate up
  pointwise
  simp only [e0, e1, zero_sub]

theorem out_at (h : FVec Ideal S512x512 .bf16) (w : Vec Ideal S1x1x512x1024 .f32) (r : Fin 512) (d : Fin 1024) :
    k0_pay1 h (k0_pay4 w) (ix2 r d) = ∑ f, h (ix2 r f) * w (ix4 0 0 f d) := by
  unfold k0_pay1 k0_pay4
  pointwise

theorem zero_at (r : Fin 512) (d : Fin 1024) : (k0_pay2 : FVec Ideal S512x1024 .bf16) (ix2 r d) = 0 := by
  unfold k0_pay2
  pointwise

end Cert.ValE

end
-- ==== Proof.ValE.Blk.lean ====
module

public import proofs.«01_k».proof.Proof.ValE.Pay
public import Idealize.ShloMosaic.Lib.Pipeline.Covers

@[expose] public section

set_option maxRecDepth 16384
set_option maxHeartbeats 400000

noncomputable section

namespace Cert.ValE

open Cert.ExpertsIdeal Cert.ExpertsIdeal.Gen Cert.EI
open Idealize.ShloMosaic Idealize.ShloMosaic.TcCoe Idealize.ShloMosaic.Tactic Idealize.SL.Sem

variable (m : (ℓ : Loc nD τ sig) → Buf (Elt Ideal) ℓ)

def A0 (c : Dev nD) : IVec S147456x512 32 := m ((c : Thread nD τ).loc main_arg0)
def A1 (c : Dev nD) : IVec S288 32 := m ((c : Thread nD τ).loc main_arg1)
def A2 (c : Dev nD) : IVec S1 32 := m ((c : Thread nD τ).loc main_arg2)
def A3 (c : Dev nD) : FVec Ideal S4x32x1024x512 .f32 := m ((c : Thread nD τ).loc main_arg3)
def A4 (c : Dev nD) : FVec Ideal S4x32x1024x512 .f32 := m ((c : Thread nD τ).loc main_arg4)
def A5 (c : Dev nD) : FVec Ideal S4x32x512x1024 .f32 := m ((c : Thread nD τ).loc main_arg5)

variable (hok : ok0 (pf m))

theorem N288 (t : Fin (cfg0 (adm m hok)).N) : t.val < 288 := Nat.lt_of_lt_of_eq t.isLt N_0

theorem coord0 : ∀ t, (grid0.coords t 0).val = t.val := (by decide +kernel : ∀ t : Fin grid0.N, _)

theorem word_at (c : Dev nD) (t : Fin (cfg0 (adm m hok)).N) : wordAt m (grid0.coords t) = A1 m c (ix1 ⟨t.val, N288 m hok t⟩) := by
  have hc : c = 0 := Subsingleton.elim _ _
  subst hc
  unfold A1
  refine congrArg (blkE m) ?_
  funext a
  match a with
  | ⟨0, _⟩ =>
    refine Fin.ext ?_
    exact (by decide +kernel : ∀ t : Fin grid0.N, k0_off1 (grid0.coords t) 0 = t.val) t

theorem ind0 (t : Fin (cfg0 (adm m hok)).N) : (pcfg0.win (adm m hok) 0).index t = ![t.val, 0] :=
  (by decide +kernel : ∀ t : Fin grid0.N, cc0_transform_0 (grid0.coords t) = ![t.val, 0]) t
theorem ind1 (t : Fin (cfg0 (adm m hok)).N) : (pcfg0.win (adm m hok) 1).index t = ![0, (wordAt m (grid0.coords t)).toNat, 0, 0] := rfl
theorem ind2 (t : Fin (cfg0 (adm m hok)).N) : (pcfg0.win (adm m hok) 2).index t = ![0, (wordAt m (grid0.coords t)).toNat, 0, 0] := rfl
theorem ind3 (t : Fin (cfg0 (adm m hok)).N) : (pcfg0.win (adm m hok) 3).index t = ![0, (wordAt m (grid0.coords t)).toNat, 0, 0] := rfl
theorem ind4 (t : Fin (cfg0 (adm m hok)).N) : (pcfg0.win (adm m hok) 4).index t = ![t.val, 0] :=
  (by decide +kernel : ∀ t : Fin grid0.N, cc0_transform_4 (grid0.coords t) = ![t.val, 0]) t

theorem blk0 (c : Dev nD) (t : Fin (cfg0 (adm m hok)).N) (r k : Fin 512) : (iblk m hok c 0 t : Vec Ideal S512x512 .i32) (ix2 r k)
    = A0 m c (ix2 ⟨t.val * 512 + r.val, by have := N288 m hok t; omega⟩ k) := by
  unfold A0
  blk_ext [iblk, ind0 m hok t]
theorem blk1 (c : Dev nD) (t : Fin (cfg0 (adm m hok)).N) (h : (wordAt m (grid0.coords t)).toNat < 32) (k : Fin 1024) (f : Fin 512) :
    (iblk m hok c 1 t : Vec Ideal S1x1x1024x512 .f32) (ix4 0 0 k f) = A3 m c (ix4 0 ⟨_, h⟩ k f) := by
  unfold A3
  blk_ext [iblk, ind1 m hok t]
theorem blk2 (c : Dev nD) (t : Fin (cfg0 (adm m hok)).N) (h : (wordAt m (grid0.coords t)).toNat < 32) (k : Fin 1024) (f : Fin 512) :
    (iblk m hok c 2 t : Vec Ideal S1x1x1024x512 .f32) (ix4 0 0 k f) = A4 m c (ix4 0 ⟨_, h⟩ k f) := by
  unfold A4
  blk_ext [iblk, ind2 m hok t]
theorem blk3 (c : Dev nD) (t : Fin (cfg0 (adm m hok)).N) (h : (wordAt m (grid0.coords t)).toNat < 32) (f : Fin 512) (d : Fin 1024) :
    (iblk m hok c 3 t : Vec Ideal S1x1x512x1024 .f32) (ix4 0 0 f d) = A5 m c (ix4 0 ⟨_, h⟩ f d) := by
  unfold A5
  blk_ext [iblk, ind3 m hok t]

theorem covers4 : ((cfg0 (adm m hok)).win 4).Covers :=
  ((cfg0 (adm m hok)).win 4).covers_of_indexMap_surj rfl (show ∀ a : Fin 2, 0 < S512x1024.size a by decide) fun β => by
    have h0 : (β ⟨0, Nat.zero_lt_two⟩).val < 288 := lt_of_lt_of_eq (β ⟨0, Nat.zero_lt_two⟩).isLt (by
      have s1 : (spec0 4).shape.size ⟨0, Nat.zero_lt_two⟩ = 147456 := rfl
      have s2 : (spec0 4).size ⟨0, Nat.zero_lt_two⟩ = 512 := rfl
      exact (congrArg₂ (fun x y : ℕ => (x + y - 1) / y) s1 s2).trans (by decide))
    have h1 : (β ⟨1, Nat.one_lt_two⟩).val < 1 := lt_of_lt_of_eq (β ⟨1, Nat.one_lt_two⟩).isLt (by
      have s1 : (spec0 4).shape.size ⟨1, Nat.one_lt_two⟩ = 1024 := rfl
      have s2 : (spec0 4).size ⟨1, Nat.one_lt_two⟩ = 1024 := rfl
      exact (congrArg₂ (fun x y : ℕ => (x + y - 1) / y) s1 s2).trans (by decide))
    let t : Fin grid0.N := ⟨(β ⟨0, Nat.zero_lt_two⟩).val, by rw [show grid0.N = 288 from N_0]; exact h0⟩
    refine ⟨grid0.coords t, fun a => ?_⟩
    refine (congrFun (ind4 m hok t) a).trans ?_
    match a with
    | ⟨0, _⟩ => rfl
    | ⟨1, _⟩ => exact (Nat.lt_one_iff.1 h1).symm

theorem emb4 (t : Fin (cfg0 (adm m hok)).N) (y : S512x1024.Idx) : (((pcfg0.win (adm m hok) 4).blk t).view.emb y : S147456x1024.Idx)
    = ix2 ⟨t.val * 512 + (y 0).val, by have := N288 m hok t; have : (y 0).val < 512 := (y 0).isLt; omega⟩ (y 1) := by
  blk_ext [ind4 m hok t]

theorem cond_at (t : Fin (cfg0 (adm m hok)).N) (n : BitVec 32) : k0_cond1 (grid0.coords t) n = 1#1 ↔ BitVec.slt (BitVec.ofNat 32 t.val) n := by
  have e := coord0 t
  unfold k0_cond1
  rw [e]
  show IntOp.cmpi CmpIPredicate.ne (Scalar.extui (BitVec.ofBool (BitVec.slt (BitVec.ofNat 32 t.val) n))) 0#32 = 1#1 ↔ _
  generalize BitVec.slt (BitVec.ofNat 32 t.val) n = b
  revert b
  decide

theorem outAt_at (c : Dev nD) (t : Fin (cfg0 (adm m hok)).N) (h : (A1 m c (ix1 ⟨t.val, N288 m hok t⟩)).toNat < 32) (r : Fin 512) (d : Fin 1024) :
    (outAt m hok c t : FVec Ideal S512x1024 .bf16) (ix2 r d) = if BitVec.slt (BitVec.ofNat 32 t.val) (A2 m c (ix1 0)) then
        expert (fun k => A0 m c (ix2 ⟨t.val * 512 + r.val, by have := N288 m hok t; omega⟩ k)) (fun k f => A3 m c (ix4 0 ⟨_, h⟩ k f))
          (fun k f => A4 m c (ix4 0 ⟨_, h⟩ k f)) (fun f => A5 m c (ix4 0 ⟨_, h⟩ f d))
      else 0 := by
  have hw := word_at m hok c t
  have h' : (wordAt m (grid0.coords t)).toNat < 32 := by rw [hw]; exact h
  have hn : nUsed m = A2 m c (ix1 0) := by
    have hc : c = 0 := Subsingleton.elim _ _
    subst hc
    refine congrArg (A2 m 0) ?_
    funext a
    match a with
    | ⟨0, _⟩ => exact Subsingleton.elim (α := Fin 1) _ _
  have hi : (⟨(wordAt m (grid0.coords t)).toNat, h'⟩ : Fin 32) = ⟨(A1 m c (ix1 ⟨t.val, N288 m hok t⟩)).toNat, h⟩ := Fin.ext (congrArg BitVec.toNat hw)
  unfold outAt
  by_cases hc : k0_cond1 (grid0.coords t) (nUsed m) = 1#1
  · rw [if_pos hc, if_pos ((cond_at m hok t _).1 (hn ▸ hc)), out_at]
    unfold expert
    refine Finset.sum_congr rfl fun f _ => ?_
    rw [hid_at]
    simp only [blk0, blk1 m hok c t h', blk2 m hok c t h', blk3 m hok c t h', hi]
  · rw [if_neg hc, if_neg (fun q => hc (hn ▸ (cond_at m hok t _).2 q)), zero_at]

theorem out_arr (c : Dev nD) (hA : ∀ j, (A1 m c j).toNat < 32) (G : FVec Ideal S147456x1024 .bf16)
    (hG : ∀ (i : Fin 288) (r : Fin 512) (d : Fin 1024), G (ix2 ⟨i.val * 512 + r.val, by omega⟩ d) = if BitVec.slt (BitVec.ofNat 32 i.val) (A2 m c (ix1 0)) then
        expert (fun k => A0 m c (ix2 ⟨i.val * 512 + r.val, by omega⟩ k)) (fun k f => A3 m c (ix4 0 ⟨_, hA (ix1 i)⟩ k f))
          (fun k f => A4 m c (ix4 0 ⟨_, hA (ix1 i)⟩ k f)) (fun f => A5 m c (ix4 0 ⟨_, hA (ix1 i)⟩ f d))
      else 0) : (dats m hok 0 c).arrAt 4 (cfg0 (adm m hok)).N = G := by
  have pt : ∀ (t : Fin (cfg0 (adm m hok)).N) (y : S512x1024.Idx), (outAt m hok c t : FVec Ideal S512x1024 .bf16) y = G (((pcfg0.win (adm m hok) 4).blk t).view.emb y) := fun t y => by
    have ey : y = ix2 (y 0) (y 1) := by
      funext a
      match a with
      | ⟨0, _⟩ => rfl
      | ⟨1, _⟩ => rfl
    refine (congrArg (outAt m hok c t) ey).trans ((outAt_at m hok c t (hA _) (y 0) (y 1)).trans ((hG ⟨t.val, N288 m hok t⟩ (y 0) (y 1)).symm.trans ?_))
    exact (congrArg G (emb4 m hok t y)).symm
  refine (dats m hok 0 c).arrAt_eq_of_covers 4 _ (covers4 m hok) fun t hf y => ?_
  blk_simp
  rw [after_4]
  exact pt t y

end Cert.ValE

end
-- ==== Proof.Val.InRange.lean ====
module

public import proofs.«01_k».proof.Pre_blocks_in_range
public import Idealize.ShloMosaic.Lib.ReduceAll
public import Idealize.ShloMosaic.Lib.Affine

@[expose] public section

set_option maxRecDepth 16384

noncomputable section

namespace Cert.InRange

open Cert.Pre_blocks_in_range
open Idealize.ShloMosaic

theorem preFacts : Cert.Pre_blocks_in_range.Facts where
  bcast_S_S288 := by decide
  reducesTo_S288_S_d0 := by decide
  h_S_ := by decide

/-- A word from zero to below thirty-two, compared as signed, is below thirty-two as a natural. -/
theorem lt_of_cmp (v : BitVec 32) (h0 : IntOp.cmpi .sge v 0#32 = 1#1) (h1 : IntOp.cmpi .slt v 32#32 = 1#1) : v.toNat < 32 := by
  have e0 : (0#32).sle v = true := by
    by_contra hn
    simp only [Bool.not_eq_true] at hn
    exact absurd ((congrArg BitVec.ofBool hn).symm.trans h0) (by decide)
  have e1 : v.slt 32#32 = true := by
    by_contra hn
    simp only [Bool.not_eq_true] at hn
    exact absurd ((congrArg BitVec.ofBool hn).symm.trans h1) (by decide)
  simp only [BitVec.sle_eq_decide, BitVec.slt_eq_decide, decide_eq_true_eq, BitVec.toInt_eq_toNat_cond, BitVec.toNat_ofNat, Nat.reducePow, Nat.reduceMod] at e0 e1
  have := v.isLt
  split_ifs at e0 e1 <;> omega

/-- The precondition read at one entry of the block table. -/
theorem lt {F : FTy → Type} [FloatOps F] [Facts] (a0 : IVec S147456x512 32) (a1 : IVec S288 32) (a2 : IVec S1 32)
    (a3 a4 : FVec F S4x32x1024x512 .f32) (a5 : FVec F S4x32x512x1024 .f32)
    (h : fn a0 a1 a2 a3 a4 a5 = fun _ => 1#1) (j : S288.Idx) : (a1 j).toNat < 32 := by
  have : Subsingleton S_.Idx := ⟨fun a b => funext fun i => i.elim0⟩
  have e := congrFun h (fun i => i.elim0)
  unfold fn at e
  obtain ⟨e5, e6⟩ := IntOp.andi_eq_one.mp e
  exact lt_of_cmp _ (Host.reduce_andi_all _ _ _ _ _ e5 j) (Host.reduce_andi_all _ _ _ _ _ e6 j)

end Cert.InRange

end
-- ==== Proof.ValE.Fin.lean ====
module

public import proofs.«01_k».proof.Defs
public import proofs.«01_k».proof.Proof.ValE.Ref
public import proofs.«01_k».proof.Proof.ValE.Blk
public import proofs.«01_k».proof.Proof.Val.InRange
public import Idealize.ShloMosaic.Adequacy
public import Idealize.ShloMosaic.Lib.Claim

@[expose] public section

set_option maxRecDepth 16384
set_option maxHeartbeats 400000

noncomputable section

namespace Cert.ValE

open Idealize.ShloMosaic Idealize.ShloMosaic.TcCoe Idealize.ShloMosaic.Tactic Idealize.SL.Sem

/-- The call and its reference end with the same rows. -/
theorem algebraic [Cert.Pre_blocks_in_range.Facts] : Cert.algebraic_ExpertsIdeal_ExpertsRefIdeal (hExpertsIdeal := Cert.ExpertsIdeal.Gen.facts) (hExpertsRefIdeal := Cert.ExpertsRefIdeal.Gen.facts) := by
  intro m g m' g' hP hA
  have hE : ∀ c j, (A1 m c j).toNat < 32 := fun c => Cert.InRange.lt _ _ _ _ _ _ (hP c)
  have hok := Cert.EI.ok_of_lt m (hE 0)
  refine ⟨fun c => (rAll (A0 m c) (A1 m c) (A2 m c) (A3 m c) (A4 m c) (A5 m c) : FVec Ideal Cert.ExpertsIdeal.S147456x1024 .bf16), ?_, ?_⟩
  · refine (θ_run _ _ _).mono (fun r h c => ?_) (Idealize.ShloMosaic.θ_run_and (Cert.EI.frame m g hok) (Cert.EI.run m g hok))
    refine ⟨?_, h.1.1 c⟩
    exact ((h.2.1 c).1 4).trans (out_arr m hok c (hE c) _ fun i r d => all_at _ _ _ _ _ _ i r d (hE c (ix1 i)))
  · refine (θ_run _ _ _).mono (fun r h c => ⟨?_, (h c).2⟩) (Cert.ExpertsRefIdeal.Value.run (F := Ideal) m' g')
    obtain ⟨e0, e1, e2, e3, e4, e5⟩ := hA c
    refine (h c).1.trans ((res_eq m' c).trans ?_)
    rw [e0, e1, e2, e3, e4, e5]
    rfl

end Cert.ValE

end
-- ==== Proof.ValJ.Math.lean ====
module

public import proofs.«01_k».proof.Proof.Val.Math
public import Idealize.ShloMosaic.Lib.Pointwise

@[expose] public section

set_option maxRecDepth 16384
set_option maxHeartbeats 1000000

noncomputable section

namespace Cert.ValJ

open Idealize.ShloMosaic Idealize.ShloMosaic.TcCoe Idealize.ShloMosaic.Tactic Idealize.SL.Sem

/-! ## The mathematics, of arrays read at an index -/

section
variable (a0 : FVec Ideal ⟨3, ![16, 4096, 1024]⟩ .f32) (a1 : FVec Ideal ⟨3, ![16, 6, 1024]⟩ .f32) (a2 : FVec Ideal ⟨1, ![1024]⟩ .f32)
  (a3 : FVec Ideal ⟨2, ![1024, 1472]⟩ .f32)

/-- A component over the root of the mean square of its row, times a gain. -/
def rms {n : ℕ} (x : Fin n → EReal) (N : EReal) (g : EReal) (d : Fin n) : EReal :=
  x d * Ideal.rsqrt (Ideal.div (∑ i, x i * x i) N + Ideal.ofBits .f32 0x358637BD#32) * g

/-- A row of the normalized, modulated input, -/
def Nrm (b : Fin 16) (s : Fin 4096) (k : Fin 1024) : EReal :=
  rms (fun k => a0 (ix3 b s k)) (Ideal.ofBits .f32 0x44800000#32) (a2 (ix1 k)) k * (Ideal.ofBits .f32 0x3F800000#32 + a1 (ix3 b 1 k)) + a1 (ix3 b 0 k)
/-- and its projection. -/
def U (b : Fin 16) (s : Fin 4096) (p : Fin 1472) : EReal := ∑ k : Fin 1024, Nrm a0 a1 a2 b s k * a3 (ix2 k p)

end

/-- The logarithm of the sigmoid, over sixteen. -/
def lsig (x : EReal) : EReal := -(max (-x) 0 + Ideal.log1p (Ideal.exp (-(max x (-x))))) * ((1 / 16 : ℝ) : EReal)

theorem sitofp_zero : (FloatOps.sitofp (F := Ideal) .f32 0#32 : EReal) = 0 := by
  show (((0#32 : BitVec 32).toInt : ℝ) : EReal) = 0
  simp

/-- The kernel's spelling of the gate's function, -/
theorem lsig_sub (x : EReal) : (0 - (max (0 - x) 0 + Ideal.log1p (Ideal.exp (0 - max x (-x))))) * Ideal.ofBits .f32 0x3D800000#32 = lsig x := by
  have h : Ideal.ofBits .f32 0x3D800000#32 = ((1 / 16 : ℝ) : EReal) := by
    simp [Ideal.ofBits, Ideal.ieee, -EReal.coe_mul]; norm_num
  unfold lsig
  rw [h]
  simp only [zero_sub]

/-- and the reference's. -/
theorem lsig_div (x : EReal) : Ideal.div (-(max (-x) 0 + Ideal.log1p (Ideal.exp (-(max (-x - 0) (-(-x - 0))))))) (Ideal.ofBits .f32 0x41800000#32) = lsig x := by
  unfold lsig
  rw [show Ideal.ofBits .f32 0x41800000#32 = ((16 : ℝ) : EReal) from Cert.Val.lit16, Ideal.div_coe (by norm_num), sub_zero, neg_neg, max_comm (-x) x]

/-- A sum of 128 terms that vanish outside sixteen. -/
theorem sum_sixteen (f : Fin 128 → EReal) (o : ℕ) (ho : o + 16 ≤ 128) (h : ∀ j : Fin 128, j.val < o ∨ o + 16 ≤ j.val → f j = 0) :
    ∑ j, f j = ∑ j : Fin 16, f ⟨o + j.val, by omega⟩ := by
  symm
  refine Finset.sum_of_injOn (fun j : Fin 16 => (⟨o + j.val, by omega⟩ : Fin 128)) ?_ ?_ ?_ ?_
  · intro a _ b _ hab
    exact Fin.ext (by have := congrArg Fin.val hab; simp only at this; omega)
  · intro a _; exact Finset.mem_coe.mpr (Finset.mem_univ _)
  · intro j _ hj
    refine h j ?_
    by_contra hc
    refine hj ⟨⟨j.val - o, by omega⟩, by simp, Fin.ext (by show o + (j.val - o) = j.val; omega)⟩
  · intro a _; rfl

end Cert.ValJ

end
-- ==== Proof.ValJ.Out.lean ====
module

public import proofs.«01_k».proof.Proof.Gen.ProjectionIdeal.Value
public import proofs.«01_k».proof.Proof.ValJ.Math
public import Idealize.ShloMosaic.Lib.Pipeline.ValueKit
public import Idealize.ShloMosaic.Lib.Pointwise

@[expose] public section

set_option maxRecDepth 16384
set_option maxHeartbeats 1000000

noncomputable section

namespace Cert.ValJ

open Cert.ProjectionIdeal Cert.ProjectionIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-- The projected rows of a point. -/
def Ub (c : Dev nD) (t : Fin cfg0.N) : FVec F S512x1664 .f32 :=
  k0_pay4 (iblk m c 0 t) (View.ld (iblk m c 1 t) (Rect.unit ![0, 0, 0] ![1, 1, 1024] inb_S1x6x1024_S1x1x1024_0_0_0))
    (View.ld (iblk m c 1 t) (Rect.unit ![0, 1, 0] ![1, 1, 1024] inb_S1x6x1024_S1x1x1024_0_1_0)) (iblk m c 2 t) (iblk m c 3 t)

theorem out8 (c : Dev nD) (t : Fin cfg0.N) : (outsAt0 m c t).1 = View.canon
    [⟨Rect.unit ![0, 0, 128] ![1, 512, 384] inb_S1x512x512_S1x512x384_0_0_128, k0_pay7 (Ub m c t)⟩,
      ⟨Rect.unit ![0, 0, 0] ![1, 512, 128] inb_S1x512x512_S1x512x128_0_0_0,
        k0_pay6 (k0_pay5 (iblk m c 0 t) (View.ld (iblk m c 1 t) (Rect.unit ![0, 0, 0] ![1, 1, 1024] inb_S1x6x1024_S1x1x1024_0_0_0))
    (View.ld (iblk m c 1 t) (Rect.unit ![0, 1, 0] ![1, 1, 1024] inb_S1x6x1024_S1x1x1024_0_1_0)) (iblk m c 2 t) (iblk m c 3 t))⟩] := by
  unfold outsAt0 Ub
  frame_out
  rfl
theorem out9 (c : Dev nD) (t : Fin cfg0.N) : (outsAt0 m c t).2.1 = k0_pay8 (Ub m c t) := by
  unfold outsAt0 Ub
  frame_out
  rfl
theorem out10 (c : Dev nD) (t : Fin cfg0.N) : (outsAt0 m c t).2.2.1 = k0_pay10 (k0_pay9 (Ub m c t) (iblk m c 5 t) (iblk m c 6 t)) := by
  unfold outsAt0 Ub
  frame_out
  rfl
theorem out11 (c : Dev nD) (t : Fin cfg0.N) : (outsAt0 m c t).2.2.2.1 = View.canon
    [⟨Rect.unit ![1, 0, 0] ![1, 512, 256] inb_S2x512x256_S1x512x256_1_0_0,
      k0_pay13 (Ub m c t) (View.ld (iblk m c 4 t) (Rect.unit ![1, 0, 0] ![1, 256, 256] inb_S2x256x256_S1x256x256_1_0_0))⟩,
     ⟨Rect.unit ![0, 0, 0] ![1, 512, 256] inb_S2x512x256_S1x512x256_0_0_0,
      k0_pay12 (Ub m c t) (View.ld (iblk m c 4 t) (Rect.unit ![0, 0, 0] ![1, 256, 256] inb_S2x256x256_S1x256x256_0_0_0))⟩] := by
  unfold outsAt0 Ub
  frame_out
  rfl
theorem out12 (c : Dev nD) (t : Fin cfg0.N) : (outsAt0 m c t).2.2.2.2.1
    = k0_pay1 (k0_pay14 (Ub m c t) (View.ld (iblk m c 7 t) (Rect.unit ![0, 0] ![1, 256] inb_S1x384_S1x256_0_0))) := by
  unfold outsAt0 Ub
  frame_out
  rfl
theorem out13 (c : Dev nD) (t : Fin cfg0.N) : (outsAt0 m c t).2.2.2.2.2.1
    = k0_pay2 (Ub m c t) (View.ld (iblk m c 7 t) (Rect.unit ![0, 256] ![1, 128] inb_S1x384_S1x128_0_256)) := by
  unfold outsAt0 Ub
  frame_out
  rfl
theorem out14 (c : Dev nD) (t : Fin cfg0.N) : (outsAt0 m c t).2.2.2.2.2.2 = k0_pay3 (Ub m c t) := by
  unfold outsAt0 Ub
  frame_out
  rfl

theorem ind0 : ∀ t, win0_0.index t = ![t.val / 8, t.val % 8, 0] := (by decide +kernel : ∀ t : Fin grid0.N, _)
theorem ind1 : ∀ t, win0_1.index t = ![t.val / 8, 0, 0] := (by decide +kernel : ∀ t : Fin grid0.N, _)
theorem ind2 : ∀ t, win0_2.index t = ![0, 0] := (by decide +kernel : ∀ t : Fin grid0.N, _)
theorem ind3 : ∀ t, win0_3.index t = ![0, 0] := (by decide +kernel : ∀ t : Fin grid0.N, _)
theorem ind4 : ∀ t, win0_4.index t = ![0, 0, 0] := (by decide +kernel : ∀ t : Fin grid0.N, _)
theorem ind5 : ∀ t, win0_5.index t = ![0, 0] := (by decide +kernel : ∀ t : Fin grid0.N, _)
theorem ind6 : ∀ t, win0_6.index t = ![0, 0] := (by decide +kernel : ∀ t : Fin grid0.N, _)
theorem ind7 : ∀ t, win0_7.index t = ![0, 0] := (by decide +kernel : ∀ t : Fin grid0.N, _)
theorem ind8 : ∀ t, win0_8.index t = ![t.val / 8, t.val % 8, 0] := (by decide +kernel : ∀ t : Fin grid0.N, _)
theorem ind9 : ∀ t, win0_9.index t = ![t.val / 8, t.val % 8, 0] := (by decide +kernel : ∀ t : Fin grid0.N, _)
theorem ind10 : ∀ t, win0_10.index t = ![t.val / 8, t.val % 8, 0] := (by decide +kernel : ∀ t : Fin grid0.N, _)
theorem ind11 : ∀ t, win0_11.index t = ![0, t.val % 8, t.val / 8] := (by decide +kernel : ∀ t : Fin grid0.N, _)
theorem ind12 : ∀ t, win0_12.index t = ![t.val / 8, t.val % 8, 0] := (by decide +kernel : ∀ t : Fin grid0.N, _)
theorem ind13 : ∀ t, win0_13.index t = ![t.val / 8, t.val % 8, 0] := (by decide +kernel : ∀ t : Fin grid0.N, _)
theorem ind14 : ∀ t, win0_14.index t = ![t.val / 8, t.val % 8, 0] := (by decide +kernel : ∀ t : Fin grid0.N, _)

theorem N128 (t : Fin cfg0.N) : t.val < 128 := Nat.lt_of_lt_of_eq t.isLt N_0

/-- A point's batch and the position of a row of its block. -/
def bt (t : Fin cfg0.N) : Fin 16 := ⟨t.val / 8, by have := N128 t; omega⟩
def st (t : Fin cfg0.N) (r : Fin 512) : Fin 4096 := ⟨512 * (t.val % 8) + r.val, by omega⟩

theorem blk0 (c : Dev nD) (t : Fin cfg0.N) (r : Fin 512) (k : Fin 1024) : (iblk m c 0 t : Vec F S1x512x1024 .f32) (ix3 0 r k) = V m c main_arg0 (ix3 (bt t) (st t r) k) := by
  unfold bt st; blk_ext [iblk, ind0 t]
theorem blk1 (c : Dev nD) (t : Fin cfg0.N) (r : Fin 6) (k : Fin 1024) : (iblk m c 1 t : Vec F S1x6x1024 .f32) (ix3 0 r k) = V m c main_arg1 (ix3 (bt t) r k) := by
  unfold bt; blk_ext [iblk, ind1 t]
theorem blk2 (c : Dev nD) (t : Fin cfg0.N) : (iblk m c 2 t : Vec F S1x1024 .f32) = V m c main_v20 := by
  funext y; blk_ext [iblk, ind2 t]
theorem blk3 (c : Dev nD) (t : Fin cfg0.N) : (iblk m c 3 t : Vec F S1024x1664 .bf16) = V m c main_v10 := by
  funext y; blk_ext [iblk, ind3 t]
theorem blk4 (c : Dev nD) (t : Fin cfg0.N) : (iblk m c 4 t : Vec F S2x256x256 .bf16) = V m c main_arg4 := by
  funext y; blk_ext [iblk, ind4 t]
theorem blk5 (c : Dev nD) (t : Fin cfg0.N) : (iblk m c 5 t : Vec F S128x256 .bf16) = V m c main_v15 := by
  funext y; blk_ext [iblk, ind5 t]
theorem blk6 (c : Dev nD) (t : Fin cfg0.N) : (iblk m c 6 t : Vec F S1x256 .f32) = V m c main_v17 := by
  funext y; blk_ext [iblk, ind6 t]
theorem blk7 (c : Dev nD) (t : Fin cfg0.N) : (iblk m c 7 t : Vec F S1x384 .f32) = V m c main_v19 := by
  funext y; blk_ext [iblk, ind7 t]

end Cert.ValJ

end
-- ==== Proof.ValJ.Host.lean ====
module

public import proofs.«01_k».proof.Proof.Gen.ProjectionIdeal.Frame
public import proofs.«01_k».proof.Proof.ValJ.Out
public import Idealize.ShloMosaic.Lib.Pipeline.ValueKit
public import Idealize.ShloMosaic.Lib.StableHlo.RunRead
public import Idealize.ShloMosaic.Lib.Pointwise

@[expose] public section

set_option maxRecDepth 16384
set_option maxHeartbeats 1000000

noncomputable section

namespace Cert.ValJ

open Cert.ProjectionIdeal Cert.ProjectionIdeal.Gen
open Idealize.ShloMosaic Idealize.ShloMosaic.TcCoe Idealize.ShloMosaic.Tactic Idealize.SL.Sem

section
variable {F : FTy → Type} [FloatOps F]

/-- The weight with its columns placed, -/
def hW (a3 : FVec F S1024x1472 .f32) : FVec F S1024x1664 .bf16 :=
  truncf .bf16 (concatenate S1024x1664 1 [⟨S1024x768, extractStridedSlice S1024x768 ![0, 0] a3 slices_S1024x1472_S1024x768_0_0⟩,
    ⟨S1024x256, extractStridedSlice S1024x256 ![0, 800] a3 slices_S1024x1472_S1024x256_0_800⟩,
    ⟨S1024x256, extractStridedSlice S1024x256 ![0, 1056] a3 slices_S1024x1472_S1024x256_0_1056⟩,
    ⟨S1024x128, extractStridedSlice S1024x128 ![0, 1312] a3 slices_S1024x1472_S1024x128_0_1312⟩,
    ⟨S1024x64, broadcastInDim S1024x64 ![] bcast_S_S1024x64 (constant S_ .f32 0x00000000#32)⟩,
    ⟨S1024x32, extractStridedSlice S1024x32 ![0, 1440] a3 slices_S1024x1472_S1024x32_0_1440⟩,
    ⟨S1024x32, broadcastInDim S1024x32 ![] bcast_S_S1024x32 (constant S_ .f32 0x00000000#32)⟩,
    ⟨S1024x32, extractStridedSlice S1024x32 ![0, 768] a3 slices_S1024x1472_S1024x32_0_768⟩,
    ⟨S1024x96, broadcastInDim S1024x96 ![] bcast_S_S1024x96 (constant S_ .f32 0x00000000#32)⟩] concatenates_S1024x768_S1024x256_S1024x256_S1024x128_S1024x64_S1024x32_S1024x32_S1024x32_S1024x96_S1024x1664_d1) bitsLt_bf16_f32
/-- the gates' weight, -/
def hUp (a5 a7 : FVec F S16x128 .f32) : FVec F S128x256 .bf16 :=
  truncf .bf16 (concatenate S128x256 0 [⟨S16x256, pad S16x256 ![0, 0] ![0, 128] ![0, 0] a5 (sitofp .f32 (constantI S_ 32 0#32)) pads_S16x128_S16x256_000_01280 h_S_⟩,
    ⟨S16x256, pad S16x256 ![0, 128] ![0, 0] ![0, 0] a7 (sitofp .f32 (constantI S_ 32 0#32)) pads_S16x128_S16x256_000_12800 h_S_⟩,
    ⟨S96x256, broadcastInDim S96x256 ![] bcast_S_S96x256 (constant S_ .f32 0x00000000#32)⟩] concatenates_S16x256_S16x256_S96x256_S128x256_d0) bitsLt_bf16_f32
/-- their bias, -/
def hB (a6 a8 : FVec F S128 .f32) : FVec F S1x256 .f32 :=
  broadcastInDim S1x256 ![1] bcast_S256_S1x256_1 (concatenate S256 0 [⟨S128, a6⟩, ⟨S128, a8⟩] concatenates_S128_S128_S256_d0)
/-- the gains of the latents -/
def hL (a9 : FVec F S256 .f32) (a10 : FVec F S128 .f32) : FVec F S1x384 .f32 :=
  broadcastInDim S1x384 ![1] bcast_S384_S1x384_1 (concatenate S384 0 [⟨S256, a9⟩, ⟨S128, a10⟩] concatenates_S256_S128_S384_d0)
/-- and of the rows. -/
def hG (a2 : FVec F S1024 .f32) : FVec F S1x1024 .f32 := broadcastInDim S1x1024 ![1] bcast_S1024_S1x1024_1 a2

variable (m : (ℓ : Loc nD τ sig) → Buf (Elt F) ℓ)

theorem V_hW (c : Dev nD) : V m c main_v10 = hW (m ((c : Thread nD τ).loc main_arg3)) := by
  unfold V
  after_reads_simp
  rfl
theorem V_hUp (c : Dev nD) : V m c main_v15 = hUp (m ((c : Thread nD τ).loc main_arg5)) (m ((c : Thread nD τ).loc main_arg7)) := by
  unfold V
  after_reads_simp
  rfl
theorem V_hB (c : Dev nD) : V m c main_v17 = hB (m ((c : Thread nD τ).loc main_arg6)) (m ((c : Thread nD τ).loc main_arg8)) := by
  unfold V
  after_reads_simp
  rfl
theorem V_hL (c : Dev nD) : V m c main_v19 = hL (m ((c : Thread nD τ).loc main_arg9)) (m ((c : Thread nD τ).loc main_arg10)) := by
  unfold V
  after_reads_simp
  rfl
theorem V_hG (c : Dev nD) : V m c main_v20 = hG (m ((c : Thread nD τ).loc main_arg2)) := by
  unfold V
  after_reads_simp
  rfl
end

/-! ## At an index -/

variable (a3 : FVec Ideal S1024x1472 .f32) (k : Fin 1024)

theorem hW_a (q : Fin 768) : hW a3 (ix2 k ⟨q.val, by omega⟩) = a3 (ix2 k ⟨q.val, by omega⟩) := by
  unfold hW
  pointwise
  try split_ifs
  all_goals try first | omega | rfl | exact congrArg (fun i => a3 (ix2 k i)) (Fin.ext (by dsimp only; omega))
theorem hW_b (q : Fin 256) : hW a3 (ix2 k ⟨768 + q.val, by omega⟩) = a3 (ix2 k ⟨800 + q.val, by omega⟩) := by
  unfold hW
  pointwise
  try split_ifs
  all_goals try first | omega | rfl | exact congrArg (fun i => a3 (ix2 k i)) (Fin.ext (by dsimp only; omega))
theorem hW_c (q : Fin 256) : hW a3 (ix2 k ⟨1024 + q.val, by omega⟩) = a3 (ix2 k ⟨1056 + q.val, by omega⟩) := by
  unfold hW
  pointwise
  try split_ifs
  all_goals try first | omega | rfl | exact congrArg (fun i => a3 (ix2 k i)) (Fin.ext (by dsimp only; omega))
theorem hW_d (q : Fin 128) : hW a3 (ix2 k ⟨1280 + q.val, by omega⟩) = a3 (ix2 k ⟨1312 + q.val, by omega⟩) := by
  unfold hW
  pointwise
  try split_ifs
  all_goals try first | omega | rfl | exact congrArg (fun i => a3 (ix2 k i)) (Fin.ext (by dsimp only; omega))
theorem hW_e (q : Fin 128) : hW a3 (ix2 k ⟨1408 + q.val, by omega⟩)
    = if h : 64 ≤ q.val ∧ q.val < 96 then a3 (ix2 k ⟨1440 + (q.val - 64), by omega⟩) else 0 := by
  unfold hW
  pointwise
  try split_ifs
  all_goals try first | omega | rfl | exact congrArg (fun i => a3 (ix2 k i)) (Fin.ext (by dsimp only; omega)) | (rw [dif_pos (show 64 ≤ q.val ∧ q.val < 96 by omega)]; exact congrArg (fun i => a3 (ix2 k i)) (Fin.ext (by dsimp only; omega))) | (rw [dif_neg (show ¬ (64 ≤ q.val ∧ q.val < 96) by omega)])
theorem hW_f (q : Fin 128) : hW a3 (ix2 k ⟨1536 + q.val, by omega⟩)
    = if h : q.val < 32 then a3 (ix2 k ⟨768 + q.val, by omega⟩) else 0 := by
  unfold hW
  pointwise
  try split_ifs
  all_goals try first | omega | rfl | exact congrArg (fun i => a3 (ix2 k i)) (Fin.ext (by dsimp only; omega)) | (rw [dif_pos (show q.val < 32 by omega)]; exact congrArg (fun i => a3 (ix2 k i)) (Fin.ext (by dsimp only; omega))) | (rw [dif_neg (show ¬ q.val < 32 by omega)])

variable (a5 a7 : FVec Ideal S16x128 .f32) (j l : Fin 128)
theorem hUp_lo : hUp a5 a7 (ix2 j ⟨l.val, by omega⟩) = if h : j.val < 16 then a5 (ix2 ⟨j.val, h⟩ l) else 0 := by
  unfold hUp
  pointwise
  try simp only [sitofp_zero]
  try split_ifs
  all_goals try first | omega | rfl | (exfalso; tauto) | exact (dif_pos (by omega)).symm | exact (dif_neg (by omega)).symm
theorem hUp_hi : hUp a5 a7 (ix2 j ⟨128 + l.val, by omega⟩) = if h : 16 ≤ j.val ∧ j.val < 32 then a7 (ix2 ⟨j.val - 16, by omega⟩ l) else 0 := by
  unfold hUp
  pointwise
  try simp only [sitofp_zero]
  try split_ifs
  all_goals try first | omega | rfl | (exfalso; tauto) | (rw [dif_pos (show 16 ≤ j.val ∧ j.val < 32 by omega)]) | (rw [dif_neg (show ¬ (16 ≤ j.val ∧ j.val < 32) by omega)])

theorem hB_lo (a6 a8 : FVec Ideal S128 .f32) : hB a6 a8 (ix2 0 ⟨l.val, by omega⟩) = a6 (ix1 l) := by
  unfold hB
  pointwise
theorem hB_hi (a6 a8 : FVec Ideal S128 .f32) : hB a6 a8 (ix2 0 ⟨128 + l.val, by omega⟩) = a8 (ix1 l) := by
  unfold hB
  pointwise
theorem hL_lo (a9 : FVec Ideal S256 .f32) (a10 : FVec Ideal S128 .f32) (l : Fin 256) : hL a9 a10 (ix2 0 ⟨l.val, by omega⟩) = a9 (ix1 l) := by
  unfold hL
  pointwise
theorem hL_hi (a9 : FVec Ideal S256 .f32) (a10 : FVec Ideal S128 .f32) : hL a9 a10 (ix2 0 ⟨256 + l.val, by omega⟩) = a10 (ix1 l) := by
  unfold hL
  pointwise
theorem hG_at (a2 : FVec Ideal S1024 .f32) : hG a2 (ix2 0 k) = a2 (ix1 k) := by
  unfold hG
  pointwise

end Cert.ValJ

end
-- ==== Proof.ValJ.Pay.lean ====
module

public import proofs.«01_k».proof.Proof.Gen.ProjectionIdeal.Skeleton
public import proofs.«01_k».proof.Proof.ValJ.Host
public import Idealize.ShloMosaic.Lib.Pointwise

@[expose] public section

set_option maxRecDepth 16384
set_option maxHeartbeats 1000000

noncomputable section

namespace Cert.ValJ

open Cert.ProjectionIdeal Cert.ProjectionIdeal.Gen
open Idealize.ShloMosaic Idealize.ShloMosaic.TcCoe Idealize.ShloMosaic.Tactic Idealize.SL.Sem

/-! ## What the body's values are at an index -/

variable (x : Vec Ideal S1x512x1024 .f32) (sh sc : Vec Ideal S1x1x1024 .f32) (g : Vec Ideal S1x1024 .f32) (W : Vec Ideal S1024x1664 .bf16)
variable (v : FVec Ideal S512x1664 .f32)

theorem pay4_at (r : Fin 512) (q : Fin 1664) : k0_pay4 x sh sc g W (ix2 r q)
    = ∑ k : Fin 1024, (rms (fun k => x (ix3 0 r k)) (Ideal.ofBits .f32 0x44800000#32) (g (ix2 0 k)) k * (Ideal.ofBits .f32 0x3F800000#32 + sc (ix3 0 0 k)) + sh (ix3 0 0 k)) * W (ix2 k q) := by
  unfold k0_pay4 rms
  pointwise
theorem pay6_at (r : Fin 512) (l : Fin 128) : k0_pay6 (k0_pay5 x sh sc g W) (ix3 0 r l)
    = k0_pay4 x sh sc g W (ix2 r ⟨l.val, by omega⟩) * Ideal.ofBits .f32 0x3E3504F3#32 := by
  unfold k0_pay6 k0_pay5
  pointwise
theorem pay7_at (r : Fin 512) (l : Fin 384) : k0_pay7 v (ix3 0 r l) = v (ix2 r ⟨128 + l.val, by omega⟩) := by
  unfold k0_pay7
  pointwise
theorem pay8_at (r : Fin 512) (l : Fin 256) : k0_pay8 v (ix3 0 r l) = v (ix2 r ⟨512 + l.val, by omega⟩) := by
  unfold k0_pay8
  pointwise
theorem pay9_at (up : Vec Ideal S128x256 .bf16) (gb : Vec Ideal S1x256 .f32) (r : Fin 512) (l : Fin 256) : k0_pay10 (k0_pay9 v up gb) (ix3 0 r l)
    = lsig ((∑ j : Fin 128, v (ix2 r ⟨1536 + j.val, by omega⟩) * up (ix2 j l)) + gb (ix2 0 l)) := by
  refine Eq.trans ?_ (lsig_sub _)
  unfold k0_pay10 k0_pay9
  pointwise
  rfl
theorem pay12_at (d : Vec Ideal S1x256x256 .bf16) (r : Fin 512) (e : Fin 256) : k0_pay12 v d (ix3 0 r e)
    = ∑ i : Fin 256, v (ix2 r ⟨768 + i.val, by omega⟩) * d (ix3 0 i e) := by
  unfold k0_pay12 k0_pay11
  pointwise
theorem pay13_at (d : Vec Ideal S1x256x256 .bf16) (r : Fin 512) (e : Fin 256) : k0_pay13 v d (ix3 0 r e)
    = ∑ i : Fin 256, v (ix2 r ⟨768 + i.val, by omega⟩) * d (ix3 0 i e) := by
  unfold k0_pay13 k0_pay11
  pointwise
theorem pay14_at (lg : Vec Ideal S1x256 .f32) (r : Fin 512) (l : Fin 256) : k0_pay1 (k0_pay14 v lg) (ix3 0 r l)
    = rms (fun d : Fin 256 => v (ix2 r ⟨1024 + d.val, by omega⟩)) (Ideal.ofBits .f32 0x43800000#32) (lg (ix2 0 l)) l := by
  unfold k0_pay1 k0_pay14 rms
  pointwise
theorem pay2_at (lg : Vec Ideal S1x128 .f32) (r : Fin 512) (l : Fin 128) : k0_pay2 v lg (ix3 0 r l)
    = rms (fun d : Fin 128 => v (ix2 r ⟨1280 + d.val, by omega⟩)) (Ideal.ofBits .f32 0x43000000#32) (lg (ix2 0 l)) l := by
  unfold k0_pay2 rms
  pointwise
theorem pay3_at (r : Fin 512) (l : Fin 128) : k0_pay3 v (ix3 0 r l) = v (ix2 r ⟨1408 + l.val, by omega⟩) := by
  unfold k0_pay3
  pointwise

end Cert.ValJ

end
-- ==== Proof.ValJ.Ref.lean ====
module

public import proofs.«01_k».proof.Proof.Gen.ProjectionRefIdeal.Run
public import proofs.«01_k».proof.Proof.ValJ.Pay
public import Idealize.ShloMosaic.Lib.Pointwise

@[expose] public section

set_option maxRecDepth 16384
set_option maxHeartbeats 1000000

noncomputable section

namespace Cert.ValJ

open Cert.ProjectionRefIdeal Cert.ProjectionRefIdeal.Facts₀ Cert.ProjectionRefIdeal.Value
open Idealize.ShloMosaic Idealize.ShloMosaic.TcCoe Idealize.ShloMosaic.Tactic Idealize.SL.Sem

/-! ## The reference's results, in pieces -/

section
variable {F : FTy → Type} [FloatOps F]

/-- The projected rows, -/
def rU (a0 : FVec F S16x4096x1024 .f32) (a1 : FVec F S16x6x1024 .f32) (a2 : FVec F S1024 .f32) (a3 : FVec F S1024x1472 .f32) : FVec F S16x4096x1472 .f32 :=
  Host.dotGeneral dot_S16x4096x1024_S1024x1472_S16x4096x1472_2_0_01_1_n_n none
    (addf (mulf (mulf (mulf a0
      (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf a0 a0) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 a2)))
      (broadcastInDim S16x4096x1024 ![0, 1, 2] bcast_S16x1x1024_S16x4096x1024_0_1_2 (addf (broadcastInDim S16x1x1024 ![] bcast_S_S16x1x1024 (constant S_ .f32 0x3F800000#32)) (extractStridedSlice S16x1x1024 ![0, 1, 0] a1 slices_S16x6x1024_S16x1x1024_0_1_0))))
      (broadcastInDim S16x4096x1024 ![0, 1, 2] bcast_S16x1x1024_S16x4096x1024_0_1_2 (extractStridedSlice S16x1x1024 ![0, 0, 0] a1 slices_S16x6x1024_S16x1x1024_0_0_0))) a3
/-- their first columns, -/
def r0 (u : FVec F S16x4096x1472 .f32) : FVec F S16x4096x512 .bf16 :=
  truncf .bf16 (concatenate S16x4096x512 2 [⟨S16x4096x128, mulf (extractStridedSlice S16x4096x128 ![0, 0, 0] u slices_S16x4096x1472_S16x4096x128_0_0_0) (broadcastInDim S16x4096x128 ![] bcast_S_S16x4096x128 (constant S_ .f32 0x3E3504F3#32))⟩,
    ⟨S16x4096x128, extractStridedSlice S16x4096x128 ![0, 0, 128] u slices_S16x4096x1472_S16x4096x128_0_0_128⟩,
    ⟨S16x4096x256, extractStridedSlice S16x4096x256 ![0, 0, 256] u slices_S16x4096x1472_S16x4096x256_0_0_256⟩] concatenates_S16x4096x128_S16x4096x128_S16x4096x256_S16x4096x512_d2) bitsLt_bf16_f32
/-- the next, -/
def r1 (u : FVec F S16x4096x1472 .f32) : FVec F S16x4096x256 .bf16 :=
  truncf .bf16 (extractStridedSlice S16x4096x256 ![0, 0, 512] u slices_S16x4096x1472_S16x4096x256_0_0_512) bitsLt_bf16_f32
/-- a direction's gate before the logistic function, negated, -/
def rN (d : FVec F S16x4096x16 .f32) (w : FVec F S16x128 .f32) (g : FVec F S128 .f32) : FVec F S16x4096x128 .f32 :=
  Host.negf (addf (Host.dotGeneral dot_S16x4096x16_S16x128_S16x4096x128_2_0_01_1_n_n none d w) (broadcastInDim S16x4096x128 ![0, 1, 2] bcast_S1x1x128_S16x4096x128_0_1_2 (broadcastInDim S1x1x128 ![2] bcast_S128_S1x1x128_2 g)))
/-- and after it, -/
def rL (n : FVec F S16x4096x128 .f32) : FVec F S16x4096x128 .f32 :=
  Host.divf (Host.negf (select (cmpf .une (subf n (broadcastInDim S16x4096x128 ![] bcast_S_S16x4096x128 (constant S_ .f32 0x00000000#32))) (subf n (broadcastInDim S16x4096x128 ![] bcast_S_S16x4096x128 (constant S_ .f32 0x00000000#32))))
    (addf n (broadcastInDim S16x4096x128 ![] bcast_S_S16x4096x128 (constant S_ .f32 0x00000000#32)))
    (addf (maximumf n (broadcastInDim S16x4096x128 ![] bcast_S_S16x4096x128 (constant S_ .f32 0x00000000#32))) (Host.log1p (Host.exp (Host.negf (Host.absf (subf n (broadcastInDim S16x4096x128 ![] bcast_S_S16x4096x128 (constant S_ .f32 0x00000000#32))))))))))
    (broadcastInDim S16x4096x128 ![] bcast_S_S16x4096x128 (constant S_ .f32 0x41800000#32))
/-- both directions', -/
def r2 (u : FVec F S16x4096x1472 .f32) (a5 : FVec F S16x128 .f32) (a6 : FVec F S128 .f32) (a7 : FVec F S16x128 .f32) (a8 : FVec F S128 .f32) : FVec F S16x4096x256 .f32 :=
  concatenate S16x4096x256 2 [⟨S16x4096x128, rL (rN (extractStridedSlice S16x4096x16 ![0, 0, 768] u slices_S16x4096x1472_S16x4096x16_0_0_768) a5 a6)⟩,
    ⟨S16x4096x128, rL (rN (extractStridedSlice S16x4096x16 ![0, 0, 784] u slices_S16x4096x1472_S16x4096x16_0_0_784) a7 a8)⟩] concatenates_S16x4096x128_S16x4096x128_S16x4096x256_d2
/-- the transformed columns, -/
def r3 (u : FVec F S16x4096x1472 .f32) (a4 : FVec F S2x256x256 .bf16) : FVec F S2x4096x4096 .bf16 :=
  truncf .bf16 (shapeCast _ (transpose S2x4096x16x256 [0, 3, 2, 1] (Host.dotGeneral dot_S2x256x256_S16x4096x256_S2x256x16x4096_1_2_02_01_n_n none (extf .f32 a4 bitsLt_bf16_f32) (extractStridedSlice S16x4096x256 ![0, 0, 800] u slices_S16x4096x1472_S16x4096x256_0_0_800)) transposes_S2x256x16x4096_S2x4096x16x256_0_3_2_1) shapeCasts_S2x4096x16x256_S2x4096x4096) bitsLt_bf16_f32
/-- the latents -/
def r4 (u : FVec F S16x4096x1472 .f32) (a9 : FVec F S256 .f32) : FVec F S16x4096x256 .bf16 :=
  truncf .bf16 (mulf (mulf (extractStridedSlice S16x4096x256 ![0, 0, 1056] u slices_S16x4096x1472_S16x4096x256_0_0_1056) (broadcastInDim S16x4096x256 ![0, 1, 2] bcast_S16x4096x1_S16x4096x256_0_1_2 (Host.rsqrt (addf (Host.divf (broadcastInDim S16x4096x1 ![0, 1] bcast_S16x4096_S16x4096x1_0_1 (Host.reduceAdd (mulf (extractStridedSlice S16x4096x256 ![0, 0, 1056] u slices_S16x4096x1472_S16x4096x256_0_0_1056) (extractStridedSlice S16x4096x256 ![0, 0, 1056] u slices_S16x4096x1472_S16x4096x256_0_0_1056)) (constant S_ .f32 0x00000000#32) reducesTo_S16x4096x256_S16x4096_d2 h_S_)) (broadcastInDim S16x4096x1 ![] bcast_S_S16x4096x1 (constant S_ .f32 0x43800000#32))) (broadcastInDim S16x4096x1 ![] bcast_S_S16x4096x1 (constant S_ .f32 0x358637BD#32)))))) (broadcastInDim S16x4096x256 ![0, 1, 2] bcast_S1x1x256_S16x4096x256_0_1_2 (broadcastInDim S1x1x256 ![2] bcast_S256_S1x1x256_2 a9))) bitsLt_bf16_f32
def r5 (u : FVec F S16x4096x1472 .f32) (a10 : FVec F S128 .f32) : FVec F S16x4096x128 .bf16 :=
  truncf .bf16 (mulf (mulf (extractStridedSlice S16x4096x128 ![0, 0, 1312] u slices_S16x4096x1472_S16x4096x128_0_0_1312) (broadcastInDim S16x4096x128 ![0, 1, 2] bcast_S16x4096x1_S16x4096x128_0_1_2 (Host.rsqrt (addf (Host.divf (broadcastInDim S16x4096x1 ![0, 1] bcast_S16x4096_S16x4096x1_0_1 (Host.reduceAdd (mulf (extractStridedSlice S16x4096x128 ![0, 0, 1312] u slices_S16x4096x1472_S16x4096x128_0_0_1312) (extractStridedSlice S16x4096x128 ![0, 0, 1312] u slices_S16x4096x1472_S16x4096x128_0_0_1312)) (constant S_ .f32 0x00000000#32) reducesTo_S16x4096x128_S16x4096_d2 h_S_)) (broadcastInDim S16x4096x1 ![] bcast_S_S16x4096x1 (constant S_ .f32 0x43000000#32))) (broadcastInDim S16x4096x1 ![] bcast_S_S16x4096x1 (constant S_ .f32 0x358637BD#32)))))) (broadcastInDim S16x4096x128 ![0, 1, 2] bcast_S1x1x128_S16x4096x128_0_1_2 (broadcastInDim S1x1x128 ![2] bcast_S128_S1x1x128_2 a10))) bitsLt_bf16_f32
/-- and the rotary columns, among zeros. -/
def r6 (u : FVec F S16x4096x1472 .f32) : FVec F S16x4096x128 .bf16 :=
  truncf .bf16 (pad S16x4096x128 ![0, 0, 64] ![0, 0, 32] ![0, 0, 0] (extractStridedSlice S16x4096x32 ![0, 0, 1440] u slices_S16x4096x1472_S16x4096x32_0_0_1440) (sitofp .f32 (constantI S_ 32 0#32)) pads_S16x4096x32_S16x4096x128_000_000_64320 h_S_) bitsLt_bf16_f32
end

variable (a0 : FVec Ideal S16x4096x1024 .f32) (a1 : FVec Ideal S16x6x1024 .f32) (a2 : FVec Ideal S1024 .f32) (a3 : FVec Ideal S1024x1472 .f32)
variable (u : FVec Ideal S16x4096x1472 .f32)

theorem rU_at (b : Fin 16) (s : Fin 4096) (p : Fin 1472) : rU a0 a1 a2 a3 (ix3 b s p) = U a0 a1 a2 a3 b s p := by
  unfold rU U Nrm rms
  pointwise
theorem r0_lo (b : Fin 16) (s : Fin 4096) (l : Fin 512) (h : l.val < 128) : r0 u (ix3 b s l) = u (ix3 b s ⟨l.val, by omega⟩) * Ideal.ofBits .f32 0x3E3504F3#32 := by
  unfold r0
  pointwise
  first | rw [dif_pos h] | rw [dif_neg h]; split_ifs <;> exact congrArg (fun i => u (ix3 b s i)) (Fin.ext (by dsimp only; omega))
theorem r0_hi (b : Fin 16) (s : Fin 4096) (l : Fin 512) (h : ¬ l.val < 128) : r0 u (ix3 b s l) = u (ix3 b s ⟨l.val, by omega⟩) := by
  unfold r0
  pointwise
  first | rw [dif_pos h] | rw [dif_neg h]; split_ifs <;> exact congrArg (fun i => u (ix3 b s i)) (Fin.ext (by dsimp only; omega))
theorem r1_at (b : Fin 16) (s : Fin 4096) (l : Fin 256) : r1 u (ix3 b s l) = u (ix3 b s ⟨512 + l.val, by omega⟩) := by
  unfold r1
  pointwise
theorem rN_at (d : FVec Ideal S16x4096x16 .f32) (w : FVec Ideal S16x128 .f32) (g : FVec Ideal S128 .f32) (b : Fin 16) (s : Fin 4096) (l : Fin 128) :
    rN d w g (ix3 b s l) = -((∑ j : Fin 16, d (ix3 b s j) * w (ix2 j l)) + g (ix1 l)) := by
  unfold rN
  pointwise
theorem rL_at (n : FVec Ideal S16x4096x128 .f32) (b : Fin 16) (s : Fin 4096) (l : Fin 128) (y : EReal) (h : n (ix3 b s l) = -y) :
    rL n (ix3 b s l) = lsig y := by
  refine Eq.trans ?_ (lsig_div y)
  unfold rL
  pointwise
  rw [if_neg (by simp), h]
  rfl
theorem r2_lo (a5 a7 : FVec Ideal S16x128 .f32) (a6 a8 : FVec Ideal S128 .f32) (b : Fin 16) (s : Fin 4096) (l : Fin 128) :
    r2 u a5 a6 a7 a8 (ix3 b s ⟨l.val, by omega⟩) = lsig ((∑ j : Fin 16, u (ix3 b s ⟨768 + j.val, by omega⟩) * a5 (ix2 j l)) + a6 (ix1 l)) := by
  refine Eq.trans ?_ (rL_at (rN (extractStridedSlice S16x4096x16 ![0, 0, 768] u slices_S16x4096x1472_S16x4096x16_0_0_768) a5 a6) b s l _ ((rN_at ..).trans ?_))
  · unfold r2
    pointwise
  · pointwise
theorem r2_hi (a5 a7 : FVec Ideal S16x128 .f32) (a6 a8 : FVec Ideal S128 .f32) (b : Fin 16) (s : Fin 4096) (l : Fin 128) :
    r2 u a5 a6 a7 a8 (ix3 b s ⟨128 + l.val, by omega⟩) = lsig ((∑ j : Fin 16, u (ix3 b s ⟨784 + j.val, by omega⟩) * a7 (ix2 j l)) + a8 (ix1 l)) := by
  refine Eq.trans ?_ (rL_at (rN (extractStridedSlice S16x4096x16 ![0, 0, 784] u slices_S16x4096x1472_S16x4096x16_0_0_784) a7 a8) b s l _ ((rN_at ..).trans ?_))
  · unfold r2
    pointwise
  · pointwise
theorem r3_at (a4 : FVec Ideal S2x256x256 .bf16) (k : Fin 2) (s : Fin 4096) (b : Fin 16) (e : Fin 256) :
    r3 u a4 (ix3 k s ⟨256 * b.val + e.val, by omega⟩) = ∑ d : Fin 256, u (ix3 b s ⟨800 + d.val, by omega⟩) * a4 (ix3 k d e) := by
  unfold r3
  pointwise
  exact Finset.sum_congr rfl fun d _ => mul_comm _ _
theorem r4_at (a9 : FVec Ideal S256 .f32) (b : Fin 16) (s : Fin 4096) (l : Fin 256) : r4 u a9 (ix3 b s l)
    = rms (fun d : Fin 256 => u (ix3 b s ⟨1056 + d.val, by omega⟩)) (Ideal.ofBits .f32 0x43800000#32) (a9 (ix1 l)) l := by
  unfold r4 rms
  pointwise
theorem r5_at (a10 : FVec Ideal S128 .f32) (b : Fin 16) (s : Fin 4096) (l : Fin 128) : r5 u a10 (ix3 b s l)
    = rms (fun d : Fin 128 => u (ix3 b s ⟨1312 + d.val, by omega⟩)) (Ideal.ofBits .f32 0x43000000#32) (a10 (ix1 l)) l := by
  unfold r5 rms
  pointwise
theorem r6_at (b : Fin 16) (s : Fin 4096) (l : Fin 128) : r6 u (ix3 b s l)
    = if h : 64 ≤ l.val ∧ l.val < 96 then u (ix3 b s ⟨1440 + (l.val - 64), by omega⟩) else 0 := by
  unfold r6
  pointwise
  rw [sitofp_zero]
  by_cases h : 64 ≤ l.val ∧ l.val < 96
  · rw [dif_pos (show 64 ≤ l.val ∧ l.val - 64 < 32 by omega), dif_pos h]
  · rw [dif_neg (show ¬ (64 ≤ l.val ∧ l.val - 64 < 32) by omega), dif_neg h]

/-! ## The printed results are these -/

section
variable {F : FTy → Type} [FloatOps F]
variable (m : (ℓ : Loc nD τ sig) → Buf (Elt F) ℓ) (c : Dev nD)

/-- The projected rows of a memory. -/
def mU : FVec F S16x4096x1472 .f32 :=
  rU (m ((c.tc : Thread nD τ).loc main_arg0)) (m ((c.tc : Thread nD τ).loc main_arg1)) (m ((c.tc : Thread nD τ).loc main_arg2)) (m ((c.tc : Thread nD τ).loc main_arg3))

theorem res0 : res_main_v80 m c = r0 (mU m c) := by
  unfold res_main_v80 r0 mU rU
  rfl
theorem res2 : res_main_v82 m c = r2 (mU m c) (m ((c.tc : Thread nD τ).loc main_arg5)) (m ((c.tc : Thread nD τ).loc main_arg6)) (m ((c.tc : Thread nD τ).loc main_arg7)) (m ((c.tc : Thread nD τ).loc main_arg8)) := by
  unfold res_main_v82 r2 rL rN mU rU
  rfl
theorem res4 : res_main_v84 m c = r4 (mU m c) (m ((c.tc : Thread nD τ).loc main_arg9)) := by
  unfold res_main_v84 r4 mU rU
  rfl
theorem res5 : res_main_v85 m c = r5 (mU m c) (m ((c.tc : Thread nD τ).loc main_arg10)) := by
  unfold res_main_v85 r5 mU rU
  rfl
end

end Cert.ValJ

end
-- ==== Proof.ValJ.At.lean ====
module

public import proofs.«01_k».proof.Proof.ValJ.Ref

@[expose] public section

set_option maxRecDepth 16384
set_option maxHeartbeats 1000000

noncomputable section

namespace Cert.ValJ

open Cert.ProjectionIdeal Cert.ProjectionIdeal.Gen
open Idealize.ShloMosaic Idealize.ShloMosaic.TcCoe Idealize.ShloMosaic.Tactic Idealize.SL.Sem

variable (m : (ℓ : Loc nD τ sig) → Buf (Elt Ideal) ℓ)

def B0 (c : Dev nD) : FVec Ideal S16x4096x1024 .f32 := m ((c : Thread nD τ).loc main_arg0)
def B1 (c : Dev nD) : FVec Ideal S16x6x1024 .f32 := m ((c : Thread nD τ).loc main_arg1)
def B2 (c : Dev nD) : FVec Ideal S1024 .f32 := m ((c : Thread nD τ).loc main_arg2)
def B3 (c : Dev nD) : FVec Ideal S1024x1472 .f32 := m ((c : Thread nD τ).loc main_arg3)
def B4 (c : Dev nD) : FVec Ideal S2x256x256 .bf16 := m ((c : Thread nD τ).loc main_arg4)
def B5 (c : Dev nD) : FVec Ideal S16x128 .f32 := m ((c : Thread nD τ).loc main_arg5)
def B6 (c : Dev nD) : FVec Ideal S128 .f32 := m ((c : Thread nD τ).loc main_arg6)
def B7 (c : Dev nD) : FVec Ideal S16x128 .f32 := m ((c : Thread nD τ).loc main_arg7)
def B8 (c : Dev nD) : FVec Ideal S128 .f32 := m ((c : Thread nD τ).loc main_arg8)
def B9 (c : Dev nD) : FVec Ideal S256 .f32 := m ((c : Thread nD τ).loc main_arg9)
def B10 (c : Dev nD) : FVec Ideal S128 .f32 := m ((c : Thread nD τ).loc main_arg10)

/-- The projected rows, as the reference has them. -/
def uK (c : Dev nD) : FVec Ideal Cert.ProjectionRefIdeal.S16x4096x1472 .f32 := rU (B0 m c) (B1 m c) (B2 m c) (B3 m c)

theorem Ub_at (c : Dev nD) (t : Fin cfg0.N) (r : Fin 512) (q : Fin 1664) : Ub m c t (ix2 r q)
    = ∑ k : Fin 1024, Nrm (B0 m c) (B1 m c) (B2 m c) (bt t) (st t r) k * hW (B3 m c) (ix2 k q) := by
  have hx : ∀ k, (iblk m c 0 t : Vec Ideal S1x512x1024 .f32) (ix3 0 r k) = B0 m c (ix3 (bt t) (st t r) k) :=
    fun k => (blk0 m c t r k).trans (congrFun (V_main_arg0 m c) _)
  have h1 : ∀ (i : Fin 6) k, (iblk m c 1 t : Vec Ideal S1x6x1024 .f32) (ix3 0 i k) = B1 m c (ix3 (bt t) i k) :=
    fun i k => (blk1 m c t i k).trans (congrFun (V_main_arg1 m c) _)
  have hs : ∀ k, (View.ld (iblk m c 1 t) (Rect.unit ![0, 0, 0] ![1, 1, 1024] inb_S1x6x1024_S1x1x1024_0_0_0) : Vec Ideal S1x1x1024 .f32) (ix3 0 0 k) = B1 m c (ix3 (bt t) 0 k) :=
    fun k => (View.ld_unit_apply_of (iblk m c 1 t : Vec Ideal S1x6x1024 .f32) ![0, 0, 0] ![1, 1, 1024] inb_S1x6x1024_S1x1x1024_0_0_0 _ (ix3 0 0 k : S1x6x1024.Idx) (fun a => match a with
      | ⟨0, _⟩ => rfl
      | ⟨1, _⟩ => rfl
      | ⟨2, _⟩ => (Nat.zero_add _).symm)).trans (h1 0 k)
  have hc : ∀ k, (View.ld (iblk m c 1 t) (Rect.unit ![0, 1, 0] ![1, 1, 1024] inb_S1x6x1024_S1x1x1024_0_1_0) : Vec Ideal S1x1x1024 .f32) (ix3 0 0 k) = B1 m c (ix3 (bt t) 1 k) :=
    fun k => (View.ld_unit_apply_of (iblk m c 1 t : Vec Ideal S1x6x1024 .f32) ![0, 1, 0] ![1, 1, 1024] inb_S1x6x1024_S1x1x1024_0_1_0 _ (ix3 0 1 k : S1x6x1024.Idx) (fun a => match a with
      | ⟨0, _⟩ => rfl
      | ⟨1, _⟩ => rfl
      | ⟨2, _⟩ => (Nat.zero_add _).symm)).trans (h1 1 k)
  have hg : ∀ k, (iblk m c 2 t : Vec Ideal S1x1024 .f32) (ix2 0 k) = B2 m c (ix1 k) :=
    fun k => (congrFun ((blk2 m c t).trans (V_hG m c)) _).trans (hG_at k _)
  have hw : (iblk m c 3 t : Vec Ideal S1024x1664 .bf16) = hW (B3 m c) := (blk3 m c t).trans (V_hW m c)
  refine (pay4_at _ _ _ _ _ r q).trans ?_
  refine Finset.sum_congr rfl fun k _ => ?_
  rw [hw, hs, hc, hg, funext hx]
  rfl

theorem Ub_a (c : Dev nD) (t : Fin cfg0.N) (r : Fin 512) (q : Fin 768) : Ub m c t (ix2 r ⟨q.val, by omega⟩) = uK m c (ix3 (bt t) (st t r) ⟨q.val, by omega⟩) := by
  rw [Ub_at, uK, rU_at]
  exact Finset.sum_congr rfl fun k _ => by rw [hW_a]
theorem Ub_b (c : Dev nD) (t : Fin cfg0.N) (r : Fin 512) (q : Fin 256) : Ub m c t (ix2 r ⟨768 + q.val, by omega⟩) = uK m c (ix3 (bt t) (st t r) ⟨800 + q.val, by omega⟩) := by
  rw [Ub_at, uK, rU_at]
  exact Finset.sum_congr rfl fun k _ => by rw [hW_b]
theorem Ub_c (c : Dev nD) (t : Fin cfg0.N) (r : Fin 512) (q : Fin 256) : Ub m c t (ix2 r ⟨1024 + q.val, by omega⟩) = uK m c (ix3 (bt t) (st t r) ⟨1056 + q.val, by omega⟩) := by
  rw [Ub_at, uK, rU_at]
  exact Finset.sum_congr rfl fun k _ => by rw [hW_c]
theorem Ub_d (c : Dev nD) (t : Fin cfg0.N) (r : Fin 512) (q : Fin 128) : Ub m c t (ix2 r ⟨1280 + q.val, by omega⟩) = uK m c (ix3 (bt t) (st t r) ⟨1312 + q.val, by omega⟩) := by
  rw [Ub_at, uK, rU_at]
  exact Finset.sum_congr rfl fun k _ => by rw [hW_d]
theorem Ub_e (c : Dev nD) (t : Fin cfg0.N) (r : Fin 512) (q : Fin 128) : Ub m c t (ix2 r ⟨1408 + q.val, by omega⟩)
    = if h : 64 ≤ q.val ∧ q.val < 96 then uK m c (ix3 (bt t) (st t r) ⟨1440 + (q.val - 64), by omega⟩) else 0 := by
  rw [Ub_at]
  by_cases h : 64 ≤ q.val ∧ q.val < 96
  · rw [dif_pos h, uK, rU_at]
    exact Finset.sum_congr rfl fun k _ => by rw [hW_e, dif_pos h]
  · rw [dif_neg h]
    exact Finset.sum_eq_zero fun k _ => by rw [hW_e, dif_neg h, mul_zero]
theorem Ub_f (c : Dev nD) (t : Fin cfg0.N) (r : Fin 512) (q : Fin 128) : Ub m c t (ix2 r ⟨1536 + q.val, by omega⟩)
    = if h : q.val < 32 then uK m c (ix3 (bt t) (st t r) ⟨768 + q.val, by omega⟩) else 0 := by
  rw [Ub_at]
  by_cases h : q.val < 32
  · rw [dif_pos h, uK, rU_at]
    exact Finset.sum_congr rfl fun k _ => by rw [hW_f, dif_pos h]
  · rw [dif_neg h]
    exact Finset.sum_eq_zero fun k _ => by rw [hW_f, dif_neg h, mul_zero]

/-! ## The blocks at an index -/

theorem canon_hi (w1 : Vec Ideal S1x512x384 .bf16) (w0 : Vec Ideal S1x512x128 .bf16) (r : Fin 512) (l : Fin 384) :
    (View.canon [⟨Rect.unit ![0, 0, 128] ![1, 512, 384] inb_S1x512x512_S1x512x384_0_0_128, w1⟩,
      ⟨Rect.unit ![0, 0, 0] ![1, 512, 128] inb_S1x512x512_S1x512x128_0_0_0, w0⟩] : Vec Ideal S1x512x512 .bf16) (ix3 0 r ⟨128 + l.val, by omega⟩) = w1 (ix3 0 r l) := by
  have e : (ix3 0 r ⟨128 + l.val, by omega⟩ : S1x512x512.Idx) = (Rect.unit (s := S1x512x512) ![0, 0, 128] ![1, 512, 384] inb_S1x512x512_S1x512x384_0_0_128).emb (ix3 0 r l) := by
    funext a
    match a with
    | ⟨0, _⟩ => rfl
    | ⟨1, _⟩ => exact Fin.ext (by show r.val = 0 + 1 * r.val; omega)
    | ⟨2, _⟩ => exact Fin.ext (by show 128 + l.val = 128 + 1 * l.val; omega)
  rw [e]
  exact View.canon_cons_emb _ _ _ _
theorem canon_lo (w1 : Vec Ideal S1x512x384 .bf16) (w0 : Vec Ideal S1x512x128 .bf16) (r : Fin 512) (l : Fin 128) :
    (View.canon [⟨Rect.unit ![0, 0, 128] ![1, 512, 384] inb_S1x512x512_S1x512x384_0_0_128, w1⟩,
      ⟨Rect.unit ![0, 0, 0] ![1, 512, 128] inb_S1x512x512_S1x512x128_0_0_0, w0⟩] : Vec Ideal S1x512x512 .bf16) (ix3 0 r ⟨l.val, by omega⟩) = w0 (ix3 0 r l) := by
  refine (View.canon_cons_of_not_mem _ _ ?_).trans ?_
  · intro h
    have h2 := (Rect.mem_set_unit (inb := inb_S1x512x512_S1x512x384_0_0_128)).mp h 2
    have h3 : 128 ≤ l.val := h2.1
    omega
  have e : (ix3 0 r ⟨l.val, by omega⟩ : S1x512x512.Idx) = (Rect.unit (s := S1x512x512) ![0, 0, 0] ![1, 512, 128] inb_S1x512x512_S1x512x128_0_0_0).emb (ix3 0 r l) := by
    funext a
    match a with
    | ⟨0, _⟩ => rfl
    | ⟨1, _⟩ => exact Fin.ext (by show r.val = 0 + 1 * r.val; omega)
    | ⟨2, _⟩ => exact Fin.ext (by show l.val = 0 + 1 * l.val; omega)
  rw [e]
  exact View.canon_cons_emb _ _ _ _
theorem canon_one (w1 w0 : Vec Ideal S1x512x256 .bf16) (r : Fin 512) (l : Fin 256) :
    (View.canon [⟨Rect.unit ![1, 0, 0] ![1, 512, 256] inb_S2x512x256_S1x512x256_1_0_0, w1⟩,
      ⟨Rect.unit ![0, 0, 0] ![1, 512, 256] inb_S2x512x256_S1x512x256_0_0_0, w0⟩] : Vec Ideal S2x512x256 .bf16) (ix3 1 r l) = w1 (ix3 0 r l) := by
  have e : (ix3 1 r l : S2x512x256.Idx) = (Rect.unit (s := S2x512x256) ![1, 0, 0] ![1, 512, 256] inb_S2x512x256_S1x512x256_1_0_0).emb (ix3 0 r l) := by
    funext a
    match a with
    | ⟨0, _⟩ => rfl
    | ⟨1, _⟩ => exact Fin.ext (by show r.val = 0 + 1 * r.val; omega)
    | ⟨2, _⟩ => exact Fin.ext (by show l.val = 0 + 1 * l.val; omega)
  rw [e]
  exact View.canon_cons_emb _ _ _ _
theorem canon_zero (w1 w0 : Vec Ideal S1x512x256 .bf16) (r : Fin 512) (l : Fin 256) :
    (View.canon [⟨Rect.unit ![1, 0, 0] ![1, 512, 256] inb_S2x512x256_S1x512x256_1_0_0, w1⟩,
      ⟨Rect.unit ![0, 0, 0] ![1, 512, 256] inb_S2x512x256_S1x512x256_0_0_0, w0⟩] : Vec Ideal S2x512x256 .bf16) (ix3 0 r l) = w0 (ix3 0 r l) := by
  refine (View.canon_cons_of_not_mem _ _ ?_).trans ?_
  · intro h
    have h2 := (Rect.mem_set_unit (inb := inb_S2x512x256_S1x512x256_1_0_0)).mp h 0
    have h3 : 1 ≤ 0 := h2.1
    omega
  have e : (ix3 0 r l : S2x512x256.Idx) = (Rect.unit (s := S2x512x256) ![0, 0, 0] ![1, 512, 256] inb_S2x512x256_S1x512x256_0_0_0).emb (ix3 0 r l) := by
    funext a
    match a with
    | ⟨0, _⟩ => rfl
    | ⟨1, _⟩ => exact Fin.ext (by show r.val = 0 + 1 * r.val; omega)
    | ⟨2, _⟩ => exact Fin.ext (by show l.val = 0 + 1 * l.val; omega)
  rw [e]
  exact View.canon_cons_emb _ _ _ _

theorem out8_at (c : Dev nD) (t : Fin cfg0.N) (r : Fin 512) (l : Fin 512) : (outsAt0 m c t).1 (ix3 0 r l) = r0 (uK m c) (ix3 (bt t) (st t r) l) := by
  rw [out8]
  rcases lt_or_ge l.val 128 with h | h
  · refine (canon_lo _ _ r ⟨l.val, h⟩).trans ((pay6_at _ _ _ _ _ r ⟨l.val, h⟩).trans ?_)
    rw [r0_lo _ _ _ _ h]
    exact congrArg (· * Ideal.ofBits .f32 0x3E3504F3#32) (Ub_a m c t r ⟨l.val, by omega⟩)
  · rw [r0_hi _ _ _ _ (by omega)]
    obtain ⟨l', p, rfl⟩ : ∃ (l' : Fin 384) (p : 128 + l'.val < 512), l = ⟨128 + l'.val, p⟩ := ⟨⟨l.val - 128, by omega⟩, by dsimp only; omega, Fin.ext (by dsimp only; omega)⟩
    refine (canon_hi _ _ r l').trans ((pay7_at _ r l').trans ?_)
    exact Ub_a m c t r ⟨128 + l'.val, by omega⟩
theorem out9_at (c : Dev nD) (t : Fin cfg0.N) (r : Fin 512) (l : Fin 256) : (outsAt0 m c t).2.1 (ix3 0 r l) = r1 (uK m c) (ix3 (bt t) (st t r) l) := by
  rw [out9, r1_at]
  exact (pay8_at _ r l).trans (Ub_a m c t r ⟨512 + l.val, by omega⟩)
theorem out10_at (c : Dev nD) (t : Fin cfg0.N) (r : Fin 512) (l : Fin 256) : (outsAt0 m c t).2.2.1 (ix3 0 r l)
    = r2 (uK m c) (B5 m c) (B6 m c) (B7 m c) (B8 m c) (ix3 (bt t) (st t r) l) := by
  have h5 : (iblk m c 5 t : Vec Ideal S128x256 .bf16) = hUp (B5 m c) (B7 m c) := (blk5 m c t).trans (V_hUp m c)
  have h6 : (iblk m c 6 t : Vec Ideal S1x256 .f32) = hB (B6 m c) (B8 m c) := (blk6 m c t).trans (V_hB m c)
  rw [out10]
  refine (pay9_at _ _ _ r l).trans ?_
  rw [h5, h6]
  rcases lt_or_ge l.val 128 with h | h
  · obtain ⟨l', p, rfl⟩ : ∃ (l' : Fin 128) (p : l'.val < 256), l = ⟨l'.val, p⟩ := ⟨⟨l.val, h⟩, l.isLt, rfl⟩
    rw [r2_lo, hB_lo, sum_sixteen _ 0 (by decide) (fun j hj => by rw [hUp_lo, dif_neg (by omega), mul_zero])]
    refine congrArg lsig (congrArg (· + B6 m c (ix1 l')) (Finset.sum_congr rfl fun j _ => ?_))
    rw [Ub_f, hUp_lo, dif_pos (show 0 + j.val < 32 by omega), dif_pos (show 0 + j.val < 16 by omega)]
    exact congrArg₂ (fun a b => uK m c (ix3 (bt t) (st t r) a) * B5 m c (ix2 b l')) (Fin.ext (by dsimp only; omega)) (Fin.ext (by dsimp only; omega))
  · obtain ⟨l', p, rfl⟩ : ∃ (l' : Fin 128) (p : 128 + l'.val < 256), l = ⟨128 + l'.val, p⟩ := ⟨⟨l.val - 128, by omega⟩, by dsimp only; omega, Fin.ext (by dsimp only; omega)⟩
    rw [r2_hi, hB_hi, sum_sixteen _ 16 (by decide) (fun j hj => by rw [hUp_hi, dif_neg (by omega), mul_zero])]
    refine congrArg lsig (congrArg (· + B8 m c (ix1 l')) (Finset.sum_congr rfl fun j _ => ?_))
    rw [Ub_f, hUp_hi, dif_pos (show 16 + j.val < 32 by omega), dif_pos (show 16 ≤ 16 + j.val ∧ 16 + j.val < 32 by omega)]
    exact congrArg₂ (fun a b => uK m c (ix3 (bt t) (st t r) a) * B7 m c (ix2 b l')) (Fin.ext (by dsimp only; omega)) (Fin.ext (by dsimp only; omega))
theorem dft_at (c : Dev nD) (t : Fin cfg0.N) (i e : Fin 256) :
    (View.ld (iblk m c 4 t) (Rect.unit ![0, 0, 0] ![1, 256, 256] inb_S2x256x256_S1x256x256_0_0_0) : Vec Ideal S1x256x256 .bf16) (ix3 0 i e) = B4 m c (ix3 0 i e)
    ∧ (View.ld (iblk m c 4 t) (Rect.unit ![1, 0, 0] ![1, 256, 256] inb_S2x256x256_S1x256x256_1_0_0) : Vec Ideal S1x256x256 .bf16) (ix3 0 i e) = B4 m c (ix3 1 i e) := by
  have h4 : (iblk m c 4 t : Vec Ideal S2x256x256 .bf16) = B4 m c := (blk4 m c t).trans (V_main_arg4 m c)
  constructor
  · exact (View.ld_unit_apply_of (iblk m c 4 t : Vec Ideal S2x256x256 .bf16) ![0, 0, 0] ![1, 256, 256] inb_S2x256x256_S1x256x256_0_0_0 _ (ix3 0 i e : S2x256x256.Idx) (fun a => match a with
      | ⟨0, _⟩ => rfl
      | ⟨1, _⟩ => (Nat.zero_add _).symm
      | ⟨2, _⟩ => (Nat.zero_add _).symm)).trans (congrFun h4 _)
  · exact (View.ld_unit_apply_of (iblk m c 4 t : Vec Ideal S2x256x256 .bf16) ![1, 0, 0] ![1, 256, 256] inb_S2x256x256_S1x256x256_1_0_0 _ (ix3 1 i e : S2x256x256.Idx) (fun a => match a with
      | ⟨0, _⟩ => rfl
      | ⟨1, _⟩ => (Nat.zero_add _).symm
      | ⟨2, _⟩ => (Nat.zero_add _).symm)).trans (congrFun h4 _)
theorem out11_at (c : Dev nD) (t : Fin cfg0.N) (k : Fin 2) (r : Fin 512) (e : Fin 256) : (outsAt0 m c t).2.2.2.1 (ix3 k r e)
    = r3 (uK m c) (B4 m c) (ix3 k (st t r) ⟨256 * (bt t).val + e.val, by omega⟩) := by
  rw [out11, r3_at]
  match k with
  | ⟨0, _⟩ =>
    refine (canon_zero _ _ r e).trans ((pay12_at _ _ r e).trans (Finset.sum_congr rfl fun i _ => ?_))
    rw [Ub_b, (dft_at m c t i e).1]
    rfl
  | ⟨1, _⟩ =>
    refine (canon_one _ _ r e).trans ((pay13_at _ _ r e).trans (Finset.sum_congr rfl fun i _ => ?_))
    rw [Ub_b, (dft_at m c t i e).2]
    rfl
theorem lat_at (c : Dev nD) (t : Fin cfg0.N) : (iblk m c 7 t : Vec Ideal S1x384 .f32) = hL (B9 m c) (B10 m c) := (blk7 m c t).trans (V_hL m c)
theorem out12_at (c : Dev nD) (t : Fin cfg0.N) (r : Fin 512) (l : Fin 256) : (outsAt0 m c t).2.2.2.2.1 (ix3 0 r l) = r4 (uK m c) (B9 m c) (ix3 (bt t) (st t r) l) := by
  have hg : (View.ld (iblk m c 7 t) (Rect.unit ![0, 0] ![1, 256] inb_S1x384_S1x256_0_0) : Vec Ideal S1x256 .f32) (ix2 0 l) = B9 m c (ix1 l) :=
    (View.ld_unit_apply_of (iblk m c 7 t : Vec Ideal S1x384 .f32) ![0, 0] ![1, 256] inb_S1x384_S1x256_0_0 _ (ix2 0 ⟨l.val, by omega⟩ : S1x384.Idx) (fun a => match a with
      | ⟨0, _⟩ => rfl
      | ⟨1, _⟩ => (Nat.zero_add _).symm)).trans ((congrFun (lat_at m c t) _).trans (hL_lo _ _ l))
  rw [out12, r4_at]
  refine (pay14_at _ _ r l).trans ?_
  rw [hg]
  exact congrArg (fun f : Fin 256 → EReal => rms f (Ideal.ofBits .f32 0x43800000#32) (B9 m c (ix1 l)) l) (funext fun d => Ub_c m c t r d)
theorem out13_at (c : Dev nD) (t : Fin cfg0.N) (r : Fin 512) (l : Fin 128) : (outsAt0 m c t).2.2.2.2.2.1 (ix3 0 r l) = r5 (uK m c) (B10 m c) (ix3 (bt t) (st t r) l) := by
  have hg : (View.ld (iblk m c 7 t) (Rect.unit ![0, 256] ![1, 128] inb_S1x384_S1x128_0_256) : Vec Ideal S1x128 .f32) (ix2 0 l) = B10 m c (ix1 l) :=
    (View.ld_unit_apply_of (iblk m c 7 t : Vec Ideal S1x384 .f32) ![0, 256] ![1, 128] inb_S1x384_S1x128_0_256 _ (ix2 0 ⟨256 + l.val, by omega⟩ : S1x384.Idx) (fun a => match a with
      | ⟨0, _⟩ => rfl
      | ⟨1, _⟩ => rfl)).trans ((congrFun (lat_at m c t) _).trans (hL_hi l _ _))
  rw [out13, r5_at]
  refine (pay2_at _ _ r l).trans ?_
  rw [hg]
  exact congrArg (fun f : Fin 128 → EReal => rms f (Ideal.ofBits .f32 0x43000000#32) (B10 m c (ix1 l)) l) (funext fun d => Ub_d m c t r d)
theorem out14_at (c : Dev nD) (t : Fin cfg0.N) (r : Fin 512) (l : Fin 128) : (outsAt0 m c t).2.2.2.2.2.2 (ix3 0 r l) = r6 (uK m c) (ix3 (bt t) (st t r) l) := by
  rw [out14, r6_at]
  exact (pay3_at _ r l).trans (Ub_e m c t r l)

end Cert.ValJ

end
-- ==== Proof.ValJ.Arr.lean ====
module

public import proofs.«01_k».proof.Proof.ValJ.At
public import Idealize.ShloMosaic.Lib.Pipeline.Covers

@[expose] public section

set_option maxRecDepth 16384
set_option maxHeartbeats 1000000

noncomputable section

namespace Cert.ValJ

open Cert.ProjectionIdeal Cert.ProjectionIdeal.Gen
open Idealize.ShloMosaic Idealize.ShloMosaic.TcCoe Idealize.ShloMosaic.Tactic Idealize.SL.Sem

variable (m : (ℓ : Loc nD τ sig) → Buf (Elt Ideal) ℓ)

theorem covers8 : (cfg0.win 8).Covers :=
  (cfg0.win 8).covers_of_indexMap_surj rfl (by decide) fun β => by
    have h0 : (β ⟨0, by decide⟩).val < 16 := lt_of_lt_of_eq (β ⟨0, by decide⟩).isLt (by decide +kernel)
    have h1 : (β ⟨1, by decide⟩).val < 8 := lt_of_lt_of_eq (β ⟨1, by decide⟩).isLt (by decide +kernel)
    have h2 : (β ⟨2, by decide⟩).val < 1 := lt_of_lt_of_eq (β ⟨2, by decide⟩).isLt (by decide +kernel)
    let t : Fin grid0.N := ⟨8 * (β ⟨0, by decide⟩).val + (β ⟨1, by decide⟩).val, by rw [show grid0.N = 128 from N_0]; omega⟩
    refine ⟨grid0.coords t, fun a => ?_⟩
    refine (congrFun (ind8 t) a).trans ?_
    match a with
    | ⟨0, _⟩ => show (8 * (β ⟨0, by decide⟩).val + (β ⟨1, by decide⟩).val) / 8 = _; omega
    | ⟨1, _⟩ => show (8 * (β ⟨0, by decide⟩).val + (β ⟨1, by decide⟩).val) % 8 = _; omega
    | ⟨2, _⟩ => show 0 = (β ⟨2, by decide⟩).val; omega
theorem emb8 (t : Fin cfg0.N) (y : S1x512x512.Idx) : ((win0_8.blk t).view.emb y : S16x4096x512.Idx) = ix3 (bt t) (st t (y 1)) (y 2) := by
  unfold st bt
  blk_ext [ind8 t]
theorem arr8 (c : Dev nD) : (dats m 0 c).arrAt 8 cfg0.N = (r0 (uK m c) : FVec Ideal S16x4096x512 .bf16) := by
  refine (dats m 0 c).arrAt_eq_of_covers 8 _ covers8 fun t hf y => ?_
  blk_simp
  rw [after0_8]
  have ey : (y : S1x512x512.Idx) = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  refine (congrArg (outsAt0 m c t).1 ey).trans ((out8_at m c t (y 1) (y 2)).trans ?_)
  exact (congrArg (r0 (uK m c) : FVec Ideal S16x4096x512 .bf16) (emb8 t y)).symm

theorem covers9 : (cfg0.win 9).Covers :=
  (cfg0.win 9).covers_of_indexMap_surj rfl (by decide) fun β => by
    have h0 : (β ⟨0, by decide⟩).val < 16 := lt_of_lt_of_eq (β ⟨0, by decide⟩).isLt (by decide +kernel)
    have h1 : (β ⟨1, by decide⟩).val < 8 := lt_of_lt_of_eq (β ⟨1, by decide⟩).isLt (by decide +kernel)
    have h2 : (β ⟨2, by decide⟩).val < 1 := lt_of_lt_of_eq (β ⟨2, by decide⟩).isLt (by decide +kernel)
    let t : Fin grid0.N := ⟨8 * (β ⟨0, by decide⟩).val + (β ⟨1, by decide⟩).val, by rw [show grid0.N = 128 from N_0]; omega⟩
    refine ⟨grid0.coords t, fun a => ?_⟩
    refine (congrFun (ind9 t) a).trans ?_
    match a with
    | ⟨0, _⟩ => show (8 * (β ⟨0, by decide⟩).val + (β ⟨1, by decide⟩).val) / 8 = _; omega
    | ⟨1, _⟩ => show (8 * (β ⟨0, by decide⟩).val + (β ⟨1, by decide⟩).val) % 8 = _; omega
    | ⟨2, _⟩ => show 0 = (β ⟨2, by decide⟩).val; omega
theorem emb9 (t : Fin cfg0.N) (y : S1x512x256.Idx) : ((win0_9.blk t).view.emb y : S16x4096x256.Idx) = ix3 (bt t) (st t (y 1)) (y 2) := by
  unfold st bt
  blk_ext [ind9 t]
theorem arr9 (c : Dev nD) : (dats m 0 c).arrAt 9 cfg0.N = (r1 (uK m c) : FVec Ideal S16x4096x256 .bf16) := by
  refine (dats m 0 c).arrAt_eq_of_covers 9 _ covers9 fun t hf y => ?_
  blk_simp
  rw [after0_9]
  have ey : (y : S1x512x256.Idx) = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  refine (congrArg (outsAt0 m c t).2.1 ey).trans ((out9_at m c t (y 1) (y 2)).trans ?_)
  exact (congrArg (r1 (uK m c) : FVec Ideal S16x4096x256 .bf16) (emb9 t y)).symm

theorem covers10 : (cfg0.win 10).Covers :=
  (cfg0.win 10).covers_of_indexMap_surj rfl (by decide) fun β => by
    have h0 : (β ⟨0, by decide⟩).val < 16 := lt_of_lt_of_eq (β ⟨0, by decide⟩).isLt (by decide +kernel)
    have h1 : (β ⟨1, by decide⟩).val < 8 := lt_of_lt_of_eq (β ⟨1, by decide⟩).isLt (by decide +kernel)
    have h2 : (β ⟨2, by decide⟩).val < 1 := lt_of_lt_of_eq (β ⟨2, by decide⟩).isLt (by decide +kernel)
    let t : Fin grid0.N := ⟨8 * (β ⟨0, by decide⟩).val + (β ⟨1, by decide⟩).val, by rw [show grid0.N = 128 from N_0]; omega⟩
    refine ⟨grid0.coords t, fun a => ?_⟩
    refine (congrFun (ind10 t) a).trans ?_
    match a with
    | ⟨0, _⟩ => show (8 * (β ⟨0, by decide⟩).val + (β ⟨1, by decide⟩).val) / 8 = _; omega
    | ⟨1, _⟩ => show (8 * (β ⟨0, by decide⟩).val + (β ⟨1, by decide⟩).val) % 8 = _; omega
    | ⟨2, _⟩ => show 0 = (β ⟨2, by decide⟩).val; omega
theorem emb10 (t : Fin cfg0.N) (y : S1x512x256.Idx) : ((win0_10.blk t).view.emb y : S16x4096x256.Idx) = ix3 (bt t) (st t (y 1)) (y 2) := by
  unfold st bt
  blk_ext [ind10 t]
theorem arr10 (c : Dev nD) : (dats m 0 c).arrAt 10 cfg0.N = (r2 (uK m c) (B5 m c) (B6 m c) (B7 m c) (B8 m c) : FVec Ideal S16x4096x256 .f32) := by
  refine (dats m 0 c).arrAt_eq_of_covers 10 _ covers10 fun t hf y => ?_
  blk_simp
  rw [after0_10]
  have ey : (y : S1x512x256.Idx) = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  refine (congrArg (outsAt0 m c t).2.2.1 ey).trans ((out10_at m c t (y 1) (y 2)).trans ?_)
  exact (congrArg (r2 (uK m c) (B5 m c) (B6 m c) (B7 m c) (B8 m c) : FVec Ideal S16x4096x256 .f32) (emb10 t y)).symm

theorem covers11 : (cfg0.win 11).Covers :=
  (cfg0.win 11).covers_of_indexMap_surj rfl (by decide) fun β => by
    have h0 : (β ⟨0, by decide⟩).val < 1 := lt_of_lt_of_eq (β ⟨0, by decide⟩).isLt (by decide +kernel)
    have h1 : (β ⟨1, by decide⟩).val < 8 := lt_of_lt_of_eq (β ⟨1, by decide⟩).isLt (by decide +kernel)
    have h2 : (β ⟨2, by decide⟩).val < 16 := lt_of_lt_of_eq (β ⟨2, by decide⟩).isLt (by decide +kernel)
    let t : Fin grid0.N := ⟨8 * (β ⟨2, by decide⟩).val + (β ⟨1, by decide⟩).val, by rw [show grid0.N = 128 from N_0]; omega⟩
    refine ⟨grid0.coords t, fun a => ?_⟩
    refine (congrFun (ind11 t) a).trans ?_
    match a with
    | ⟨0, _⟩ => show 0 = (β ⟨0, by decide⟩).val; omega
    | ⟨1, _⟩ => show (8 * (β ⟨2, by decide⟩).val + (β ⟨1, by decide⟩).val) % 8 = _; omega
    | ⟨2, _⟩ => show (8 * (β ⟨2, by decide⟩).val + (β ⟨1, by decide⟩).val) / 8 = _; omega
theorem emb11 (t : Fin cfg0.N) (y : S2x512x256.Idx) : ((win0_11.blk t).view.emb y : S2x4096x4096.Idx) = ix3 (y 0) (st t (y 1)) ⟨256 * (bt t).val + (y 2).val, by have : (y 2).val < 256 := (y 2).isLt; omega⟩ := by
  unfold st bt
  blk_ext [ind11 t]
theorem arr11 (c : Dev nD) : (dats m 0 c).arrAt 11 cfg0.N = (r3 (uK m c) (B4 m c) : FVec Ideal S2x4096x4096 .bf16) := by
  refine (dats m 0 c).arrAt_eq_of_covers 11 _ covers11 fun t hf y => ?_
  blk_simp
  rw [after0_11]
  have ey : (y : S2x512x256.Idx) = ix3 (y 0) (y 1) (y 2) := by
    funext a
    match a with
    | ⟨0, _⟩ => rfl
    | ⟨1, _⟩ => rfl
    | ⟨2, _⟩ => rfl
  refine (congrArg (outsAt0 m c t).2.2.2.1 ey).trans ((out11_at m c t (y 0) (y 1) (y 2)).trans ?_)
  exact (congrArg (r3 (uK m c) (B4 m c) : FVec Ideal S2x4096x4096 .bf16) (emb11 t y)).symm

theorem covers12 : (cfg0.win 12).Covers :=
  (cfg0.win 12).covers_of_indexMap_surj rfl (by decide) fun β => by
    have h0 : (β ⟨0, by decide⟩).val < 16 := lt_of_lt_of_eq (β ⟨0, by decide⟩).isLt (by decide +kernel)
    have h1 : (β ⟨1, by decide⟩).val < 8 := lt_of_lt_of_eq (β ⟨1, by decide⟩).isLt (by decide +kernel)
    have h2 : (β ⟨2, by decide⟩).val < 1 := lt_of_lt_of_eq (β ⟨2, by decide⟩).isLt (by decide +kernel)
    let t : Fin grid0.N := ⟨8 * (β ⟨0, by decide⟩).val + (β ⟨1, by decide⟩).val, by rw [show grid0.N = 128 from N_0]; omega⟩
    refine ⟨grid0.coords t, fun a => ?_⟩
    refine (congrFun (ind12 t) a).trans ?_
    match a with
    | ⟨0, _⟩ => show (8 * (β ⟨0, by decide⟩).val + (β ⟨1, by decide⟩).val) / 8 = _; omega
    | ⟨1, _⟩ => show (8 * (β ⟨0, by decide⟩).val + (β ⟨1, by decide⟩).val) % 8 = _; omega
    | ⟨2, _⟩ => show 0 = (β ⟨2, by decide⟩).val; omega
theorem emb12 (t : Fin cfg0.N) (y : S1x512x256.Idx) : ((win0_12.blk t).view.emb y : S16x4096x256.Idx) = ix3 (bt t) (st t (y 1)) (y 2) := by
  unfold st bt
  blk_ext [ind12 t]
theorem arr12 (c : Dev nD) : (dats m 0 c).arrAt 12 cfg0.N = (r4 (uK m c) (B9 m c) : FVec Ideal S16x4096x256 .bf16) := by
  refine (dats m 0 c).arrAt_eq_of_covers 12 _ covers12 fun t hf y => ?_
  blk_simp
  rw [after0_12]
  have ey : (y : S1x512x256.Idx) = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  refine (congrArg (outsAt0 m c t).2.2.2.2.1 ey).trans ((out12_at m c t (y 1) (y 2)).trans ?_)
  exact (congrArg (r4 (uK m c) (B9 m c) : FVec Ideal S16x4096x256 .bf16) (emb12 t y)).symm

theorem covers13 : (cfg0.win 13).Covers :=
  (cfg0.win 13).covers_of_indexMap_surj rfl (by decide) fun β => by
    have h0 : (β ⟨0, by decide⟩).val < 16 := lt_of_lt_of_eq (β ⟨0, by decide⟩).isLt (by decide +kernel)
    have h1 : (β ⟨1, by decide⟩).val < 8 := lt_of_lt_of_eq (β ⟨1, by decide⟩).isLt (by decide +kernel)
    have h2 : (β ⟨2, by decide⟩).val < 1 := lt_of_lt_of_eq (β ⟨2, by decide⟩).isLt (by decide +kernel)
    let t : Fin grid0.N := ⟨8 * (β ⟨0, by decide⟩).val + (β ⟨1, by decide⟩).val, by rw [show grid0.N = 128 from N_0]; omega⟩
    refine ⟨grid0.coords t, fun a => ?_⟩
    refine (congrFun (ind13 t) a).trans ?_
    match a with
    | ⟨0, _⟩ => show (8 * (β ⟨0, by decide⟩).val + (β ⟨1, by decide⟩).val) / 8 = _; omega
    | ⟨1, _⟩ => show (8 * (β ⟨0, by decide⟩).val + (β ⟨1, by decide⟩).val) % 8 = _; omega
    | ⟨2, _⟩ => show 0 = (β ⟨2, by decide⟩).val; omega
theorem emb13 (t : Fin cfg0.N) (y : S1x512x128.Idx) : ((win0_13.blk t).view.emb y : S16x4096x128.Idx) = ix3 (bt t) (st t (y 1)) (y 2) := by
  unfold st bt
  blk_ext [ind13 t]
theorem arr13 (c : Dev nD) : (dats m 0 c).arrAt 13 cfg0.N = (r5 (uK m c) (B10 m c) : FVec Ideal S16x4096x128 .bf16) := by
  refine (dats m 0 c).arrAt_eq_of_covers 13 _ covers13 fun t hf y => ?_
  blk_simp
  rw [after0_13]
  have ey : (y : S1x512x128.Idx) = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  refine (congrArg (outsAt0 m c t).2.2.2.2.2.1 ey).trans ((out13_at m c t (y 1) (y 2)).trans ?_)
  exact (congrArg (r5 (uK m c) (B10 m c) : FVec Ideal S16x4096x128 .bf16) (emb13 t y)).symm

theorem covers14 : (cfg0.win 14).Covers :=
  (cfg0.win 14).covers_of_indexMap_surj rfl (by decide) fun β => by
    have h0 : (β ⟨0, by decide⟩).val < 16 := lt_of_lt_of_eq (β ⟨0, by decide⟩).isLt (by decide +kernel)
    have h1 : (β ⟨1, by decide⟩).val < 8 := lt_of_lt_of_eq (β ⟨1, by decide⟩).isLt (by decide +kernel)
    have h2 : (β ⟨2, by decide⟩).val < 1 := lt_of_lt_of_eq (β ⟨2, by decide⟩).isLt (by decide +kernel)
    let t : Fin grid0.N := ⟨8 * (β ⟨0, by decide⟩).val + (β ⟨1, by decide⟩).val, by rw [show grid0.N = 128 from N_0]; omega⟩
    refine ⟨grid0.coords t, fun a => ?_⟩
    refine (congrFun (ind14 t) a).trans ?_
    match a with
    | ⟨0, _⟩ => show (8 * (β ⟨0, by decide⟩).val + (β ⟨1, by decide⟩).val) / 8 = _; omega
    | ⟨1, _⟩ => show (8 * (β ⟨0, by decide⟩).val + (β ⟨1, by decide⟩).val) % 8 = _; omega
    | ⟨2, _⟩ => show 0 = (β ⟨2, by decide⟩).val; omega
theorem emb14 (t : Fin cfg0.N) (y : S1x512x128.Idx) : ((win0_14.blk t).view.emb y : S16x4096x128.Idx) = ix3 (bt t) (st t (y 1)) (y 2) := by
  unfold st bt
  blk_ext [ind14 t]
theorem arr14 (c : Dev nD) : (dats m 0 c).arrAt 14 cfg0.N = (r6 (uK m c) : FVec Ideal S16x4096x128 .bf16) := by
  refine (dats m 0 c).arrAt_eq_of_covers 14 _ covers14 fun t hf y => ?_
  blk_simp
  rw [after0_14]
  have ey : (y : S1x512x128.Idx) = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  refine (congrArg (outsAt0 m c t).2.2.2.2.2.2 ey).trans ((out14_at m c t (y 1) (y 2)).trans ?_)
  exact (congrArg (r6 (uK m c) : FVec Ideal S16x4096x128 .bf16) (emb14 t y)).symm

end Cert.ValJ

end
-- ==== Proof.ValJ.Fin.lean ====
module

public import proofs.«01_k».proof.Defs
public import proofs.«01_k».proof.Proof.ValJ.Arr
public import proofs.«01_k».proof.Proof.Gen.ProjectionRefIdeal
public import Idealize.ShloMosaic.Adequacy
public import Idealize.ShloMosaic.Lib.Claim

@[expose] public section

set_option maxRecDepth 16384
set_option maxHeartbeats 1000000

noncomputable section

namespace Cert.ValJ

open Idealize.ShloMosaic Idealize.ShloMosaic.TcCoe Idealize.ShloMosaic.Tactic Idealize.SL.Sem

/-- The call and its reference end with the same arrays. -/
theorem algebraic : Cert.algebraic_ProjectionIdeal_ProjectionRefIdeal (hProjectionIdeal := Cert.ProjectionIdeal.Gen.facts) (hProjectionRefIdeal := Cert.ProjectionRefIdeal.Gen.facts) := by
  intro m g m' g' _ hA
  refine ⟨fun c => (r0 (uK m c) : FVec Ideal Cert.ProjectionIdeal.S16x4096x512 .bf16),
    fun c => (r1 (uK m c) : FVec Ideal Cert.ProjectionIdeal.S16x4096x256 .bf16),
    fun c => (r2 (uK m c) (B5 m c) (B6 m c) (B7 m c) (B8 m c) : FVec Ideal Cert.ProjectionIdeal.S16x4096x256 .f32),
    fun c => (r3 (uK m c) (B4 m c) : FVec Ideal Cert.ProjectionIdeal.S2x4096x4096 .bf16),
    fun c => (r4 (uK m c) (B9 m c) : FVec Ideal Cert.ProjectionIdeal.S16x4096x256 .bf16),
    fun c => (r5 (uK m c) (B10 m c) : FVec Ideal Cert.ProjectionIdeal.S16x4096x128 .bf16),
    fun c => (r6 (uK m c) : FVec Ideal Cert.ProjectionIdeal.S16x4096x128 .bf16), ?_, ?_⟩
  · exact (θ_run _ _ _).mono (fun r h c => ⟨(h c).1.trans (arr8 m c),
      (h c).2.1.trans (arr9 m c),
      (h c).2.2.1.trans (arr10 m c),
      (h c).2.2.2.1.trans (arr11 m c),
      (h c).2.2.2.2.1.trans (arr12 m c),
      (h c).2.2.2.2.2.1.trans (arr13 m c),
      (h c).2.2.2.2.2.2.1.trans (arr14 m c), (h c).2.2.2.2.2.2.2⟩) (Cert.ProjectionIdeal.Value.run_blocks (F := Ideal) m g)
  · refine (θ_run _ _ _).mono (fun r h c => ?_) (Cert.ProjectionRefIdeal.Value.run (F := Ideal) m' g')
    obtain ⟨e0, e1, e2, e3, e4, e5, e6, e7, e8, e9, e10⟩ := hA c
    have hU : mU m' c = uK m c := by
      unfold mU uK
      rw [e0, e1, e2, e3]
      rfl
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · refine (res0 m' c).trans ?_
      rw [hU]
    · refine (show _ = r1 (mU m' c)  from by unfold r1 mU rU; rfl).trans ?_
      rw [hU]
    · refine (res2 m' c).trans ?_
      rw [hU, e5, e6, e7, e8]
      rfl
    · refine (show _ = r3 (mU m' c) (m' ((c.tc : Thread Cert.ProjectionRefIdeal.nD Cert.ProjectionRefIdeal.τ).loc Cert.ProjectionRefIdeal.main_arg4)) from by unfold r3 mU rU; rfl).trans ?_
      rw [hU, e4]
      rfl
    · refine (res4 m' c).trans ?_
      rw [hU, e9]
      rfl
    · refine (res5 m' c).trans ?_
      rw [hU, e10]
      rfl
    · refine (show _ = r6 (mU m' c)  from by unfold r6 mU rU; rfl).trans ?_
      rw [hU]

end Cert.ValJ

end
-- ==== Proof.lean ====
module

public import proofs.«01_k».proof.Defs
public import proofs.«01_k».proof.Proof.K.Body
public import proofs.«01_k».proof.Proof.KI.Body
public import proofs.«01_k».proof.Proof.Val.Fin
public import proofs.«01_k».proof.Proof.Gen.Kernel
public import proofs.«01_k».proof.Proof.E.Ok
public import proofs.«01_k».proof.Proof.EI.Ok
public import proofs.«01_k».proof.Proof.ValE.Fin
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.ValJ.Fin
public import proofs.«01_k».proof.Proof.Gen.Projection
public import proofs.«01_k».proof.Proof.Gen.Projection.Launch
public import proofs.«01_k».proof.Proof.Gen.Projection.Skeleton
public import proofs.«01_k».proof.Proof.Gen.Projection.Frame
public import proofs.«01_k».proof.Proof.Gen.ProjectionIdeal
public import proofs.«01_k».proof.Proof.Gen.ProjectionIdeal.Launch
public import proofs.«01_k».proof.Proof.Gen.ProjectionIdeal.Skeleton
public import proofs.«01_k».proof.Proof.Gen.ProjectionIdeal.Frame
public import proofs.«01_k».proof.Proof.Gen.ProjectionIdeal.Value
public import proofs.«01_k».proof.Proof.Gen.ProjectionRefIdeal
public import proofs.«01_k».proof.Proof.Gen.ProjectionRefIdeal.Run
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_e_ri : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

theorem frame_j_ri : Cert.quiescent_ProjectionRefIdeal := fun m ρ _ =>
  (θ_run Cert.ProjectionRefIdeal.defs _ _).mono (fun r h => ⟨fun c => (h c).2.2.2.2.2.2.2, sem_eq_zero_of_no_sems (by decide) r.2⟩)
    (Cert.ProjectionRefIdeal.Value.run (F := Ideal) m ρ)

theorem frame_e [Cert.Pre_blocks_in_range.Facts] : Cert.quiescent_Experts := fun m ρ h =>
  Cert.E.frame m ρ (Cert.E.ok_of_lt m (Cert.InRange.lt _ _ _ _ _ _ (h 0)))

theorem frame_ei [Cert.Pre_blocks_in_range.Facts] : Cert.quiescent_ExpertsIdeal := fun m ρ h =>
  Cert.EI.frame m ρ (Cert.EI.ok_of_lt m (Cert.InRange.lt _ _ _ _ _ _ (h 0)))

theorem claim : Cert.Claim := ⟨Cert.Kernel.Gen.facts, Cert.KernelIdeal.Gen.facts, Cert.ReferenceIdeal.Gen.facts,
  Cert.Experts.Gen.facts, Cert.ExpertsIdeal.Gen.facts, Cert.ExpertsRefIdeal.Gen.facts,
  Cert.Projection.Gen.facts, Cert.ProjectionIdeal.Gen.facts, Cert.ProjectionRefIdeal.Gen.facts, Cert.Val.preFacts, Cert.InRange.preFacts,
  fun m ρ _ => Cert.K.frame m ρ, fun m ρ _ => Cert.KI.frame m ρ, fun m ρ _ => Cert.KI.frame m ρ, Cert.Proof.frame_ri, fun m ρ _ => Cert.Proof.frame_ri m ρ trivial,
  @frame_e Cert.InRange.preFacts, @frame_ei Cert.InRange.preFacts, frame_e_ri, fun m ρ _ => frame_e_ri m ρ trivial,
  fun m ρ _ => Cert.Projection.Gen.frame m ρ, fun m ρ _ => Cert.ProjectionIdeal.Gen.frame m ρ, frame_j_ri,
  ⟨IdealRules.named_const.statement _ _ _ _ _ rfl, IdealRules.named_const.statement _ _ _ _ _ rfl⟩,
  @Cert.Val.algebraic Cert.Val.preFacts, trivial, @Cert.ValE.algebraic Cert.InRange.preFacts,
  trivial, Cert.ValJ.algebraic⟩

end Cert.Proof

end
